-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_loss_finite [hPre_loss_finite : Cert.Pre_loss_finite.Facts] (m : (ℓ : Loc Cert.KernelIdeal.nD Cert.KernelIdeal.τ Cert.KernelIdeal.sig) → Buf (Elt Ideal) ℓ) : Prop :=
  ∀ c : Dev Cert.KernelIdeal.nD,
    (Cert.Pre_loss_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_loss_finite [hPre_loss_finite : Cert.Pre_loss_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_loss_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_sout_finite [hPre_sout_finite : Cert.Pre_sout_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_sout_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_sout_finite [hPre_sout_finite : Cert.Pre_sout_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_sout_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_cout_finite [hPre_cout_finite : Cert.Pre_cout_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_cout_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_cout_finite [hPre_cout_finite : Cert.Pre_cout_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_cout_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_cin_finite [hPre_cin_finite : Cert.Pre_cin_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_cin_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_cin_finite [hPre_cin_finite : Cert.Pre_cin_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_cin_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_sin_finite [hPre_sin_finite : Cert.Pre_sin_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_sin_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_sin_finite [hPre_sin_finite : Cert.Pre_sin_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_sin_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_loss_finite [hKernelIdeal : Cert.KernelIdeal.Facts] [hPre_loss_finite : Cert.Pre_loss_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_loss_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_loss_finite [hReferenceIdeal : Cert.ReferenceIdeal.Facts] [hPre_loss_finite : Cert.Pre_loss_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_loss_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_sout_finite [hKernel2Ideal : Cert.Kernel2Ideal.Facts] [hPre_sout_finite : Cert.Pre_sout_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_sout_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_sout_finite [hReference2Ideal : Cert.Reference2Ideal.Facts] [hPre_sout_finite : Cert.Pre_sout_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_sout_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_cout_finite [hKernel3Ideal : Cert.Kernel3Ideal.Facts] [hPre_cout_finite : Cert.Pre_cout_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_cout_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_cout_finite [hReference3Ideal : Cert.Reference3Ideal.Facts] [hPre_cout_finite : Cert.Pre_cout_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_cout_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_cin_finite [hKernel4Ideal : Cert.Kernel4Ideal.Facts] [hPre_cin_finite : Cert.Pre_cin_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_cin_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_cin_finite [hReference4Ideal : Cert.Reference4Ideal.Facts] [hPre_cin_finite : Cert.Pre_cin_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_cin_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_sin_finite [hKernel5Ideal : Cert.Kernel5Ideal.Facts] [hPre_sin_finite : Cert.Pre_sin_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_sin_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_sin_finite [hReference5Ideal : Cert.Reference5Ideal.Facts] [hPre_sin_finite : Cert.Pre_sin_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_sin_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  True

def algebraic_KernelIdeal_ReferenceIdeal_pre_loss_finite [hKernelIdeal : Cert.KernelIdeal.Facts] [hReferenceIdeal : Cert.ReferenceIdeal.Facts] [hPre_loss_finite : Cert.Pre_loss_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_loss_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_sout_finite [hKernel2Ideal : Cert.Kernel2Ideal.Facts] [hReference2Ideal : Cert.Reference2Ideal.Facts] [hPre_sout_finite : Cert.Pre_sout_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_sout_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)) (v3 : (c : Dev Cert.Kernel2Ideal.nD) → Buf (Elt Ideal) ((c.tc : Thread Cert.Kernel2Ideal.nD Cert.Kernel2Ideal.τ).loc Cert.Kernel2Ideal.main_v9_3)) (v4 : (c : Dev Cert.Kernel2Ideal.nD) → Buf (Elt Ideal) ((c.tc : Thread Cert.Kernel2Ideal.nD Cert.Kernel2Ideal.τ).loc Cert.Kernel2Ideal.main_v9_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_v9_3) = v3 c
          ∧ r.2.mem ((c.tc : Thread Cert.Kernel2Ideal.nD Cert.Kernel2Ideal.τ).loc Cert.Kernel2Ideal.main_v9_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_v60) = v2 c
          ∧ r.2.mem ((c.tc : Thread Cert.Reference2Ideal.nD Cert.Reference2Ideal.τ).loc Cert.Reference2Ideal.main_v61) = v3 c
          ∧ r.2.mem ((c.tc : Thread Cert.Reference2Ideal.nD Cert.Reference2Ideal.τ).loc Cert.Reference2Ideal.main_v62) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_cout_finite [hKernel3Ideal : Cert.Kernel3Ideal.Facts] [hReference3Ideal : Cert.Reference3Ideal.Facts] [hPre_cout_finite : Cert.Pre_cout_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_cout_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_v74) = v2 c
          ∧ r.2.mem ((c.tc : Thread Cert.Reference3Ideal.nD Cert.Reference3Ideal.τ).loc Cert.Reference3Ideal.main_v75) = v3 c
          ∧ r.2.mem ((c.tc : Thread Cert.Reference3Ideal.nD Cert.Reference3Ideal.τ).loc Cert.Reference3Ideal.main_v76) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_cin_finite [hKernel4Ideal : Cert.Kernel4Ideal.Facts] [hReference4Ideal : Cert.Reference4Ideal.Facts] [hPre_cin_finite : Cert.Pre_cin_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_cin_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v53) = v1 c
          ∧ r.2.mem ((c.tc : Thread Cert.Reference4Ideal.nD Cert.Reference4Ideal.τ).loc Cert.Reference4Ideal.main_v54) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_sin_finite [hKernel5Ideal : Cert.Kernel5Ideal.Facts] [hReference5Ideal : Cert.Reference5Ideal.Facts] [hPre_sin_finite : Cert.Pre_sin_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_sin_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v53) = v1 c
          ∧ r.2.mem ((c.tc : Thread Cert.Reference5Ideal.nD Cert.Reference5Ideal.τ).loc Cert.Reference5Ideal.main_v54) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v105) = v0 c
          ∧ r.2.mem ((c.tc : Thread Cert.Reference6Ideal.nD Cert.Reference6Ideal.τ).loc Cert.Reference6Ideal.main_v99) = v1 c
          ∧ r.2.mem ((c.tc : Thread Cert.Reference6Ideal.nD Cert.Reference6Ideal.τ).loc Cert.Reference6Ideal.main_v106) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v42) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  IdealRules.named_const.Statement Cert.Kernel13Ideal.κ "c1" .f32 0x3FC48605#32 ((8388608 / 5463681 : ℝ) : EReal)
  ∧ IdealRules.named_const.Statement Cert.Kernel13Ideal.κ "c2" .f32 0x42C8E6D3#32 ((268435456 / 2672307 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v30) = v1 c
          ∧ r.2.mem ((c.tc : Thread Cert.Reference13Ideal.nD Cert.Reference13Ideal.τ).loc Cert.Reference13Ideal.main_v11) = v2 c
          ∧ r.2.mem ((c.tc : Thread Cert.Reference13Ideal.nD Cert.Reference13Ideal.τ).loc Cert.Reference13Ideal.main_v17) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_loss_finite : Cert.Pre_loss_finite.Facts) (hPre_sout_finite : Cert.Pre_sout_finite.Facts) (hPre_cout_finite : Cert.Pre_cout_finite.Facts) (hPre_cin_finite : Cert.Pre_cin_finite.Facts) (hPre_sin_finite : Cert.Pre_sin_finite.Facts),
    quiescent_Kernel (hKernel := hKernel)
    ∧ quiescent_KernelIdeal (hKernelIdeal := hKernelIdeal)
    ∧ quiescent_KernelIdeal_pre_loss_finite (hKernelIdeal := hKernelIdeal) (hPre_loss_finite := hPre_loss_finite)
    ∧ quiescent_ReferenceIdeal (hReferenceIdeal := hReferenceIdeal)
    ∧ quiescent_ReferenceIdeal_pre_loss_finite (hReferenceIdeal := hReferenceIdeal) (hPre_loss_finite := hPre_loss_finite)
    ∧ quiescent_Kernel2 (hKernel2 := hKernel2)
    ∧ quiescent_Kernel2Ideal (hKernel2Ideal := hKernel2Ideal)
    ∧ quiescent_Kernel2Ideal_pre_sout_finite (hKernel2Ideal := hKernel2Ideal) (hPre_sout_finite := hPre_sout_finite)
    ∧ quiescent_Reference2Ideal (hReference2Ideal := hReference2Ideal)
    ∧ quiescent_Reference2Ideal_pre_sout_finite (hReference2Ideal := hReference2Ideal) (hPre_sout_finite := hPre_sout_finite)
    ∧ quiescent_Kernel3 (hKernel3 := hKernel3)
    ∧ quiescent_Kernel3Ideal (hKernel3Ideal := hKernel3Ideal)
    ∧ quiescent_Kernel3Ideal_pre_cout_finite (hKernel3Ideal := hKernel3Ideal) (hPre_cout_finite := hPre_cout_finite)
    ∧ quiescent_Reference3Ideal (hReference3Ideal := hReference3Ideal)
    ∧ quiescent_Reference3Ideal_pre_cout_finite (hReference3Ideal := hReference3Ideal) (hPre_cout_finite := hPre_cout_finite)
    ∧ quiescent_Kernel4 (hKernel4 := hKernel4)
    ∧ quiescent_Kernel4Ideal (hKernel4Ideal := hKernel4Ideal)
    ∧ quiescent_Kernel4Ideal_pre_cin_finite (hKernel4Ideal := hKernel4Ideal) (hPre_cin_finite := hPre_cin_finite)
    ∧ quiescent_Reference4Ideal (hReference4Ideal := hReference4Ideal)
    ∧ quiescent_Reference4Ideal_pre_cin_finite (hReference4Ideal := hReference4Ideal) (hPre_cin_finite := hPre_cin_finite)
    ∧ quiescent_Kernel5 (hKernel5 := hKernel5)
    ∧ quiescent_Kernel5Ideal (hKernel5Ideal := hKernel5Ideal)
    ∧ quiescent_Kernel5Ideal_pre_sin_finite (hKernel5Ideal := hKernel5Ideal) (hPre_sin_finite := hPre_sin_finite)
    ∧ quiescent_Reference5Ideal (hReference5Ideal := hReference5Ideal)
    ∧ quiescent_Reference5Ideal_pre_sin_finite (hReference5Ideal := hReference5Ideal) (hPre_sin_finite := hPre_sin_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_loss_finite (hKernelIdeal := hKernelIdeal) (hReferenceIdeal := hReferenceIdeal) (hPre_loss_finite := hPre_loss_finite)
    ∧ preserves_Kernel2_Kernel2Ideal
    ∧ algebraic_Kernel2Ideal_Reference2Ideal_pre_sout_finite (hKernel2Ideal := hKernel2Ideal) (hReference2Ideal := hReference2Ideal) (hPre_sout_finite := hPre_sout_finite)
    ∧ preserves_Kernel3_Kernel3Ideal
    ∧ algebraic_Kernel3Ideal_Reference3Ideal_pre_cout_finite (hKernel3Ideal := hKernel3Ideal) (hReference3Ideal := hReference3Ideal) (hPre_cout_finite := hPre_cout_finite)
    ∧ preserves_Kernel4_Kernel4Ideal
    ∧ algebraic_Kernel4Ideal_Reference4Ideal_pre_cin_finite (hKernel4Ideal := hKernel4Ideal) (hReference4Ideal := hReference4Ideal) (hPre_cin_finite := hPre_cin_finite)
    ∧ preserves_Kernel5_Kernel5Ideal
    ∧ algebraic_Kernel5Ideal_Reference5Ideal_pre_sin_finite (hKernel5Ideal := hKernel5Ideal) (hReference5Ideal := hReference5Ideal) (hPre_sin_finite := hPre_sin_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_cin_finite.lean ====
abbrev S16384x2048 : Shape := ⟨2, ![16384, 2048]⟩
abbrev S1024x6144 : Shape := ⟨2, ![1024, 6144]⟩
abbrev S16384x1024 : Shape := ⟨2, ![16384, 1024]⟩
abbrev S1024 : Shape := ⟨1, ![1024]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S16384x1024 .f32) (main_arg5 : FVec F S1024 .f32) (main_arg6 : FVec F S16384x1024 .f32) (main_v13 : IVec S_ 1) (main_v16 : IVec S1024x6144 1) : IVec S_ 1 :=
  let main_c_5 : IVec S_ 1 := constantI S_ 1 1#1
  let main_v17 : IVec S_ 1 := (fun x v => Host.reduce IntOp.andi x v reducesTo_S1024x6144_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S16384x1024 .f32 := Host.absf main_arg6
  let main_cst_10 : FVec F S_ .f32 := constant S_ .f32 0x7F800000#32
  let main_v30 : FVec F S16384x1024 .f32 := broadcastInDim S16384x1024 ![] bcast_S_S16384x1024 main_cst_10
  let main_v31 : IVec S16384x1024 1 := cmpf .olt main_v29 main_v30
  let main_c_11 : IVec S_ 1 := constantI S_ 1 1#1
  let main_v32 : IVec S_ 1 := (fun x v => Host.reduce IntOp.andi x v reducesTo_S16384x1024_S_d0_1 h_S_) main_v31 main_c_11
  let main_v33 : IVec S_ 1 := andi main_v28 main_v32
  main_v33

def fn {F : FTy → Type} [FloatOps F] (main_arg0 : FVec F S16384x2048 .f32) (main_arg1 : FVec F S16384x2048 .f32) (main_arg2 : FVec F S16384x2048 .f32) (main_arg3 : FVec F S1024x6144 .f32) (main_arg4 : FVec F S16384x1024 .f32) (main_arg5 : FVec F S1024 .f32) (main_arg6 : FVec F S16384x1024 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := Host.absf main_arg2
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  let main_v14 : FVec F S1024x6144 .f32 := Host.absf main_arg3
  let main_cst_4 : FVec F S_ .f32 := constant S_ .f32 0x7F800000#32
  let main_v15 : FVec F S1024x6144 .f32 := broadcastInDim S1024x6144 ![] bcast_S_S1024x6144 main_cst_4
  let main_v16 : IVec S1024x6144 1 := cmpf .olt main_v14 main_v15
  fn_part1 (F := F) main_arg4 main_arg5 main_arg6 main_v13 main_v16
-- ==== Pre_cout_finite.lean ====
abbrev S16384x1024 : Shape := ⟨2, ![16384, 1024]⟩
abbrev S16384x2048 : Shape := ⟨2, ![16384, 2048]⟩
abbrev S2048 : Shape := ⟨1, ![2048]⟩
abbrev S16384x6144 : Shape := ⟨2, ![16384, 6144]⟩
abbrev S1x2048 : Shape := ⟨2, ![1, 2048]⟩
abbrev S2048x1024 : Shape := ⟨2, ![2048, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S2048 : S_.BroadcastsInDim S2048 (![] : Fin 0 → Fin S2048.rank)
  reducesTo_S2048_S_d0 : S2048.ReducesTo [0] S_
  bcast_S_S16384x6144 : S_.BroadcastsInDim S16384x6144 (![] : Fin 0 → Fin S16384x6144.rank)
  reducesTo_S16384x6144_S_d0_1 : S16384x6144.ReducesTo [0, 1] S_
  bcast_S_S1x2048 : S_.BroadcastsInDim S1x2048 (![] : Fin 0 → Fin S1x2048.rank)
  reducesTo_S1x2048_S_d0_1 : S1x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S1x2048 .f32) (main_arg5 : FVec F S1x2048 .f32) (main_arg6 : FVec F S2048x1024 .f32) (main_v13 : IVec S_ 1) (main_v16 : IVec S16384x6144 1) : IVec S_ 1 :=
  let main_c_5 : IVec S_ 1 := constantI S_ 1 1#1
  let main_v17 : IVec S_ 1 := (fun x v => Host.reduce IntOp.andi x v reducesTo_S16384x6144_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  main_v33

def fn {F : FTy → Type} [FloatOps F] (main_arg0 : FVec F S16384x1024 .f32) (main_arg1 : FVec F S16384x2048 .f32) (main_arg2 : FVec F S2048 .f32) (main_arg3 : FVec F S16384x6144 .f32) (main_arg4 : FVec F S1x2048 .f32) (main_arg5 : FVec F S1x2048 .f32) (main_arg6 : FVec F S2048x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S16384x6144 .f32 := Host.absf main_arg3
  let main_cst_4 : FVec F S_ .f32 := constant S_ .f32 0x7F800000#32
  let main_v15 : FVec F S16384x6144 .f32 := broadcastInDim S16384x6144 ![] bcast_S_S16384x6144 main_cst_4
  let main_v16 : IVec S16384x6144 1 := cmpf .olt main_v14 main_v15
  fn_part1 (F := F) main_arg4 main_arg5 main_arg6 main_v13 main_v16
-- ==== Pre_loss_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S1024 .f32) (main_arg2 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Pre_sin_finite.lean ====
abbrev S16384x2048 : Shape := ⟨2, ![16384, 2048]⟩
abbrev S16384x3072 : Shape := ⟨2, ![16384, 3072]⟩
abbrev S16384x32 : Shape := ⟨2, ![16384, 32]⟩
abbrev S1024x5184 : Shape := ⟨2, ![1024, 5184]⟩
abbrev S16384x1024 : Shape := ⟨2, ![16384, 1024]⟩
abbrev S1024 : Shape := ⟨1, ![1024]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x3072 : S_.BroadcastsInDim S16384x3072 (![] : Fin 0 → Fin S16384x3072.rank)
  reducesTo_S16384x3072_S_d0_1 : S16384x3072.ReducesTo [0, 1] S_
  bcast_S_S16384x32 : S_.BroadcastsInDim S16384x32 (![] : Fin 0 → Fin S16384x32.rank)
  reducesTo_S16384x32_S_d0_1 : S16384x32.ReducesTo [0, 1] S_
  bcast_S_S1024x5184 : S_.BroadcastsInDim S1024x5184 (![] : Fin 0 → Fin S1024x5184.rank)
  reducesTo_S1024x5184_S_d0_1 : S1024x5184.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S16384x1024 .f32) (main_v33 : IVec S_ 1) : IVec S_ 1 :=
  let main_v34 : FVec F S16384x1024 .f32 := Host.absf main_arg7
  let main_cst_12 : FVec F S_ .f32 := constant S_ .f32 0x7F800000#32
  let main_v35 : FVec F S16384x1024 .f32 := broadcastInDim S16384x1024 ![] bcast_S_S16384x1024 main_cst_12
  let main_v36 : IVec S16384x1024 1 := cmpf .olt main_v34 main_v35
  let main_c_13 : IVec S_ 1 := constantI S_ 1 1#1
  let main_v37 : IVec S_ 1 := (fun x v => Host.reduce IntOp.andi x v reducesTo_S16384x1024_S_d0_1 h_S_) main_v36 main_c_13
  let main_v38 : IVec S_ 1 := andi main_v33 main_v37
  main_v38

def fn_part1 {F : FTy → Type} [FloatOps F] (main_arg4 : FVec F S1024x5184 .f32) (main_arg5 : FVec F S16384x1024 .f32) (main_arg6 : FVec F S1024 .f32) (main_arg7 : FVec F S16384x1024 .f32) (main_v13 : IVec S_ 1) (main_v16 : IVec S16384x32 1) : IVec S_ 1 :=
  let main_c_5 : IVec S_ 1 := constantI S_ 1 1#1
  let main_v17 : IVec S_ 1 := (fun x v => Host.reduce IntOp.andi x v reducesTo_S16384x32_S_d0_1 h_S_) main_v16 main_c_5
  let main_v18 : IVec S_ 1 := andi main_v13 main_v17
  let main_v19 : FVec F S1024x5184 .f32 := Host.absf main_arg4
  let main_cst_6 : FVec F S_ .f32 := constant S_ .f32 0x7F800000#32
  let main_v20 : FVec F S1024x5184 .f32 := broadcastInDim S1024x5184 ![] bcast_S_S1024x5184 main_cst_6
  let main_v21 : IVec S1024x5184 1 := cmpf .olt main_v19 main_v20
  let main_c_7 : IVec S_ 1 := constantI S_ 1 1#1
  let main_v22 : IVec S_ 1 := (fun x v => Host.reduce IntOp.andi x v reducesTo_S1024x5184_S_d0_1 h_S_) main_v21 main_c_7
  let main_v23 : IVec S_ 1 := andi main_v18 main_v22
  let main_v24 : FVec F S16384x1024 .f32 := Host.absf main_arg5
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S16384x2048 .f32) (main_arg1 : FVec F S16384x3072 .f32) (main_arg2 : FVec F S16384x32 .f32) (main_arg3 : FVec F S16384x32 .f32) (main_arg4 : FVec F S1024x5184 .f32) (main_arg5 : FVec F S16384x1024 .f32) (main_arg6 : FVec F S1024 .f32) (main_arg7 : FVec F S16384x1024 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x3072 .f32 := Host.absf main_arg1
  let main_cst_0 : FVec F S_ .f32 := constant S_ .f32 0x7F800000#32
  let main_v5 : FVec F S16384x3072 .f32 := broadcastInDim S16384x3072 ![] bcast_S_S16384x3072 main_cst_0
  let main_v6 : IVec S16384x3072 1 := cmpf .olt main_v4 main_v5
  let main_c_1 : IVec S_ 1 := constantI S_ 1 1#1
  let main_v7 : IVec S_ 1 := (fun x v => Host.reduce IntOp.andi x v reducesTo_S16384x3072_S_d0_1 h_S_) main_v6 main_c_1
  let main_v8 : IVec S_ 1 := andi main_v3 main_v7
  let main_v9 : FVec F S16384x32 .f32 := Host.absf main_arg2
  let main_cst_2 : FVec F S_ .f32 := constant S_ .f32 0x7F800000#32
  let main_v10 : FVec F S16384x32 .f32 := broadcastInDim S16384x32 ![] bcast_S_S16384x32 main_cst_2
  let main_v11 : IVec S16384x32 1 := cmpf .olt main_v9 main_v10
  let main_c_3 : IVec S_ 1 := constantI S_ 1 1#1
  let main_v12 : IVec S_ 1 := (fun x v => Host.reduce IntOp.andi x v reducesTo_S16384x32_S_d0_1 h_S_) main_v11 main_c_3
  let main_v13 : IVec S_ 1 := andi main_v8 main_v12
  let main_v14 : FVec F S16384x32 .f32 := Host.absf main_arg3
  let main_cst_4 : FVec F S_ .f32 := constant S_ .f32 0x7F800000#32
  let main_v15 : FVec F S16384x32 .f32 := broadcastInDim S16384x32 ![] bcast_S_S16384x32 main_cst_4
  let main_v16 : IVec S16384x32 1 := cmpf .olt main_v14 main_v15
  fn_part1 (F := F) main_arg4 main_arg5 main_arg6 main_arg7 main_v13 main_v16
-- ==== Pre_sout_finite.lean ====
abbrev S16384x1024 : Shape := ⟨2, ![16384, 1024]⟩
abbrev S16384x2048 : Shape := ⟨2, ![16384, 2048]⟩
abbrev S16384x3072 : Shape := ⟨2, ![16384, 3072]⟩
abbrev S16384x5184 : Shape := ⟨2, ![16384, 5184]⟩
abbrev S32 : Shape := ⟨1, ![32]⟩
abbrev S2048 : Shape := ⟨1, ![2048]⟩
abbrev S2048x1024 : Shape := ⟨2, ![2048, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S16384x3072 : S_.BroadcastsInDim S16384x3072 (![] : Fin 0 → Fin S16384x3072.rank)
  reducesTo_S16384x3072_S_d0_1 : S16384x3072.ReducesTo [0, 1] S_
  bcast_S_S16384x5184 : S_.BroadcastsInDim S16384x5184 (![] : Fin 0 → Fin S16384x5184.rank)
  reducesTo_S16384x5184_S_d0_1 : S16384x5184.ReducesTo [0, 1] S_
  bcast_S_S32 : S_.BroadcastsInDim S32 (![] : Fin 0 → Fin S32.rank)
  reducesTo_S32_S_d0 : S32.ReducesTo [0] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part2 {F : FTy → Type} [FloatOps F] (main_arg7 : FVec F S2048x1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  main_v38

def fn_part1 {F : FTy → Type} [FloatOps F] (main_arg4 : FVec F S16384x5184 .f32) (main_arg5 : FVec F S32 .f32) (main_arg6 : FVec F S2048 .f32) (main_arg7 : FVec F S2048x1024 .f32) (main_v13 : IVec S_ 1) (main_v16 : IVec S16384x3072 1) : IVec S_ 1 :=
  let main_c_5 : IVec S_ 1 := constantI S_ 1 1#1
  let main_v17 : IVec S_ 1 := (fun x v => Host.reduce IntOp.andi x v reducesTo_S16384x3072_S_d0_1 h_S_) main_v16 main_c_5
  let main_v18 : IVec S_ 1 := andi main_v13 main_v17
  let main_v19 : FVec F S16384x5184 .f32 := Host.absf main_arg4
  let main_cst_6 : FVec F S_ .f32 := constant S_ .f32 0x7F800000#32
  let main_v20 : FVec F S16384x5184 .f32 := broadcastInDim S16384x5184 ![] bcast_S_S16384x5184 main_cst_6
  let main_v21 : IVec S16384x5184 1 := cmpf .olt main_v19 main_v20
  let main_c_7 : IVec S_ 1 := constantI S_ 1 1#1
  let main_v22 : IVec S_ 1 := (fun x v => Host.reduce IntOp.andi x v reducesTo_S16384x5184_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_v33

def fn {F : FTy → Type} [FloatOps F] (main_arg0 : FVec F S16384x1024 .f32) (main_arg1 : FVec F S16384x2048 .f32) (main_arg2 : FVec F S16384x2048 .f32) (main_arg3 : FVec F S16384x3072 .f32) (main_arg4 : FVec F S16384x5184 .f32) (main_arg5 : FVec F S32 .f32) (main_arg6 : FVec F S2048 .f32) (main_arg7 : FVec F S2048x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := Host.absf main_arg2
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  let main_v14 : FVec F S16384x3072 .f32 := Host.absf main_arg3
  let main_cst_4 : FVec F S_ .f32 := constant S_ .f32 0x7F800000#32
  let main_v15 : FVec F S16384x3072 .f32 := broadcastInDim S16384x3072 ![] bcast_S_S16384x3072 main_cst_4
  let main_v16 : IVec S16384x3072 1 := cmpf .olt main_v14 main_v15
  fn_part1 (F := F) main_arg4 main_arg5 main_arg6 main_arg7 main_v13 main_v16
-- ==== Kernel.lean ====
abbrev S16384x1024 : Shape := ⟨2, ![16384, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S8x128, .f32⟩
  | .hbm, ⟨5, _⟩ => ⟨S16384x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S8x1024, .f32⟩
  | .local _ .vmem, ⟨10, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v303 : BitVec 1 := Scalar.cmpi .eq arg0 c31_i32
  let v304 : BitVec 32 := Scalar.extui v303
  let c0_i32_23 : BitVec 32 := 0#32
  let v305 : BitVec 1 := Scalar.cmpi .ne v304 c0_i32_23
  v305

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S8x128, .f32⟩
  | .hbm, ⟨72, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel2.lean ====
abbrev S16384x1024 : Shape := ⟨2, ![16384, 1024]⟩
abbrev S16384x2048 : Shape := ⟨2, ![16384, 2048]⟩
abbrev S16384x3072 : Shape := ⟨2, ![16384, 3072]⟩
abbrev S16384x5184 : Shape := ⟨2, ![16384, 5184]⟩
abbrev S32 : Shape := ⟨1, ![32]⟩
abbrev S2048 : Shape := ⟨1, ![2048]⟩
abbrev S2048x1024 : Shape := ⟨2, ![2048, 1024]⟩
abbrev S_ : Shape := ⟨0, ![]⟩
abbrev S16384x64 : Shape := ⟨2, ![16384, 64]⟩
abbrev S16384x5248 : Shape := ⟨2, ![16384, 5248]⟩
abbrev S32x64 : Shape := ⟨2, ![32, 64]⟩
abbrev S1x2048 : Shape := ⟨2, ![1, 2048]⟩
abbrev S256x1024 : Shape := ⟨2, ![256, 1024]⟩
abbrev S256x2048 : Shape := ⟨2, ![256, 2048]⟩
abbrev S8x2048 : Shape := ⟨2, ![8, 2048]⟩
abbrev S256 : Shape := ⟨1, ![256]⟩
abbrev S256x1 : Shape := ⟨2, ![256, 1]⟩

abbrev nBuf : Space → Nat
  | .hbm => 23
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x2048, .f32⟩
  | .hbm, ⟨3, _⟩ => ⟨S16384x3072, .f32⟩
  | .hbm, ⟨4, _⟩ => ⟨S16384x5184, .f32⟩
  | .hbm, ⟨5, _⟩ => ⟨S32, .f32⟩
  | .hbm, ⟨6, _⟩ => ⟨S2048, .f32⟩
  | .hbm, ⟨7, _⟩ => ⟨S2048x1024, .f32⟩
  | .hbm, ⟨8, _⟩ => ⟨S_, .f32⟩
  | .hbm, ⟨9, _⟩ => ⟨S16384x64, .f32⟩
  | .hbm, ⟨10, _⟩ => ⟨S16384x5248, .f32⟩
  | .hbm, ⟨11, _⟩ => ⟨S16384x5248, .bf16⟩
  | .hbm, ⟨12, _⟩ => ⟨S16384x3072, .bf16⟩
  | .hbm, ⟨13, _⟩ => ⟨S32x64, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S2048x1024, .bf16⟩
  | .hbm, ⟨18, _⟩ => ⟨S2048x1024, .f32⟩
  | .hbm, ⟨19, _⟩ => ⟨S16384x2048, .bf16⟩
  | .hbm, ⟨20, _⟩ => ⟨S16384x2048, .bf16⟩
  | .hbm, ⟨21, _⟩ => ⟨S1x2048, .f32⟩
  | .hbm, ⟨22, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | .local _ .vmem, ⟨12, _⟩ => ⟨S2048x1024, .bf16⟩
  | .local _ .vmem, ⟨13, _⟩ => ⟨S2048x1024, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S1x2048, .f32⟩
  | .local _ .vmem, ⟨19, _⟩ => ⟨S1x2048, .f32⟩
  | .local _ .vmem, ⟨20, _⟩ => ⟨S8x2048, .f32⟩
  | .local _ .vmem, ⟨21, _⟩ => ⟨S8x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v231 : BitVec 1 := Scalar.cmpi .eq arg0 c63_i32
  let v232 : BitVec 32 := Scalar.extui v231
  let c0_i32_51 : BitVec 32 := 0#32
  let v233 : BitVec 1 := Scalar.cmpi .ne v232 c0_i32_51
  v233

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S16384x1024 : Shape := ⟨2, ![16384, 1024]⟩
abbrev S16384x2048 : Shape := ⟨2, ![16384, 2048]⟩
abbrev S16384x3072 : Shape := ⟨2, ![16384, 3072]⟩
abbrev S16384x5184 : Shape := ⟨2, ![16384, 5184]⟩
abbrev S32 : Shape := ⟨1, ![32]⟩
abbrev S2048 : Shape := ⟨1, ![2048]⟩
abbrev S2048x1024 : Shape := ⟨2, ![2048, 1024]⟩
abbrev S_ : Shape := ⟨0, ![]⟩
abbrev S32x64 : Shape := ⟨2, ![32, 64]⟩
abbrev S1x2048 : Shape := ⟨2, ![1, 2048]⟩
abbrev S16384 : Shape := ⟨1, ![16384]⟩
abbrev S16384x1 : Shape := ⟨2, ![16384, 1]⟩
abbrev S1024x2048 : Shape := ⟨2, ![1024, 2048]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x2048, .f32⟩
  | .hbm, ⟨3, _⟩ => ⟨S16384x3072, .f32⟩
  | .hbm, ⟨4, _⟩ => ⟨S16384x5184, .f32⟩
  | .hbm, ⟨5, _⟩ => ⟨S32, .f32⟩
  | .hbm, ⟨6, _⟩ => ⟨S2048, .f32⟩
  | .hbm, ⟨7, _⟩ => ⟨S2048x1024, .f32⟩
  | .hbm, ⟨8, _⟩ => ⟨S16384x3072, .f32⟩
  | .hbm, ⟨9, _⟩ => ⟨S16384x3072, .f32⟩
  | .hbm, ⟨10, _⟩ => ⟨S_, .f32⟩
  | .hbm, ⟨11, _⟩ => ⟨S16384x3072, .f32⟩
  | .hbm, ⟨12, _⟩ => ⟨S16384x3072, .f32⟩
  | .hbm, ⟨13, _⟩ => ⟨S_, .f32⟩
  | .hbm, ⟨14, _⟩ => ⟨S16384x3072, .f32⟩
  | .hbm, ⟨15, _⟩ => ⟨S16384x3072, .f32⟩
  | .hbm, ⟨16, _⟩ => ⟨S16384x3072, .f32⟩
  | .hbm, ⟨17, _⟩ => ⟨S16384x2048, .f32⟩
  | .hbm, ⟨18, _⟩ => ⟨S16384x2048, .f32⟩
  | .hbm, ⟨19, _⟩ => ⟨S32x64, .f32⟩
  | .hbm, ⟨20, _⟩ => ⟨S2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x2048, .f32⟩
  | .hbm, ⟨59, _⟩ => ⟨S16384x2048, .f32⟩
  | .hbm, ⟨60, _⟩ => ⟨S1x2048, .f32⟩
  | .hbm, ⟨61, _⟩ => ⟨S16384x2048, .f32⟩
  | .hbm, ⟨62, _⟩ => ⟨S16384x2048, .f32⟩
  | .hbm, ⟨63, _⟩ => ⟨S16384x1024, .f32⟩
  | .hbm, ⟨64, _⟩ => ⟨S1024x2048, .f32⟩
  | .hbm, ⟨65, _⟩ => ⟨S2048x1024, .f32⟩
  | .hbm, ⟨66, _⟩ => ⟨S16384x2048, .f32⟩
  | .hbm, ⟨67, _⟩ => ⟨S16384x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S16384x2048, .f32⟩
  | .hbm, ⟨72, _⟩ => ⟨S16384x2048, .f32⟩
  | .hbm, ⟨73, _⟩ => ⟨S_, .f32⟩
  | .hbm, ⟨74, _⟩ => ⟨S2048, .f32⟩
  | .hbm, ⟨75, _⟩ => ⟨S16384x2048, .f32⟩
  | .hbm, ⟨76, _⟩ => ⟨S_, .f32⟩
  | .hbm, ⟨77, _⟩ => ⟨S16384, .f32⟩
  | .hbm, ⟨78, _⟩ => ⟨S16384x1, .f32⟩
  | .hbm, ⟨79, _⟩ => ⟨S16384x2048, .f32⟩
  | .hbm, ⟨80, _⟩ => ⟨S16384x2048, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .f32⟩
  | .hbm, ⟨85, _⟩ => ⟨S_, .f32⟩
  | .hbm, ⟨86, _⟩ => ⟨S16384, .f32⟩
  | .hbm, ⟨87, _⟩ => ⟨S16384x2048, .f32⟩
  | .hbm, ⟨88, _⟩ => ⟨S16384x2048, .f32⟩
  | .hbm, ⟨89, _⟩ => ⟨S16384x2048, .f32⟩
  | .hbm, ⟨90, _⟩ => ⟨S16384x2048, .f32⟩
  | .hbm, ⟨91, _⟩ => ⟨S16384x2048, .f32⟩
  | .hbm, ⟨92, _⟩ => ⟨S16384x2048, .f32⟩
  | .hbm, ⟨93, _⟩ => ⟨S16384x2048, .f32⟩
  | .hbm, ⟨94, _⟩ => ⟨S16384x2048, .f32⟩
  | .hbm, ⟨95, _⟩ => ⟨S16384x2048, .f32⟩
  | .hbm, ⟨96, _⟩ => ⟨S16384x2048, .f32⟩
  | .hbm, ⟨97, _⟩ => ⟨S_, .f32⟩
  | .hbm, ⟨98, _⟩ => ⟨S2048, .f32⟩
  | .hbm, ⟨99, _⟩ => ⟨S1x2048, .f32⟩
  | .hbm, ⟨100, _⟩ => ⟨S_, .f32⟩
  | .hbm, ⟨101, _⟩ => ⟨S2048, .f32⟩
  | .hbm, ⟨102, _⟩ => ⟨S16384x2048, .bf16⟩
  | .hbm, ⟨103, _⟩ => ⟨S16384x2048, .bf16⟩
  | .hbm, ⟨104, _⟩ => ⟨S1x2048, .f32⟩
  | .hbm, ⟨105, _⟩ => ⟨S1x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_v10_2 : Ref sig .tc := ⟨.hbm, 33, rfl⟩
abbrev main_call1_cst_1 : Ref sig .tc := ⟨.hbm, 34, rfl⟩
abbrev main_call1_v6 : Ref sig .tc := ⟨.hbm, 35, rfl⟩
abbrev main_call1_v7 : Ref sig .tc := ⟨.hbm, 36, rfl⟩
abbrev main_v10_1 : Ref sig .tc := ⟨.hbm, 37, rfl⟩
abbrev main_v10_0 : Ref sig .tc := ⟨.hbm, 38, rfl⟩
abbrev main_v11 : Ref sig .tc := ⟨.hbm, 39, rfl⟩
abbrev main_v12 : Ref sig .tc := ⟨.hbm, 40, rfl⟩
abbrev main_cst : Ref sig .tc := ⟨.hbm, 41, rfl⟩
abbrev main_v13 : Ref sig .tc := ⟨.hbm, 42, rfl⟩
abbrev main_v14 : Ref sig .tc := ⟨.hbm, 43, rfl⟩
abbrev main_cst_0 : Ref sig .tc := ⟨.hbm, 44, rfl⟩
abbrev main_v15 : Ref sig .tc := ⟨.hbm, 45, rfl⟩
abbrev main_v16 : Ref sig .tc := ⟨.hbm, 46, rfl⟩
abbrev main_cst_1 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_4 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_5 : Ref sig .tc := ⟨.hbm, 73, rfl⟩
abbrev main_v39 : Ref sig .tc := ⟨.hbm, 74, rfl⟩
abbrev main_v40 : Ref sig .tc := ⟨.hbm, 75, rfl⟩
abbrev main_cst_6 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_7 : Ref sig .tc := ⟨.hbm, 82, rfl⟩
abbrev main_v46 : Ref sig .tc := ⟨.hbm, 83, rfl⟩
abbrev main_v47 : Ref sig .tc := ⟨.hbm, 84, rfl⟩
abbrev main_cst_8 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v54 : Ref sig .tc := ⟨.hbm, 95, rfl⟩
abbrev main_v55 : Ref sig .tc := ⟨.hbm, 96, rfl⟩
abbrev main_cst_9 : Ref sig .tc := ⟨.hbm, 97, rfl⟩
abbrev main_v56 : Ref sig .tc := ⟨.hbm, 98, rfl⟩
abbrev main_v57 : Ref sig .tc := ⟨.hbm, 99, rfl⟩
abbrev main_cst_10 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩

abbrev nD : Nat := 1
abbrev τ : Topo := Topo.v7x

variable {F : FTy → Type} [FloatOps F]
-- ==== Kernel3.lean ====
abbrev S16384x1024 : Shape := ⟨2, ![16384, 1024]⟩
abbrev S16384x2048 : Shape := ⟨2, ![16384, 2048]⟩
abbrev S2048 : Shape := ⟨1, ![2048]⟩
abbrev S16384x6144 : Shape := ⟨2, ![16384, 6144]⟩
abbrev S1x2048 : Shape := ⟨2, ![1, 2048]⟩
abbrev S2048x1024 : Shape := ⟨2, ![2048, 1024]⟩
abbrev S256x1024 : Shape := ⟨2, ![256, 1024]⟩
abbrev S256x2048 : Shape := ⟨2, ![256, 2048]⟩
abbrev S8x2048 : Shape := ⟨2, ![8, 2048]⟩
abbrev S256 : Shape := ⟨1, ![256]⟩
abbrev S256x1 : Shape := ⟨2, ![256, 1]⟩

abbrev nBuf : Space → Nat
  | .hbm => 18
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S2048, .f32⟩
  | .hbm, ⟨3, _⟩ => ⟨S16384x6144, .f32⟩
  | .hbm, ⟨4, _⟩ => ⟨S1x2048, .f32⟩
  | .hbm, ⟨5, _⟩ => ⟨S1x2048, .f32⟩
  | .hbm, ⟨6, _⟩ => ⟨S2048x1024, .f32⟩
  | .hbm, ⟨7, _⟩ => ⟨S1x2048, .f32⟩
  | .hbm, ⟨8, _⟩ => ⟨S16384x2048, .f32⟩
  | .hbm, ⟨9, _⟩ => ⟨S16384x2048, .f32⟩
  | .hbm, ⟨10, _⟩ => ⟨S16384x2048, .bf16⟩
  | .hbm, ⟨11, _⟩ => ⟨S16384x6144, .bf16⟩
  | .hbm, ⟨12, _⟩ => ⟨S2048x1024, .bf16⟩
  | .hbm, ⟨13, _⟩ => ⟨S2048x1024, .f32⟩
  | .hbm, ⟨14, _⟩ => ⟨S16384x2048, .bf16⟩
  | .hbm, ⟨15, _⟩ => ⟨S16384x2048, .bf16⟩
  | .hbm, ⟨16, _⟩ => ⟨S1x2048, .f32⟩
  | .hbm, ⟨17, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S1x2048, .f32⟩
  | .local _ .vmem, ⟨8, _⟩ => ⟨S2048x1024, .bf16⟩
  | .local _ .vmem, ⟨9, _⟩ => ⟨S2048x1024, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | .local _ .vmem, ⟨16, _⟩ => ⟨S8x2048, .f32⟩
  | .local _ .vmem, ⟨17, _⟩ => ⟨S8x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v249 : BitVec 1 := Scalar.cmpi .eq arg0 c63_i32
  let v250 : BitVec 32 := Scalar.extui v249
  let c0_i32_56 : BitVec 32 := 0#32
  let v251 : BitVec 1 := Scalar.cmpi .ne v250 c0_i32_56
  v251

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S16384x1024 : Shape := ⟨2, ![16384, 1024]⟩
abbrev S16384x2048 : Shape := ⟨2, ![16384, 2048]⟩
abbrev S2048 : Shape := ⟨1, ![2048]⟩
abbrev S16384x6144 : Shape := ⟨2, ![16384, 6144]⟩
abbrev S1x2048 : Shape := ⟨2, ![1, 2048]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩
abbrev S1024x2048 : Shape := ⟨2, ![1024, 2048]⟩

abbrev nBuf : Space → Nat
  | .hbm => 130
  | .vmem => 0
  | .smem => 0
  | _ => 0

abbrev hbmTy0_0 (i : Nat) : BufTy := match i % 128 with
  | 0 => ⟨S16384x1024, .f32⟩
  | 1 => ⟨S16384x2048, .f32⟩
  | 2 => ⟨S2048, .f32⟩
  | 3 => ⟨S16384x6144, .f32⟩
  | 4 => ⟨S1x2048, .f32⟩
  | 5 => ⟨S1x2048, .f32⟩
  | 6 => ⟨S2048x1024, .f32⟩
  | 7 => ⟨S1x2048, .f32⟩
  | 8 => ⟨S16384x2048, .f32⟩
  | 9 => ⟨S16384x2048, .f32⟩
  | 10 => ⟨S16384x2048, .f32⟩
  | 11 => ⟨S2048, .f32⟩
  | 12 => ⟨S2048, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S16384x2048, .f32⟩
  | 20 => ⟨S16384x2048, .f32⟩
  | 21 => ⟨S16384x2048, .f32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S_, .f32⟩
  | 29 => ⟨S16384x1, .f32⟩
  | 30 => ⟨S16384x1, .f32⟩
  | 31 => ⟨S16384x1, .f32⟩
  | 32 => ⟨S16384x1, .f32⟩
  | 33 => ⟨S_, .f32⟩
  | 34 => ⟨S16384x1, .f32⟩
  | 35 => ⟨S16384x1, .f32⟩
  | 36 => ⟨S16384x2048, .f32⟩
  | 37 => ⟨S16384x2048, .f32⟩
  | 38 => ⟨S1x2048, .f32⟩
  | 39 => ⟨S16384x2048, .f32⟩
  | 40 => ⟨S16384x2048, .f32⟩
  | 41 => ⟨S1x2048, .f32⟩
  | 42 => ⟨S16384x2048, .f32⟩
  | 43 => ⟨S16384x2048, .f32⟩
  | 44 => ⟨S16384x2048, .f32⟩
  | 45 => ⟨S16384x2048, .f32⟩
  | 46 => ⟨S_, .f32⟩
  | 47 => ⟨S16384x2048, .f32⟩
  | 48 => ⟨S16384x2048, .f32⟩
  | 49 => ⟨S_, .f32⟩
  | 50 => ⟨S16384x2048, .f32⟩
  | 51 => ⟨S16384x2048, .f32⟩
  | 52 => ⟨S_, .f32⟩
  | 53 => ⟨S16384x2048, .f32⟩
  | 54 => ⟨S16384x2048, .f32⟩
  | 55 => ⟨S16384x2048, .f32⟩
  | 56 => ⟨S16384x2048, .f32⟩
  | 57 => ⟨S16384x2048, .f32⟩
  | 58 => ⟨S16384x2048, .f32⟩
  | 59 => ⟨S_, .f32⟩
  | 60 => ⟨S16384x2048, .f32⟩
  | 61 => ⟨S16384x2048, .f32⟩
  | 62 => ⟨S_, .f32⟩
  | 63 => ⟨S16384x2048, .f32⟩
  | 64 => ⟨S16384x2048, .f32⟩
  | 65 => ⟨S_, .f32⟩
  | 66 => ⟨S16384x2048, .f32⟩
  | 67 => ⟨S16384x2048, .f32⟩
  | 68 => ⟨S16384x2048, .f32⟩
  | 69 => ⟨S16384x2048, .f32⟩
  | 70 => ⟨S16384x2048, .f32⟩
  | 71 => ⟨S16384x1024, .f32⟩
  | 72 => ⟨S1024x2048, .f32⟩
  | 73 => ⟨S2048x1024, .f32⟩
  | 74 => ⟨S16384x2048, .f32⟩
  | 75 => ⟨S16384x2048, .f32⟩
  | 76 => ⟨S16384x2048, .f32⟩
  | 77 => ⟨S16384x2048, .f32⟩
  | 78 => ⟨S16384x2048, .f32⟩
  | 79 => ⟨S16384x2048, .f32⟩
  | 80 => ⟨S16384x2048, .f32⟩
  | 81 => ⟨S16384x2048, .f32⟩
  | 82 => ⟨S16384x2048, .f32⟩
  | 83 => ⟨S16384x2048, .f32⟩
  | 84 => ⟨S16384x2048, .f32⟩
  | 85 => ⟨S_, .f32⟩
  | 86 => ⟨S2048, .f32⟩
  | 87 => ⟨S1x2048, .f32⟩
  | 88 => ⟨S_, .f32⟩
  | 89 => ⟨S2048, .f32⟩
  | 90 => ⟨S16384x2048, .f32⟩
  | 91 => ⟨S_, .f32⟩
  | 92 => ⟨S2048, .f32⟩
  | 93 => ⟨S1x2048, .f32⟩
  | 94 => ⟨S16384x2048, .f32⟩
  | 95 => ⟨S16384x2048, .f32⟩
  | 96 => ⟨S_, .f32⟩
  | 97 => ⟨S2048, .f32⟩
  | 98 => ⟨S16384x2048, .f32⟩
  | 99 => ⟨S_, .f32⟩
  | 100 => ⟨S16384, .f32⟩
  | 101 => ⟨S16384x1, .f32⟩
  | 102 => ⟨S16384x2048, .f32⟩
  | 103 => ⟨S16384x2048, .f32⟩
  | 104 => ⟨S16384x1, .f32⟩
  | 105 => ⟨S_, .f32⟩
  | 106 => ⟨S16384x1, .f32⟩
  | 107 => ⟨S16384x1, .f32⟩
  | 108 => ⟨S_, .f32⟩
  | 109 => ⟨S16384, .f32⟩
  | 110 => ⟨S16384x2048, .f32⟩
  | 111 => ⟨S16384x2048, .f32⟩
  | 112 => ⟨S16384x2048, .f32⟩
  | 113 => ⟨S16384x2048, .f32⟩
  | 114 => ⟨S16384x2048, .f32⟩
  | 115 => ⟨S16384x2048, .f32⟩
  | 116 => ⟨S_, .f32⟩
  | 117 => ⟨S16384, .f32⟩
  | 118 => ⟨S16384x1, .f32⟩
  | 119 => ⟨S_, .f32⟩
  | 120 => ⟨S16384x1, .f32⟩
  | 121 => ⟨S16384x1, .f32⟩
  | 122 => ⟨S_, .f32⟩
  | 123 => ⟨S16384, .f32⟩
  | 124 => ⟨S16384x2048, .f32⟩
  | 125 => ⟨S16384x2048, .f32⟩
  | 126 => ⟨S16384x2048, .bf16⟩
  | 127 => ⟨S16384x2048, .bf16⟩
  | _ => ⟨S16384x1024, .f32⟩

abbrev hbmTy0_1 (i : Nat) : BufTy := match i % 128 with
  | 0 => ⟨S1x2048, .f32⟩
  | 1 => ⟨S1x2048, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v31_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v31_1 : Ref sig .tc := ⟨.hbm, 55, rfl⟩
abbrev main_v31_0 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_v32_2 : Ref sig .tc := ⟨.hbm, 64, rfl⟩
abbrev main_call1_cst_1 : Ref sig .tc := ⟨.hbm, 65, rfl⟩
abbrev main_call1_v6 : Ref sig .tc := ⟨.hbm, 66, rfl⟩
abbrev main_call1_v7 : Ref sig .tc := ⟨.hbm, 67, rfl⟩
abbrev main_v32_1 : Ref sig .tc := ⟨.hbm, 68, rfl⟩
abbrev main_v32_0 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v40 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v41 : Ref sig .tc := ⟨.hbm, 84, rfl⟩
abbrev main_cst_5 : Ref sig .tc := ⟨.hbm, 85, rfl⟩
abbrev main_v42 : Ref sig .tc := ⟨.hbm, 86, rfl⟩
abbrev main_v43 : Ref sig .tc := ⟨.hbm, 87, rfl⟩
abbrev main_cst_6 : Ref sig .tc := ⟨.hbm, 88, rfl⟩
abbrev main_v44 : Ref sig .tc := ⟨.hbm, 89, rfl⟩
abbrev main_v45 : Ref sig .tc := ⟨.hbm, 90, rfl⟩
abbrev main_cst_7 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_8 : Ref sig .tc := ⟨.hbm, 96, rfl⟩
abbrev main_v50 : Ref sig .tc := ⟨.hbm, 97, rfl⟩
abbrev main_v51 : Ref sig .tc := ⟨.hbm, 98, rfl⟩
abbrev main_cst_9 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_10 : Ref sig .tc := ⟨.hbm, 105, rfl⟩
abbrev main_v57 : Ref sig .tc := ⟨.hbm, 106, rfl⟩
abbrev main_v58 : Ref sig .tc := ⟨.hbm, 107, rfl⟩
abbrev main_cst_11 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_12 : Ref sig .tc := ⟨.hbm, 116, rfl⟩
abbrev main_v66 : Ref sig .tc := ⟨.hbm, 117, rfl⟩
abbrev main_v67 : Ref sig .tc := ⟨.hbm, 118, rfl⟩
abbrev main_cst_13 : Ref sig .tc := ⟨.hbm, 119, rfl⟩
abbrev main_v68 : Ref sig .tc := ⟨.hbm, 120, rfl⟩
abbrev main_v69 : Ref sig .tc := ⟨.hbm, 121, rfl⟩
abbrev main_cst_14 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩

abbrev nD : Nat := 1
abbrev τ : Topo := Topo.v7x

variable {F : FTy → Type} [FloatOps F]
-- ==== Kernel4.lean ====
abbrev S16384x2048 : Shape := ⟨2, ![16384, 2048]⟩
abbrev S1024x6144 : Shape := ⟨2, ![1024, 6144]⟩
abbrev S16384x1024 : Shape := ⟨2, ![16384, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 15
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S1024x6144, .f32⟩
  | .hbm, ⟨4, _⟩ => ⟨S16384x1024, .f32⟩
  | .hbm, ⟨5, _⟩ => ⟨S1024, .f32⟩
  | .hbm, ⟨6, _⟩ => ⟨S16384x1024, .f32⟩
  | .hbm, ⟨7, _⟩ => ⟨S16384x2048, .bf16⟩
  | .hbm, ⟨8, _⟩ => ⟨S16384x2048, .bf16⟩
  | .hbm, ⟨9, _⟩ => ⟨S16384x2048, .bf16⟩
  | .hbm, ⟨10, _⟩ => ⟨S1024x6144, .bf16⟩
  | .hbm, ⟨11, _⟩ => ⟨S1x1024, .f32⟩
  | .hbm, ⟨12, _⟩ => ⟨S16384x1024, .f32⟩
  | .hbm, ⟨13, _⟩ => ⟨S16384x1024, .bf16⟩
  | .hbm, ⟨14, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x6144, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S8x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v207 : BitVec 1 := Scalar.cmpi .eq arg0 c31_i32
  let v208 : BitVec 32 := Scalar.extui v207
  let c0_i32_46 : BitVec 32 := 0#32
  let v209 : BitVec 1 := Scalar.cmpi .ne v208 c0_i32_46
  v209

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S16384x2048 : Shape := ⟨2, ![16384, 2048]⟩
abbrev S1024x6144 : Shape := ⟨2, ![1024, 6144]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6144 : Shape := ⟨2, ![16384, 6144]⟩

abbrev nBuf : Space → Nat
  | .hbm => 74
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S1024x6144, .f32⟩
  | .hbm, ⟨4, _⟩ => ⟨S16384x1024, .f32⟩
  | .hbm, ⟨5, _⟩ => ⟨S1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x6144, .f32⟩
  | .hbm, ⟨28, _⟩ => ⟨S16384x6144, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S16384x1, .f32⟩
  | .hbm, ⟨67, _⟩ => ⟨S16384x1024, .f32⟩
  | .hbm, ⟨68, _⟩ => ⟨S16384x1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S16384x1024, .bf16⟩
  | .hbm, ⟨73, _⟩ => ⟨S1x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel5.lean ====
abbrev S16384x2048 : Shape := ⟨2, ![16384, 2048]⟩
abbrev S16384x3072 : Shape := ⟨2, ![16384, 3072]⟩
abbrev S16384x32 : Shape := ⟨2, ![16384, 32]⟩
abbrev S1024x5184 : Shape := ⟨2, ![1024, 5184]⟩
abbrev S16384x1024 : Shape := ⟨2, ![16384, 1024]⟩
abbrev S1024 : Shape := ⟨1, ![1024]⟩
abbrev S_ : Shape := ⟨0, ![]⟩
abbrev S16384x64 : Shape := ⟨2, ![16384, 64]⟩
abbrev S16384x128 : Shape := ⟨2, ![16384, 128]⟩
abbrev S5184x1024 : Shape := ⟨2, ![5184, 1024]⟩
abbrev S64x1024 : Shape := ⟨2, ![64, 1024]⟩
abbrev S5248x1024 : Shape := ⟨2, ![5248, 1024]⟩
abbrev S1x1024 : Shape := ⟨2, ![1, 1024]⟩
abbrev S512x2048 : Shape := ⟨2, ![512, 2048]⟩
abbrev S512x3072 : Shape := ⟨2, ![512, 3072]⟩
abbrev S512x128 : Shape := ⟨2, ![512, 128]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1024x1024 : Shape := ⟨2, ![1024, 1024]⟩
abbrev S128x1024 : Shape := ⟨2, ![128, 1024]⟩

abbrev nBuf : Space → Nat
  | .hbm => 23
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S16384x3072, .f32⟩
  | .hbm, ⟨2, _⟩ => ⟨S16384x32, .f32⟩
  | .hbm, ⟨3, _⟩ => ⟨S16384x32, .f32⟩
  | .hbm, ⟨4, _⟩ => ⟨S1024x5184, .f32⟩
  | .hbm, ⟨5, _⟩ => ⟨S16384x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384x64, .f32⟩
  | .hbm, ⟨10, _⟩ => ⟨S16384x128, .f32⟩
  | .hbm, ⟨11, _⟩ => ⟨S16384x128, .bf16⟩
  | .hbm, ⟨12, _⟩ => ⟨S5184x1024, .f32⟩
  | .hbm, ⟨13, _⟩ => ⟨S_, .f32⟩
  | .hbm, ⟨14, _⟩ => ⟨S64x1024, .f32⟩
  | .hbm, ⟨15, _⟩ => ⟨S5248x1024, .f32⟩
  | .hbm, ⟨16, _⟩ => ⟨S5248x1024, .bf16⟩
  | .hbm, ⟨17, _⟩ => ⟨S16384x2048, .bf16⟩
  | .hbm, ⟨18, _⟩ => ⟨S16384x3072, .bf16⟩
  | .hbm, ⟨19, _⟩ => ⟨S1x1024, .f32⟩
  | .hbm, ⟨20, _⟩ => ⟨S16384x1024, .f32⟩
  | .hbm, ⟨21, _⟩ => ⟨S16384x1024, .bf16⟩
  | .hbm, ⟨22, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x3072, .bf16⟩
  | .local _ .vmem, ⟨3, _⟩ => ⟨S512x3072, .bf16⟩
  | .local _ .vmem, ⟨4, _⟩ => ⟨S512x128, .bf16⟩
  | .local _ .vmem, ⟨5, _⟩ => ⟨S512x128, .bf16⟩
  | .local _ .vmem, ⟨6, _⟩ => ⟨S5248x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S8x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v207 : BitVec 1 := Scalar.cmpi .eq arg0 c31_i32
  let v208 : BitVec 32 := Scalar.extui v207
  let c0_i32_46 : BitVec 32 := 0#32
  let v209 : BitVec 1 := Scalar.cmpi .ne v208 c0_i32_46
  v209

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5248x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S16384x2048 : Shape := ⟨2, ![16384, 2048]⟩
abbrev S16384x3072 : Shape := ⟨2, ![16384, 3072]⟩
abbrev S16384x32 : Shape := ⟨2, ![16384, 32]⟩
abbrev S1024x5184 : Shape := ⟨2, ![1024, 5184]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5184 : Shape := ⟨2, ![16384, 5184]⟩

abbrev nBuf : Space → Nat
  | .hbm => 75
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x3072, .f32⟩
  | .hbm, ⟨2, _⟩ => ⟨S16384x32, .f32⟩
  | .hbm, ⟨3, _⟩ => ⟨S16384x32, .f32⟩
  | .hbm, ⟨4, _⟩ => ⟨S1024x5184, .f32⟩
  | .hbm, ⟨5, _⟩ => ⟨S16384x1024, .f32⟩
  | .hbm, ⟨6, _⟩ => ⟨S1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x5184, .f32⟩
  | .hbm, ⟨29, _⟩ => ⟨S16384x5184, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S1x1024, .f32⟩
  | .hbm, ⟨71, _⟩ => ⟨S16384x1024, .f32⟩
  | .hbm, ⟨72, _⟩ => ⟨S16384x1024, .f32⟩
  | .hbm, ⟨73, _⟩ => ⟨S16384x1024, .bf16⟩
  | .hbm, ⟨74, _⟩ => ⟨S1x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel6.lean ====
abbrev S16384x3072 : Shape := ⟨2, ![16384, 3072]⟩
abbrev S16384x5184 : Shape := ⟨2, ![16384, 5184]⟩
abbrev S5x3072 : Shape := ⟨2, ![5, 3072]⟩
abbrev S_ : Shape := ⟨0, ![]⟩
abbrev S16384x64 : Shape := ⟨2, ![16384, 64]⟩
abbrev S16384x5248 : Shape := ⟨2, ![16384, 5248]⟩
abbrev S1x3072 : Shape := ⟨2, ![1, 3072]⟩
abbrev S512x1024 : Shape := ⟨2, ![512, 1024]⟩
abbrev S16x1024 : Shape := ⟨2, ![16, 1024]⟩
abbrev S5x1024 : Shape := ⟨2, ![5, 1024]⟩
abbrev S1x1024 : Shape := ⟨2, ![1, 1024]⟩
abbrev S544x1024 : Shape := ⟨2, ![544, 1024]⟩
abbrev S5x8x1024 : Shape := ⟨3, ![5, 8, 1024]⟩
abbrev S8x1024 : Shape := ⟨2, ![8, 1024]⟩
abbrev S1x8x1024 : Shape := ⟨3, ![1, 8, 1024]⟩
abbrev S1024 : Shape := ⟨1, ![1024]⟩

abbrev nBuf : Space → Nat
  | .hbm => 13
  | .vmem => 32
  | .smem => 0
  | _ => 0

abbrev bufTy : (tb : Table) → Fin (tcTables nBuf tb) → BufTy
  | .hbm, ⟨0, _⟩ => ⟨S16384x3072, .f32⟩
  | .hbm, ⟨1, _⟩ => ⟨S16384x3072, .f32⟩
  | .hbm, ⟨2, _⟩ => ⟨S16384x5184, .f32⟩
  | .hbm, ⟨3, _⟩ => ⟨S5x3072, .f32⟩
  | .hbm, ⟨4, _⟩ => ⟨S_, .f32⟩
  | .hbm, ⟨5, _⟩ => ⟨S16384x64, .f32⟩
  | .hbm, ⟨6, _⟩ => ⟨S16384x5248, .f32⟩
  | .hbm, ⟨7, _⟩ => ⟨S16384x5248, .bf16⟩
  | .hbm, ⟨8, _⟩ => ⟨S16384x3072, .bf16⟩
  | .hbm, ⟨9, _⟩ => ⟨S16384x3072, .bf16⟩
  | .hbm, ⟨10, _⟩ => ⟨S16384x3072, .bf16⟩
  | .hbm, ⟨11, _⟩ => ⟨S5x3072, .f32⟩
  | .hbm, ⟨12, _⟩ => ⟨S1x3072, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S512x1024, .bf16⟩
  | .local _ .vmem, ⟨13, _⟩ => ⟨S512x1024, .bf16⟩
  | .local _ .vmem, ⟨14, _⟩ => ⟨S16x1024, .bf16⟩
  | .local _ .vmem, ⟨15, _⟩ => ⟨S16x1024, .bf16⟩
  | .local _ .vmem, ⟨16, _⟩ => ⟨S16x1024, .bf16⟩
  | .local _ .vmem, ⟨17, _⟩ => ⟨S16x1024, .bf16⟩
  | .local _ .vmem, ⟨18, _⟩ => ⟨S5x1024, .f32⟩
  | .local _ .vmem, ⟨19, _⟩ => ⟨S5x1024, .f32⟩
  | .local _ .vmem, ⟨20, _⟩ => ⟨S512x1024, .bf16⟩
  | .local _ .vmem, ⟨21, _⟩ => ⟨S512x1024, .bf16⟩
  | .local _ .vmem, ⟨22, _⟩ => ⟨S5x1024, .f32⟩
  | .local _ .vmem, ⟨23, _⟩ => ⟨S5x1024, .f32⟩
  | .local _ .vmem, ⟨24, _⟩ => ⟨S1x1024, .f32⟩
  | .local _ .vmem, ⟨25, _⟩ => ⟨S1x1024, .f32⟩
  | .local _ .vmem, ⟨26, _⟩ => ⟨S544x1024, .f32⟩
  | .local _ .vmem, ⟨27, _⟩ => ⟨S5x8x1024, .f32⟩
  | .local _ .vmem, ⟨28, _⟩ => ⟨S544x1024, .f32⟩
  | .local _ .vmem, ⟨29, _⟩ => ⟨S5x8x1024, .f32⟩
  | .local _ .vmem, ⟨30, _⟩ => ⟨S5x8x1024, .f32⟩
  | .local _ .vmem, ⟨31, _⟩ => ⟨S8x1024, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![3, 32], ![false, false]⟩

def k0_cond2 (i : grid0.Coords) : BitVec 1 :=
  let arg1 : BitVec 32 := BitVec.ofNat 32 (i 1).val
  let c31_i32_2047 : BitVec 32 := 31#32
  let v3743 : BitVec 1 := Scalar.cmpi .eq arg1 c31_i32_2047
  let v3744 : BitVec 32 := Scalar.extui v3743
  let c0_i32_2048 : BitVec 32 := 0#32
  let v3745 : BitVec 1 := Scalar.cmpi .ne v3744 c0_i32_2048
  v3745

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let v3 : BitVec 32 := Scalar.addi c0_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let v3 : BitVec 32 := Scalar.addi c0_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c2_i32 : BitVec 32 := 2#32
  let v3 : BitVec 32 := Scalar.addi c2_i32 arg0
  let c0_i32 : BitVec 32 := 0#32
  ![v2.toNat, v3.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S5x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S5x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference6Ideal.lean ====
abbrev S16384x3072 : Shape := ⟨2, ![16384, 3072]⟩
abbrev S16384x5184 : Shape := ⟨2, ![16384, 5184]⟩
abbrev S5x3072 : Shape := ⟨2, ![5, 3072]⟩
abbrev S_ : Shape := ⟨0, ![]⟩
abbrev S3072 : Shape := ⟨1, ![3072]⟩
abbrev S2x3072 : Shape := ⟨2, ![2, 3072]⟩
abbrev S16388x3072 : Shape := ⟨2, ![16388, 3072]⟩
abbrev S1x3072 : Shape := ⟨2, ![1, 3072]⟩

abbrev nBuf : Space → Nat
  | .hbm => 138
  | .vmem => 0
  | .smem => 0
  | _ => 0

abbrev hbmTy0_0 (i : Nat) : BufTy := match i % 128 with
  | 0 => ⟨S16384x3072, .f32⟩
  | 1 => ⟨S16384x3072, .f32⟩
  | 2 => ⟨S16384x5184, .f32⟩
  | 3 => ⟨S5x3072, .f32⟩
  | 4 => ⟨S16384x3072, .f32⟩
  | 5 => ⟨S_, .f32⟩
  | 6 => ⟨S3072, .f32⟩
  | 7 => ⟨S_, .f32⟩
  | 8 => ⟨S2x3072, .f32⟩
  | 9 => ⟨S16388x3072, .f32⟩
  | 10 => ⟨S_, .f32⟩
  | 11 => ⟨S2x3072, .f32⟩
  | 12 => ⟨S_, .f32⟩
  | 13 => ⟨S2x3072, .f32⟩
  | 14 => ⟨S16384x3072, .f32⟩
  | 15 => ⟨S1x3072, .f32⟩
  | 16 => ⟨S3072, .f32⟩
  | 17 => ⟨S1x3072, .f32⟩
  | 18 => ⟨S16384x3072, .f32⟩
  | 19 => ⟨S16384x3072, .f32⟩
  | 20 => ⟨S_, .f32⟩
  | 21 => ⟨S16384x3072, .f32⟩
  | 22 => ⟨S16384x3072, .f32⟩
  | 23 => ⟨S16384x3072, .f32⟩
  | 24 => ⟨S1x3072, .f32⟩
  | 25 => ⟨S3072, .f32⟩
  | 26 => ⟨S1x3072, .f32⟩
  | 27 => ⟨S16384x3072, .f32⟩
  | 28 => ⟨S16384x3072, .f32⟩
  | 29 => ⟨S16384x3072, .f32⟩
  | 30 => ⟨S16384x3072, .f32⟩
  | 31 => ⟨S1x3072, .f32⟩
  | 32 => ⟨S3072, .f32⟩
  | 33 => ⟨S1x3072, .f32⟩
  | 34 => ⟨S16384x3072, .f32⟩
  | 35 => ⟨S16384x3072, .f32⟩
  | 36 => ⟨S16384x3072, .f32⟩
  | 37 => ⟨S16384x3072, .f32⟩
  | 38 => ⟨S1x3072, .f32⟩
  | 39 => ⟨S3072, .f32⟩
  | 40 => ⟨S1x3072, .f32⟩
  | 41 => ⟨S16384x3072, .f32⟩
  | 42 => ⟨S16384x3072, .f32⟩
  | 43 => ⟨S16384x3072, .f32⟩
  | 44 => ⟨S16384x3072, .f32⟩
  | 45 => ⟨S1x3072, .f32⟩
  | 46 => ⟨S3072, .f32⟩
  | 47 => ⟨S1x3072, .f32⟩
  | 48 => ⟨S16384x3072, .f32⟩
  | 49 => ⟨S16384x3072, .f32⟩
  | 50 => ⟨S16384x3072, .f32⟩
  | 51 => ⟨S1x3072, .f32⟩
  | 52 => ⟨S16384x3072, .f32⟩
  | 53 => ⟨S16384x3072, .f32⟩
  | 54 => ⟨S16384x3072, .f32⟩
  | 55 => ⟨S_, .f32⟩
  | 56 => ⟨S3072, .f32⟩
  | 57 => ⟨S1x3072, .f32⟩
  | 58 => ⟨S_, .f32⟩
  | 59 => ⟨S3072, .f32⟩
  | 60 => ⟨S16384x3072, .f32⟩
  | 61 => ⟨S_, .f32⟩
  | 62 => ⟨S3072, .f32⟩
  | 63 => ⟨S1x3072, .f32⟩
  | 64 => ⟨S16384x3072, .f32⟩
  | 65 => ⟨S16384x3072, .f32⟩
  | 66 => ⟨S_, .f32⟩
  | 67 => ⟨S3072, .f32⟩
  | 68 => ⟨S1x3072, .f32⟩
  | 69 => ⟨S_, .f32⟩
  | 70 => ⟨S5x3072, .f32⟩
  | 71 => ⟨S_, .f32⟩
  | 72 => ⟨S16388x3072, .f32⟩
  | 73 => ⟨S16384x3072, .f32⟩
  | 74 => ⟨S_, .f32⟩
  | 75 => ⟨S3072, .f32⟩
  | 76 => ⟨S1x3072, .f32⟩
  | 77 => ⟨S16384x3072, .f32⟩
  | 78 => ⟨S16384x3072, .f32⟩
  | 79 => ⟨S_, .f32⟩
  | 80 => ⟨S3072, .f32⟩
  | 81 => ⟨S1x3072, .f32⟩
  | 82 => ⟨S_, .f32⟩
  | 83 => ⟨S5x3072, .f32⟩
  | 84 => ⟨S5x3072, .f32⟩
  | 85 => ⟨S_, .f32⟩
  | 86 => ⟨S16388x3072, .f32⟩
  | 87 => ⟨S16388x3072, .f32⟩
  | 88 => ⟨S16384x3072, .f32⟩
  | 89 => ⟨S_, .f32⟩
  | 90 => ⟨S3072, .f32⟩
  | 91 => ⟨S1x3072, .f32⟩
  | 92 => ⟨S16384x3072, .f32⟩
  | 93 => ⟨S16384x3072, .f32⟩
  | 94 => ⟨S_, .f32⟩
  | 95 => ⟨S3072, .f32⟩
  | 96 => ⟨S1x3072, .f32⟩
  | 97 => ⟨S_, .f32⟩
  | 98 => ⟨S5x3072, .f32⟩
  | 99 => ⟨S5x3072, .f32⟩
  | 100 => ⟨S_, .f32⟩
  | 101 => ⟨S16388x3072, .f32⟩
  | 102 => ⟨S16388x3072, .f32⟩
  | 103 => ⟨S16384x3072, .f32⟩
  | 104 => ⟨S_, .f32⟩
  | 105 => ⟨S3072, .f32⟩
  | 106 => ⟨S1x3072, .f32⟩
  | 107 => ⟨S16384x3072, .f32⟩
  | 108 => ⟨S16384x3072, .f32⟩
  | 109 => ⟨S_, .f32⟩
  | 110 => ⟨S3072, .f32⟩
  | 111 => ⟨S1x3072, .f32⟩
  | 112 => ⟨S_, .f32⟩
  | 113 => ⟨S5x3072, .f32⟩
  | 114 => ⟨S5x3072, .f32⟩
  | 115 => ⟨S_, .f32⟩
  | 116 => ⟨S16388x3072, .f32⟩
  | 117 => ⟨S16388x3072, .f32⟩
  | 118 => ⟨S16384x3072, .f32⟩
  | 119 => ⟨S_, .f32⟩
  | 120 => ⟨S3072, .f32⟩
  | 121 => ⟨S1x3072, .f32⟩
  | 122 => ⟨S16384x3072, .f32⟩
  | 123 => ⟨S16384x3072, .f32⟩
  | 124 => ⟨S_, .f32⟩
  | 125 => ⟨S3072, .f32⟩
  | 126 => ⟨S1x3072, .f32⟩
  | 127 => ⟨S_, .f32⟩
  | _ => ⟨S16384x3072, .f32⟩

abbrev hbmTy0_1 (i : Nat) : BufTy := match i % 128 with
  | 0 => ⟨S5x3072, .f32⟩
  | 1 => ⟨S5x3072, .f32⟩
  | 2 => ⟨S_, .f32⟩
  | 3 => ⟨S16388x3072, .f32⟩
  | 4 => ⟨S16388x3072, .f32⟩
  | 5 => ⟨S2x3072, .f32⟩
  | 6 => ⟨S16384x3072, .f32⟩
  | 7 => ⟨S2x3072, .f32⟩
  | 8 => ⟨S16384x3072, .bf16⟩
  | 9 => ⟨S1x3072, .f32⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_11 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_cst_13 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_14 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_15 : Ref sig .tc := ⟨.hbm, 94, rfl⟩
abbrev main_v74 : Ref sig .tc := ⟨.hbm, 95, rfl⟩
abbrev main_v75 : Ref sig .tc := ⟨.hbm, 96, rfl⟩
abbrev main_cst_16 : Ref sig .tc := ⟨.hbm, 97, rfl⟩
abbrev main_v76 : Ref sig .tc := ⟨.hbm, 98, rfl⟩
abbrev main_v77 : Ref sig .tc := ⟨.hbm, 99, rfl⟩
abbrev main_cst_17 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_18 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_19 : Ref sig .tc := ⟨.hbm, 109, rfl⟩
abbrev main_v85 : Ref sig .tc := ⟨.hbm, 110, rfl⟩
abbrev main_v86 : Ref sig .tc := ⟨.hbm, 111, rfl⟩
abbrev main_cst_20 : Ref sig .tc := ⟨.hbm, 112, rfl⟩
abbrev main_v87 : Ref sig .tc := ⟨.hbm, 113, rfl⟩
abbrev main_v88 : Ref sig .tc := ⟨.hbm, 114, rfl⟩
abbrev main_cst_21 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_22 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_23 : Ref sig .tc := ⟨.hbm, 124, rfl⟩
abbrev main_v96 : Ref sig .tc := ⟨.hbm, 125, rfl⟩
abbrev main_v97 : Ref sig .tc := ⟨.hbm, 126, rfl⟩
abbrev main_cst_24 : Ref sig .tc := ⟨.hbm, 127, rfl⟩
abbrev main_v98 : Ref sig .tc := ⟨.hbm, 128, rfl⟩
abbrev main_v99 : Ref sig .tc := ⟨.hbm, 129, rfl⟩
abbrev main_cst_25 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩

abbrev nD : Nat := 1
abbrev τ : Topo := Topo.v7x

variable {F : FTy → Type} [FloatOps F]
-- ==== Kernel7.lean ====
abbrev S16384x1024 : Shape := ⟨2, ![16384, 1024]⟩
abbrev S1024 : Shape := ⟨1, ![1024]⟩
abbrev S1024x6144 : Shape := ⟨2, ![1024, 6144]⟩
abbrev S1x1024 : Shape := ⟨2, ![1, 1024]⟩
abbrev S16384x6144 : Shape := ⟨2, ![16384, 6144]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6144, .f32⟩
  | .hbm, ⟨3, _⟩ => ⟨S1x1024, .f32⟩
  | .hbm, ⟨4, _⟩ => ⟨S1024x6144, .bf16⟩
  | .hbm, ⟨5, _⟩ => ⟨S16384x6144, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S512x6144, .bf16⟩
  | .local _ .vmem, ⟨5, _⟩ => ⟨S512x6144, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16384x1024 : Shape := ⟨2, ![16384, 1024]⟩
abbrev S1024 : Shape := ⟨1, ![1024]⟩
abbrev S1024x6144 : Shape := ⟨2, ![1024, 6144]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6144 : Shape := ⟨2, ![16384, 6144]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6144, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x6144, .f32⟩
  | .hbm, ⟨20, _⟩ => ⟨S16384x6144, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel8.lean ====
abbrev S16384x1024 : Shape := ⟨2, ![16384, 1024]⟩
abbrev S1024 : Shape := ⟨1, ![1024]⟩
abbrev S1024x5184 : Shape := ⟨2, ![1024, 5184]⟩
abbrev S5184x1024 : Shape := ⟨2, ![5184, 1024]⟩
abbrev S_ : Shape := ⟨0, ![]⟩
abbrev S64x1024 : Shape := ⟨2, ![64, 1024]⟩
abbrev S5248x1024 : Shape := ⟨2, ![5248, 1024]⟩
abbrev S1x1024 : Shape := ⟨2, ![1, 1024]⟩
abbrev S16384x5248 : Shape := ⟨2, ![16384, 5248]⟩
abbrev S16384x128 : Shape := ⟨2, ![16384, 128]⟩
abbrev S512x1024 : Shape := ⟨2, ![512, 1024]⟩
abbrev S512x5248 : Shape := ⟨2, ![512, 5248]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S128x1024 : Shape := ⟨2, ![128, 1024]⟩

abbrev nBuf : Space → Nat
  | .hbm => 11
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5184, .f32⟩
  | .hbm, ⟨3, _⟩ => ⟨S5184x1024, .f32⟩
  | .hbm, ⟨4, _⟩ => ⟨S_, .f32⟩
  | .hbm, ⟨5, _⟩ => ⟨S64x1024, .f32⟩
  | .hbm, ⟨6, _⟩ => ⟨S5248x1024, .f32⟩
  | .hbm, ⟨7, _⟩ => ⟨S5248x1024, .bf16⟩
  | .hbm, ⟨8, _⟩ => ⟨S1x1024, .f32⟩
  | .hbm, ⟨9, _⟩ => ⟨S16384x5248, .bf16⟩
  | .hbm, ⟨10, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5248x1024, .bf16⟩
  | .local _ .vmem, ⟨4, _⟩ => ⟨S512x5248, .bf16⟩
  | .local _ .vmem, ⟨5, _⟩ => ⟨S512x5248, .bf16⟩
  | .local _ .vmem, ⟨6, _⟩ => ⟨S512x128, .f32⟩
  | .local _ .vmem, ⟨7, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5248x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5248 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S16384x1024 : Shape := ⟨2, ![16384, 1024]⟩
abbrev S1024 : Shape := ⟨1, ![1024]⟩
abbrev S1024x5184 : Shape := ⟨2, ![1024, 5184]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5184 : Shape := ⟨2, ![16384, 5184]⟩
abbrev S16384x64 : Shape := ⟨2, ![16384, 64]⟩
abbrev S16384x5248 : Shape := ⟨2, ![16384, 5248]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5184, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5184, .f32⟩
  | .hbm, ⟨20, _⟩ => ⟨S_, .f32⟩
  | .hbm, ⟨21, _⟩ => ⟨S16384x64, .f32⟩
  | .hbm, ⟨22, _⟩ => ⟨S16384x5248, .f32⟩
  | .hbm, ⟨23, _⟩ => ⟨S16384x5248, .bf16⟩
  | .hbm, ⟨24, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel9.lean ====
abbrev S16384x2048 : Shape := ⟨2, ![16384, 2048]⟩
abbrev S16384x6144 : Shape := ⟨2, ![16384, 6144]⟩
abbrev S16384x1024 : Shape := ⟨2, ![16384, 1024]⟩
abbrev S2048 : Shape := ⟨1, ![2048]⟩
abbrev S2048x1024 : Shape := ⟨2, ![2048, 1024]⟩
abbrev S1x2048 : Shape := ⟨2, ![1, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x6144, .f32⟩
  | .hbm, ⟨2, _⟩ => ⟨S16384x1024, .f32⟩
  | .hbm, ⟨3, _⟩ => ⟨S2048, .f32⟩
  | .hbm, ⟨4, _⟩ => ⟨S2048, .f32⟩
  | .hbm, ⟨5, _⟩ => ⟨S2048x1024, .f32⟩
  | .hbm, ⟨6, _⟩ => ⟨S16384x2048, .bf16⟩
  | .hbm, ⟨7, _⟩ => ⟨S16384x6144, .bf16⟩
  | .hbm, ⟨8, _⟩ => ⟨S1x2048, .f32⟩
  | .hbm, ⟨9, _⟩ => ⟨S1x2048, .f32⟩
  | .hbm, ⟨10, _⟩ => ⟨S2048x1024, .bf16⟩
  | .hbm, ⟨11, _⟩ => ⟨S16384x1024, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .f32⟩
  | .local _ .vmem, ⟨5, _⟩ => ⟨S256x1024, .f32⟩
  | .local _ .vmem, ⟨6, _⟩ => ⟨S1x2048, .f32⟩
  | .local _ .vmem, ⟨7, _⟩ => ⟨S1x2048, .f32⟩
  | .local _ .vmem, ⟨8, _⟩ => ⟨S2048x1024, .bf16⟩
  | .local _ .vmem, ⟨9, _⟩ => ⟨S256x1024, .f32⟩
  | .local _ .vmem, ⟨10, _⟩ => ⟨S256x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S16384x2048 : Shape := ⟨2, ![16384, 2048]⟩
abbrev S16384x6144 : Shape := ⟨2, ![16384, 6144]⟩
abbrev S16384x1024 : Shape := ⟨2, ![16384, 1024]⟩
abbrev S2048 : Shape := ⟨1, ![2048]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x6144, .f32⟩
  | .hbm, ⟨2, _⟩ => ⟨S16384x1024, .f32⟩
  | .hbm, ⟨3, _⟩ => ⟨S2048, .f32⟩
  | .hbm, ⟨4, _⟩ => ⟨S2048, .f32⟩
  | .hbm, ⟨5, _⟩ => ⟨S2048x1024, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x1024, .f32⟩
  | .hbm, ⟨54, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v23 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩

abbrev nD : Nat := 1
abbrev τ : Topo := Topo.v7x

variable {F : FTy → Type} [FloatOps F]
-- ==== Kernel10.lean ====
abbrev S16384x2048 : Shape := ⟨2, ![16384, 2048]⟩
abbrev S16384x3072 : Shape := ⟨2, ![16384, 3072]⟩
abbrev S16384x5184 : Shape := ⟨2, ![16384, 5184]⟩
abbrev S32 : Shape := ⟨1, ![32]⟩
abbrev S2048 : Shape := ⟨1, ![2048]⟩
abbrev S16384x1024 : Shape := ⟨2, ![16384, 1024]⟩
abbrev S2048x1024 : Shape := ⟨2, ![2048, 1024]⟩
abbrev S_ : Shape := ⟨0, ![]⟩
abbrev S16384x64 : Shape := ⟨2, ![16384, 64]⟩
abbrev S16384x5248 : Shape := ⟨2, ![16384, 5248]⟩
abbrev S32x64 : Shape := ⟨2, ![32, 64]⟩
abbrev S1x2048 : Shape := ⟨2, ![1, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 19
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x3072, .f32⟩
  | .hbm, ⟨3, _⟩ => ⟨S16384x5184, .f32⟩
  | .hbm, ⟨4, _⟩ => ⟨S32, .f32⟩
  | .hbm, ⟨5, _⟩ => ⟨S2048, .f32⟩
  | .hbm, ⟨6, _⟩ => ⟨S16384x1024, .f32⟩
  | .hbm, ⟨7, _⟩ => ⟨S2048x1024, .f32⟩
  | .hbm, ⟨8, _⟩ => ⟨S_, .f32⟩
  | .hbm, ⟨9, _⟩ => ⟨S16384x64, .f32⟩
  | .hbm, ⟨10, _⟩ => ⟨S16384x5248, .f32⟩
  | .hbm, ⟨11, _⟩ => ⟨S16384x5248, .bf16⟩
  | .hbm, ⟨12, _⟩ => ⟨S16384x3072, .bf16⟩
  | .hbm, ⟨13, _⟩ => ⟨S32x64, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S2048x1024, .bf16⟩
  | .hbm, ⟨18, _⟩ => ⟨S16384x1024, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S256x1024, .f32⟩
  | .local _ .vmem, ⟨11, _⟩ => ⟨S256x1024, .f32⟩
  | .local _ .vmem, ⟨12, _⟩ => ⟨S2048x1024, .bf16⟩
  | .local _ .vmem, ⟨13, _⟩ => ⟨S256x1024, .f32⟩
  | .local _ .vmem, ⟨14, _⟩ => ⟨S256x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S16384x2048 : Shape := ⟨2, ![16384, 2048]⟩
abbrev S16384x3072 : Shape := ⟨2, ![16384, 3072]⟩
abbrev S16384x5184 : Shape := ⟨2, ![16384, 5184]⟩
abbrev S32 : Shape := ⟨1, ![32]⟩
abbrev S2048 : Shape := ⟨1, ![2048]⟩
abbrev S16384x1024 : Shape := ⟨2, ![16384, 1024]⟩
abbrev S2048x1024 : Shape := ⟨2, ![2048, 1024]⟩
abbrev S_ : Shape := ⟨0, ![]⟩
abbrev S32x64 : Shape := ⟨2, ![32, 64]⟩
abbrev S1x2048 : Shape := ⟨2, ![1, 2048]⟩
abbrev S16384 : Shape := ⟨1, ![16384]⟩
abbrev S16384x1 : Shape := ⟨2, ![16384, 1]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x3072, .f32⟩
  | .hbm, ⟨3, _⟩ => ⟨S16384x5184, .f32⟩
  | .hbm, ⟨4, _⟩ => ⟨S32, .f32⟩
  | .hbm, ⟨5, _⟩ => ⟨S2048, .f32⟩
  | .hbm, ⟨6, _⟩ => ⟨S16384x1024, .f32⟩
  | .hbm, ⟨7, _⟩ => ⟨S2048x1024, .f32⟩
  | .hbm, ⟨8, _⟩ => ⟨S16384x3072, .f32⟩
  | .hbm, ⟨9, _⟩ => ⟨S16384x3072, .f32⟩
  | .hbm, ⟨10, _⟩ => ⟨S_, .f32⟩
  | .hbm, ⟨11, _⟩ => ⟨S16384x3072, .f32⟩
  | .hbm, ⟨12, _⟩ => ⟨S16384x3072, .f32⟩
  | .hbm, ⟨13, _⟩ => ⟨S_, .f32⟩
  | .hbm, ⟨14, _⟩ => ⟨S16384x3072, .f32⟩
  | .hbm, ⟨15, _⟩ => ⟨S16384x3072, .f32⟩
  | .hbm, ⟨16, _⟩ => ⟨S16384x3072, .f32⟩
  | .hbm, ⟨17, _⟩ => ⟨S16384x2048, .f32⟩
  | .hbm, ⟨18, _⟩ => ⟨S16384x2048, .f32⟩
  | .hbm, ⟨19, _⟩ => ⟨S32x64, .f32⟩
  | .hbm, ⟨20, _⟩ => ⟨S2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x2048, .f32⟩
  | .hbm, ⟨48, _⟩ => ⟨S16384x2048, .f32⟩
  | .hbm, ⟨49, _⟩ => ⟨S1x2048, .f32⟩
  | .hbm, ⟨50, _⟩ => ⟨S16384x2048, .f32⟩
  | .hbm, ⟨51, _⟩ => ⟨S16384x2048, .f32⟩
  | .hbm, ⟨52, _⟩ => ⟨S16384x1024, .f32⟩
  | .hbm, ⟨53, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_cst_0 : Ref sig .tc := ⟨.hbm, 40, rfl⟩
abbrev main_v15 : Ref sig .tc := ⟨.hbm, 41, rfl⟩
abbrev main_v16 : Ref sig .tc := ⟨.hbm, 42, rfl⟩
abbrev main_cst_1 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩

abbrev nD : Nat := 1
abbrev τ : Topo := Topo.v7x

variable {F : FTy → Type} [FloatOps F]
-- ==== Kernel11.lean ====
abbrev S16384x5184 : Shape := ⟨2, ![16384, 5184]⟩
abbrev S5x3072 : Shape := ⟨2, ![5, 3072]⟩
abbrev S3072 : Shape := ⟨1, ![3072]⟩
abbrev S_ : Shape := ⟨0, ![]⟩
abbrev S16384x64 : Shape := ⟨2, ![16384, 64]⟩
abbrev S16384x5248 : Shape := ⟨2, ![16384, 5248]⟩
abbrev S1x3072 : Shape := ⟨2, ![1, 3072]⟩
abbrev S16384x3072 : Shape := ⟨2, ![16384, 3072]⟩
abbrev S512x1024 : Shape := ⟨2, ![512, 1024]⟩
abbrev S16x1024 : Shape := ⟨2, ![16, 1024]⟩
abbrev S5x1024 : Shape := ⟨2, ![5, 1024]⟩
abbrev S1x1024 : Shape := ⟨2, ![1, 1024]⟩
abbrev S544x1024 : Shape := ⟨2, ![544, 1024]⟩
abbrev S5x8x1024 : Shape := ⟨3, ![5, 8, 1024]⟩
abbrev S8x1024 : Shape := ⟨2, ![8, 1024]⟩

abbrev nBuf : Space → Nat
  | .hbm => 9
  | .vmem => 14
  | .smem => 0
  | _ => 0

abbrev bufTy : (tb : Table) → Fin (tcTables nBuf tb) → BufTy
  | .hbm, ⟨0, _⟩ => ⟨S16384x5184, .f32⟩
  | .hbm, ⟨1, _⟩ => ⟨S5x3072, .f32⟩
  | .hbm, ⟨2, _⟩ => ⟨S3072, .f32⟩
  | .hbm, ⟨3, _⟩ => ⟨S_, .f32⟩
  | .hbm, ⟨4, _⟩ => ⟨S16384x64, .f32⟩
  | .hbm, ⟨5, _⟩ => ⟨S16384x5248, .f32⟩
  | .hbm, ⟨6, _⟩ => ⟨S16384x5248, .bf16⟩
  | .hbm, ⟨7, _⟩ => ⟨S1x3072, .f32⟩
  | .hbm, ⟨8, _⟩ => ⟨S16384x3072, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S5x1024, .f32⟩
  | .local _ .vmem, ⟨7, _⟩ => ⟨S5x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S544x1024, .f32⟩
  | .local _ .vmem, ⟨13, _⟩ => ⟨S5x8x1024, .f32⟩
  | _, _ => ⟨S16384x5184, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c2_i32 : BitVec 32 := 2#32
  let v3 : BitVec 32 := Scalar.addi c2_i32 arg0
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S16384x5184 : Shape := ⟨2, ![16384, 5184]⟩
abbrev S5x3072 : Shape := ⟨2, ![5, 3072]⟩
abbrev S3072 : Shape := ⟨1, ![3072]⟩
abbrev S16384x3072 : Shape := ⟨2, ![16384, 3072]⟩
abbrev S_ : Shape := ⟨0, ![]⟩
abbrev S2x3072 : Shape := ⟨2, ![2, 3072]⟩
abbrev S16388x3072 : Shape := ⟨2, ![16388, 3072]⟩
abbrev S1x3072 : Shape := ⟨2, ![1, 3072]⟩

abbrev nBuf : Space → Nat
  | .hbm => 48
  | .vmem => 0
  | .smem => 0
  | _ => 0

abbrev bufTy : (tb : Table) → Fin (tcTables nBuf tb) → BufTy
  | .hbm, ⟨0, _⟩ => ⟨S16384x5184, .f32⟩
  | .hbm, ⟨1, _⟩ => ⟨S5x3072, .f32⟩
  | .hbm, ⟨2, _⟩ => ⟨S3072, .f32⟩
  | .hbm, ⟨3, _⟩ => ⟨S16384x3072, .f32⟩
  | .hbm, ⟨4, _⟩ => ⟨S_, .f32⟩
  | .hbm, ⟨5, _⟩ => ⟨S2x3072, .f32⟩
  | .hbm, ⟨6, _⟩ => ⟨S16388x3072, .f32⟩
  | .hbm, ⟨7, _⟩ => ⟨S16384x3072, .f32⟩
  | .hbm, ⟨8, _⟩ => ⟨S1x3072, .f32⟩
  | .hbm, ⟨9, _⟩ => ⟨S3072, .f32⟩
  | .hbm, ⟨10, _⟩ => ⟨S1x3072, .f32⟩
  | .hbm, ⟨11, _⟩ => ⟨S16384x3072, .f32⟩
  | .hbm, ⟨12, _⟩ => ⟨S16384x3072, .f32⟩
  | .hbm, ⟨13, _⟩ => ⟨S_, .f32⟩
  | .hbm, ⟨14, _⟩ => ⟨S16384x3072, .f32⟩
  | .hbm, ⟨15, _⟩ => ⟨S16384x3072, .f32⟩
  | .hbm, ⟨16, _⟩ => ⟨S16384x3072, .f32⟩
  | .hbm, ⟨17, _⟩ => ⟨S1x3072, .f32⟩
  | .hbm, ⟨18, _⟩ => ⟨S3072, .f32⟩
  | .hbm, ⟨19, _⟩ => ⟨S1x3072, .f32⟩
  | .hbm, ⟨20, _⟩ => ⟨S16384x3072, .f32⟩
  | .hbm, ⟨21, _⟩ => ⟨S16384x3072, .f32⟩
  | .hbm, ⟨22, _⟩ => ⟨S16384x3072, .f32⟩
  | .hbm, ⟨23, _⟩ => ⟨S16384x3072, .f32⟩
  | .hbm, ⟨24, _⟩ => ⟨S1x3072, .f32⟩
  | .hbm, ⟨25, _⟩ => ⟨S3072, .f32⟩
  | .hbm, ⟨26, _⟩ => ⟨S1x3072, .f32⟩
  | .hbm, ⟨27, _⟩ => ⟨S16384x3072, .f32⟩
  | .hbm, ⟨28, _⟩ => ⟨S16384x3072, .f32⟩
  | .hbm, ⟨29, _⟩ => ⟨S16384x3072, .f32⟩
  | .hbm, ⟨30, _⟩ => ⟨S16384x3072, .f32⟩
  | .hbm, ⟨31, _⟩ => ⟨S1x3072, .f32⟩
  | .hbm, ⟨32, _⟩ => ⟨S3072, .f32⟩
  | .hbm, ⟨33, _⟩ => ⟨S1x3072, .f32⟩
  | .hbm, ⟨34, _⟩ => ⟨S16384x3072, .f32⟩
  | .hbm, ⟨35, _⟩ => ⟨S16384x3072, .f32⟩
  | .hbm, ⟨36, _⟩ => ⟨S16384x3072, .f32⟩
  | .hbm, ⟨37, _⟩ => ⟨S16384x3072, .f32⟩
  | .hbm, ⟨38, _⟩ => ⟨S1x3072, .f32⟩
  | .hbm, ⟨39, _⟩ => ⟨S3072, .f32⟩
  | .hbm, ⟨40, _⟩ => ⟨S1x3072, .f32⟩
  | .hbm, ⟨41, _⟩ => ⟨S16384x3072, .f32⟩
  | .hbm, ⟨42, _⟩ => ⟨S16384x3072, .f32⟩
  | .hbm, ⟨43, _⟩ => ⟨S16384x3072, .f32⟩
  | .hbm, ⟨44, _⟩ => ⟨S1x3072, .f32⟩
  | .hbm, ⟨45, _⟩ => ⟨S16384x3072, .f32⟩
  | .hbm, ⟨46, _⟩ => ⟨S16384x3072, .f32⟩
  | .hbm, ⟨47, _⟩ => ⟨S16384x3072, .bf16⟩
  | _, _ => ⟨S16384x5184, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩

abbrev nD : Nat := 1
abbrev τ : Topo := Topo.v7x

variable {F : FTy → Type} [FloatOps F]
-- ==== Kernel12.lean ====
abbrev S16384x1024 : Shape := ⟨2, ![16384, 1024]⟩
abbrev S16384x3072 : Shape := ⟨2, ![16384, 3072]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x3072, .f32⟩
  | .hbm, ⟨2, _⟩ => ⟨S16384x1024, .bf16⟩
  | .hbm, ⟨3, _⟩ => ⟨S16384x3072, .bf16⟩
  | .hbm, ⟨4, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3072, .f32⟩
  | .hbm, ⟨2, _⟩ => ⟨S_, .f32⟩
  | .hbm, ⟨3, _⟩ => ⟨S1024x3072, .f32⟩
  | .hbm, ⟨4, _⟩ => ⟨S16384x3072, .f32⟩
  | .hbm, ⟨5, _⟩ => ⟨S3072x1024, .f32⟩
  | .hbm, ⟨6, _⟩ => ⟨S1024x3072, .f32⟩
  | .hbm, ⟨7, _⟩ => ⟨S3072x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8x1024x768 : Shape := ⟨3, ![8, 1024, 768]⟩
abbrev S2x1024x768 : Shape := ⟨3, ![2, 1024, 768]⟩
abbrev S1024x768 : Shape := ⟨2, ![1024, 768]⟩
abbrev S8x256x768 : Shape := ⟨3, ![8, 256, 768]⟩
abbrev S1x256x768 : Shape := ⟨3, ![1, 256, 768]⟩
abbrev S256x768 : Shape := ⟨2, ![256, 768]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S8x1024x768, .bf16⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .local _ .vmem, ⟨0, _⟩ => ⟨S8x256x768, .bf16⟩
  | .local _ .vmem, ⟨1, _⟩ => ⟨S8x256x768, .bf16⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel13Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference13Ideal.lean ====
abbrev S8x1024x768 : Shape := ⟨3, ![8, 1024, 768]⟩
abbrev S2x1024x768 : Shape := ⟨3, ![2, 1024, 768]⟩
abbrev S_ : Shape := ⟨0, ![]⟩
abbrev S1024x768 : Shape := ⟨2, ![1024, 768]⟩
abbrev S1x1024x768 : Shape := ⟨3, ![1, 1024, 768]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S1024x768, .f32⟩
  | .hbm, ⟨6, _⟩ => ⟨S1x1024x768, .f32⟩
  | .hbm, ⟨7, _⟩ => ⟨S1024x768, .f32⟩
  | .hbm, ⟨8, _⟩ => ⟨S1x1024x768, .f32⟩
  | .hbm, ⟨9, _⟩ => ⟨S1024x768, .f32⟩
  | .hbm, ⟨10, _⟩ => ⟨S1x1024x768, .f32⟩
  | .hbm, ⟨11, _⟩ => ⟨S1024x768, .f32⟩
  | .hbm, ⟨12, _⟩ => ⟨S_, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S1024x768, .f32⟩
  | .hbm, ⟨23, _⟩ => ⟨S_, .f32⟩
  | .hbm, ⟨24, _⟩ => ⟨S1024x768, .f32⟩
  | .hbm, ⟨25, _⟩ => ⟨S1024x768, .f32⟩
  | .hbm, ⟨26, _⟩ => ⟨S1024x768, .f32⟩
  | .hbm, ⟨27, _⟩ => ⟨S_, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | .hbm, ⟨37, _⟩ => ⟨S1024x768, .f32⟩
  | .hbm, ⟨38, _⟩ => ⟨S_, .f32⟩
  | .hbm, ⟨39, _⟩ => ⟨S1024x768, .f32⟩
  | .hbm, ⟨40, _⟩ => ⟨S1024x768, .f32⟩
  | .hbm, ⟨41, _⟩ => ⟨S1024x768, .f32⟩
  | .hbm, ⟨42, _⟩ => ⟨S_, .f32⟩
  | .hbm, ⟨43, _⟩ => ⟨S1024x768, .f32⟩
  | .hbm, ⟨44, _⟩ => ⟨S1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Proof.RealLift.lean ====
module

public import Idealize.ShloMosaic.Lib.Pipeline.ValueKit
public import Idealize.ShloMosaic.Lib.ReduceAll

/-! Real numbers inside the extended reals: the kernels' operations on finite arguments, and the precondition that an array is
finite. -/

@[expose] public section

noncomputable section

open Idealize.ShloMosaic

namespace Cert.RealLift

/-- A finite sum of real numbers, taken in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A sum over blocks of a sum inside the block is the sum over all rows. -/
theorem sum_blocks (f : ℕ → ℝ) (A B : ℕ) :
    (∑ a ∈ Finset.range A, ∑ b ∈ Finset.range B, f (B * a + b)) = ∑ i ∈ Finset.range (B * A), f i := by
  induction A with
  | zero => simp
  | succ A ih => rw [Finset.sum_range_succ, ih, Nat.mul_succ, Finset.sum_range_add]

/-- Eight lanes, each over the blocks of eight rows of every tile of `8 * B` rows, together see every row once. -/
theorem sum_lanes (f : ℕ → ℝ) (A B : ℕ) :
    (∑ i : Fin 8, ∑ t ∈ Finset.range A, ∑ k ∈ Finset.range B, f (8 * B * t + (8 * k + i))) = ∑ i ∈ Finset.range (8 * B * A), f i := by
  rw [← sum_blocks f A (8 * B), Finset.sum_comm]
  refine Finset.sum_congr rfl fun t _ => ?_
  rw [← sum_blocks (fun b => f (8 * B * t + b)) B 8, Finset.sum_comm]
  refine Finset.sum_congr rfl fun k _ => ?_
  rw [Fin.sum_univ_eq_sum_range (fun i => f (8 * B * t + (8 * k + i))) 8]

/-- `sum_lanes` at 32 tiles of 512 rows. -/
theorem sum_rows512 (f : ℕ → ℝ) :
    (∑ i : Fin 8, ∑ t ∈ Finset.range 32, ∑ k ∈ Finset.range 64, f (512 * t + (8 * k + i))) = ∑ i ∈ Finset.range 16384, f i :=
  (sum_lanes f 32 64).trans (congrArg (fun n => ∑ i ∈ Finset.range n, f i) (by norm_num))

/-- A sum cut in two. -/
theorem sum_two (n a b : ℕ) (h : n = a + b) (f : ℕ → ℝ) : (∑ k : Fin n, f k) = (∑ k : Fin a, f k) + ∑ k : Fin b, f (a + k) := by
  subst h
  rw [Fin.sum_univ_add]
  rfl

/-- A product with a row laid end to end from two is the sum of the two products. -/
theorem sum_cat (n a b : ℕ) (h : n = a + b) (f g w : ℕ → ℝ) :
    (∑ k : Fin n, (if k.val < a then f k else g (k - a)) * w k) = (∑ k : Fin a, f k * w k) + ∑ k : Fin b, g k * w (a + k) := by
  rw [sum_two n a b h fun k => (if k < a then f k else g (k - a)) * w k]
  refine congrArg₂ (· + ·) (Finset.sum_congr rfl fun k _ => ?_) (Finset.sum_congr rfl fun k _ => ?_)
  · rw [if_pos k.isLt]
  · rw [if_neg (by omega), Nat.add_sub_cancel_left]

/-- A real matrix, by row and column number, as an array of extended reals. -/
abbrev mat (a b : ℕ) (X : ℕ → ℕ → ℝ) : Shape.Idx ⟨2, ![a, b]⟩ → EReal := fun i => ((X (i 0).val (i 1).val : ℝ) : EReal)

/-- A real row, by column number, as an array of extended reals. -/
abbrev row (a : ℕ) (X : ℕ → ℝ) : Shape.Idx ⟨1, ![a]⟩ → EReal := fun i => ((X (i 0).val : ℝ) : EReal)

/-- A matrix over its own indices as one over all numbers, zero outside. -/
def ext2 {a b : ℕ} (X : Shape.Idx ⟨2, ![a, b]⟩ → ℝ) (i j : ℕ) : ℝ := if h : i < a ∧ j < b then X (ix2 ⟨i, h.1⟩ ⟨j, h.2⟩) else 0

theorem mat_ext2 {a b : ℕ} (X : Shape.Idx ⟨2, ![a, b]⟩ → ℝ) : mat a b (ext2 X) = fun i => (X i : EReal) := by
  funext i
  have h : (i 0).val < a ∧ (i 1).val < b := ⟨(i 0).isLt, (i 1).isLt⟩
  show ((ext2 X (i 0).val (i 1).val : ℝ) : EReal) = _
  rw [ext2, dif_pos h]
  exact congrArg (fun k => (X k : EReal)) (eq_ix2 i).symm

/-- A row over its own indices as one over all numbers, zero outside. -/
def ext1 {a : ℕ} (X : Shape.Idx ⟨1, ![a]⟩ → ℝ) (i : ℕ) : ℝ := if h : i < a then X (ix1 ⟨i, h⟩) else 0

theorem row_ext1 {a : ℕ} (X : Shape.Idx ⟨1, ![a]⟩ → ℝ) : row a (ext1 X) = fun i => (X i : EReal) := by
  funext i
  have h : (i 0).val < a := (i 0).isLt
  show ((ext1 X (i 0).val : ℝ) : EReal) = _
  rw [ext1, dif_pos h]
  exact congrArg (fun k => (X k : EReal)) (eq_ix1 i).symm

/-- A load through a rectangle of a real matrix is the real matrix shifted by the rectangle's corner. -/
theorem ld_f32 (a b h w r s : ℕ) (X : ℕ → ℕ → ℝ) (inb) :
    View.ld (Val := Elt Ideal) (S := ⟨2, ![a, b]⟩) (e' := .f32) (mat a b X) (Rect.unit (s := ⟨2, ![a, b]⟩) ![r, s] ![h, w] inb)
      = mat h w fun i j => X (r + i) (s + j) := by
  funext j
  show ((X _ _ : ℝ) : EReal) = _
  rw [Rect.idx_unit_val, Rect.idx_unit_val]
  rfl

/-- `ld_f32` of a bf16 array. -/
theorem ld_bf16 (a b h w r s : ℕ) (X : ℕ → ℕ → ℝ) (inb) :
    View.ld (Val := Elt Ideal) (S := ⟨2, ![a, b]⟩) (e' := .bf16) (mat a b X) (Rect.unit (s := ⟨2, ![a, b]⟩) ![r, s] ![h, w] inb)
      = mat h w fun i j => X (r + i) (s + j) := ld_f32 a b h w r s X inb

/-- The quotient of two real numbers off zero. -/
theorem div_real {x y : ℝ} (h : y ≠ 0) : Ideal.div (x : EReal) (y : EReal) = ((x / y : ℝ) : EReal) := by
  rw [Ideal.div_coe h, ← EReal.coe_mul, mul_one_div]

/-- The reciprocal square root of a positive real. -/
theorem rsqrt_real {q : ℝ} (h : 0 < q) : Ideal.rsqrt (q : EReal) = (((√q)⁻¹ : ℝ) : EReal) := by
  rw [Ideal.rsqrt_coe, if_neg (not_lt.2 h.le), if_neg h.ne']

/-- The small number every norm adds below its root. -/
def eps : ℝ := 10995116 / 2 ^ 40

theorem eps_pos : 0 < eps := by unfold eps; positivity

/-- The mean square of a row of `n` numbers (`d` of them, as a real), with the small number added. -/
def msq (n : ℕ) (d : ℝ) (x : ℕ → ℝ) : ℝ := (∑ k : Fin n, x k * x k) / d + eps

theorem msq_pos (n : ℕ) {d : ℝ} (hd : 0 < d) (x : ℕ → ℝ) : 0 < msq n d x :=
  add_pos_of_nonneg_of_pos (div_nonneg (Finset.sum_nonneg fun k _ => mul_self_nonneg _) hd.le) eps_pos

/-- The reciprocal root mean square of a row. -/
def rn (n : ℕ) (d : ℝ) (x : ℕ → ℝ) : ℝ := (√(msq n d x))⁻¹

theorem rn_mul_rn (n : ℕ) {d : ℝ} (hd : 0 < d) (x : ℕ → ℝ) : rn n d x * rn n d x = 1 / msq n d x := by
  rw [rn, ← mul_inv, Real.mul_self_sqrt (msq_pos n hd x).le, one_div]

/-- The gradient through the root mean square norm: the gradient `g` of the normalised row, taken back to the row `x`. -/
def normGrad (n : ℕ) (d : ℝ) (x g : ℕ → ℝ) (j : ℕ) : ℝ :=
  rn n d x * (g j - x j * rn n d x * ((∑ k : Fin n, g k * (x k * rn n d x)) / d))

/-- The gradient through the norm as the chain rule's two terms give it. -/
theorem normGrad_eq (n : ℕ) {d : ℝ} (hd : 0 < d) (x g : ℕ → ℝ) (j : ℕ) :
    normGrad n d x g j = g j * rn n d x + x j * ((∑ k : Fin n, x k * g k) * (-(1 / 2) * (rn n d x / msq n d x)) / d)
      + (∑ k : Fin n, x k * g k) * (-(1 / 2) * (rn n d x / msq n d x)) / d * x j := by
  have hs : (∑ k : Fin n, g k * (x k * rn n d x)) = (∑ k : Fin n, x k * g k) * rn n d x := by
    rw [Finset.sum_mul]
    exact Finset.sum_congr rfl fun k _ => by ring
  have h2 : rn n d x / msq n d x = rn n d x * (rn n d x * rn n d x) := by rw [rn_mul_rn n hd]; ring
  unfold normGrad
  rw [hs, h2]
  ring

theorem lit_eps : Ideal.ofBits FTy.f32 925353388#32 = (eps : EReal) := by
  simp [Ideal.ofBits, Ideal.ieee, eps]; norm_num; rw [← EReal.coe_mul]; norm_num
theorem lit_1024 : Ideal.ofBits FTy.f32 1149239296#32 = ((1024 : ℝ) : EReal) := by
  simp [Ideal.ofBits, Ideal.ieee]; norm_num; rw [← EReal.coe_mul]; norm_num
theorem lit_1024_inv : Ideal.ofBits FTy.f32 981467136#32 = ((1 / 1024 : ℝ) : EReal) := by
  simp [Ideal.ofBits, Ideal.ieee]; norm_num; rw [← EReal.coe_mul]; norm_num
theorem lit_2048_inv : Ideal.ofBits FTy.f32 973078528#32 = ((1 / 2048 : ℝ) : EReal) := by
  simp [Ideal.ofBits, Ideal.ieee]; norm_num; rw [← EReal.coe_mul]; norm_num
theorem lit_2048 : Ideal.ofBits FTy.f32 1157627904#32 = ((2048 : ℝ) : EReal) := by
  simp [Ideal.ofBits, Ideal.ieee]; norm_num; rw [← EReal.coe_mul]; norm_num
theorem lit_zero : Ideal.ofBits FTy.f32 0#32 = ((0 : ℝ) : EReal) := by
  simp [Ideal.ofBits, Ideal.ieee]
theorem lit_one : Ideal.ofBits FTy.f32 1065353216#32 = ((1 : ℝ) : EReal) := by
  simp [Ideal.ofBits, Ideal.ieee]; norm_num; rw [← EReal.coe_mul]; norm_num
theorem lit_half : Ideal.ofBits FTy.f32 1056964608#32 = ((1 / 2 : ℝ) : EReal) := by
  simp [Ideal.ofBits, Ideal.ieee]; norm_num; rw [← EReal.coe_mul]; norm_num
theorem lit_neg_half : Ideal.ofBits FTy.f32 3204448256#32 = ((-(1 / 2) : ℝ) : EReal) := by
  simp [Ideal.ofBits, Ideal.ieee]; norm_num; rw [← EReal.coe_mul]; norm_num
theorem lit_two : Ideal.ofBits FTy.f32 1073741824#32 = ((2 : ℝ) : EReal) := by
  simp [Ideal.ofBits, Ideal.ieee]; norm_num; rw [← EReal.coe_mul]; norm_num
theorem lit_top : Ideal.ofBits FTy.f32 2139095040#32 = (⊤ : EReal) := by
  simp [Ideal.ofBits, Ideal.ieee]

/-- An extended real whose absolute value is below the infinity is a real number. -/
theorem real_of_abs_lt (x : EReal) (h : Ideal.cmp .olt (max x (-x)) ⊤ = 1#1) : ∃ r : ℝ, x = r := by
  have h' : max x (-x) < ⊤ := by
    by_contra hc
    simp [Ideal.cmp, hc] at h
  induction x with
  | bot => simp at h'
  | coe r => exact ⟨r, rfl⟩
  | top => simp at h'

/-- `jnp.all(jnp.abs(x) < jnp.inf)` of an array is true only where every element is a real number. -/
theorem real_of_all {s t u : Shape} [Subsingleton t.Idx] {axes : List (Fin s.rank)} (x : s.Idx → EReal) (b : s.Idx → EReal)
    (hb : ∀ i, b i = ⊤) (init : u.Idx → BitVec 1) (h : s.ReducesTo axes t) (hu : 0 < u.numel) (j : t.Idx)
    (e : Host.reduce IntOp.andi (cmpf (F := Ideal) (φ := .f32) .olt (Host.absf (F := Ideal) (φ := .f32) x) b) init h hu j = 1#1) :
    ∃ X : s.Idx → ℝ, x = fun i => (X i : EReal) := by
  have := fun i => real_of_abs_lt (x i) (by rw [← hb i]; exact Host.reduce_andi_all _ _ _ _ j e i)
  choose X hX using this
  exact ⟨X, funext hX⟩

/-- A matrix whose entries are all below infinity in absolute value is a real matrix. -/
theorem real_mat {a b : ℕ} {t u : Shape} [Subsingleton t.Idx] {axes : List (Fin 2)} {x B : Shape.Idx ⟨2, ![a, b]⟩ → EReal}
    {init : u.Idx → BitVec 1} {h : Shape.ReducesTo ⟨2, ![a, b]⟩ axes t} {hu : 0 < u.numel} {j : t.Idx}
    (e : Host.reduce IntOp.andi (cmpf (F := Ideal) (φ := .f32) .olt (Host.absf (F := Ideal) (φ := .f32) x) B) init h hu j = 1#1) (hB : ∀ i, B i = ⊤) :
    ∃ X : ℕ → ℕ → ℝ, x = mat a b X := by
  obtain ⟨X, hX⟩ := real_of_all x B hB init h hu j e
  exact ⟨ext2 X, by rw [mat_ext2]; exact hX⟩

/-- A row whose entries are all below infinity in absolute value is a real row. -/
theorem real_row {a : ℕ} {t u : Shape} [Subsingleton t.Idx] {axes : List (Fin 1)} {x B : Shape.Idx ⟨1, ![a]⟩ → EReal}
    {init : u.Idx → BitVec 1} {h : Shape.ReducesTo ⟨1, ![a]⟩ axes t} {hu : 0 < u.numel} {j : t.Idx}
    (e : Host.reduce IntOp.andi (cmpf (F := Ideal) (φ := .f32) .olt (Host.absf (F := Ideal) (φ := .f32) x) B) init h hu j = 1#1) (hB : ∀ i, B i = ⊤) :
    ∃ X : ℕ → ℝ, x = row a X := by
  obtain ⟨X, hX⟩ := real_of_all x B hB init h hu j e
  exact ⟨ext1 X, by rw [row_ext1]; exact hX⟩

/-- The logistic function. -/
def sg (x : ℝ) : ℝ := 1 / (1 + Real.exp (-x))

/-- The gate `x * logistic x`. -/
def sl (x : ℝ) : ℝ := x * sg x

theorem exp_real (x : ℝ) : Ideal.exp (x : EReal) = ((Real.exp x : ℝ) : EReal) := rfl

/-- The logistic function as its quotient is taken in the extended reals. -/
theorem sg_real (x : ℝ) : Ideal.div 1 (1 + Ideal.exp (-(x : EReal))) = ((sg x : ℝ) : EReal) := by
  rw [← EReal.coe_neg, exp_real, ← EReal.coe_one, ← EReal.coe_add]
  exact div_real (by positivity)

/-- The scan's output: both directions and the skip, whose row `K` has one number per column. -/
def sy (F B X K : ℕ → ℕ → ℝ) (i j : ℕ) : ℝ := F i j + B i j + sl (X i j) * K 0 j

/-- The gated output. -/
def gt (F B X K Z : ℕ → ℕ → ℝ) (i j : ℕ) : ℝ := sy F B X K i j * sl (Z i j)

/-- The cotangent taken back through the output weights. -/
def dyn (G W : ℕ → ℕ → ℝ) (i j : ℕ) : ℝ := ∑ k : Fin 1024, G i k * W j k

/-- The gradient of the gated output. -/
def dgt (F B X K Z G W N : ℕ → ℕ → ℝ) (i j : ℕ) : ℝ := normGrad 2048 2048 (gt F B X K Z i) (fun k => dyn G W i k * N 0 k) j

/-- The gradient through the gate's logistic. -/
def gz (z : ℝ) : ℝ := sg z * (1 + z * (1 - sg z))

/-- The skip's factor of a column: 64 columns to a head. -/
def sk (D : ℕ → ℕ → ℝ) (i j : ℕ) : ℝ := D 0 (j / 64)

/-- `sum_lanes` at 64 tiles of 256 rows. -/
theorem sum_rows256 (f : ℕ → ℝ) :
    (∑ i : Fin 8, ∑ t ∈ Finset.range 64, ∑ k ∈ Finset.range 32, f (256 * t + (8 * k + i))) = ∑ i ∈ Finset.range 16384, f i :=
  (sum_lanes f 64 32).trans (congrArg (fun n => ∑ i ∈ Finset.range n, f i) (by norm_num))

end Cert.RealLift
-- ==== Proof.LossK.lean ====
module

public import proofs.«01_k».proof.Proof.Gen.KernelIdeal.Value
public import Idealize.ShloMosaic.Lib.Pipeline.ReadBack
public import proofs.«01_k».proof.Proof.RealLift

/-! The loss head kernel's three results on real arguments. -/

@[expose] public section

set_option maxRecDepth 16384

noncomputable section

open Idealize.ShloMosaic Idealize.ShloMosaic.TcCoe Idealize.SL.Sem
open Idealize.ShloMosaic.Pipeline (Dat)

namespace Cert.KernelIdeal.V
open Cert.KernelIdeal Cert.KernelIdeal.Gen Cert.RealLift

/-- The reciprocal root mean square of a row. -/
def rr (x : ℕ → ℝ) : ℝ := (√((∑ k : Fin 1024, x k * x k) / 1024 + eps))⁻¹

/-- The error of a row: normalised, scaled, minus the target. -/
def er (x w t : ℕ → ℝ) (j : ℕ) : ℝ := x j * rr x * w j - t j

/-- The gradient of the loss by a row of the input. -/
def dhR (x w t : ℕ → ℝ) (j : ℕ) : ℝ :=
  rr x * (er x w t j * (1 / 1024) * w j - x j * rr x * ((∑ k : Fin 1024, er x w t k * (1 / 1024) * w k * (x k * rr x)) / 1024))

theorem q_pos (x : ℕ → ℝ) : 0 < (∑ k : Fin 1024, x k * x k) / 1024 + eps :=
  add_pos_of_nonneg_of_pos (div_nonneg (Finset.sum_nonneg fun k _ => mul_self_nonneg _) (by norm_num)) eps_pos

variable (X : ℕ → ℕ → ℝ) (W : ℕ → ℕ → ℝ) (T : ℕ → ℕ → ℝ)

theorem r_pay : k0_pay7 (F := Ideal) (mat 512 1024 X) = mat 512 1 fun i _ => rr (X i) := by
  funext j
  pointwise [k0_pay7]
  simp only [lit_eps, lit_1024, ← EReal.coe_mul, coe_sum]
  rw [div_real (by norm_num), ← EReal.coe_add]
  exact rsqrt_real (q_pos _)

theorem n_pay : k0_pay8 (F := Ideal) (mat 512 1024 X) = mat 512 1024 fun i j => X i j * rr (X i) := by
  funext j
  pointwise [k0_pay8]
  rw [r_pay, ← EReal.coe_mul]
  rfl

theorem e_pay : k0_pay9 (F := Ideal) (mat 512 1024 X) (mat 1 1024 W) (mat 512 1024 T) = mat 512 1024 fun i j => er (X i) (W 0) (T i) j := by
  funext j
  pointwise [k0_pay9]
  rw [n_pay, ← EReal.coe_mul, ← EReal.coe_sub]
  rfl

theorem e2_pay : k0_pay10 (F := Ideal) (mat 512 1024 X) (mat 1 1024 W) (mat 512 1024 T) =
    mat 512 1024 fun i j => er (X i) (W 0) (T i) j * er (X i) (W 0) (T i) j := by
  funext j
  pointwise [k0_pay10]
  rw [e_pay, ← EReal.coe_mul]

theorem dy_pay (E : ℕ → ℕ → ℝ) : k0_pay14 (F := Ideal) (mat 512 1024 E) = mat 512 1024 fun i j => E i j * (1 / 1024) := by
  funext j
  pointwise [k0_pay14]
  rw [lit_1024_inv, ← EReal.coe_mul]

theorem dyn_pay (N E : ℕ → ℕ → ℝ) : k0_pay15 (F := Ideal) (mat 512 1024 N) (mat 512 1024 E) = mat 512 1024 fun i j => E i j * (1 / 1024) * N i j := by
  funext j
  pointwise [k0_pay15]
  rw [dy_pay, ← EReal.coe_mul]

theorem dh_pay : k0_pay2 (F := Ideal) (k0_pay7 (mat 512 1024 X)) (k0_pay8 (mat 512 1024 X)) (k0_pay14 (k0_pay9 (mat 512 1024 X) (mat 1 1024 W) (mat 512 1024 T))) (mat 1 1024 W)
    = mat 512 1024 fun i j => dhR (X i) (W 0) (T i) j := by
  funext j
  rw [e_pay, dy_pay, n_pay, r_pay]
  pointwise [k0_pay2]
  simp only [lit_1024, ← EReal.coe_mul, coe_sum]
  rw [div_real (by norm_num)]
  simp only [← EReal.coe_mul, ← EReal.coe_sub]
  rfl

/-- The eight partial sums of a block's rows: lane `i` takes the rows `8 k + i`. -/
theorem al_pay (s : FVec Ideal S8x1024 .f32) (E : ℕ → ℕ → ℝ) (j : S8x1024.Idx) (v : FVec Ideal S8x1024 .f32)
    (hv : ∀ j, v j = ((∑ k ∈ Finset.range 12, E (8 * k + (j 0).val) (j 1).val : ℝ) : EReal)):
    k0_pay13 (F := Ideal) s (mat 512 1024 E) (k0_pay12 (mat 512 1024 E) v) j
      = s j + ((∑ k ∈ Finset.range 64, E (8 * k + (j 0).val) (j 1).val : ℝ) : EReal) := by
  pointwise [k0_pay13, k0_pay12]
  rw [hv]
  simp only [← EReal.coe_add]
  norm_num only [Finset.sum_range_succ, Finset.sum_range_zero, zero_add, Nat.mul_zero]
  rfl

theorem al_pay11 (j : S8x1024.Idx)  :
    k0_pay11 (F := Ideal) (mat 512 1024 X) (mat 1 1024 W) (mat 512 1024 T) j
      = ((∑ k ∈ Finset.range 12, er (X (8 * k + (j 0).val)) (W 0) (T (8 * k + (j 0).val)) (j 1).val * er (X (8 * k + (j 0).val)) (W 0) (T (8 * k + (j 0).val)) (j 1).val : ℝ) : EReal) := by
  pointwise [k0_pay11]
  rw [e2_pay]
  simp only [← EReal.coe_add]
  norm_num only [Finset.sum_range_succ, Finset.sum_range_zero, zero_add, Nat.mul_zero]
  rfl

theorem aw_pay (s : FVec Ideal S8x1024 .f32) (N E : ℕ → ℕ → ℝ) (j : S8x1024.Idx) :
    k0_pay1 (F := Ideal) s (k0_pay15 (mat 512 1024 N) (mat 512 1024 E))
      (k0_pay20 (k0_pay15 (mat 512 1024 N) (mat 512 1024 E))
        (k0_pay18 (k0_pay15 (mat 512 1024 N) (mat 512 1024 E)) (k0_pay16 (mat 512 1024 N) (mat 512 1024 E)) (k0_pay17 (mat 512 1024 N) (mat 512 1024 E)))
        (k0_pay19 (k0_pay15 (mat 512 1024 N) (mat 512 1024 E))))
      (k0_pay21 (k0_pay15 (mat 512 1024 N) (mat 512 1024 E))) j
      = s j + ((∑ k ∈ Finset.range 64, E (8 * k + (j 0).val) (j 1).val * (1 / 1024) * N (8 * k + (j 0).val) (j 1).val : ℝ) : EReal) := by
  pointwise [k0_pay1, k0_pay20, k0_pay18, k0_pay16, k0_pay17, k0_pay19, k0_pay21]
  rw [dyn_pay]
  generalize hG : (fun i j => E i j * (1 / 1024) * N i j) = G
  have hG' : ∀ k, E (8 * k + (j 0).val) (j 1).val * (1 / 1024) * N (8 * k + (j 0).val) (j 1).val = G (8 * k + (j 0).val) (j 1).val := fun k => by rw [← hG]
  simp only [← EReal.coe_add, hG']
  norm_num only [Finset.sum_range_succ, Finset.sum_range_zero, zero_add, Nat.mul_zero]
  rfl

/-- The windows' blocks at a point, by number. -/
theorem idx : ∀ t : Fin cfg0.N, win0_0.index t = ![t.val, 0] ∧ win0_1.index t = ![0, 0] ∧ win0_2.index t = ![t.val, 0] ∧
    win0_3.index t = ![0, 0] ∧ win0_4.index t = ![t.val, 0] ∧ win0_5.index t = ![0, 0] :=
  (by decide +kernel : ∀ t : Fin grid0.N, _)

variable (m : (ℓ : Loc nD τ sig) → Buf (Elt Ideal) ℓ) (c : Dev nD)

/-- The three arguments are the real arrays `X`, `W`, `T`. -/
structure Args : Prop where
  h0 : m ((c.tc : Thread nD τ).loc main_arg0) = mat 16384 1024 X
  h1 : m ((c.tc : Thread nD τ).loc main_arg1) = fun i => ((W 0 (i 0).val : ℝ) : EReal)
  h2 : m ((c.tc : Thread nD τ).loc main_arg2) = mat 16384 1024 T

variable {X W T m c} (H : Args X W T m c)
include H

theorem blk0 (t : Fin cfg0.N) : iblk m c 0 t = mat 512 1024 fun i => X (512 * t.val + i) := by
  funext y
  have ht : t.val < 32 := lt_of_lt_of_eq t.isLt N_0
  have hy : (y 0).val < 512 := (y 0).isLt
  obtain ⟨e0, e1, e2, e3, e4, e5⟩ := idx t
  have e : iblk m c 0 t y = m ((c.tc : Thread nD τ).loc main_arg0) (ix2 ⟨512 * t.val + (y 0).val, by omega⟩ (y 1)) := by
    blk_point [iblk, V, e0]
  rw [e, H.h0]
  rfl

theorem blk1 (t : Fin cfg0.N) : iblk m c 1 t = mat 1 1024 W := by
  funext y
  obtain ⟨e0, e1, e2, e3, e4, e5⟩ := idx t
  have hy : (y 0).val = 0 := Nat.lt_one_iff.1 (y 0).isLt
  show _ = ((W (y 0).val (y 1).val : ℝ) : EReal)
  rw [hy]
  blk_point [iblk, V, e1, H.h1]

theorem blk2 (t : Fin cfg0.N) : iblk m c 2 t = mat 512 1024 fun i => T (512 * t.val + i) := by
  funext y
  have ht : t.val < 32 := lt_of_lt_of_eq t.isLt N_0
  have hy : (y 0).val < 512 := (y 0).isLt
  obtain ⟨e0, e1, e2, e3, e4, e5⟩ := idx t
  have e : iblk m c 2 t y = m ((c.tc : Thread nD τ).loc main_arg2) (ix2 ⟨512 * t.val + (y 0).val, by omega⟩ (y 1)) := by
    blk_point [iblk, V, e2]
  rw [e, H.h2]
  rfl

/-- One point's addition to the carried sum of squared errors. -/
theorem al_step (t : Fin cfg0.N) (s : FVec Ideal S8x1024 .f32) (S : ℕ → ℕ → ℝ) (hs : s = mat 8 1024 S) :
    k0_pay13 (F := Ideal) s (k0_pay10 (iblk m c 0 t) (iblk m c 1 t) (iblk m c 2 t))
      (k0_pay12 (k0_pay10 (iblk m c 0 t) (iblk m c 1 t) (iblk m c 2 t)) (k0_pay11 (iblk m c 0 t) (iblk m c 1 t) (iblk m c 2 t))) =
    mat 8 1024 fun i j => S i j + ∑ k ∈ Finset.range 64,
      er (X (512 * t.val + (8 * k + i))) (W 0) (T (512 * t.val + (8 * k + i))) j * er (X (512 * t.val + (8 * k + i))) (W 0) (T (512 * t.val + (8 * k + i))) j := by
  funext j
  rw [blk0 H, blk1 H, blk2 H, e2_pay, al_pay _ _ _ _ (fun j => al_pay11 _ _ _ j), hs, ← EReal.coe_add]

/-- One point's addition to the carried gradient of the scale. -/
theorem aw_step (t : Fin cfg0.N) (s : FVec Ideal S8x1024 .f32) (S : ℕ → ℕ → ℝ) (hs : s = mat 8 1024 S) :
    k0_pay1 (F := Ideal) s (k0_pay15 (k0_pay8 (iblk m c 0 t)) (k0_pay9 (iblk m c 0 t) (iblk m c 1 t) (iblk m c 2 t)))
      (k0_pay20 (k0_pay15 (k0_pay8 (iblk m c 0 t)) (k0_pay9 (iblk m c 0 t) (iblk m c 1 t) (iblk m c 2 t)))
        (k0_pay18 (k0_pay15 (k0_pay8 (iblk m c 0 t)) (k0_pay9 (iblk m c 0 t) (iblk m c 1 t) (iblk m c 2 t)))
          (k0_pay16 (k0_pay8 (iblk m c 0 t)) (k0_pay9 (iblk m c 0 t) (iblk m c 1 t) (iblk m c 2 t)))
          (k0_pay17 (k0_pay8 (iblk m c 0 t)) (k0_pay9 (iblk m c 0 t) (iblk m c 1 t) (iblk m c 2 t))))
        (k0_pay19 (k0_pay15 (k0_pay8 (iblk m c 0 t)) (k0_pay9 (iblk m c 0 t) (iblk m c 1 t) (iblk m c 2 t)))))
      (k0_pay21 (k0_pay15 (k0_pay8 (iblk m c 0 t)) (k0_pay9 (iblk m c 0 t) (iblk m c 1 t) (iblk m c 2 t)))) =
    mat 8 1024 fun i j => S i j + ∑ k ∈ Finset.range 64,
      er (X (512 * t.val + (8 * k + i))) (W 0) (T (512 * t.val + (8 * k + i))) j * (1 / 1024) * (X (512 * t.val + (8 * k + i)) j * rr (X (512 * t.val + (8 * k + i)))) := by
  funext j
  rw [blk0 H, blk1 H, blk2 H, e_pay, n_pay, aw_pay, hs, ← EReal.coe_add]

omit H in
theorem zero5 : k0_pay5 (F := Ideal) = mat 8 1024 fun _ _ => 0 := by
  funext j
  pointwise [k0_pay5]
  simp
omit H in
theorem zero6 : k0_pay6 (F := Ideal) = mat 8 1024 fun _ _ => 0 := by
  funext j
  pointwise [k0_pay6]
  simp

theorem carried (n : ℕ) (h : n < cfg0.N) :
    ((outsAt0 m c n h).2.2.2.1 = mat 8 1024 fun i j => ∑ t ∈ Finset.range (n + 1), ∑ k ∈ Finset.range 64,
      er (X (512 * t + (8 * k + i))) (W 0) (T (512 * t + (8 * k + i))) j * (1 / 1024) * (X (512 * t + (8 * k + i)) j * rr (X (512 * t + (8 * k + i))))) ∧
    ((outsAt0 m c n h).2.2.2.2 = mat 8 1024 fun i j => ∑ t ∈ Finset.range (n + 1), ∑ k ∈ Finset.range 64,
      er (X (512 * t + (8 * k + i))) (W 0) (T (512 * t + (8 * k + i))) j * er (X (512 * t + (8 * k + i))) (W 0) (T (512 * t + (8 * k + i))) j) := by
  have hN : n < 32 := lt_of_lt_of_eq h N_0
  induction n with
  | zero =>
    rw [outsAt0_A m c ⟨0, h⟩ (by simp) (by simp)]
    constructor
    · frame_out
      rw [aw_step H _ _ _ zero5]
      simp
    · frame_out
      rw [al_step H _ _ _ zero6]
      simp
  | succ n ih =>
    have ih' := ih (by omega) (by omega)
    by_cases h1 : n + 1 = 31
    · rw [outsAt0_C m c ⟨n + 1, h⟩ (by simp only; omega) (by simp only; omega)]
      constructor
      · frame_out
        simp only [read_unread_whole]
        refine (aw_step H _ _ _ ih'.1).trans ?_
        simp only [Finset.sum_range_succ _ (n + 1)]
      · frame_out
        simp only [read_unread_whole]
        refine (al_step H _ _ _ ih'.2).trans ?_
        simp only [Finset.sum_range_succ _ (n + 1)]
    · rw [outsAt0_B m c ⟨n + 1, h⟩ (by simp only; omega) (by simp only; omega)]
      constructor
      · frame_out
        simp only [read_unread_whole]
        refine (aw_step H _ _ _ ih'.1).trans ?_
        simp only [Finset.sum_range_succ _ (n + 1)]
      · frame_out
        simp only [read_unread_whole]
        refine (al_step H _ _ _ ih'.2).trans ?_
        simp only [Finset.sum_range_succ _ (n + 1)]

/-- The gradient the kernel leaves for its input rows. -/
theorem fin4 : (dats m 0 c).arrAt 4 (cfgs 0).N = mat 16384 1024 fun i j => dhR (X i) (W 0) (T i) j := by
  refine (dats m 0 c).arrAt_eq_of_covers 4 _ (by decide +kernel) fun t _ y => ?_
  obtain ⟨e0, e1, e2, e3, e4, e5⟩ := idx t
  have ht : t.val < 32 := lt_of_lt_of_eq t.isLt N_0
  have hy : (y 0).val < 512 := (y 0).isLt
  have key : ((cfg0.win 4).blk t).view.emb y = ix2 ⟨512 * t.val + (y 0).val, by omega⟩ (y 1) := by
    blk_ext [e4]
  blk_simp
  rw [after0_4]
  refine Eq.trans ?_ (congrArg (mat 16384 1024 fun i j => dhR (X i) (W 0) (T i) j) key).symm
  by_cases h0 : t.val % 32 = 0
  · rw [outsAt0_A m c t h0 (by omega)]; frame_out
    rw [blk0 H, blk1 H, blk2 H, dh_pay]
    rfl
  · by_cases h1 : t.val % 32 = 31
    · rw [outsAt0_C m c t h0 h1]; frame_out
      rw [blk0 H, blk1 H, blk2 H, dh_pay]
      rfl
    · rw [outsAt0_B m c t h0 h1]; frame_out
      rw [blk0 H, blk1 H, blk2 H, dh_pay]
      rfl

omit H in
theorem sum8_pay (S : ℕ → ℕ → ℝ) : k0_pay3 (F := Ideal) (mat 8 1024 S) = mat 1 1024 fun _ j => ∑ i : Fin 8, S i j := by
  funext j
  pointwise [k0_pay3]
  simp only [coe_sum]
  rfl

omit H in
theorem loss_pay0 (v : FVec Ideal S8x1024 .f32) (j : S8x128.Idx) : k0_pay4 (F := Ideal) v j = (∑ x : Fin 1024, ∑ i : Fin 8, v (ix2 i x)) * Ideal.ofBits .f32 973078528#32 := by
  pointwise [k0_pay4]

omit H in
theorem loss_pay (S : ℕ → ℕ → ℝ) : k0_pay4 (F := Ideal) (mat 8 1024 S) = mat 8 128 fun _ _ => (∑ j : Fin 1024, ∑ i : Fin 8, S i j) * (1 / 2048) := by
  funext j
  rw [loss_pay0, lit_2048_inv]
  show (∑ x : Fin 1024, ∑ i : Fin 8, ((S i x : ℝ) : EReal)) * _ = (((∑ j : Fin 1024, ∑ i : Fin 8, S i j) * (1 / 2048) : ℝ) : EReal)
  simp only [coe_sum]
  rw [EReal.coe_mul]

/-- The gradient of the scale. -/
theorem fin5 : (dats m 0 c).arrAt 5 (cfgs 0).N = mat 1 1024 fun _ j => ∑ i ∈ Finset.range 16384,
    er (X i) (W 0) (T i) j * (1 / 1024) * (X i j * rr (X i)) := by
  refine (dats m 0 c).arrAt_eq_of_covers 5 _ (by decide +kernel) fun t hf y => ?_
  obtain ⟨e0, e1, e2, e3, e4, e5⟩ := idx t
  have h1 := (flush0_5 t).mp hf
  have ht : t.val = 31 := by have := lt_of_lt_of_eq t.isLt N_0; omega
  have key : ((cfg0.win 5).blk t).view.emb y = ix2 (y 0) (y 1) := by
    blk_ext [e5]
  blk_simp
  refine Eq.trans ?_ (congrArg (mat 1 1024 _) key).symm
  rw [after0_5, outsAt0_C m c t (by omega) h1]; frame_out
  simp only [read_unread_whole]
  rw [aw_step H t _ _ (carried H (t.val - 1) _).1, sum8_pay, ht]
  simp only [← Finset.sum_range_succ, Nat.reduceSub, Nat.reduceAdd]
  exact congrArg (fun r : ℝ => (r : EReal)) (sum_rows512 fun i => er (X i) (W 0) (T i) (y 1).val * (1 / 1024) * (X i (y 1).val * rr (X i)))

/-- The loss, in every entry of the block the kernel leaves. -/
theorem fin3 : (dats m 0 c).arrAt 3 (cfgs 0).N = mat 8 128 fun _ _ => (∑ j : Fin 1024, ∑ i ∈ Finset.range 16384,
    er (X i) (W 0) (T i) j * er (X i) (W 0) (T i) j) * (1 / 2048) := by
  refine (dats m 0 c).arrAt_eq_of_covers 3 _ (by decide +kernel) fun t hf y => ?_
  obtain ⟨e0, e1, e2, e3, e4, e5⟩ := idx t
  have h1 := (flush0_3 t).mp hf
  have ht : t.val = 31 := by have := lt_of_lt_of_eq t.isLt N_0; omega
  have key : ((cfg0.win 3).blk t).view.emb y = ix2 (y 0) (y 1) := by
    blk_ext [e3]
  blk_simp
  refine Eq.trans ?_ (congrArg (mat 8 128 _) key).symm
  rw [after0_3, outsAt0_C m c t (by omega) h1]; frame_out
  simp only [read_unread_whole]
  rw [al_step H t _ _ (carried H (t.val - 1) _).2, loss_pay, ht]
  simp only [← Finset.sum_range_succ, Nat.reduceSub, Nat.reduceAdd]
  exact congrArg (fun r : ℝ => ((r * (1 / 2048) : ℝ) : EReal)) (Finset.sum_congr rfl fun j _ =>
    sum_rows512 fun i => er (X i) (W 0) (T i) j * er (X i) (W 0) (T i) j)

end Cert.KernelIdeal.V
-- ==== Proof.LossR.lean ====
module

public import proofs.«01_k».proof.Proof.Gen.ReferenceIdeal.Read
public import Idealize.ShloMosaic.Lib.Pipeline.ValueKit
public import proofs.«01_k».proof.Proof.RealLift

/-! The loss reference's three results on real arguments. -/

@[expose] public section

set_option maxRecDepth 16384

noncomputable section

open Idealize.ShloMosaic Idealize.ShloMosaic.TcCoe Idealize.SL.Sem

namespace Cert.ReferenceIdeal.V
open Cert.ReferenceIdeal Cert.ReferenceIdeal.Gen Cert.ReferenceIdeal.Read Cert.RealLift

/-- The mean square of a row, with the small number added. -/
def qq (x : ℕ → ℝ) : ℝ := (∑ k : Fin 1024, x k * x k) / 1024 + eps

theorem qq_pos (x : ℕ → ℝ) : 0 < qq x :=
  add_pos_of_nonneg_of_pos (div_nonneg (Finset.sum_nonneg fun k _ => mul_self_nonneg _) (by norm_num)) eps_pos

variable (X : ℕ → ℕ → ℝ) (W : ℕ → ℝ) (T : ℕ → ℕ → ℝ)

theorem v6 : val_main_v6 (F := Ideal) (mat 16384 1024 X) = mat 16384 1 fun i _ => qq (X i) := by
  funext j
  simp only [val_main_v6_apply, val_main_v4_apply, val_main_v5_apply, val_main_v3_apply, val_main_v2_apply, val_main_v1_apply, val_main_v0_apply,
    val_main_cst_apply, val_main_cst_0_apply, val_main_cst_1_apply, Ideal.addf_def, Ideal.mulf_def, Ideal.hostDivf_def, Ideal.ofBits_def,
    lit_zero, lit_1024, lit_eps, ← EReal.coe_mul, coe_sum, ← EReal.coe_add, zero_add]
  rw [div_real (by norm_num), ← EReal.coe_add]
  rfl

theorem v7 : val_main_v7 (F := Ideal) (mat 16384 1024 X) = mat 16384 1 fun i _ => (√(qq (X i)))⁻¹ := by
  funext j
  simp only [val_main_v7_apply, v6, Ideal.hostUnary_rsqrt_def]
  exact rsqrt_real (qq_pos _)

theorem v10 : val_main_v10 (F := Ideal) (mat 16384 1024 X) = mat 16384 1 fun i _ => -(1 / 2) * ((√(qq (X i)))⁻¹ / qq (X i)) := by
  funext j
  simp only [val_main_v10_apply, val_main_v9_apply, val_main_v8_apply, val_main_cst_2_apply, v7, v6, Ideal.hostDivf_def, Ideal.mulf_def, Ideal.ofBits_def, lit_neg_half]
  rw [div_real (qq_pos _).ne', ← EReal.coe_mul]

theorem v12 : val_main_v12 (F := Ideal) (mat 16384 1024 X) = mat 16384 1024 fun i j => X i j * (√(qq (X i)))⁻¹ := by
  funext j
  simp only [val_main_v12_apply, val_main_v11_apply, v7, Ideal.mulf_def, ← EReal.coe_mul]

theorem v16 : val_main_v16 (F := Ideal) (mat 16384 1024 X) (row 1024 W) (mat 16384 1024 T) =
    mat 16384 1024 fun i j => X i j * (√(qq (X i)))⁻¹ * W j - T i j := by
  funext j
  simp only [val_main_v16_apply, val_main_v15_apply, val_main_v14_apply, val_main_v13_apply, v12, Ideal.mulf_def, Ideal.subf_def, ← EReal.coe_mul, ← EReal.coe_sub]

theorem v30 (E : ℕ → ℕ → ℝ) (h : val_main_v16 (F := Ideal) (mat 16384 1024 X) (row 1024 W) (mat 16384 1024 T) = mat 16384 1024 E) :
    val_main_v30 (F := Ideal) (mat 16384 1024 X) (row 1024 W) (mat 16384 1024 T) = mat 16384 1024 fun i j => 1 / 2 * 1 / 1024 * (2 * E i j) := by
  funext j
  simp only [val_main_v30_apply, val_main_v29_apply, val_main_v28_apply, val_main_v27_apply, val_main_v26_apply, val_main_v25_apply, val_main_v19_apply,
    val_main_v18_apply, val_main_cst_3_apply, val_main_cst_8_apply, val_main_cst_9_apply, val_main_cst_10_apply, h, Ideal.mulf_def, Ideal.hostDivf_def, Ideal.ofBits_def,
    lit_half, lit_one, lit_1024, lit_two, ← EReal.coe_mul]
  rw [div_real (by norm_num), ← EReal.coe_mul]

theorem v35 (G : ℕ → ℕ → ℝ) (h : val_main_v30 (F := Ideal) (mat 16384 1024 X) (row 1024 W) (mat 16384 1024 T) = mat 16384 1024 G) :
    val_main_v35 (F := Ideal) (mat 16384 1024 X) (row 1024 W) (mat 16384 1024 T) = mat 16384 1024 fun i j => G i j * W j := by
  funext j
  simp only [val_main_v35_apply, val_main_v34_apply, val_main_v13_apply, h, Ideal.mulf_def, ← EReal.coe_mul]

theorem v46 (G : ℕ → ℕ → ℝ) (h : val_main_v35 (F := Ideal) (mat 16384 1024 X) (row 1024 W) (mat 16384 1024 T) = mat 16384 1024 G) :
    val_main_v46 (F := Ideal) (mat 16384 1024 X) (row 1024 W) (mat 16384 1024 T) = mat 16384 1024 fun i j =>
      (∑ k : Fin 1024, X i k * G i k) * (-(1 / 2) * ((√(qq (X i)))⁻¹ / qq (X i))) / 1024 := by
  funext j
  simp only [val_main_v46_apply, val_main_v45_apply, val_main_v44_apply, val_main_v43_apply, val_main_v42_apply, val_main_v39_apply, val_main_v38_apply, val_main_v37_apply,
    val_main_cst_13_apply, val_main_cst_14_apply, val_main_cst_15_apply, v10, h, Ideal.mulf_def, Ideal.hostDivf_def, Ideal.ofBits_def, lit_zero, lit_1024, ← EReal.coe_mul, coe_sum,
    ← EReal.coe_add, zero_add, Fin.sum_univ_one]
  rw [div_real (by norm_num), ← EReal.coe_add, zero_add]
  simp only [Nat.mul_one, Fin.val_zero, Nat.add_zero]

theorem v50 (G C : ℕ → ℕ → ℝ) (h : val_main_v35 (F := Ideal) (mat 16384 1024 X) (row 1024 W) (mat 16384 1024 T) = mat 16384 1024 G)
    (h' : val_main_v46 (F := Ideal) (mat 16384 1024 X) (row 1024 W) (mat 16384 1024 T) = mat 16384 1024 C) :
    val_main_v50 (F := Ideal) (mat 16384 1024 X) (row 1024 W) (mat 16384 1024 T) = mat 16384 1024 fun i j =>
      G i j * (√(qq (X i)))⁻¹ + X i j * C i j + C i j * X i j := by
  funext j
  simp only [val_main_v50_apply, val_main_v49_apply, val_main_v48_apply, val_main_v47_apply, val_main_v41_apply, val_main_v40_apply, v7, h, h', Ideal.mulf_def, Ideal.addf_def,
    ← EReal.coe_mul, ← EReal.coe_add]

theorem v52 (G : ℕ → ℕ → ℝ) (h : val_main_v30 (F := Ideal) (mat 16384 1024 X) (row 1024 W) (mat 16384 1024 T) = mat 16384 1024 G) :
    val_main_v52 (F := Ideal) (mat 16384 1024 X) (row 1024 W) (mat 16384 1024 T) = mat 1 1024 fun _ j => ∑ i ∈ Finset.range 16384, X i j * (√(qq (X i)))⁻¹ * G i j := by
  funext j
  simp only [val_main_v52_apply, val_main_v36_apply, val_main_v33_apply, val_main_v32_apply, val_main_v31_apply,
    val_main_cst_11_apply, val_main_cst_12_apply, v12, h, Ideal.mulf_def, Ideal.ofBits_def, lit_zero, ← EReal.coe_mul, coe_sum,
    ← EReal.coe_add, zero_add, Fin.sum_univ_one, Finset.sum_range, Fin.val_zero, Nat.zero_mul]

theorem v51 (E : ℕ → ℕ → ℝ) (h : val_main_v16 (F := Ideal) (mat 16384 1024 X) (row 1024 W) (mat 16384 1024 T) = mat 16384 1024 E) :
    val_main_v51 (F := Ideal) (mat 16384 1024 X) (row 1024 W) (mat 16384 1024 T) = mat 8 128 fun _ _ =>
      1 / 2 * ∑ i ∈ Finset.range 16384, (∑ j : Fin 1024, E i j * E i j) / 1024 := by
  funext j
  have hd : ∀ x : ℝ, Ideal.div (x : EReal) ((1024 : ℝ) : EReal) = ((x / 1024 : ℝ) : EReal) := fun x => div_real (by norm_num)
  simp only [val_main_v51_apply, val_main_v24_apply, val_main_v23_apply, val_main_v22_apply, val_main_v21_apply, val_main_v20_apply, val_main_v17_apply,
    val_main_cst_4_apply, val_main_cst_5_apply, val_main_cst_6_apply, val_main_cst_7_apply, h, Ideal.mulf_def, Ideal.hostDivf_def, Ideal.ofBits_def, lit_zero, lit_half, lit_1024,
    ← EReal.coe_mul, coe_sum, ← EReal.coe_add, zero_add, hd, Finset.sum_range, sum_idx1]
  exact congrArg (fun r : ℝ => ((1 / 2 * r : ℝ) : EReal)) (Finset.sum_congr rfl fun a _ => rfl)

end Cert.ReferenceIdeal.V
-- ==== Proof.Loss.lean ====
module

public import proofs.«01_k».proof.Defs
public import proofs.«01_k».proof.Proof.Gen.Kernel.Frame
public import proofs.«01_k».proof.Proof.LossK
public import proofs.«01_k».proof.Proof.LossR
public import proofs.«01_k».proof.Proof.Gen.Pre_loss_finite

/-! The loss head: the kernel's and the reference's three results are the same real arrays. -/

@[expose] public section

set_option maxRecDepth 16384

noncomputable section

open Idealize.ShloMosaic Idealize.ShloMosaic.TcCoe Idealize.SL.Sem

namespace Cert.Loss
open Cert.RealLift Cert.KernelIdeal.V Cert.ReferenceIdeal.V

theorem rr_eq (x : ℕ → ℝ) : rr x = (√(qq x))⁻¹ := rfl

/-- The square of the reciprocal root is the reciprocal. -/
theorem inv_sqrt_mul (x : ℕ → ℝ) : (√(qq x))⁻¹ * (√(qq x))⁻¹ = 1 / qq x := by
  rw [← mul_inv, Real.mul_self_sqrt (qq_pos x).le, one_div]

/-- The two forms of a row's gradient through the norm agree. -/
theorem dh_eq (x w t : ℕ → ℝ) (j : ℕ) :
    dhR x w t j = 1 / 2 * 1 / 1024 * (2 * er x w t j) * w j * (√(qq x))⁻¹
      + x j * ((∑ k : Fin 1024, x k * (1 / 2 * 1 / 1024 * (2 * er x w t k) * w k)) * (-(1 / 2) * ((√(qq x))⁻¹ / qq x)) / 1024)
      + (∑ k : Fin 1024, x k * (1 / 2 * 1 / 1024 * (2 * er x w t k) * w k)) * (-(1 / 2) * ((√(qq x))⁻¹ / qq x)) / 1024 * x j := by
  have hs : (∑ k : Fin 1024, er x w t k * (1 / 1024) * w k * (x k * rr x)) = (∑ k : Fin 1024, x k * (1 / 2 * 1 / 1024 * (2 * er x w t k) * w k)) * (√(qq x))⁻¹ := by
    rw [Finset.sum_mul]
    exact Finset.sum_congr rfl fun k _ => by rw [rr_eq]; ring
  unfold dhR
  rw [hs, rr_eq]
  generalize (∑ k : Fin 1024, x k * (1 / 2 * 1 / 1024 * (2 * er x w t k) * w k)) = S
  have h2 : (√(qq x))⁻¹ / qq x = (√(qq x))⁻¹ * ((√(qq x))⁻¹ * (√(qq x))⁻¹) := by rw [inv_sqrt_mul]; ring
  rw [h2]
  ring

/-- The two orders of the loss's sum agree. -/
theorem loss_eq (E : ℕ → ℕ → ℝ) :
    (∑ j : Fin 1024, ∑ i ∈ Finset.range 16384, E i j * E i j) * (1 / 2048) = 1 / 2 * ∑ i ∈ Finset.range 16384, (∑ j : Fin 1024, E i j * E i j) / 1024 := by
  rw [Finset.sum_comm, Finset.sum_mul, Finset.mul_sum]
  exact Finset.sum_congr rfl fun i _ => by ring

/-- Finite arguments are real arrays. -/
theorem real_args (a0 a2 : Shape.Idx ⟨2, ![16384, 1024]⟩ → EReal) (a1 : Shape.Idx ⟨1, ![1024]⟩ → EReal)
    (h : Cert.Pre_loss_finite.fn (F := Ideal) a0 a1 a2 = fun _ => 1#1) :
    ∃ X W T : ℕ → ℕ → ℝ, a0 = mat 16384 1024 X ∧ a1 = row 1024 (W 0) ∧ a2 = mat 16384 1024 T := by
  have e := congrFun h ix0
  obtain ⟨e01, e2⟩ := IntOp.andi_eq_one.1 e
  obtain ⟨e0, e1⟩ := IntOp.andi_eq_one.1 e01
  haveI : Subsingleton (Shape.Idx Cert.Pre_loss_finite.S_) := ⟨fun a b => funext fun i => i.elim0⟩
  have top : ∀ {s : Shape} (h : _) (i : s.Idx), broadcastInDim s ![] h (constant (F := Ideal) Cert.Pre_loss_finite.S_ .f32 0x7F800000#32) i = (⊤ : EReal) :=
    fun h i => lit_top
  obtain ⟨X, hX⟩ := real_of_all a0 _ (top _) _ _ _ _ e0
  obtain ⟨W, hW⟩ := real_of_all a1 _ (top _) _ _ _ _ e1
  obtain ⟨T, hT⟩ := real_of_all a2 _ (top _) _ _ _ _ e2
  refine ⟨ext2 X, fun _ => ext1 W, ext2 T, ?_, ?_, ?_⟩
  · rw [mat_ext2]; exact hX
  · rw [row_ext1]; exact hW
  · rw [mat_ext2]; exact hT

/-- The loss reference runs, keeps its arguments and leaves no semaphore raised. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m g)

/-- The loss head's kernel and the vector-Jacobian product of the loss leave the same three arrays. -/
theorem algebraic : Cert.algebraic_KernelIdeal_ReferenceIdeal_pre_loss_finite (hKernelIdeal := Cert.KernelIdeal.Gen.facts)
    (hReferenceIdeal := Cert.ReferenceIdeal.Gen.facts) (hPre_loss_finite := Cert.Pre_loss_finite.Gen.facts) := by
  intro m g m' g' hpre hargs
  refine ⟨fun c => Cert.KernelIdeal.Value.G3 m c, fun c => Cert.KernelIdeal.Value.G4 m c, fun c => Cert.KernelIdeal.Value.G5 m c,
    Cert.KernelIdeal.Value.run m g, ?_⟩
  refine (θ_run _ _ _).mono (fun r h c => ?_) (Cert.ReferenceIdeal.Value.run m' g')
  obtain ⟨e0, e1, e2, ea⟩ := h c
  obtain ⟨a0, a1, a2⟩ := hargs c
  obtain ⟨X, W, T, h0, h1, h2⟩ := real_args _ _ _ (hpre c)
  have H : Args X W T m c := ⟨h0, h1, h2⟩
  have E := v16 X (W 0) T
  have G := v30 X (W 0) T _ E
  have Q := v35 X (W 0) T _ G
  refine ⟨e0.trans ?_, e1.trans ?_, e2.trans ?_, ea⟩
  · rw [Cert.ReferenceIdeal.Read.val_main_v51_eq, a0, a1, a2, h0, h1, h2, v51 X (W 0) T _ E]
    refine Eq.trans ?_ ((Cert.KernelIdeal.Value.final3 m c).symm.trans (fin3 H)).symm
    funext i
    exact congrArg (fun r : ℝ => (r : EReal)) (loss_eq fun i j => er (X i) (W 0) (T i) j).symm
  · rw [Cert.ReferenceIdeal.Read.val_main_v50_eq, a0, a1, a2, h0, h1, h2, v50 X (W 0) T _ _ Q (v46 X (W 0) T _ Q)]
    refine Eq.trans ?_ ((Cert.KernelIdeal.Value.final4 m c).symm.trans (fin4 H)).symm
    funext i
    exact congrArg (fun r : ℝ => (r : EReal)) (dh_eq (X (i 0).val) (W 0) (T (i 0).val) (i 1).val).symm
  · rw [Cert.ReferenceIdeal.Read.val_main_v52_eq, a0, a1, a2, h0, h1, h2, v52 X (W 0) T _ G]
    refine Eq.trans ?_ ((Cert.KernelIdeal.Value.final5 m c).symm.trans (fin5 H)).symm
    funext i
    refine congrArg (fun r : ℝ => (r : EReal)) (Finset.sum_congr rfl fun k _ => ?_)
    rw [rr_eq, er, rr_eq]
    ring

end Cert.Loss
-- ==== Proof.In4K.lean ====
module

public import proofs.«01_k».proof.Proof.Gen.Kernel4Ideal.Value
public import Idealize.ShloMosaic.Lib.Pipeline.ReadBack
public import proofs.«01_k».proof.Proof.RealLift

/-! The three results of the conformer's input-side backward kernel on real arguments. -/

@[expose] public section

set_option maxRecDepth 16384

noncomputable section

open Idealize.ShloMosaic Idealize.ShloMosaic.TcCoe Idealize.SL.Sem
open Idealize.ShloMosaic.Pipeline (Dat)

namespace Cert.Kernel4Ideal.V
open Cert.Kernel4Ideal Cert.Kernel4Ideal.Gen Cert.RealLift

section pay
variable (X N P D A B C A' B' C' U W Y Z U' W' Y' : ℕ → ℕ → ℝ)

theorem p4 : k0_pay4 (F := Ideal) (mat 512 1024 X) = mat 512 1 fun i _ => rn 1024 1024 (X i) := by
  funext j
  pointwise [k0_pay4]
  simp only [lit_eps, lit_1024, ← EReal.coe_mul, coe_sum]
  rw [div_real (by norm_num), ← EReal.coe_add]
  exact rsqrt_real (msq_pos 1024 (by norm_num) _)

theorem p5 : k0_pay5 (F := Ideal) (mat 512 1024 X) = mat 512 1024 fun i j => X i j * rn 1024 1024 (X i) := by
  funext j
  pointwise [k0_pay5]
  rw [p4, ← EReal.coe_mul]
  rfl

theorem p6 : k0_pay6 (F := Ideal) (mat 512 1024 X) (mat 1 1024 N) = mat 512 1024 fun i j => X i j * rn 1024 1024 (X i) * N 0 j := by
  funext j
  pointwise [k0_pay6]
  rw [p5, ← EReal.coe_mul]
  rfl

theorem p7 : k0_pay7 (F := Ideal) (mat 512 1024 A) (mat 1024 1024 U) (mat 512 1024 A') (mat 1024 1024 U')
    = mat 512 1024 fun i j => (∑ k : Fin 1024, A i k * U j k) + ∑ k : Fin 1024, A' i k * U' j k := by
  funext j
  pointwise [k0_pay7]
  simp only [← EReal.coe_mul, coe_sum, ← EReal.coe_add]
  rfl

theorem p8 : k0_pay8 (F := Ideal) (mat 512 1024 P) (mat 512 1024 B) (mat 1024 1024 W) (mat 512 1024 B') (mat 1024 1024 W')
      (mat 512 1024 C) (mat 1024 1024 Y) (mat 512 1024 C') (mat 1024 1024 Y')
    = mat 512 1024 fun i j => P i j + (∑ k : Fin 1024, B i k * W j k) + (∑ k : Fin 1024, B' i k * W' j k)
        + (∑ k : Fin 1024, C i k * Y j k) + ∑ k : Fin 1024, C' i k * Y' j k := by
  funext j
  pointwise [k0_pay8]
  simp only [← EReal.coe_mul, coe_sum, ← EReal.coe_add]
  rfl

theorem p9 {v1 v3 v5 v7 : FVec Ideal S512x1024 .bf16} {v2 v4 v6 v8 : FVec Ideal S1024x1024 .bf16} {n v : FVec Ideal S512x1024 .f32}
    (hn : n = mat 512 1024 N) (h : k0_pay8 (F := Ideal) v v1 v2 v3 v4 v5 v6 v7 v8 = mat 512 1024 P) :
    k0_pay9 (F := Ideal) n v v1 v2 v3 v4 v5 v6 v7 v8 = mat 512 1024 fun i j => P i j * N i j := by
  funext j
  pointwise [k0_pay9]
  rw [h, hn, ← EReal.coe_mul]

/-- The eight partial sums of a block's rows: lane `i` takes the rows `8 k + i`. -/
theorem p14 {v1 v3 v5 v7 : FVec Ideal S512x1024 .bf16} {v2 v4 v6 v8 : FVec Ideal S1024x1024 .bf16} {n v : FVec Ideal S512x1024 .f32} {s : FVec Ideal S8x1024 .f32}
    (S E : ℕ → ℕ → ℝ) (hs : s = mat 8 1024 S) (h : k0_pay9 (F := Ideal) n v v1 v2 v3 v4 v5 v6 v7 v8 = mat 512 1024 E) :
    k0_pay14 (F := Ideal) s (k0_pay9 n v v1 v2 v3 v4 v5 v6 v7 v8)
      (k0_pay12 (k0_pay9 n v v1 v2 v3 v4 v5 v6 v7 v8) (k0_pay10 n v v1 v2 v3 v4 v5 v6 v7 v8) (k0_pay11 n v v1 v2 v3 v4 v5 v6 v7 v8))
      (k0_pay13 (k0_pay9 n v v1 v2 v3 v4 v5 v6 v7 v8))
      = mat 8 1024 fun i j => S i j + ∑ k ∈ Finset.range 64, E (8 * k + i) j := by
  funext j
  pointwise [k0_pay14, k0_pay12, k0_pay10, k0_pay11, k0_pay13]
  rw [h, hs]
  simp only [← EReal.coe_add]
  norm_num only [Finset.sum_range_succ, Finset.sum_range_zero, zero_add, Nat.mul_zero]
  rfl

theorem p1 : k0_pay1 (F := Ideal) (k0_pay4 (mat 512 1024 X)) (k0_pay5 (mat 512 1024 X)) (mat 512 1024 P) (mat 1 1024 N) (mat 512 1024 D)
    = mat 512 1024 fun i j => D i j + normGrad 1024 1024 (X i) (fun k => P i k * N 0 k) j := by
  funext j
  rw [p5, p4]
  pointwise [k0_pay1]
  simp only [lit_1024, ← EReal.coe_mul, coe_sum]
  rw [div_real (by norm_num)]
  simp only [← EReal.coe_mul, ← EReal.coe_sub, ← EReal.coe_add]
  rfl

theorem p2 : k0_pay2 (F := Ideal) (mat 8 1024 P) = mat 1 1024 fun _ j => ∑ i : Fin 8, P i j := by
  funext j
  pointwise [k0_pay2]
  simp only [coe_sum]
  rfl

theorem p3 : k0_pay3 (F := Ideal) = mat 8 1024 fun _ _ => 0 := by
  funext j
  pointwise [k0_pay3]
  simp

end pay

/-- The windows' blocks at a point, by number. -/
theorem idx : ∀ t : Fin cfg0.N, win0_0.index t = ![t.val, 0] ∧ win0_1.index t = ![t.val, 0] ∧ win0_2.index t = ![t.val, 0] ∧
    win0_3.index t = ![0, 0] ∧ win0_4.index t = ![t.val, 0] ∧ win0_5.index t = ![0, 0] ∧ win0_6.index t = ![t.val, 0] ∧
    win0_7.index t = ![t.val, 0] ∧ win0_8.index t = ![t.val, 0] ∧ win0_9.index t = ![0, 0] :=
  (by decide +kernel : ∀ t : Fin grid0.N, _)

variable (A B C W X N D : ℕ → ℕ → ℝ) (m : (ℓ : Loc nD τ sig) → Buf (Elt Ideal) ℓ) (c : Dev nD)

/-- The seven arguments are real arrays. -/
structure Args : Prop where
  h0 : m ((c.tc : Thread nD τ).loc main_arg0) = mat 16384 2048 A
  h1 : m ((c.tc : Thread nD τ).loc main_arg1) = mat 16384 2048 B
  h2 : m ((c.tc : Thread nD τ).loc main_arg2) = mat 16384 2048 C
  h3 : m ((c.tc : Thread nD τ).loc main_arg3) = mat 1024 6144 W
  h4 : m ((c.tc : Thread nD τ).loc main_arg4) = mat 16384 1024 X
  h5 : m ((c.tc : Thread nD τ).loc main_arg5) = row 1024 (N 0)
  h6 : m ((c.tc : Thread nD τ).loc main_arg6) = mat 16384 1024 D

/-- The gradient of the projection, taken back through the weights: six products of 1024 columns each. -/
def ph (i j : ℕ) : ℝ := (∑ k : Fin 1024, A i k * W j k) + (∑ k : Fin 1024, A i (1024 + k) * W j (1024 + k))
    + (∑ k : Fin 1024, B i k * W j (2048 + k)) + (∑ k : Fin 1024, B i (1024 + k) * W j (3072 + k))
    + (∑ k : Fin 1024, C i k * W j (4096 + k)) + ∑ k : Fin 1024, C i (1024 + k) * W j (5120 + k)

variable {A B C W X N D m c} (H : Args A B C W X N D m c)
include H

theorem blk0 (t : Fin cfg0.N) : iblk m c 0 t = mat 512 2048 fun i => A (512 * t.val + i) := by
  funext y
  have ht : t.val < 32 := lt_of_lt_of_eq t.isLt N_0
  have hy : (y 0).val < 512 := (y 0).isLt
  obtain ⟨e0, e1, e2, e3, e4, e5, e6, e7, e8, e9⟩ := idx t
  have e : iblk m c 0 t y = m ((c.tc : Thread nD τ).loc main_arg0) (ix2 ⟨512 * t.val + (y 0).val, by omega⟩ (y 1)) := by
    blk_point [iblk, V, e0]
  rw [e, H.h0]
  rfl

theorem blk1 (t : Fin cfg0.N) : iblk m c 1 t = mat 512 2048 fun i => B (512 * t.val + i) := by
  funext y
  have ht : t.val < 32 := lt_of_lt_of_eq t.isLt N_0
  have hy : (y 0).val < 512 := (y 0).isLt
  obtain ⟨e0, e1, e2, e3, e4, e5, e6, e7, e8, e9⟩ := idx t
  have e : iblk m c 1 t y = m ((c.tc : Thread nD τ).loc main_arg1) (ix2 ⟨512 * t.val + (y 0).val, by omega⟩ (y 1)) := by
    blk_point [iblk, V, e1]
  rw [e, H.h1]
  rfl

theorem blk2 (t : Fin cfg0.N) : iblk m c 2 t = mat 512 2048 fun i => C (512 * t.val + i) := by
  funext y
  have ht : t.val < 32 := lt_of_lt_of_eq t.isLt N_0
  have hy : (y 0).val < 512 := (y 0).isLt
  obtain ⟨e0, e1, e2, e3, e4, e5, e6, e7, e8, e9⟩ := idx t
  have e : iblk m c 2 t y = m ((c.tc : Thread nD τ).loc main_arg2) (ix2 ⟨512 * t.val + (y 0).val, by omega⟩ (y 1)) := by
    blk_point [iblk, V, e2]
  rw [e, H.h2]
  rfl

theorem blk3 (t : Fin cfg0.N) : iblk m c 3 t = mat 1024 6144 W := by
  funext y
  obtain ⟨e0, e1, e2, e3, e4, e5, e6, e7, e8, e9⟩ := idx t
  have e : iblk m c 3 t y = m ((c.tc : Thread nD τ).loc main_arg3) (ix2 (y 0) (y 1)) := by
    blk_point [iblk, V, e3]
  rw [e, H.h3]
  rfl

theorem blk4 (t : Fin cfg0.N) : iblk m c 4 t = mat 512 1024 fun i => X (512 * t.val + i) := by
  funext y
  have ht : t.val < 32 := lt_of_lt_of_eq t.isLt N_0
  have hy : (y 0).val < 512 := (y 0).isLt
  obtain ⟨e0, e1, e2, e3, e4, e5, e6, e7, e8, e9⟩ := idx t
  have e : iblk m c 4 t y = m ((c.tc : Thread nD τ).loc main_arg4) (ix2 ⟨512 * t.val + (y 0).val, by omega⟩ (y 1)) := by
    blk_point [iblk, V, e4]
  rw [e, H.h4]
  rfl

theorem blk5 (t : Fin cfg0.N) : iblk m c 5 t = mat 1 1024 N := by
  funext y
  obtain ⟨e0, e1, e2, e3, e4, e5, e6, e7, e8, e9⟩ := idx t
  have hy : (y 0).val = 0 := Nat.lt_one_iff.1 (y 0).isLt
  have e : iblk m c 5 t y = m ((c.tc : Thread nD τ).loc main_arg5) (ix1 (y 1)) := by
    blk_point [iblk, V, e5]
  rw [e, H.h5]
  show _ = ((N (y 0).val (y 1).val : ℝ) : EReal)
  rw [hy]
  rfl

theorem blk6 (t : Fin cfg0.N) : iblk m c 6 t = mat 512 1024 fun i => D (512 * t.val + i) := by
  funext y
  have ht : t.val < 32 := lt_of_lt_of_eq t.isLt N_0
  have hy : (y 0).val < 512 := (y 0).isLt
  obtain ⟨e0, e1, e2, e3, e4, e5, e6, e7, e8, e9⟩ := idx t
  have e : iblk m c 6 t y = m ((c.tc : Thread nD τ).loc main_arg6) (ix2 ⟨512 * t.val + (y 0).val, by omega⟩ (y 1)) := by
    blk_point [iblk, V, e6]
  rw [e, H.h6]
  rfl

/-- The six products at a point. -/
theorem dhn (t : Fin cfg0.N) :
    k0_pay8 (F := Ideal) (k0_pay7 (View.ld (iblk m c 0 t) (Rect.unit ![0, 0] ![512, 1024] inb_S512x2048_S512x1024_0_0))
            (View.ld (iblk m c 3 t) (Rect.unit ![0, 0] ![1024, 1024] inb_S1024x6144_S1024x1024_0_0))
            (View.ld (iblk m c 0 t) (Rect.unit ![0, 1024] ![512, 1024] inb_S512x2048_S512x1024_0_1024))
            (View.ld (iblk m c 3 t) (Rect.unit ![0, 1024] ![1024, 1024] inb_S1024x6144_S1024x1024_0_1024)))
          (View.ld (iblk m c 1 t) (Rect.unit ![0, 0] ![512, 1024] inb_S512x2048_S512x1024_0_0))
          (View.ld (iblk m c 3 t) (Rect.unit ![0, 2048] ![1024, 1024] inb_S1024x6144_S1024x1024_0_2048))
          (View.ld (iblk m c 1 t) (Rect.unit ![0, 1024] ![512, 1024] inb_S512x2048_S512x1024_0_1024))
          (View.ld (iblk m c 3 t) (Rect.unit ![0, 3072] ![1024, 1024] inb_S1024x6144_S1024x1024_0_3072))
          (View.ld (iblk m c 2 t) (Rect.unit ![0, 0] ![512, 1024] inb_S512x2048_S512x1024_0_0))
          (View.ld (iblk m c 3 t) (Rect.unit ![0, 4096] ![1024, 1024] inb_S1024x6144_S1024x1024_0_4096))
          (View.ld (iblk m c 2 t) (Rect.unit ![0, 1024] ![512, 1024] inb_S512x2048_S512x1024_0_1024))
          (View.ld (iblk m c 3 t) (Rect.unit ![0, 5120] ![1024, 1024] inb_S1024x6144_S1024x1024_0_5120))
      = mat 512 1024 fun i j => ph A B C W (512 * t.val + i) j := by
  rw [blk0 H, blk1 H, blk2 H, blk3 H, ld_bf16, ld_bf16, ld_bf16, ld_bf16, ld_bf16, ld_bf16, ld_bf16, ld_bf16, ld_bf16, ld_bf16, ld_bf16, ld_bf16, p7, p8]
  simp only [Nat.zero_add]
  rfl

theorem nrm (t : Fin cfg0.N) : k0_pay5 (F := Ideal) (iblk m c 4 t) = mat 512 1024 fun i j => X (512 * t.val + i) j * rn 1024 1024 (X (512 * t.val + i)) := by
  rw [blk4 H, p5]

/-- The carried eight rows after point `n`: the gradient of the norm's weight over the rows seen so far. -/
theorem carried (n : ℕ) (h : n < cfg0.N) :
    (outsAt0 m c n h).2.2.2 = mat 8 1024 fun i j => ∑ t ∈ Finset.range (n + 1), ∑ k ∈ Finset.range 64,
      ph A B C W (512 * t + (8 * k + i)) j * (X (512 * t + (8 * k + i)) j * rn 1024 1024 (X (512 * t + (8 * k + i)))) := by
  have hN : n < 32 := lt_of_lt_of_eq h N_0
  induction n with
  | zero =>
    rw [outsAt0_A m c ⟨0, h⟩ (by simp) (by simp)]
    frame_out
    refine (p14 _ _ p3 (p9 _ _ (nrm H _) (dhn H _))).trans ?_
    simp
  | succ n ih =>
    have ih' := ih (by omega) (by omega)
    by_cases h1 : n + 1 = 31
    · rw [outsAt0_C m c ⟨n + 1, h⟩ (by simp only; omega) (by simp only; omega)]
      frame_out
      simp only [read_unread_whole]
      refine (p14 _ _ ih' (p9 _ _ (nrm H _) (dhn H _))).trans ?_
      simp only [Finset.sum_range_succ _ (n + 1)]
    · rw [outsAt0_B m c ⟨n + 1, h⟩ (by simp only; omega) (by simp only; omega)]
      frame_out
      simp only [read_unread_whole]
      refine (p14 _ _ ih' (p9 _ _ (nrm H _) (dhn H _))).trans ?_
      simp only [Finset.sum_range_succ _ (n + 1)]

theorem dx_pay (t : Fin cfg0.N) {v : FVec Ideal S512x1024 .f32} (hv : v = mat 512 1024 fun i j => ph A B C W (512 * t.val + i) j) :
    k0_pay1 (F := Ideal) (k0_pay4 (iblk m c 4 t)) (k0_pay5 (iblk m c 4 t)) v (iblk m c 5 t) (iblk m c 6 t)
      = mat 512 1024 fun i j => D (512 * t.val + i) j + normGrad 1024 1024 (X (512 * t.val + i)) (fun k => ph A B C W (512 * t.val + i) k * N 0 k) j := by
  rw [blk4 H, blk5 H, blk6 H, hv, p1]

/-- The gradient the kernel leaves for its input rows. -/
theorem fin7 : (dats m 0 c).arrAt 7 (cfgs 0).N = mat 16384 1024 fun i j => D i j + normGrad 1024 1024 (X i) (fun k => ph A B C W i k * N 0 k) j := by
  refine (dats m 0 c).arrAt_eq_of_covers 7 _ (by decide +kernel) fun t _ y => ?_
  obtain ⟨e0, e1, e2, e3, e4, e5, e6, e7, e8, e9⟩ := idx t
  have ht : t.val < 32 := lt_of_lt_of_eq t.isLt N_0
  have hy : (y 0).val < 512 := (y 0).isLt
  have key : ((cfg0.win 7).blk t).view.emb y = ix2 ⟨512 * t.val + (y 0).val, by omega⟩ (y 1) := by
    blk_ext [e7]
  blk_simp
  rw [after0_7]
  refine Eq.trans ?_ (congrArg (mat 16384 1024 _) key).symm
  by_cases h0 : t.val % 32 = 0
  · rw [outsAt0_A m c t h0 (by omega)]; frame_out
    exact congrFun (dx_pay H t (dhn H t)) y
  · by_cases h1 : t.val % 32 = 31
    · rw [outsAt0_C m c t h0 h1]; frame_out
      exact congrFun (dx_pay H t (dhn H t)) y
    · rw [outsAt0_B m c t h0 h1]; frame_out
      exact congrFun (dx_pay H t (dhn H t)) y

/-- The normalised rows the kernel leaves. -/
theorem fin8 : (dats m 0 c).arrAt 8 (cfgs 0).N = mat 16384 1024 fun i j => X i j * rn 1024 1024 (X i) * N 0 j := by
  refine (dats m 0 c).arrAt_eq_of_covers 8 _ (by decide +kernel) fun t _ y => ?_
  obtain ⟨e0, e1, e2, e3, e4, e5, e6, e7, e8, e9⟩ := idx t
  have ht : t.val < 32 := lt_of_lt_of_eq t.isLt N_0
  have hy : (y 0).val < 512 := (y 0).isLt
  have key : ((cfg0.win 8).blk t).view.emb y = ix2 ⟨512 * t.val + (y 0).val, by omega⟩ (y 1) := by
    blk_ext [e8]
  blk_simp
  rw [after0_8]
  refine Eq.trans ?_ (congrArg (mat 16384 1024 _) key).symm
  by_cases h0 : t.val % 32 = 0
  · rw [outsAt0_A m c t h0 (by omega)]; frame_out
    rw [blk4 H, blk5 H, p6]
    rfl
  · by_cases h1 : t.val % 32 = 31
    · rw [outsAt0_C m c t h0 h1]; frame_out
      rw [blk4 H, blk5 H, p6]
      rfl
    · rw [outsAt0_B m c t h0 h1]; frame_out
      rw [blk4 H, blk5 H, p6]
      rfl

/-- The gradient of the norm's weight. -/
theorem fin9 : (dats m 0 c).arrAt 9 (cfgs 0).N = mat 1 1024 fun _ j => ∑ i ∈ Finset.range 16384,
    ph A B C W i j * (X i j * rn 1024 1024 (X i)) := by
  refine (dats m 0 c).arrAt_eq_of_covers 9 _ (by decide +kernel) fun t hf y => ?_
  obtain ⟨e0, e1, e2, e3, e4, e5, e6, e7, e8, e9⟩ := idx t
  have h1 := (flush0_9 t).mp hf
  have ht : t.val = 31 := by have := lt_of_lt_of_eq t.isLt N_0; omega
  have key : ((cfg0.win 9).blk t).view.emb y = ix2 (y 0) (y 1) := by
    blk_ext [e9]
  blk_simp
  refine Eq.trans ?_ (congrArg (mat 1 1024 _) key).symm
  rw [after0_9, outsAt0_C m c t (by omega) h1]; frame_out
  simp only [read_unread_whole]
  refine (congrFun ((congrArg (k0_pay2 (F := Ideal)) (p14 _ _ (carried H (t.val - 1) _) (p9 _ _ (nrm H t) (dhn H t)))).trans (p2 _)) y).trans ?_
  rw [ht]
  simp only [← Finset.sum_range_succ, Nat.reduceSub, Nat.reduceAdd]
  exact congrArg (fun r : ℝ => (r : EReal)) (sum_rows512 fun i => ph A B C W i (y 1).val * (X i (y 1).val * rn 1024 1024 (X i)))

end Cert.Kernel4Ideal.V
-- ==== Proof.In4R.lean ====
module

public import proofs.«01_k».proof.Proof.Gen.Reference4Ideal.Read
public import Idealize.ShloMosaic.Lib.Pipeline.ValueKit
public import proofs.«01_k».proof.Proof.RealLift

/-! The three results of the reference for the conformer's input-side backward call on real arguments. -/

@[expose] public section

set_option maxRecDepth 16384

noncomputable section

open Idealize.ShloMosaic Idealize.ShloMosaic.TcCoe Idealize.SL.Sem

namespace Cert.Reference4Ideal.V
open Cert.Reference4Ideal Cert.Reference4Ideal.Gen Cert.Reference4Ideal.Read Cert.RealLift

variable (A B C W X D P G : ℕ → ℕ → ℝ) (N : ℕ → ℝ)

theorem v6 : val_main_v6 (F := Ideal) (mat 16384 1024 X) = mat 16384 1 fun i _ => msq 1024 1024 (X i) := by
  funext j
  simp only [val_main_v6_apply, val_main_v4_apply, val_main_v5_apply, val_main_v3_apply, val_main_v2_apply, val_main_v1_apply, val_main_v0_apply,
    val_main_cst_apply, val_main_cst_0_apply, val_main_cst_1_apply, Ideal.addf_def, Ideal.mulf_def, Ideal.hostDivf_def, Ideal.ofBits_def,
    lit_zero, lit_1024, lit_eps, ← EReal.coe_mul, coe_sum, ← EReal.coe_add, zero_add]
  rw [div_real (by norm_num), ← EReal.coe_add]
  rfl

theorem v7 : val_main_v7 (F := Ideal) (mat 16384 1024 X) = mat 16384 1 fun i _ => rn 1024 1024 (X i) := by
  funext j
  simp only [val_main_v7_apply, v6, Ideal.hostUnary_rsqrt_def]
  exact rsqrt_real (msq_pos 1024 (by norm_num) _)

theorem v10 : val_main_v10 (F := Ideal) (mat 16384 1024 X) = mat 16384 1 fun i _ => -(1 / 2) * (rn 1024 1024 (X i) / msq 1024 1024 (X i)) := by
  funext j
  simp only [val_main_v10_apply, val_main_v9_apply, val_main_v8_apply, val_main_cst_2_apply, v7, v6, Ideal.hostDivf_def, Ideal.mulf_def, Ideal.ofBits_def, lit_neg_half]
  rw [div_real (msq_pos 1024 (by norm_num) _).ne', ← EReal.coe_mul]

theorem v12 : val_main_v12 (F := Ideal) (mat 16384 1024 X) = mat 16384 1024 fun i j => X i j * rn 1024 1024 (X i) := by
  funext j
  simp only [val_main_v12_apply, val_main_v11_apply, v7, Ideal.mulf_def, ← EReal.coe_mul]

/-- The three parts of the cotangent laid end to end. -/
theorem v17 : val_main_v17 (F := Ideal) (mat 16384 2048 A) (mat 16384 2048 B) (mat 16384 2048 C) =
    mat 16384 6144 fun i k => if k < 2048 then A i k else if k - 2048 < 2048 then B i (k - 2048) else C i (k - 2048 - 2048) := by
  funext j
  pointwise [val_main_v17]
  show _ = ((if (j 1).val < 2048 then A (j 0).val (j 1).val else if (j 1).val - 2048 < 2048 then B (j 0).val ((j 1).val - 2048) else C (j 0).val ((j 1).val - 2048 - 2048) : ℝ) : EReal)
  split <;> [rfl; (split <;> rfl)]

/-- The product with the projection's weights, over the three parts of the concatenated cotangent. -/
theorem v18 : val_main_v18 (F := Ideal) (mat 16384 2048 A) (mat 16384 2048 B) (mat 16384 2048 C) (mat 1024 6144 W) =
    mat 16384 1024 fun i j => (∑ k : Fin 2048, A i k * W j k) + ((∑ k : Fin 2048, B i k * W j (2048 + k)) + ∑ k : Fin 2048, C i k * W j (2048 + (2048 + k))) := by
  funext j
  simp only [val_main_v18_apply, v17, ← EReal.coe_mul, coe_sum]
  refine congrArg (fun r : ℝ => (r : EReal)) ?_
  refine (sum_cat 6144 2048 4096 rfl (A (j 0).val) (fun k => if k < 2048 then B (j 0).val k else C (j 0).val (k - 2048)) (W (j 1).val)).trans ?_
  refine congrArg (_ + ·) ?_
  exact sum_cat 4096 2048 2048 rfl (B (j 0).val) (C (j 0).val) fun k => W (j 1).val (2048 + k)

theorem v23 (h : val_main_v18 (F := Ideal) (mat 16384 2048 A) (mat 16384 2048 B) (mat 16384 2048 C) (mat 1024 6144 W) = mat 16384 1024 P) :
    val_main_v23 (F := Ideal) (mat 16384 2048 A) (mat 16384 2048 B) (mat 16384 2048 C) (mat 1024 6144 W) (row 1024 N) = mat 16384 1024 fun i j => P i j * N j := by
  funext j
  simp only [val_main_v23_apply, val_main_v22_apply, val_main_v13_apply, h, Ideal.mulf_def, ← EReal.coe_mul]

theorem v35 (h : val_main_v23 (F := Ideal) (mat 16384 2048 A) (mat 16384 2048 B) (mat 16384 2048 C) (mat 1024 6144 W) (row 1024 N) = mat 16384 1024 G) :
    val_main_v35 (F := Ideal) (mat 16384 2048 A) (mat 16384 2048 B) (mat 16384 2048 C) (mat 1024 6144 W) (mat 16384 1024 X) (row 1024 N) = mat 16384 1024 fun i j =>
      (∑ k : Fin 1024, X i k * G i k) * (-(1 / 2) * (rn 1024 1024 (X i) / msq 1024 1024 (X i))) / 1024 := by
  funext j
  simp only [val_main_v35_apply, val_main_v34_apply, val_main_v33_apply, val_main_v32_apply, val_main_v31_apply, val_main_v27_apply, val_main_v26_apply, val_main_v25_apply,
    val_main_cst_5_apply, val_main_cst_6_apply, val_main_cst_7_apply, v10, h, Ideal.mulf_def, Ideal.hostDivf_def, Ideal.ofBits_def, lit_zero, lit_1024, ← EReal.coe_mul, coe_sum,
    ← EReal.coe_add, zero_add, Fin.sum_univ_one]
  rw [div_real (by norm_num), ← EReal.coe_add, zero_add]
  simp only [Nat.mul_one, Fin.val_zero, Nat.add_zero]

theorem v39 (K : ℕ → ℕ → ℝ) (h : val_main_v23 (F := Ideal) (mat 16384 2048 A) (mat 16384 2048 B) (mat 16384 2048 C) (mat 1024 6144 W) (row 1024 N) = mat 16384 1024 G)
    (h' : val_main_v35 (F := Ideal) (mat 16384 2048 A) (mat 16384 2048 B) (mat 16384 2048 C) (mat 1024 6144 W) (mat 16384 1024 X) (row 1024 N) = mat 16384 1024 K) :
    val_main_v39 (F := Ideal) (mat 16384 2048 A) (mat 16384 2048 B) (mat 16384 2048 C) (mat 1024 6144 W) (mat 16384 1024 X) (row 1024 N) (mat 16384 1024 D) = mat 16384 1024 fun i j =>
      D i j + G i j * rn 1024 1024 (X i) + X i j * K i j + K i j * X i j := by
  funext j
  simp only [val_main_v39_apply, val_main_v38_apply, val_main_v37_apply, val_main_v36_apply, val_main_v30_apply, val_main_v29_apply, val_main_v28_apply, v7, h, h', Ideal.mulf_def, Ideal.addf_def,
    ← EReal.coe_mul, ← EReal.coe_add]

theorem v54 (h : val_main_v18 (F := Ideal) (mat 16384 2048 A) (mat 16384 2048 B) (mat 16384 2048 C) (mat 1024 6144 W) = mat 16384 1024 P) :
    val_main_v54 (F := Ideal) (mat 16384 2048 A) (mat 16384 2048 B) (mat 16384 2048 C) (mat 1024 6144 W) (mat 16384 1024 X) = mat 1 1024 fun _ j =>
      ∑ i ∈ Finset.range 16384, X i j * rn 1024 1024 (X i) * P i j := by
  funext j
  simp only [val_main_v54_apply, val_main_v24_apply, val_main_v21_apply, val_main_v20_apply, val_main_v19_apply,
    val_main_cst_3_apply, val_main_cst_4_apply, v12, h, Ideal.mulf_def, Ideal.ofBits_def, lit_zero, ← EReal.coe_mul, coe_sum,
    ← EReal.coe_add, zero_add, Fin.sum_univ_one, Finset.sum_range, Fin.val_zero, Nat.zero_mul]

theorem v53 : val_main_v53 (F := Ideal) (mat 16384 1024 X) (row 1024 N) = mat 16384 1024 fun i j => X i j * rn 1024 1024 (X i) * N j := by
  funext j
  have hd : ∀ x : ℝ, Ideal.div (x : EReal) ((1024 : ℝ) : EReal) = ((x / 1024 : ℝ) : EReal) := fun x => div_real (by norm_num)
  have hr : ∀ x : ℕ → ℝ, Ideal.rsqrt (((∑ k : Fin 1024, x k * x k) / 1024 + eps : ℝ) : EReal) = ((rn 1024 1024 x : ℝ) : EReal) := fun x => rsqrt_real (msq_pos 1024 (by norm_num) x)
  simp only [val_main_v53_apply, val_main_v52_apply, val_main_v51_apply, val_main_v50_apply, val_main_v49_apply, val_main_v48_apply, val_main_v47_apply, val_main_v46_apply,
    val_main_v45_apply, val_main_v44_apply, val_main_v43_apply, val_main_v42_apply, val_main_v41_apply, val_main_v40_apply, val_main_cst_8_apply, val_main_cst_9_apply, val_main_cst_10_apply,
    Ideal.addf_def, Ideal.mulf_def, Ideal.hostDivf_def, Ideal.hostUnary_rsqrt_def, Ideal.ofBits_def, lit_zero, lit_1024, lit_eps, ← EReal.coe_mul, coe_sum, ← EReal.coe_add, zero_add, hd, hr]
  rfl

end Cert.Reference4Ideal.V
-- ==== Proof.In4.lean ====
module

public import proofs.«01_k».proof.Defs
public import proofs.«01_k».proof.Proof.In4K
public import proofs.«01_k».proof.Proof.In4R
public import proofs.«01_k».proof.Proof.Gen.Pre_cin_finite
public import proofs.«01_k».proof.Proof.Gen.Kernel4.Frame

/-! The conformer's input-side backward call: the kernel's and the reference's three results are the same real arrays. -/

@[expose] public section

set_option maxRecDepth 16384

noncomputable section

open Idealize.ShloMosaic Idealize.ShloMosaic.TcCoe Idealize.SL.Sem

namespace Cert.In4
open Cert.RealLift Cert.Kernel4Ideal.V Cert.Reference4Ideal.V

/-- Six products of 1024 columns are three of 2048. -/
theorem ph_eq (A B C W : ℕ → ℕ → ℝ) (i j : ℕ) :
    ph A B C W i j = (∑ k : Fin 2048, A i k * W j k) + ((∑ k : Fin 2048, B i k * W j (2048 + k)) + ∑ k : Fin 2048, C i k * W j (2048 + (2048 + k))) := by
  rw [sum_two 2048 1024 1024 rfl fun k => A i k * W j k, sum_two 2048 1024 1024 rfl fun k => B i k * W j (2048 + k),
    sum_two 2048 1024 1024 rfl fun k => C i k * W j (2048 + (2048 + k))]
  simp only [ph, ← Nat.add_assoc, Nat.reduceAdd, add_assoc]

/-- Finite arguments are real arrays. -/
theorem real_args (a0 a1 a2 : Shape.Idx ⟨2, ![16384, 2048]⟩ → EReal) (a3 : Shape.Idx ⟨2, ![1024, 6144]⟩ → EReal)
    (a4 a6 : Shape.Idx ⟨2, ![16384, 1024]⟩ → EReal) (a5 : Shape.Idx ⟨1, ![1024]⟩ → EReal)
    (h : Cert.Pre_cin_finite.fn (F := Ideal) a0 a1 a2 a3 a4 a5 a6 = fun _ => 1#1) :
    ∃ A B C W X N D : ℕ → ℕ → ℝ, a0 = mat 16384 2048 A ∧ a1 = mat 16384 2048 B ∧ a2 = mat 16384 2048 C ∧ a3 = mat 1024 6144 W
      ∧ a4 = mat 16384 1024 X ∧ a5 = row 1024 (N 0) ∧ a6 = mat 16384 1024 D := by
  obtain ⟨e, e6⟩ := IntOp.andi_eq_one.1 (congrFun h ix0)
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton (Shape.Idx Cert.Pre_cin_finite.S_) := ⟨fun a b => funext fun i => i.elim0⟩
  obtain ⟨A, h0⟩ := real_mat e0 fun _ => lit_top
  obtain ⟨B, h1⟩ := real_mat e1 fun _ => lit_top
  obtain ⟨C, h2⟩ := real_mat e2 fun _ => lit_top
  obtain ⟨W, h3⟩ := real_mat e3 fun _ => lit_top
  obtain ⟨X, h4⟩ := real_mat e4 fun _ => lit_top
  obtain ⟨N, h5⟩ := real_row e5 fun _ => lit_top
  obtain ⟨D, h6⟩ := real_mat e6 fun _ => lit_top
  exact ⟨A, B, C, W, X, fun _ => N, D, h0, h1, h2, h3, h4, h5, h6⟩

/-- The reference runs, keeps its arguments and leaves no semaphore raised. -/
theorem frame_ref : Cert.quiescent_Reference4Ideal (hReference4Ideal := Cert.Reference4Ideal.Gen.facts) :=
  fun m g _ => (θ_run Cert.Reference4Ideal.defs _ _).mono (fun r h => ⟨fun c => (h c).2.2.2, sem_eq_zero_of_no_sems (by decide) r.2⟩)
    (Cert.Reference4Ideal.Value.run (F := Ideal) m g)

/-- The kernel and the vector-Jacobian product of the norm and projection leave the same three arrays. -/
theorem algebraic : Cert.algebraic_Kernel4Ideal_Reference4Ideal_pre_cin_finite (hKernel4Ideal := Cert.Kernel4Ideal.Gen.facts)
    (hReference4Ideal := Cert.Reference4Ideal.Gen.facts) (hPre_cin_finite := Cert.Pre_cin_finite.Gen.facts) := by
  intro m g m' g' hpre hargs
  refine ⟨fun c => Cert.Kernel4Ideal.Value.G7 m c, fun c => Cert.Kernel4Ideal.Value.G8 m c, fun c => Cert.Kernel4Ideal.Value.G9 m c,
    Cert.Kernel4Ideal.Value.run m g, ?_⟩
  refine (θ_run _ _ _).mono (fun r h c => ?_) (Cert.Reference4Ideal.Value.run m' g')
  obtain ⟨r0, r1, r2, ra⟩ := h c
  obtain ⟨a0, a1, a2, a3, a4, a5, a6⟩ := hargs c
  obtain ⟨A, B, C, W, X, N, D, h0, h1, h2, h3, h4, h5, h6⟩ := real_args _ _ _ _ _ _ _ (hpre c)
  have H : Args A B C W X N D m c := ⟨h0, h1, h2, h3, h4, h5, h6⟩
  have P := v18 A B C W
  simp only [← ph_eq] at P
  have G := v23 A B C W _ (N 0) P
  refine ⟨r0.trans ?_, r1.trans ?_, r2.trans ?_, ra⟩
  · rw [Cert.Reference4Ideal.Read.val_main_v39_eq, a0, a1, a2, a3, a4, a5, a6, h0, h1, h2, h3, h4, h5, h6,
      v39 A B C W X D _ (N 0) _ G (v35 A B C W X _ (N 0) G)]
    refine Eq.trans ?_ ((Cert.Kernel4Ideal.Value.final7 m c).symm.trans (fin7 H)).symm
    funext i
    refine congrArg (fun r : ℝ => (r : EReal)) ?_
    beta_reduce
    rw [normGrad_eq (d := 1024) 1024 (by norm_num)]
    ring
  · rw [Cert.Reference4Ideal.Read.val_main_v53_eq, a4, a5, h4, h5, v53 X (N 0)]
    exact ((Cert.Kernel4Ideal.Value.final8 m c).symm.trans (fin8 H)).symm
  · rw [Cert.Reference4Ideal.Read.val_main_v54_eq, a0, a1, a2, a3, a4, h0, h1, h2, h3, h4, v54 A B C W X _ P]
    refine Eq.trans ?_ ((Cert.Kernel4Ideal.Value.final9 m c).symm.trans (fin9 H)).symm
    funext i
    exact congrArg (fun r : ℝ => (r : EReal)) (Finset.sum_congr rfl fun k _ => mul_comm _ _)

end Cert.In4
-- ==== Proof.In5K.lean ====
module

public import proofs.«01_k».proof.Proof.Gen.Kernel5Ideal.Value
public import Idealize.ShloMosaic.Lib.Pipeline.ReadBack
public import proofs.«01_k».proof.Proof.RealLift

/-! The three results of the state-space mixer's input-side backward kernel on real arguments. -/

@[expose] public section

set_option maxRecDepth 16384

noncomputable section

open Idealize.ShloMosaic Idealize.ShloMosaic.TcCoe Idealize.SL.Sem
open Idealize.ShloMosaic.Pipeline (Dat)

namespace Cert.Kernel5Ideal.V
open Cert.Kernel5Ideal Cert.Kernel5Ideal.Gen Cert.RealLift

section pay
variable (X N P D A B C A' B' T U W Y Z U' W' Y' : ℕ → ℕ → ℝ)

theorem p4 : k0_pay4 (F := Ideal) (mat 512 1024 X) = mat 512 1 fun i _ => rn 1024 1024 (X i) := by
  funext j
  pointwise [k0_pay4]
  simp only [lit_eps, lit_1024, ← EReal.coe_mul, coe_sum]
  rw [div_real (by norm_num), ← EReal.coe_add]
  exact rsqrt_real (msq_pos 1024 (by norm_num) _)

theorem p5 : k0_pay5 (F := Ideal) (mat 512 1024 X) = mat 512 1024 fun i j => X i j * rn 1024 1024 (X i) := by
  funext j
  pointwise [k0_pay5]
  rw [p4, ← EReal.coe_mul]
  rfl

theorem p6 : k0_pay6 (F := Ideal) (mat 512 1024 X) (mat 1 1024 N) = mat 512 1024 fun i j => X i j * rn 1024 1024 (X i) * N 0 j := by
  funext j
  pointwise [k0_pay6]
  rw [p5, ← EReal.coe_mul]
  rfl

theorem p7 : k0_pay7 (F := Ideal) (mat 512 1024 A) (mat 1024 1024 U) (mat 512 1024 A') (mat 1024 1024 U')
    = mat 512 1024 fun i j => (∑ k : Fin 1024, A i k * U k j) + ∑ k : Fin 1024, A' i k * U' k j := by
  funext j
  pointwise [k0_pay7]
  simp only [← EReal.coe_mul, coe_sum, ← EReal.coe_add]
  rfl

theorem p8 : k0_pay8 (F := Ideal) (mat 512 1024 P) (mat 512 1024 B) (mat 1024 1024 W) (mat 512 1024 B') (mat 1024 1024 W')
      (mat 512 1024 C) (mat 1024 1024 Y) (mat 512 128 T) (mat 128 1024 Y')
    = mat 512 1024 fun i j => P i j + (∑ k : Fin 1024, B i k * W k j) + (∑ k : Fin 1024, B' i k * W' k j)
        + (∑ k : Fin 1024, C i k * Y k j) + ∑ k : Fin 128, T i k * Y' k j := by
  funext j
  pointwise [k0_pay8]
  simp only [← EReal.coe_mul, coe_sum, ← EReal.coe_add]
  rfl

theorem p9 {v1 v3 v5 : FVec Ideal S512x1024 .bf16} {v2 v4 v6 : FVec Ideal S1024x1024 .bf16} {v7 : FVec Ideal S512x128 .bf16} {v8 : FVec Ideal S128x1024 .bf16} {n v : FVec Ideal S512x1024 .f32}
    (hn : n = mat 512 1024 N) (h : k0_pay8 (F := Ideal) v v1 v2 v3 v4 v5 v6 v7 v8 = mat 512 1024 P) :
    k0_pay9 (F := Ideal) n v v1 v2 v3 v4 v5 v6 v7 v8 = mat 512 1024 fun i j => P i j * N i j := by
  funext j
  pointwise [k0_pay9]
  rw [h, hn, ← EReal.coe_mul]

/-- The eight partial sums of a block's rows: lane `i` takes the rows `8 k + i`. -/
theorem p14 {v1 v3 v5 : FVec Ideal S512x1024 .bf16} {v2 v4 v6 : FVec Ideal S1024x1024 .bf16} {v7 : FVec Ideal S512x128 .bf16} {v8 : FVec Ideal S128x1024 .bf16} {n v : FVec Ideal S512x1024 .f32} {s : FVec Ideal S8x1024 .f32}
    (S E : ℕ → ℕ → ℝ) (hs : s = mat 8 1024 S) (h : k0_pay9 (F := Ideal) n v v1 v2 v3 v4 v5 v6 v7 v8 = mat 512 1024 E) :
    k0_pay14 (F := Ideal) s (k0_pay9 n v v1 v2 v3 v4 v5 v6 v7 v8)
      (k0_pay12 (k0_pay9 n v v1 v2 v3 v4 v5 v6 v7 v8) (k0_pay10 n v v1 v2 v3 v4 v5 v6 v7 v8) (k0_pay11 n v v1 v2 v3 v4 v5 v6 v7 v8))
      (k0_pay13 (k0_pay9 n v v1 v2 v3 v4 v5 v6 v7 v8))
      = mat 8 1024 fun i j => S i j + ∑ k ∈ Finset.range 64, E (8 * k + i) j := by
  funext j
  pointwise [k0_pay14, k0_pay12, k0_pay10, k0_pay11, k0_pay13]
  rw [h, hs]
  simp only [← EReal.coe_add]
  norm_num only [Finset.sum_range_succ, Finset.sum_range_zero, zero_add, Nat.mul_zero]
  rfl

theorem p1 : k0_pay1 (F := Ideal) (k0_pay4 (mat 512 1024 X)) (k0_pay5 (mat 512 1024 X)) (mat 512 1024 P) (mat 1 1024 N) (mat 512 1024 D)
    = mat 512 1024 fun i j => D i j + normGrad 1024 1024 (X i) (fun k => P i k * N 0 k) j := by
  funext j
  rw [p5, p4]
  pointwise [k0_pay1]
  simp only [lit_1024, ← EReal.coe_mul, coe_sum]
  rw [div_real (by norm_num)]
  simp only [← EReal.coe_mul, ← EReal.coe_sub, ← EReal.coe_add]
  rfl

theorem p2 : k0_pay2 (F := Ideal) (mat 8 1024 P) = mat 1 1024 fun _ j => ∑ i : Fin 8, P i j := by
  funext j
  pointwise [k0_pay2]
  simp only [coe_sum]
  rfl

theorem p3 : k0_pay3 (F := Ideal) = mat 8 1024 fun _ _ => 0 := by
  funext j
  pointwise [k0_pay3]
  simp

end pay

/-- The windows' blocks at a point, by number. -/
theorem idx : ∀ t : Fin cfg0.N, win0_0.index t = ![t.val, 0] ∧ win0_1.index t = ![t.val, 0] ∧ win0_2.index t = ![t.val, 0] ∧
    win0_3.index t = ![0, 0] ∧ win0_4.index t = ![t.val, 0] ∧ win0_5.index t = ![0, 0] ∧ win0_6.index t = ![t.val, 0] ∧
    win0_7.index t = ![t.val, 0] ∧ win0_8.index t = ![t.val, 0] ∧ win0_9.index t = ![0, 0] :=
  (by decide +kernel : ∀ t : Fin grid0.N, _)

variable (A B C E W X N D : ℕ → ℕ → ℝ) (m : (ℓ : Loc nD τ sig) → Buf (Elt Ideal) ℓ) (c : Dev nD)

/-- The eight arguments are real arrays. -/
structure Args : Prop where
  h0 : m ((c.tc : Thread nD τ).loc main_arg0) = mat 16384 2048 A
  h1 : m ((c.tc : Thread nD τ).loc main_arg1) = mat 16384 3072 B
  h2 : m ((c.tc : Thread nD τ).loc main_arg2) = mat 16384 32 C
  h3 : m ((c.tc : Thread nD τ).loc main_arg3) = mat 16384 32 E
  h4 : m ((c.tc : Thread nD τ).loc main_arg4) = mat 1024 5184 W
  h5 : m ((c.tc : Thread nD τ).loc main_arg5) = mat 16384 1024 X
  h6 : m ((c.tc : Thread nD τ).loc main_arg6) = row 1024 (N 0)
  h7 : m ((c.tc : Thread nD τ).loc main_arg7) = mat 16384 1024 D

/-- The step sizes' two cotangents side by side, the columns after them zero. -/
def step (i k : ℕ) : ℝ := if k < 32 then C i k else if k - 32 < 32 then E i (k - 32) else 0

/-- The transposed weights, the rows after them zero. -/
def wt (k j : ℕ) : ℝ := if k < 5184 then W j k else 0

/-- The gradient of the projection, taken back through the weights: five products of 1024 columns and one of 128. -/
def ph (i j : ℕ) : ℝ := (∑ k : Fin 1024, A i k * wt W k j) + (∑ k : Fin 1024, A i (1024 + k) * wt W (1024 + k) j)
    + (∑ k : Fin 1024, B i k * wt W (2048 + k) j) + (∑ k : Fin 1024, B i (1024 + k) * wt W (3072 + k) j)
    + (∑ k : Fin 1024, B i (2048 + k) * wt W (4096 + k) j) + ∑ k : Fin 128, step C E i k * wt W (5120 + k) j

variable {A B C E W X N D m c} (H : Args A B C E W X N D m c)
include H

theorem blk0 (t : Fin cfg0.N) : iblk m c 0 t = mat 512 2048 fun i => A (512 * t.val + i) := by
  funext y
  have ht : t.val < 32 := lt_of_lt_of_eq t.isLt N_0
  have hy : (y 0).val < 512 := (y 0).isLt
  obtain ⟨e0, e1, e2, e3, e4, e5, e6, e7, e8, e9⟩ := idx t
  have e : iblk m c 0 t y = m ((c.tc : Thread nD τ).loc main_arg0) (ix2 ⟨512 * t.val + (y 0).val, by omega⟩ (y 1)) := by
    blk_point [iblk, V, e0]
  rw [e, H.h0]
  rfl

theorem blk1 (t : Fin cfg0.N) : iblk m c 1 t = mat 512 3072 fun i => B (512 * t.val + i) := by
  funext y
  have ht : t.val < 32 := lt_of_lt_of_eq t.isLt N_0
  have hy : (y 0).val < 512 := (y 0).isLt
  obtain ⟨e0, e1, e2, e3, e4, e5, e6, e7, e8, e9⟩ := idx t
  have e : iblk m c 1 t y = m ((c.tc : Thread nD τ).loc main_arg1) (ix2 ⟨512 * t.val + (y 0).val, by omega⟩ (y 1)) := by
    blk_point [iblk, V, e1]
  rw [e, H.h1]
  rfl

theorem host2 : V m c main_v2 = mat 16384 128 (step C E) := by
  have e : V m c main_v2 = truncf .bf16 (concatenate S16384x128 1 [⟨S16384x32, m ((c.tc : Thread nD τ).loc main_arg2)⟩, ⟨S16384x32, m ((c.tc : Thread nD τ).loc main_arg3)⟩,
      ⟨S16384x64, broadcastInDim S16384x64 ![] bcast_S_S16384x64 (constant (F := Ideal) S_ .f32 0x00000000#32)⟩]
      concatenates_S16384x32_S16384x32_S16384x64_S16384x128_d1) bitsLt_bf16_f32 := by
    after_results_simp
    rfl
  rw [e, H.h2, H.h3]
  funext j
  pointwise []
  show _ = ((if (j 1).val < 32 then C (j 0).val (j 1).val else if (j 1).val - 32 < 32 then E (j 0).val ((j 1).val - 32) else 0 : ℝ) : EReal)
  split <;> [rfl; (split <;> [rfl; exact EReal.coe_zero.symm])]

theorem host3 : V m c main_v6 = mat 5248 1024 (wt W) := by
  have e : V m c main_v6 = truncf .bf16 (concatenate S5248x1024 0 [⟨S5184x1024, transpose S5184x1024 [1, 0] (m ((c.tc : Thread nD τ).loc main_arg4)) transposes_S1024x5184_S5184x1024_1_0⟩,
      ⟨S64x1024, broadcastInDim S64x1024 ![] bcast_S_S64x1024 (constant (F := Ideal) S_ .f32 0x00000000#32)⟩] concatenates_S5184x1024_S64x1024_S5248x1024_d0) bitsLt_bf16_f32 := by
    after_results_simp
    rfl
  rw [e, H.h4]
  funext j
  pointwise []
  show _ = ((if (j 0).val < 5184 then W (j 1).val (j 0).val else 0 : ℝ) : EReal)
  split <;> [rfl; exact EReal.coe_zero.symm]

theorem blk2 (t : Fin cfg0.N) : iblk m c 2 t = mat 512 128 fun i => step C E (512 * t.val + i) := by
  funext y
  have ht : t.val < 32 := lt_of_lt_of_eq t.isLt N_0
  have hy : (y 0).val < 512 := (y 0).isLt
  obtain ⟨e0, e1, e2, e3, e4, e5, e6, e7, e8, e9⟩ := idx t
  have e : iblk m c 2 t y = V m c main_v2 (ix2 ⟨512 * t.val + (y 0).val, by omega⟩ (y 1)) := by
    generalize hV : V m c main_v2 = v
    have hA : iblk m c 2 t y = v (((cfg0.win 2).blk t).view.emb y) := by rw [← hV]; rfl
    rw [hA]
    refine congrArg v ?_
    blk_ext [e2]
  rw [e, host2 H]
  rfl

theorem blk3 (t : Fin cfg0.N) : iblk m c 3 t = mat 5248 1024 (wt W) := by
  funext y
  obtain ⟨e0, e1, e2, e3, e4, e5, e6, e7, e8, e9⟩ := idx t
  have e : iblk m c 3 t y = V m c main_v6 (ix2 (y 0) (y 1)) := by
    generalize hV : V m c main_v6 = v
    have hA : iblk m c 3 t y = v (((cfg0.win 3).blk t).view.emb y) := by rw [← hV]; rfl
    rw [hA]
    refine congrArg v ?_
    blk_ext [e3]
  rw [e, host3 H]
  rfl

theorem blk4 (t : Fin cfg0.N) : iblk m c 4 t = mat 512 1024 fun i => X (512 * t.val + i) := by
  funext y
  have ht : t.val < 32 := lt_of_lt_of_eq t.isLt N_0
  have hy : (y 0).val < 512 := (y 0).isLt
  obtain ⟨e0, e1, e2, e3, e4, e5, e6, e7, e8, e9⟩ := idx t
  have e : iblk m c 4 t y = m ((c.tc : Thread nD τ).loc main_arg5) (ix2 ⟨512 * t.val + (y 0).val, by omega⟩ (y 1)) := by
    blk_point [iblk, V, e4]
  rw [e, H.h5]
  rfl

theorem blk5 (t : Fin cfg0.N) : iblk m c 5 t = mat 1 1024 N := by
  funext y
  obtain ⟨e0, e1, e2, e3, e4, e5, e6, e7, e8, e9⟩ := idx t
  have hy : (y 0).val = 0 := Nat.lt_one_iff.1 (y 0).isLt
  have e : iblk m c 5 t y = m ((c.tc : Thread nD τ).loc main_arg6) (ix1 (y 1)) := by
    blk_point [iblk, V, e5]
  rw [e, H.h6]
  show _ = ((N (y 0).val (y 1).val : ℝ) : EReal)
  rw [hy]
  rfl

theorem blk6 (t : Fin cfg0.N) : iblk m c 6 t = mat 512 1024 fun i => D (512 * t.val + i) := by
  funext y
  have ht : t.val < 32 := lt_of_lt_of_eq t.isLt N_0
  have hy : (y 0).val < 512 := (y 0).isLt
  obtain ⟨e0, e1, e2, e3, e4, e5, e6, e7, e8, e9⟩ := idx t
  have e : iblk m c 6 t y = m ((c.tc : Thread nD τ).loc main_arg7) (ix2 ⟨512 * t.val + (y 0).val, by omega⟩ (y 1)) := by
    blk_point [iblk, V, e6]
  rw [e, H.h7]
  rfl

/-- The six products at a point. -/
theorem dhn (t : Fin cfg0.N) :
    k0_pay8 (F := Ideal) (k0_pay7 (View.ld (iblk m c 0 t) (Rect.unit ![0, 0] ![512, 1024] inb_S512x2048_S512x1024_0_0))
            (View.ld (iblk m c 3 t) (Rect.unit ![0, 0] ![1024, 1024] inb_S5248x1024_S1024x1024_0_0))
            (View.ld (iblk m c 0 t) (Rect.unit ![0, 1024] ![512, 1024] inb_S512x2048_S512x1024_0_1024))
            (View.ld (iblk m c 3 t) (Rect.unit ![1024, 0] ![1024, 1024] inb_S5248x1024_S1024x1024_1024_0)))
          (View.ld (iblk m c 1 t) (Rect.unit ![0, 0] ![512, 1024] inb_S512x3072_S512x1024_0_0))
          (View.ld (iblk m c 3 t) (Rect.unit ![2048, 0] ![1024, 1024] inb_S5248x1024_S1024x1024_2048_0))
          (View.ld (iblk m c 1 t) (Rect.unit ![0, 1024] ![512, 1024] inb_S512x3072_S512x1024_0_1024))
          (View.ld (iblk m c 3 t) (Rect.unit ![3072, 0] ![1024, 1024] inb_S5248x1024_S1024x1024_3072_0))
          (View.ld (iblk m c 1 t) (Rect.unit ![0, 2048] ![512, 1024] inb_S512x3072_S512x1024_0_2048))
          (View.ld (iblk m c 3 t) (Rect.unit ![4096, 0] ![1024, 1024] inb_S5248x1024_S1024x1024_4096_0))
          (iblk m c 2 t)
          (View.ld (iblk m c 3 t) (Rect.unit ![5120, 0] ![128, 1024] inb_S5248x1024_S128x1024_5120_0))
      = mat 512 1024 fun i j => ph A B C E W (512 * t.val + i) j := by
  rw [blk0 H, blk1 H, blk2 H, blk3 H, ld_bf16, ld_bf16, ld_bf16, ld_bf16, ld_bf16, ld_bf16, ld_bf16, ld_bf16, ld_bf16, ld_bf16, ld_bf16, p7, p8]
  simp only [Nat.zero_add]
  rfl

theorem nrm (t : Fin cfg0.N) : k0_pay5 (F := Ideal) (iblk m c 4 t) = mat 512 1024 fun i j => X (512 * t.val + i) j * rn 1024 1024 (X (512 * t.val + i)) := by
  rw [blk4 H, p5]

/-- The carried eight rows after point `n`: the gradient of the norm's weight over the rows seen so far. -/
theorem carried (n : ℕ) (h : n < cfg0.N) :
    (outsAt0 m c n h).2.2.2 = mat 8 1024 fun i j => ∑ t ∈ Finset.range (n + 1), ∑ k ∈ Finset.range 64,
      ph A B C E W (512 * t + (8 * k + i)) j * (X (512 * t + (8 * k + i)) j * rn 1024 1024 (X (512 * t + (8 * k + i)))) := by
  have hN : n < 32 := lt_of_lt_of_eq h N_0
  induction n with
  | zero =>
    rw [outsAt0_A m c ⟨0, h⟩ (by simp) (by simp)]
    frame_out
    refine (p14 _ _ p3 (p9 _ _ (nrm H _) (dhn H _))).trans ?_
    simp
  | succ n ih =>
    have ih' := ih (by omega) (by omega)
    by_cases h1 : n + 1 = 31
    · rw [outsAt0_C m c ⟨n + 1, h⟩ (by simp only; omega) (by simp only; omega)]
      frame_out
      simp only [read_unread_whole]
      refine (p14 _ _ ih' (p9 _ _ (nrm H _) (dhn H _))).trans ?_
      simp only [Finset.sum_range_succ _ (n + 1)]
    · rw [outsAt0_B m c ⟨n + 1, h⟩ (by simp only; omega) (by simp only; omega)]
      frame_out
      simp only [read_unread_whole]
      refine (p14 _ _ ih' (p9 _ _ (nrm H _) (dhn H _))).trans ?_
      simp only [Finset.sum_range_succ _ (n + 1)]

theorem dx_pay (t : Fin cfg0.N) {v : FVec Ideal S512x1024 .f32} (hv : v = mat 512 1024 fun i j => ph A B C E W (512 * t.val + i) j) :
    k0_pay1 (F := Ideal) (k0_pay4 (iblk m c 4 t)) (k0_pay5 (iblk m c 4 t)) v (iblk m c 5 t) (iblk m c 6 t)
      = mat 512 1024 fun i j => D (512 * t.val + i) j + normGrad 1024 1024 (X (512 * t.val + i)) (fun k => ph A B C E W (512 * t.val + i) k * N 0 k) j := by
  rw [blk4 H, blk5 H, blk6 H, hv, p1]

/-- The gradient the kernel leaves for its input rows. -/
theorem fin7 : (dats m 0 c).arrAt 7 (cfgs 0).N = mat 16384 1024 fun i j => D i j + normGrad 1024 1024 (X i) (fun k => ph A B C E W i k * N 0 k) j := by
  refine (dats m 0 c).arrAt_eq_of_covers 7 _ (by decide +kernel) fun t _ y => ?_
  obtain ⟨e0, e1, e2, e3, e4, e5, e6, e7, e8, e9⟩ := idx t
  have ht : t.val < 32 := lt_of_lt_of_eq t.isLt N_0
  have hy : (y 0).val < 512 := (y 0).isLt
  have key : ((cfg0.win 7).blk t).view.emb y = ix2 ⟨512 * t.val + (y 0).val, by omega⟩ (y 1) := by
    blk_ext [e7]
  blk_simp
  rw [after0_7]
  refine Eq.trans ?_ (congrArg (mat 16384 1024 _) key).symm
  by_cases h0 : t.val % 32 = 0
  · rw [outsAt0_A m c t h0 (by omega)]; frame_out
    exact congrFun (dx_pay H t (dhn H t)) y
  · by_cases h1 : t.val % 32 = 31
    · rw [outsAt0_C m c t h0 h1]; frame_out
      exact congrFun (dx_pay H t (dhn H t)) y
    · rw [outsAt0_B m c t h0 h1]; frame_out
      exact congrFun (dx_pay H t (dhn H t)) y

/-- The normalised rows the kernel leaves. -/
theorem fin8 : (dats m 0 c).arrAt 8 (cfgs 0).N = mat 16384 1024 fun i j => X i j * rn 1024 1024 (X i) * N 0 j := by
  refine (dats m 0 c).arrAt_eq_of_covers 8 _ (by decide +kernel) fun t _ y => ?_
  obtain ⟨e0, e1, e2, e3, e4, e5, e6, e7, e8, e9⟩ := idx t
  have ht : t.val < 32 := lt_of_lt_of_eq t.isLt N_0
  have hy : (y 0).val < 512 := (y 0).isLt
  have key : ((cfg0.win 8).blk t).view.emb y = ix2 ⟨512 * t.val + (y 0).val, by omega⟩ (y 1) := by
    blk_ext [e8]
  blk_simp
  rw [after0_8]
  refine Eq.trans ?_ (congrArg (mat 16384 1024 _) key).symm
  by_cases h0 : t.val % 32 = 0
  · rw [outsAt0_A m c t h0 (by omega)]; frame_out
    rw [blk4 H, blk5 H, p6]
    rfl
  · by_cases h1 : t.val % 32 = 31
    · rw [outsAt0_C m c t h0 h1]; frame_out
      rw [blk4 H, blk5 H, p6]
      rfl
    · rw [outsAt0_B m c t h0 h1]; frame_out
      rw [blk4 H, blk5 H, p6]
      rfl

/-- The gradient of the norm's weight. -/
theorem fin9 : (dats m 0 c).arrAt 9 (cfgs 0).N = mat 1 1024 fun _ j => ∑ i ∈ Finset.range 16384,
    ph A B C E W i j * (X i j * rn 1024 1024 (X i)) := by
  refine (dats m 0 c).arrAt_eq_of_covers 9 _ (by decide +kernel) fun t hf y => ?_
  obtain ⟨e0, e1, e2, e3, e4, e5, e6, e7, e8, e9⟩ := idx t
  have h1 := (flush0_9 t).mp hf
  have ht : t.val = 31 := by have := lt_of_lt_of_eq t.isLt N_0; omega
  have key : ((cfg0.win 9).blk t).view.emb y = ix2 (y 0) (y 1) := by
    blk_ext [e9]
  blk_simp
  refine Eq.trans ?_ (congrArg (mat 1 1024 _) key).symm
  rw [after0_9, outsAt0_C m c t (by omega) h1]; frame_out
  simp only [read_unread_whole]
  refine (congrFun ((congrArg (k0_pay2 (F := Ideal)) (p14 _ _ (carried H (t.val - 1) _) (p9 _ _ (nrm H t) (dhn H t)))).trans (p2 _)) y).trans ?_
  rw [ht]
  simp only [← Finset.sum_range_succ, Nat.reduceSub, Nat.reduceAdd]
  exact congrArg (fun r : ℝ => (r : EReal)) (sum_rows512 fun i => ph A B C E W i (y 1).val * (X i (y 1).val * rn 1024 1024 (X i)))

end Cert.Kernel5Ideal.V
-- ==== Proof.In5R.lean ====
module

public import proofs.«01_k».proof.Proof.Gen.Reference5Ideal.Read
public import Idealize.ShloMosaic.Lib.Pipeline.ValueKit
public import proofs.«01_k».proof.Proof.RealLift

/-! The three results of the reference for the state-space mixer's input-side backward call on real arguments. -/

@[expose] public section

set_option maxRecDepth 16384

noncomputable section

open Idealize.ShloMosaic Idealize.ShloMosaic.TcCoe Idealize.SL.Sem

namespace Cert.Reference5Ideal.V
open Cert.Reference5Ideal Cert.Reference5Ideal.Gen Cert.Reference5Ideal.Read Cert.RealLift

variable (A B C E W X D P G : ℕ → ℕ → ℝ) (N : ℕ → ℝ)

theorem v6 : val_main_v6 (F := Ideal) (mat 16384 1024 X) = mat 16384 1 fun i _ => msq 1024 1024 (X i) := by
  funext j
  simp only [val_main_v6_apply, val_main_v4_apply, val_main_v5_apply, val_main_v3_apply, val_main_v2_apply, val_main_v1_apply, val_main_v0_apply,
    val_main_cst_apply, val_main_cst_0_apply, val_main_cst_1_apply, Ideal.addf_def, Ideal.mulf_def, Ideal.hostDivf_def, Ideal.ofBits_def,
    lit_zero, lit_1024, lit_eps, ← EReal.coe_mul, coe_sum, ← EReal.coe_add, zero_add]
  rw [div_real (by norm_num), ← EReal.coe_add]
  rfl

theorem v7 : val_main_v7 (F := Ideal) (mat 16384 1024 X) = mat 16384 1 fun i _ => rn 1024 1024 (X i) := by
  funext j
  simp only [val_main_v7_apply, v6, Ideal.hostUnary_rsqrt_def]
  exact rsqrt_real (msq_pos 1024 (by norm_num) _)

theorem v10 : val_main_v10 (F := Ideal) (mat 16384 1024 X) = mat 16384 1 fun i _ => -(1 / 2) * (rn 1024 1024 (X i) / msq 1024 1024 (X i)) := by
  funext j
  simp only [val_main_v10_apply, val_main_v9_apply, val_main_v8_apply, val_main_cst_2_apply, v7, v6, Ideal.hostDivf_def, Ideal.mulf_def, Ideal.ofBits_def, lit_neg_half]
  rw [div_real (msq_pos 1024 (by norm_num) _).ne', ← EReal.coe_mul]

theorem v12 : val_main_v12 (F := Ideal) (mat 16384 1024 X) = mat 16384 1024 fun i j => X i j * rn 1024 1024 (X i) := by
  funext j
  simp only [val_main_v12_apply, val_main_v11_apply, v7, Ideal.mulf_def, ← EReal.coe_mul]

/-- The four parts of the cotangent laid end to end. -/
theorem v17 : val_main_v17 (F := Ideal) (mat 16384 2048 A) (mat 16384 3072 B) (mat 16384 32 C) (mat 16384 32 E) =
    mat 16384 5184 fun i k => if k < 2048 then A i k else if k - 2048 < 3072 then B i (k - 2048) else
      if k - 2048 - 3072 < 32 then C i (k - 2048 - 3072) else E i (k - 2048 - 3072 - 32) := by
  funext j
  pointwise [val_main_v17]
  show _ = ((if (j 1).val < 2048 then A (j 0).val (j 1).val else if (j 1).val - 2048 < 3072 then B (j 0).val ((j 1).val - 2048) else
    if (j 1).val - 2048 - 3072 < 32 then C (j 0).val ((j 1).val - 2048 - 3072) else E (j 0).val ((j 1).val - 2048 - 3072 - 32) : ℝ) : EReal)
  split <;> [rfl; (split <;> [rfl; (split <;> rfl)])]

/-- The product with the projection's weights, over the four parts of the concatenated cotangent. -/
theorem v18 : val_main_v18 (F := Ideal) (mat 16384 2048 A) (mat 16384 3072 B) (mat 16384 32 C) (mat 16384 32 E) (mat 1024 5184 W) =
    mat 16384 1024 fun i j => (∑ k : Fin 2048, A i k * W j k) + ((∑ k : Fin 3072, B i k * W j (2048 + k)) +
      ((∑ k : Fin 32, C i k * W j (2048 + (3072 + k))) + ∑ k : Fin 32, E i k * W j (2048 + (3072 + (32 + k))))) := by
  funext j
  simp only [val_main_v18_apply, v17, ← EReal.coe_mul, coe_sum]
  refine congrArg (fun r : ℝ => (r : EReal)) ?_
  refine (sum_cat 5184 2048 3136 rfl (A (j 0).val) (fun k => if k < 3072 then B (j 0).val k else if k - 3072 < 32 then C (j 0).val (k - 3072) else E (j 0).val (k - 3072 - 32))
    (W (j 1).val)).trans ?_
  refine congrArg (_ + ·) ?_
  refine (sum_cat 3136 3072 64 rfl (B (j 0).val) (fun k => if k < 32 then C (j 0).val k else E (j 0).val (k - 32)) fun k => W (j 1).val (2048 + k)).trans ?_
  refine congrArg (_ + ·) ?_
  exact sum_cat 64 32 32 rfl (C (j 0).val) (E (j 0).val) fun k => W (j 1).val (2048 + (3072 + k))

theorem v23 (h : val_main_v18 (F := Ideal) (mat 16384 2048 A) (mat 16384 3072 B) (mat 16384 32 C) (mat 16384 32 E) (mat 1024 5184 W) = mat 16384 1024 P) :
    val_main_v23 (F := Ideal) (mat 16384 2048 A) (mat 16384 3072 B) (mat 16384 32 C) (mat 16384 32 E) (mat 1024 5184 W) (row 1024 N) = mat 16384 1024 fun i j => P i j * N j := by
  funext j
  simp only [val_main_v23_apply, val_main_v22_apply, val_main_v13_apply, h, Ideal.mulf_def, ← EReal.coe_mul]

theorem v35 (h : val_main_v23 (F := Ideal) (mat 16384 2048 A) (mat 16384 3072 B) (mat 16384 32 C) (mat 16384 32 E) (mat 1024 5184 W) (row 1024 N) = mat 16384 1024 G) :
    val_main_v35 (F := Ideal) (mat 16384 2048 A) (mat 16384 3072 B) (mat 16384 32 C) (mat 16384 32 E) (mat 1024 5184 W) (mat 16384 1024 X) (row 1024 N) = mat 16384 1024 fun i j =>
      (∑ k : Fin 1024, X i k * G i k) * (-(1 / 2) * (rn 1024 1024 (X i) / msq 1024 1024 (X i))) / 1024 := by
  funext j
  simp only [val_main_v35_apply, val_main_v34_apply, val_main_v33_apply, val_main_v32_apply, val_main_v31_apply, val_main_v27_apply, val_main_v26_apply, val_main_v25_apply,
    val_main_cst_5_apply, val_main_cst_6_apply, val_main_cst_7_apply, v10, h, Ideal.mulf_def, Ideal.hostDivf_def, Ideal.ofBits_def, lit_zero, lit_1024, ← EReal.coe_mul, coe_sum,
    ← EReal.coe_add, zero_add, Fin.sum_univ_one]
  rw [div_real (by norm_num), ← EReal.coe_add, zero_add]
  simp only [Nat.mul_one, Fin.val_zero, Nat.add_zero]

theorem v39 (K : ℕ → ℕ → ℝ) (h : val_main_v23 (F := Ideal) (mat 16384 2048 A) (mat 16384 3072 B) (mat 16384 32 C) (mat 16384 32 E) (mat 1024 5184 W) (row 1024 N) = mat 16384 1024 G)
    (h' : val_main_v35 (F := Ideal) (mat 16384 2048 A) (mat 16384 3072 B) (mat 16384 32 C) (mat 16384 32 E) (mat 1024 5184 W) (mat 16384 1024 X) (row 1024 N) = mat 16384 1024 K) :
    val_main_v39 (F := Ideal) (mat 16384 2048 A) (mat 16384 3072 B) (mat 16384 32 C) (mat 16384 32 E) (mat 1024 5184 W) (mat 16384 1024 X) (row 1024 N) (mat 16384 1024 D) = mat 16384 1024 fun i j =>
      D i j + G i j * rn 1024 1024 (X i) + X i j * K i j + K i j * X i j := by
  funext j
  simp only [val_main_v39_apply, val_main_v38_apply, val_main_v37_apply, val_main_v36_apply, val_main_v30_apply, val_main_v29_apply, val_main_v28_apply, v7, h, h', Ideal.mulf_def, Ideal.addf_def,
    ← EReal.coe_mul, ← EReal.coe_add]

theorem v54 (h : val_main_v18 (F := Ideal) (mat 16384 2048 A) (mat 16384 3072 B) (mat 16384 32 C) (mat 16384 32 E) (mat 1024 5184 W) = mat 16384 1024 P) :
    val_main_v54 (F := Ideal) (mat 16384 2048 A) (mat 16384 3072 B) (mat 16384 32 C) (mat 16384 32 E) (mat 1024 5184 W) (mat 16384 1024 X) = mat 1 1024 fun _ j =>
      ∑ i ∈ Finset.range 16384, X i j * rn 1024 1024 (X i) * P i j := by
  funext j
  simp only [val_main_v54_apply, val_main_v24_apply, val_main_v21_apply, val_main_v20_apply, val_main_v19_apply,
    val_main_cst_3_apply, val_main_cst_4_apply, v12, h, Ideal.mulf_def, Ideal.ofBits_def, lit_zero, ← EReal.coe_mul, coe_sum,
    ← EReal.coe_add, zero_add, Fin.sum_univ_one, Finset.sum_range, Fin.val_zero, Nat.zero_mul]

theorem v53 : val_main_v53 (F := Ideal) (mat 16384 1024 X) (row 1024 N) = mat 16384 1024 fun i j => X i j * rn 1024 1024 (X i) * N j := by
  funext j
  have hd : ∀ x : ℝ, Ideal.div (x : EReal) ((1024 : ℝ) : EReal) = ((x / 1024 : ℝ) : EReal) := fun x => div_real (by norm_num)
  have hr : ∀ x : ℕ → ℝ, Ideal.rsqrt (((∑ k : Fin 1024, x k * x k) / 1024 + eps : ℝ) : EReal) = ((rn 1024 1024 x : ℝ) : EReal) := fun x => rsqrt_real (msq_pos 1024 (by norm_num) x)
  simp only [val_main_v53_apply, val_main_v52_apply, val_main_v51_apply, val_main_v50_apply, val_main_v49_apply, val_main_v48_apply, val_main_v47_apply, val_main_v46_apply,
    val_main_v45_apply, val_main_v44_apply, val_main_v43_apply, val_main_v42_apply, val_main_v41_apply, val_main_v40_apply, val_main_cst_8_apply, val_main_cst_9_apply, val_main_cst_10_apply,
    Ideal.addf_def, Ideal.mulf_def, Ideal.hostDivf_def, Ideal.hostUnary_rsqrt_def, Ideal.ofBits_def, lit_zero, lit_1024, lit_eps, ← EReal.coe_mul, coe_sum, ← EReal.coe_add, zero_add, hd, hr]
  rfl

end Cert.Reference5Ideal.V
-- ==== Proof.In5.lean ====
module

public import proofs.«01_k».proof.Defs
public import proofs.«01_k».proof.Proof.In5K
public import proofs.«01_k».proof.Proof.In5R
public import proofs.«01_k».proof.Proof.Gen.Pre_sin_finite
public import proofs.«01_k».proof.Proof.Gen.Kernel5.Frame

/-! The state-space mixer's input-side backward call: the kernel's and the reference's three results are the same real arrays. -/

@[expose] public section

set_option maxRecDepth 16384

noncomputable section

open Idealize.ShloMosaic Idealize.ShloMosaic.TcCoe Idealize.SL.Sem

namespace Cert.In5
open Cert.RealLift Cert.Kernel5Ideal.V Cert.Reference5Ideal.V

/-- Six products over the padded columns are the four parts' products. -/
theorem ph_eq (A B C E W : ℕ → ℕ → ℝ) (i j : ℕ) :
    ph A B C E W i j = (∑ k : Fin 2048, A i k * W j k) + ((∑ k : Fin 3072, B i k * W j (2048 + k)) +
      ((∑ k : Fin 32, C i k * W j (2048 + (3072 + k))) + ∑ k : Fin 32, E i k * W j (2048 + (3072 + (32 + k))))) := by
  have hw : ∀ (n o : ℕ) (f : ℕ → ℝ), o + n ≤ 5184 → (∑ k : Fin n, f k * wt W (o + k) j) = ∑ k : Fin n, f k * W j (o + k) :=
    fun n o f h => Finset.sum_congr rfl fun k _ => by rw [wt, if_pos (by omega)]
  have hs : (∑ k : Fin 128, step C E i k * wt W (5120 + k) j) = (∑ k : Fin 32, C i k * W j (5120 + k)) + ∑ k : Fin 32, E i k * W j (5120 + (32 + k)) := by
    have e := sum_cat 128 32 96 rfl (C i) (fun k => if k < 32 then E i k else 0) fun k => wt W (5120 + k) j
    refine e.trans (congrArg₂ (· + ·) (hw 32 5120 (C i) (by norm_num)) ?_)
    refine (sum_cat 96 32 64 rfl (E i) (fun _ => 0) fun k => wt W (5120 + (32 + k)) j).trans ?_
    simp only [zero_mul, Finset.sum_const_zero, add_zero]
    exact Finset.sum_congr rfl fun k _ => by rw [wt, if_pos (by omega)]
  have h0 : (∑ k : Fin 1024, A i k * wt W k j) = ∑ k : Fin 1024, A i k * W j k := by simpa using hw 1024 0 (A i) (by norm_num)
  rw [ph, h0, hs, hw 1024 1024 (fun k => A i (1024 + k)) (by norm_num), hw 1024 2048 (B i) (by norm_num), hw 1024 3072 (fun k => B i (1024 + k)) (by norm_num),
    hw 1024 4096 (fun k => B i (2048 + k)) (by norm_num), sum_two 2048 1024 1024 rfl fun k => A i k * W j k, sum_two 3072 1024 2048 rfl fun k => B i k * W j (2048 + k),
    sum_two 2048 1024 1024 rfl fun k => B i (1024 + k) * W j (2048 + (1024 + k))]
  simp only [← Nat.add_assoc, Nat.reduceAdd, add_assoc]

/-- Finite arguments are real arrays. -/
theorem real_args (a0 : Shape.Idx ⟨2, ![16384, 2048]⟩ → EReal) (a1 : Shape.Idx ⟨2, ![16384, 3072]⟩ → EReal) (a2 a3 : Shape.Idx ⟨2, ![16384, 32]⟩ → EReal)
    (a4 : Shape.Idx ⟨2, ![1024, 5184]⟩ → EReal) (a5 a7 : Shape.Idx ⟨2, ![16384, 1024]⟩ → EReal) (a6 : Shape.Idx ⟨1, ![1024]⟩ → EReal)
    (h : Cert.Pre_sin_finite.fn (F := Ideal) a0 a1 a2 a3 a4 a5 a6 a7 = fun _ => 1#1) :
    ∃ A B C E W X N D : ℕ → ℕ → ℝ, a0 = mat 16384 2048 A ∧ a1 = mat 16384 3072 B ∧ a2 = mat 16384 32 C ∧ a3 = mat 16384 32 E ∧ a4 = mat 1024 5184 W
      ∧ a5 = mat 16384 1024 X ∧ a6 = row 1024 (N 0) ∧ a7 = mat 16384 1024 D := by
  obtain ⟨e, e7⟩ := IntOp.andi_eq_one.1 (congrFun h ix0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton (Shape.Idx Cert.Pre_sin_finite.S_) := ⟨fun a b => funext fun i => i.elim0⟩
  obtain ⟨A, h0⟩ := real_mat e0 fun _ => lit_top
  obtain ⟨B, h1⟩ := real_mat e1 fun _ => lit_top
  obtain ⟨C, h2⟩ := real_mat e2 fun _ => lit_top
  obtain ⟨E, h3⟩ := real_mat e3 fun _ => lit_top
  obtain ⟨W, h4⟩ := real_mat e4 fun _ => lit_top
  obtain ⟨X, h5⟩ := real_mat e5 fun _ => lit_top
  obtain ⟨N, h6⟩ := real_row e6 fun _ => lit_top
  obtain ⟨D, h7⟩ := real_mat e7 fun _ => lit_top
  exact ⟨A, B, C, E, W, X, fun _ => N, D, h0, h1, h2, h3, h4, h5, h6, h7⟩

/-- The reference runs, keeps its arguments and leaves no semaphore raised. -/
theorem frame_ref : Cert.quiescent_Reference5Ideal (hReference5Ideal := Cert.Reference5Ideal.Gen.facts) :=
  fun m g _ => (θ_run Cert.Reference5Ideal.defs _ _).mono (fun r h => ⟨fun c => (h c).2.2.2, sem_eq_zero_of_no_sems (by decide) r.2⟩)
    (Cert.Reference5Ideal.Value.run (F := Ideal) m g)

/-- The kernel and the vector-Jacobian product of the norm and projection leave the same three arrays. -/
theorem algebraic : Cert.algebraic_Kernel5Ideal_Reference5Ideal_pre_sin_finite (hKernel5Ideal := Cert.Kernel5Ideal.Gen.facts)
    (hReference5Ideal := Cert.Reference5Ideal.Gen.facts) (hPre_sin_finite := Cert.Pre_sin_finite.Gen.facts) := by
  intro m g m' g' hpre hargs
  refine ⟨fun c => Cert.Kernel5Ideal.Value.G7 m c, fun c => Cert.Kernel5Ideal.Value.G8 m c, fun c => Cert.Kernel5Ideal.Value.G9 m c,
    Cert.Kernel5Ideal.Value.run m g, ?_⟩
  refine (θ_run _ _ _).mono (fun r h c => ?_) (Cert.Reference5Ideal.Value.run m' g')
  obtain ⟨r0, r1, r2, ra⟩ := h c
  obtain ⟨a0, a1, a2, a3, a4, a5, a6, a7⟩ := hargs c
  obtain ⟨A, B, C, E, W, X, N, D, h0, h1, h2, h3, h4, h5, h6, h7⟩ := real_args _ _ _ _ _ _ _ _ (hpre c)
  have H : Args A B C E W X N D m c := ⟨h0, h1, h2, h3, h4, h5, h6, h7⟩
  have P := v18 A B C E W
  simp only [← ph_eq] at P
  have G := v23 A B C E W _ (N 0) P
  refine ⟨r0.trans ?_, r1.trans ?_, r2.trans ?_, ra⟩
  · rw [Cert.Reference5Ideal.Read.val_main_v39_eq, a0, a1, a2, a3, a4, a5, a6, a7, h0, h1, h2, h3, h4, h5, h6, h7,
      v39 A B C E W X D _ (N 0) _ G (v35 A B C E W X _ (N 0) G)]
    refine Eq.trans ?_ ((Cert.Kernel5Ideal.Value.final7 m c).symm.trans (fin7 H)).symm
    funext i
    refine congrArg (fun r : ℝ => (r : EReal)) ?_
    beta_reduce
    rw [normGrad_eq (d := 1024) 1024 (by norm_num)]
    ring
  · rw [Cert.Reference5Ideal.Read.val_main_v53_eq, a5, a6, h5, h6, v53 X (N 0)]
    exact ((Cert.Kernel5Ideal.Value.final8 m c).symm.trans (fin8 H)).symm
  · rw [Cert.Reference5Ideal.Read.val_main_v54_eq, a0, a1, a2, a3, a4, a5, h0, h1, h2, h3, h4, h5, v54 A B C E W X _ P]
    refine Eq.trans ?_ ((Cert.Kernel5Ideal.Value.final9 m c).symm.trans (fin9 H)).symm
    funext i
    exact congrArg (fun r : ℝ => (r : EReal)) (Finset.sum_congr rfl fun k _ => mul_comm _ _)

end Cert.In5
-- ==== Proof.SoutK.lean ====
module

public import proofs.«01_k».proof.Proof.Gen.Kernel2Ideal.Value
public import Idealize.ShloMosaic.Lib.Pipeline.ReadBack
public import proofs.«01_k».proof.Proof.RealLift

/-! The five results of the SSD layer's output-side backward kernel on real arguments. -/

@[expose] public section

set_option maxRecDepth 16384

noncomputable section

open Idealize.ShloMosaic Idealize.ShloMosaic.TcCoe Idealize.SL.Sem
open Idealize.ShloMosaic.Pipeline (Dat)

namespace Cert.Kernel2Ideal.V
open Cert.Kernel2Ideal Cert.Kernel2Ideal.Gen Cert.RealLift

section pay
variable (F B X K Z G W N S T : ℕ → ℕ → ℝ)

theorem p6 : k0_pay6 (F := Ideal) (mat 256 2048 Z) = mat 256 2048 Z := by
  funext j
  pointwise [k0_pay6]

theorem p7 : k0_pay7 (F := Ideal) (mat 256 2048 X) = mat 256 2048 fun i j => sl (X i j) := by
  funext j
  pointwise [k0_pay7]
  simp only [mat, zero_sub, sg_real, ← EReal.coe_mul]
  rfl

theorem p9 : k0_pay9 (F := Ideal) (mat 256 2048 Z) = mat 256 2048 fun i j => sl (Z i j) := by
  funext j
  pointwise [k0_pay9]
  rw [p6]
  simp only [mat, zero_sub, sg_real, ← EReal.coe_mul]
  rfl

theorem p8 : k0_pay8 (F := Ideal) (mat 256 2048 F) (mat 256 2048 B) (mat 256 2048 X) (mat 1 2048 K) = mat 256 2048 (sy F B X K) := by
  funext j
  pointwise [k0_pay8]
  rw [p7]
  simp only [← EReal.coe_add, ← EReal.coe_mul]
  rfl

theorem p10 : k0_pay10 (F := Ideal) (mat 256 2048 Z) (mat 256 2048 F) (mat 256 2048 B) (mat 256 2048 X) (mat 1 2048 K) = mat 256 2048 (gt F B X K Z) := by
  funext j
  pointwise [k0_pay10]
  rw [p8, p9, ← EReal.coe_mul]
  rfl

/-- The row sums of squares. -/
def ss (T : ℕ → ℕ → ℝ) (i _j : ℕ) : ℝ := ∑ k : Fin 2048, T i k * T i k

theorem p11 : k0_pay11 (F := Ideal) (mat 256 2048 Z) (mat 256 2048 F) (mat 256 2048 B) (mat 256 2048 X) (mat 1 2048 K) = mat 256 1 (ss (gt F B X K Z)) := by
  funext j
  pointwise [k0_pay11]
  rw [p10]
  simp only [← EReal.coe_mul, coe_sum]
  rfl

theorem p13 : k0_pay13 (F := Ideal) (mat 256 1 (ss T)) k0_pay12 = mat 256 1 fun i _ => rn 2048 2048 (T i) := by
  funext j
  pointwise [k0_pay13, k0_pay12]
  simp only [lit_eps, lit_2048]
  rw [div_real (by norm_num), ← EReal.coe_add]
  exact rsqrt_real (msq_pos 2048 (by norm_num) _)

theorem p14 : k0_pay14 (F := Ideal) (mat 256 2048 T) (mat 256 1 (ss T)) k0_pay12 = mat 256 2048 fun i j => T i j * rn 2048 2048 (T i) := by
  funext j
  pointwise [k0_pay14]
  rw [p13, ← EReal.coe_mul]
  rfl

theorem p16 : k0_pay16 (F := Ideal) (mat 256 2048 T) (mat 256 1 (ss T)) k0_pay12 (mat 256 1024 G) (mat 2048 1024 S) (mat 1 2048 N)
    = mat 2048 1024 fun j k => S j k + ∑ i ∈ Finset.range 256, T i j * rn 2048 2048 (T i) * N 0 j * G i k := by
  funext j
  pointwise [k0_pay16, k0_pay15]
  rw [p14]
  simp only [← EReal.coe_mul, coe_sum, ← EReal.coe_add, Finset.sum_range]
  rfl

theorem p17 : k0_pay17 (F := Ideal) (mat 256 1024 G) (mat 2048 1024 W) = mat 256 2048 (dyn G W) := by
  funext j
  pointwise [k0_pay17, k0_pay15]
  simp only [← EReal.coe_mul, coe_sum]
  rfl

theorem p18 : k0_pay18 (F := Ideal) (mat 256 2048 T) (mat 256 1 (ss T)) k0_pay12 (mat 256 1024 G) (mat 2048 1024 W)
    = mat 256 2048 fun i j => dyn G W i j * (T i j * rn 2048 2048 (T i)) := by
  funext j
  pointwise [k0_pay18]
  rw [p14, p17, ← EReal.coe_mul]

/-- The eight partial sums of a block's rows: lane `i` takes the rows `8 k + i`. -/
theorem p20 {v1 v2 : FVec Ideal S256x1 .f32} {v0 : FVec Ideal S256x2048 .f32} {v3 : FVec Ideal S256x1024 .f32} {v4 : FVec Ideal S2048x1024 .bf16} {s : FVec Ideal S8x2048 .f32}
    (hs : s = mat 8 2048 S) (h : k0_pay18 (F := Ideal) v0 v1 v2 v3 v4 = mat 256 2048 T) :
    k0_pay20 (F := Ideal) s (k0_pay18 v0 v1 v2 v3 v4) (k0_pay19 v0 v1 v2 v3 v4) = mat 8 2048 fun i j => S i j + ∑ k ∈ Finset.range 32, T (8 * k + i) j := by
  funext j
  pointwise [k0_pay20, k0_pay19]
  rw [h, hs]
  simp only [← EReal.coe_add]
  norm_num only [Finset.sum_range_succ, Finset.sum_range_zero, zero_add, Nat.mul_zero]
  rfl

theorem p21 : k0_pay21 (F := Ideal) (mat 256 2048 T) (mat 1 2048 N) = mat 256 2048 fun i j => T i j * N 0 j := by
  funext j
  pointwise [k0_pay21]
  rw [← EReal.coe_mul]
  rfl

theorem p22 : k0_pay22 (F := Ideal) (mat 256 2048 S) (mat 256 2048 T) (mat 1 2048 N) = mat 256 1 fun i _ => ∑ k : Fin 2048, T i k * N 0 k * S i k := by
  funext j
  pointwise [k0_pay22]
  rw [p21]
  simp only [← EReal.coe_mul, coe_sum]
  rfl

/-- The gradient of the gated output, from the row's reciprocal root, the normalised row and the gradient at it. -/
theorem p23 : k0_pay23 (F := Ideal) (mat 256 1 fun i _ => rn 2048 2048 (T i)) (mat 256 2048 fun i j => T i j * rn 2048 2048 (T i)) (mat 256 2048 fun i j => S i j * N 0 j)
      (mat 256 1 fun i _ => ∑ k : Fin 2048, S i k * N 0 k * (T i k * rn 2048 2048 (T i))) (FloatOps.ofBits FTy.f32 1157627904#32)
    = mat 256 2048 fun i j => normGrad 2048 2048 (T i) (fun k => S i k * N 0 k) j := by
  funext j
  pointwise [k0_pay23]
  simp only [lit_2048]
  rw [div_real (by norm_num)]
  simp only [← EReal.coe_mul, ← EReal.coe_sub]
  rfl

variable {r : FVec Ideal S256x1 .f32} {n d : FVec Ideal S256x2048 .f32} {q : FVec Ideal S256x1 .f32} {k : Ideal .f32}

theorem p24 (h : k0_pay23 (F := Ideal) r n d q k = mat 256 2048 T) : k0_pay24 (F := Ideal) (mat 256 2048 S) r n d q k = mat 256 2048 fun i j => T i j * S i j := by
  funext j
  pointwise [k0_pay24]
  rw [h, ← EReal.coe_mul]

theorem p25 (h : k0_pay23 (F := Ideal) r n d q k = mat 256 2048 T) : k0_pay25 (F := Ideal) (mat 256 2048 S) r n d q k = mat 256 2048 fun i j => T i j * S i j := by
  funext j
  pointwise [k0_pay25]
  rw [p24 _ _ h]

theorem p26 (h : k0_pay23 (F := Ideal) r n d q k = mat 256 2048 T) :
    k0_pay26 (F := Ideal) (mat 256 2048 Z) (mat 256 2048 S) r n d q k = mat 256 2048 fun i j => T i j * S i j * gz (Z i j) := by
  funext j
  pointwise [k0_pay26]
  rw [h]
  simp only [mat, zero_sub, sg_real]
  simp only [← EReal.coe_one, ← EReal.coe_sub, ← EReal.coe_mul, ← EReal.coe_add]
  rfl

theorem p27 (h : k0_pay23 (F := Ideal) r n d q k = mat 256 2048 T) :
    k0_pay27 (F := Ideal) (mat 256 2048 X) (mat 256 2048 S) r n d q k = mat 256 2048 fun i j => T i j * S i j * X i j := by
  funext j
  pointwise [k0_pay27]
  rw [p24 _ _ h, ← EReal.coe_mul]

theorem p30 {x z : FVec Ideal S256x2048 .f32} {s : FVec Ideal S8x2048 .f32} (hs : s = mat 8 2048 S) (h : k0_pay27 (F := Ideal) x z r n d q k = mat 256 2048 T) :
    k0_pay30 (F := Ideal) s (k0_pay27 x z r n d q k) (k0_pay28 x z r n d q k) (k0_pay29 x z r n d q k)
      = mat 8 2048 fun i j => S i j + ∑ k ∈ Finset.range 32, T (8 * k + i) j := by
  funext j
  pointwise [k0_pay30, k0_pay28, k0_pay29]
  rw [h, hs]
  simp only [← EReal.coe_add]
  norm_num only [Finset.sum_range_succ, Finset.sum_range_zero, zero_add, Nat.mul_zero]
  rfl

theorem p1 : k0_pay1 (F := Ideal) (mat 8 2048 T) = mat 1 2048 fun _ j => ∑ i : Fin 8, T i j := by
  funext j
  pointwise [k0_pay1]
  simp only [coe_sum]
  rfl

theorem p2 : k0_pay2 (F := Ideal) (mat 8 2048 T) = mat 1 2048 fun _ j => ∑ i : Fin 8, T i j := by
  funext j
  pointwise [k0_pay2]
  simp only [coe_sum]
  rfl

theorem p3 : k0_pay3 (F := Ideal) = mat 8 2048 fun _ _ => 0 := by
  funext j
  pointwise [k0_pay3]
  simp

theorem p4 : k0_pay4 (F := Ideal) = mat 8 2048 fun _ _ => 0 := by
  funext j
  pointwise [k0_pay4]
  simp

theorem p5 : k0_pay5 (F := Ideal) = mat 2048 1024 fun _ _ => 0 := by
  funext j
  pointwise [k0_pay5]
  simp

end pay

/-- The windows' blocks at a point, by number. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![0, 0] ∧ win0_6.index t = ![0, 0] ∧
    win0_7.index t = ![0, 0] ∧ win0_8.index t = ![0, 0] ∧ win0_9.index t = ![t.val, 0] ∧ win0_10.index t = ![t.val, 0] ∧
    win0_11.index t = ![0, 0] ∧ win0_12.index t = ![0, 0] :=
  (by decide +kernel : ∀ t : Fin grid0.N, _)

variable (G F B X Z D N W : ℕ → ℕ → ℝ) (m : (ℓ : Loc nD τ sig) → Buf (Elt Ideal) ℓ) (c : Dev nD)

/-- The eight arguments are real arrays. -/
structure Args : Prop where
  h0 : m ((c.tc : Thread nD τ).loc main_arg0) = mat 16384 1024 G
  h1 : m ((c.tc : Thread nD τ).loc main_arg1) = mat 16384 2048 F
  h2 : m ((c.tc : Thread nD τ).loc main_arg2) = mat 16384 2048 B
  h3 : m ((c.tc : Thread nD τ).loc main_arg3) = mat 16384 3072 X
  h4 : m ((c.tc : Thread nD τ).loc main_arg4) = mat 16384 5184 Z
  h5 : m ((c.tc : Thread nD τ).loc main_arg5) = row 32 (D 0)
  h6 : m ((c.tc : Thread nD τ).loc main_arg6) = row 2048 (N 0)
  h7 : m ((c.tc : Thread nD τ).loc main_arg7) = mat 2048 1024 W

/-- The projection padded to 5248 columns. -/
def zp (Z : ℕ → ℕ → ℝ) (i j : ℕ) : ℝ := if j < 5184 then Z i j else 0

theorem row4 (t : Fin cfg0.N) (y : ((cfg0.win 4).xblock (cfg0.grid.coords t)).Idx) : 256 * t.val + (y 0).val < 16384 := by
  have ht : t.val < 64 := lt_of_lt_of_eq t.isLt N_0
  have hy : (y 0).val < 256 := lt_of_lt_of_eq (y 0).isLt (xsize0_4 t 0)
  omega

theorem col4 (t : Fin cfg0.N) (y : ((cfg0.win 4).xblock (cfg0.grid.coords t)).Idx) : (y 1).val < 5248 :=
  lt_trans (lt_of_lt_of_eq (y 1).isLt (xsize0_4 t 1)) (by decide)

theorem emb4 (t : Fin cfg0.N) (y : ((cfg0.win 4).xblock (cfg0.grid.coords t)).Idx) :
    ((cfg0.win 4).blk t).view.emb y = ix2 ⟨256 * t.val + (y 0).val, row4 t y⟩ ⟨(y 1).val, col4 t y⟩ := by
  have e4 := (idx t).2.2.2.2.1
  funext a
  apply Fin.ext
  refine Fin.cases ?_ (fun a => ?_) a
  · show (((cfg0.win 4).blk t).view.emb y 0).val = 256 * t.val + (y 0).val
    blk_simp [e4]
    rw [Nat.mul_comm]
  · obtain rfl : a = 0 := Subsingleton.elim _ _
    refine (Pipeline.Window.rect_emb_val win0_4 t y 1 rfl).trans ?_
    rw [e4]
    exact (congrArg (· + (y 1).val) (Nat.zero_mul 2048)).trans (Nat.zero_add _)

variable {G F B X Z D N W m c} (H : Args G F B X Z D N W m c)
include H

theorem blk0 (t : Fin cfg0.N) : iblk m c 0 t = mat 256 1024 fun i => G (256 * t.val + i) := by
  funext y
  have ht : t.val < 64 := lt_of_lt_of_eq t.isLt N_0
  have hy : (y 0).val < 256 := (y 0).isLt
  obtain ⟨e0, e1, e2, e3, e4, e5, e6, e7, e8, e9, e10, e11, e12⟩ := idx t
  have e : iblk m c 0 t y = m ((c.tc : Thread nD τ).loc main_arg0) (ix2 ⟨256 * t.val + (y 0).val, by omega⟩ (y 1)) := by
    blk_point [iblk, V, e0]
  rw [e, H.h0]
  rfl

theorem blk1 (t : Fin cfg0.N) : iblk m c 1 t = mat 256 2048 fun i => F (256 * t.val + i) := by
  funext y
  have ht : t.val < 64 := lt_of_lt_of_eq t.isLt N_0
  have hy : (y 0).val < 256 := (y 0).isLt
  obtain ⟨e0, e1, e2, e3, e4, e5, e6, e7, e8, e9, e10, e11, e12⟩ := idx t
  have e : iblk m c 1 t y = m ((c.tc : Thread nD τ).loc main_arg1) (ix2 ⟨256 * t.val + (y 0).val, by omega⟩ (y 1)) := by
    blk_point [iblk, V, e1]
  rw [e, H.h1]
  rfl

theorem blk2 (t : Fin cfg0.N) : iblk m c 2 t = mat 256 2048 fun i => B (256 * t.val + i) := by
  funext y
  have ht : t.val < 64 := lt_of_lt_of_eq t.isLt N_0
  have hy : (y 0).val < 256 := (y 0).isLt
  obtain ⟨e0, e1, e2, e3, e4, e5, e6, e7, e8, e9, e10, e11, e12⟩ := idx t
  have e : iblk m c 2 t y = m ((c.tc : Thread nD τ).loc main_arg2) (ix2 ⟨256 * t.val + (y 0).val, by omega⟩ (y 1)) := by
    blk_point [iblk, V, e2]
  rw [e, H.h2]
  rfl

theorem host4 : V m c main_v2 = mat 16384 5248 (zp Z) := by
  have e : V m c main_v2 = truncf .bf16 (concatenate S16384x5248 1 [⟨S16384x5184, m ((c.tc : Thread nD τ).loc main_arg4)⟩,
      ⟨S16384x64, broadcastInDim S16384x64 ![] bcast_S_S16384x64 (constant (F := Ideal) S_ .f32 0x00000000#32)⟩]
      concatenates_S16384x5184_S16384x64_S16384x5248_d1) bitsLt_bf16_f32 := by
    after_results_simp
    rfl
  rw [e, H.h4]
  funext j
  pointwise []
  show _ = ((if (j 1).val < 5184 then Z (j 0).val (j 1).val else 0 : ℝ) : EReal)
  split <;> [rfl; exact EReal.coe_zero.symm]

theorem at3 (t : Fin cfg0.N) (y : ((cfg0.win 3).xblock (cfg0.grid.coords t)).Idx) : iblk m c 3 t y = ((X (256 * t.val + (y 0).val) (y 1).val : ℝ) : EReal) := by
  have ht : t.val < 64 := lt_of_lt_of_eq t.isLt N_0
  have hy : (y 0).val < 256 := lt_of_lt_of_eq (y 0).isLt (xsize0_3 t 0)
  have hy1 : (y 1).val < 2048 := lt_of_lt_of_eq (y 1).isLt (xsize0_3 t 1)
  obtain ⟨e0, e1, e2, e3, e4, e5, e6, e7, e8, e9, e10, e11, e12⟩ := idx t
  have e : iblk m c 3 t y = m ((c.tc : Thread nD τ).loc main_arg3) (ix2 ⟨256 * t.val + (y 0).val, by omega⟩ ⟨(y 1).val, by omega⟩) := by
    blk_point [iblk, V, e3]
  rw [e, H.h3]
  rfl

theorem at4 (t : Fin cfg0.N) (y : ((cfg0.win 4).xblock (cfg0.grid.coords t)).Idx) : iblk m c 4 t y = ((zp Z (256 * t.val + (y 0).val) (y 1).val : ℝ) : EReal) := by
  have hA : iblk m c 4 t y = V m c main_v2 (((cfg0.win 4).blk t).view.emb y) := rfl
  rw [hA, host4 H, emb4]
  rfl

theorem blk3 (t : Fin cfg0.N) : X0_3 m c t = mat 256 2048 fun i => X (256 * t.val + i) := by
  funext y
  have hy1 : (y 1).val < 2048 := (y 1).isLt
  unfold X0_3 Pipeline.Window.fill
  rw [dif_pos (moved0_3 t y), at3 H]

theorem blk4 (t : Fin cfg0.N) : X0_4 m c t = mat 256 2048 fun i => Z (256 * t.val + i) := by
  funext y
  have hy1 : (y 1).val < 2048 := (y 1).isLt
  unfold X0_4 Pipeline.Window.fill
  rw [dif_pos (moved0_4 t y), at4 H]
  show ((if (y 1).val < 5184 then Z (256 * t.val + (y 0).val) (y 1).val else 0 : ℝ) : EReal) = _
  rw [if_pos (by omega)]

theorem blk5 (t : Fin cfg0.N) : iblk m c 5 t = mat 1 2048 (sk D) := by
  funext y
  have hy1 : (y 1).val < 2048 := (y 1).isLt
  obtain ⟨e0, e1, e2, e3, e4, e5, e6, e7, e8, e9, e10, e11, e12⟩ := idx t
  have e : iblk m c 5 t y = m ((c.tc : Thread nD τ).loc main_arg5) (ix1 ⟨(y 1).val / 64, by omega⟩) := by
    blk_point [iblk, V, e5]
  rw [e, H.h5]
  rfl

theorem blk6 (t : Fin cfg0.N) : iblk m c 6 t = mat 1 2048 N := by
  funext y
  obtain ⟨e0, e1, e2, e3, e4, e5, e6, e7, e8, e9, e10, e11, e12⟩ := idx t
  have hy : (y 0).val = 0 := Nat.lt_one_iff.1 (y 0).isLt
  have e : iblk m c 6 t y = m ((c.tc : Thread nD τ).loc main_arg6) (ix1 (y 1)) := by
    blk_point [iblk, V, e6]
  rw [e, H.h6]
  show _ = ((N (y 0).val (y 1).val : ℝ) : EReal)
  rw [hy]
  rfl

theorem blk7 (t : Fin cfg0.N) : iblk m c 7 t = mat 2048 1024 W := by
  funext y
  obtain ⟨e0, e1, e2, e3, e4, e5, e6, e7, e8, e9, e10, e11, e12⟩ := idx t
  have e : iblk m c 7 t y = m ((c.tc : Thread nD τ).loc main_arg7) (ix2 (y 0) (y 1)) := by
    blk_point [iblk, V, e7]
  rw [e, H.h7]
  rfl

/-- The gated rows at a point. -/
theorem gtp (t : Fin cfg0.N) : k0_pay10 (F := Ideal) (X0_4 m c t) (iblk m c 1 t) (iblk m c 2 t) (X0_3 m c t) (iblk m c 5 t)
    = mat 256 2048 fun i => gt F B X (sk D) Z (256 * t.val + i) := by
  rw [blk1 H, blk2 H, blk3 H, blk4 H, blk5 H, p10]
  rfl

theorem ssp (t : Fin cfg0.N) : k0_pay11 (F := Ideal) (X0_4 m c t) (iblk m c 1 t) (iblk m c 2 t) (X0_3 m c t) (iblk m c 5 t)
    = mat 256 1 (ss fun i => gt F B X (sk D) Z (256 * t.val + i)) := by
  rw [blk1 H, blk2 H, blk3 H, blk4 H, blk5 H, p11]
  rfl

theorem dynp (t : Fin cfg0.N) : k0_pay17 (F := Ideal) (iblk m c 0 t) (iblk m c 7 t) = mat 256 2048 fun i => dyn G W (256 * t.val + i) := by
  rw [blk0 H, blk7 H, p17]
  rfl

theorem dgp (t : Fin cfg0.N) :
    k0_pay23 (F := Ideal) (k0_pay13 (k0_pay11 (X0_4 m c t) (iblk m c 1 t) (iblk m c 2 t) (X0_3 m c t) (iblk m c 5 t)) k0_pay12)
      (k0_pay14 (k0_pay10 (X0_4 m c t) (iblk m c 1 t) (iblk m c 2 t) (X0_3 m c t) (iblk m c 5 t))
        (k0_pay11 (X0_4 m c t) (iblk m c 1 t) (iblk m c 2 t) (X0_3 m c t) (iblk m c 5 t)) k0_pay12)
      (k0_pay21 (k0_pay17 (iblk m c 0 t) (iblk m c 7 t)) (iblk m c 6 t))
      (k0_pay22 (k0_pay14 (k0_pay10 (X0_4 m c t) (iblk m c 1 t) (iblk m c 2 t) (X0_3 m c t) (iblk m c 5 t))
        (k0_pay11 (X0_4 m c t) (iblk m c 1 t) (iblk m c 2 t) (X0_3 m c t) (iblk m c 5 t)) k0_pay12)
        (k0_pay17 (iblk m c 0 t) (iblk m c 7 t)) (iblk m c 6 t)) (FloatOps.ofBits FTy.f32 1157627904#32)
      = mat 256 2048 fun i => dgt F B X (sk D) Z G W N (256 * t.val + i) := by
  rw [gtp H, ssp H, dynp H, blk6 H, p13, p14, p21, p22, p23]
  rfl

theorem gop (t : Fin cfg0.N) : k0_pay18 (F := Ideal) (k0_pay10 (X0_4 m c t) (iblk m c 1 t) (iblk m c 2 t) (X0_3 m c t) (iblk m c 5 t))
      (k0_pay11 (X0_4 m c t) (iblk m c 1 t) (iblk m c 2 t) (X0_3 m c t) (iblk m c 5 t)) k0_pay12 (iblk m c 0 t) (iblk m c 7 t)
    = mat 256 2048 fun i j => dyn G W (256 * t.val + i) j * (gt F B X (sk D) Z (256 * t.val + i) j * rn 2048 2048 (gt F B X (sk D) Z (256 * t.val + i))) := by
  rw [gtp H, ssp H, blk0 H, blk7 H, p18]
  rfl

theorem slz (t : Fin cfg0.N) : k0_pay9 (F := Ideal) (X0_4 m c t) = mat 256 2048 fun i j => sl (Z (256 * t.val + i) j) := by
  rw [blk4 H, p9]

theorem slx (t : Fin cfg0.N) : k0_pay7 (F := Ideal) (X0_3 m c t) = mat 256 2048 fun i j => sl (X (256 * t.val + i) j) := by
  rw [blk3 H, p7]

end Cert.Kernel2Ideal.V
-- ==== Proof.SoutF.lean ====
module

public import proofs.«01_k».proof.Proof.SoutK

/-! What the SSD layer's output-side backward kernel carries from point to point, and the five arrays it leaves. -/

@[expose] public section

set_option maxRecDepth 16384

noncomputable section

open Idealize.ShloMosaic Idealize.ShloMosaic.TcCoe Idealize.SL.Sem
open Idealize.ShloMosaic.Pipeline (Dat)

namespace Cert.Kernel2Ideal.V
open Cert.Kernel2Ideal Cert.Kernel2Ideal.Gen Cert.RealLift

variable {G F B X Z D N W : ℕ → ℕ → ℝ} {m : (ℓ : Loc nD τ sig) → Buf (Elt Ideal) ℓ} {c : Dev nD} (H : Args G F B X Z D N W m c)
include H

theorem dwp (t : Fin cfg0.N) {s : FVec Ideal S2048x1024 .f32} (S : ℕ → ℕ → ℝ) (hs : s = mat 2048 1024 S) :
    k0_pay16 (F := Ideal) (k0_pay10 (X0_4 m c t) (iblk m c 1 t) (iblk m c 2 t) (X0_3 m c t) (iblk m c 5 t))
      (k0_pay11 (X0_4 m c t) (iblk m c 1 t) (iblk m c 2 t) (X0_3 m c t) (iblk m c 5 t)) k0_pay12 (iblk m c 0 t) s (iblk m c 6 t)
    = mat 2048 1024 fun j k => S j k + ∑ i ∈ Finset.range 256, gt F B X (sk D) Z (256 * t.val + i) j * rn 2048 2048 (gt F B X (sk D) Z (256 * t.val + i)) * N 0 j * G (256 * t.val + i) k := by
  rw [gtp H, ssp H, blk0 H, blk6 H, hs, p16]

theorem adp (t : Fin cfg0.N) : k0_pay27 (F := Ideal) (k0_pay7 (X0_3 m c t)) (k0_pay9 (X0_4 m c t))
      (k0_pay13 (k0_pay11 (X0_4 m c t) (iblk m c 1 t) (iblk m c 2 t) (X0_3 m c t) (iblk m c 5 t)) k0_pay12)
      (k0_pay14 (k0_pay10 (X0_4 m c t) (iblk m c 1 t) (iblk m c 2 t) (X0_3 m c t) (iblk m c 5 t))
        (k0_pay11 (X0_4 m c t) (iblk m c 1 t) (iblk m c 2 t) (X0_3 m c t) (iblk m c 5 t)) k0_pay12)
      (k0_pay21 (k0_pay17 (iblk m c 0 t) (iblk m c 7 t)) (iblk m c 6 t))
      (k0_pay22 (k0_pay14 (k0_pay10 (X0_4 m c t) (iblk m c 1 t) (iblk m c 2 t) (X0_3 m c t) (iblk m c 5 t))
        (k0_pay11 (X0_4 m c t) (iblk m c 1 t) (iblk m c 2 t) (X0_3 m c t) (iblk m c 5 t)) k0_pay12)
        (k0_pay17 (iblk m c 0 t) (iblk m c 7 t)) (iblk m c 6 t)) (FloatOps.ofBits FTy.f32 1157627904#32)
      = mat 256 2048 fun i j => dgt F B X (sk D) Z G W N (256 * t.val + i) j * sl (Z (256 * t.val + i) j) * sl (X (256 * t.val + i) j) := by
  rw [slz H, slx H]
  exact p27 _ _ _ (dgp H t)

/-- The gradient of the output weights over the rows seen so far. -/
theorem carW (n : ℕ) (h : n < cfg0.N) :
    (outsAt0 m c n h).1 = mat 2048 1024 fun j k => ∑ t ∈ Finset.range (n + 1), ∑ i ∈ Finset.range 256,
      gt F B X (sk D) Z (256 * t + i) j * rn 2048 2048 (gt F B X (sk D) Z (256 * t + i)) * N 0 j * G (256 * t + i) k := by
  have hN : n < 64 := lt_of_lt_of_eq h N_0
  induction n with
  | zero =>
    rw [outsAt0_A m c ⟨0, h⟩ (by simp) (by simp)]
    frame_out
    refine (dwp H _ _ p5).trans ?_
    simp
  | succ n ih =>
    have ih' := ih (by omega) (by omega)
    by_cases h1 : n + 1 = 63
    · rw [outsAt0_C m c ⟨n + 1, h⟩ (by simp only; omega) (by simp only; omega)]
      frame_out
      refine (dwp H _ _ ih').trans ?_
      simp only [Finset.sum_range_succ _ (n + 1)]
    · rw [outsAt0_B m c ⟨n + 1, h⟩ (by simp only; omega) (by simp only; omega)]
      frame_out
      refine (dwp H _ _ ih').trans ?_
      simp only [Finset.sum_range_succ _ (n + 1)]

/-- The eight partial rows of the norm weight's gradient. -/
theorem carN (n : ℕ) (h : n < cfg0.N) :
    (outsAt0 m c n h).2.2.2.2.2.1 = mat 8 2048 fun i j => ∑ t ∈ Finset.range (n + 1), ∑ k ∈ Finset.range 32,
      dyn G W (256 * t + (8 * k + i)) j * (gt F B X (sk D) Z (256 * t + (8 * k + i)) j * rn 2048 2048 (gt F B X (sk D) Z (256 * t + (8 * k + i)))) := by
  have hN : n < 64 := lt_of_lt_of_eq h N_0
  induction n with
  | zero =>
    rw [outsAt0_A m c ⟨0, h⟩ (by simp) (by simp)]
    frame_out
    refine (p20 _ _ p3 (gop H _)).trans ?_
    simp
  | succ n ih =>
    have ih' := ih (by omega) (by omega)
    by_cases h1 : n + 1 = 63
    · rw [outsAt0_C m c ⟨n + 1, h⟩ (by simp only; omega) (by simp only; omega)]
      frame_out
      simp only [read_unread_whole]
      refine (p20 _ _ ih' (gop H _)).trans ?_
      simp only [Finset.sum_range_succ _ (n + 1)]
    · rw [outsAt0_B m c ⟨n + 1, h⟩ (by simp only; omega) (by simp only; omega)]
      frame_out
      simp only [read_unread_whole]
      refine (p20 _ _ ih' (gop H _)).trans ?_
      simp only [Finset.sum_range_succ _ (n + 1)]

/-- The eight partial rows of the skip's gradient. -/
theorem carD (n : ℕ) (h : n < cfg0.N) :
    (outsAt0 m c n h).2.2.2.2.2.2 = mat 8 2048 fun i j => ∑ t ∈ Finset.range (n + 1), ∑ k ∈ Finset.range 32,
      dgt F B X (sk D) Z G W N (256 * t + (8 * k + i)) j * sl (Z (256 * t + (8 * k + i)) j) * sl (X (256 * t + (8 * k + i)) j) := by
  have hN : n < 64 := lt_of_lt_of_eq h N_0
  induction n with
  | zero =>
    rw [outsAt0_A m c ⟨0, h⟩ (by simp) (by simp)]
    frame_out
    refine (p30 _ _ p4 (adp H _)).trans ?_
    simp [sl]
  | succ n ih =>
    have ih' := ih (by omega) (by omega)
    by_cases h1 : n + 1 = 63
    · rw [outsAt0_C m c ⟨n + 1, h⟩ (by simp only; omega) (by simp only; omega)]
      frame_out
      simp only [read_unread_whole]
      refine (p30 _ _ ih' (adp H _)).trans ?_
      simp only [Finset.sum_range_succ _ (n + 1), sl]
    · rw [outsAt0_B m c ⟨n + 1, h⟩ (by simp only; omega) (by simp only; omega)]
      frame_out
      simp only [read_unread_whole]
      refine (p30 _ _ ih' (adp H _)).trans ?_
      simp only [Finset.sum_range_succ _ (n + 1), sl]

theorem dyp (t : Fin cfg0.N) : k0_pay25 (F := Ideal) (k0_pay9 (X0_4 m c t)) (k0_pay13 (k0_pay11 (X0_4 m c t) (iblk m c 1 t) (iblk m c 2 t) (X0_3 m c t) (iblk m c 5 t)) k0_pay12)
      (k0_pay14 (k0_pay10 (X0_4 m c t) (iblk m c 1 t) (iblk m c 2 t) (X0_3 m c t) (iblk m c 5 t))
        (k0_pay11 (X0_4 m c t) (iblk m c 1 t) (iblk m c 2 t) (X0_3 m c t) (iblk m c 5 t)) k0_pay12)
      (k0_pay21 (k0_pay17 (iblk m c 0 t) (iblk m c 7 t)) (iblk m c 6 t))
      (k0_pay22 (k0_pay14 (k0_pay10 (X0_4 m c t) (iblk m c 1 t) (iblk m c 2 t) (X0_3 m c t) (iblk m c 5 t))
        (k0_pay11 (X0_4 m c t) (iblk m c 1 t) (iblk m c 2 t) (X0_3 m c t) (iblk m c 5 t)) k0_pay12)
        (k0_pay17 (iblk m c 0 t) (iblk m c 7 t)) (iblk m c 6 t)) (FloatOps.ofBits FTy.f32 1157627904#32)
      = mat 256 2048 fun i j => dgt F B X (sk D) Z G W N (256 * t.val + i) j * sl (Z (256 * t.val + i) j) := by
  rw [slz H]
  exact p25 _ _ (dgp H t)

theorem dzp (t : Fin cfg0.N) : k0_pay26 (F := Ideal) (k0_pay6 (X0_4 m c t)) (k0_pay8 (iblk m c 1 t) (iblk m c 2 t) (X0_3 m c t) (iblk m c 5 t)) (k0_pay13 (k0_pay11 (X0_4 m c t) (iblk m c 1 t) (iblk m c 2 t) (X0_3 m c t) (iblk m c 5 t)) k0_pay12)
      (k0_pay14 (k0_pay10 (X0_4 m c t) (iblk m c 1 t) (iblk m c 2 t) (X0_3 m c t) (iblk m c 5 t))
        (k0_pay11 (X0_4 m c t) (iblk m c 1 t) (iblk m c 2 t) (X0_3 m c t) (iblk m c 5 t)) k0_pay12)
      (k0_pay21 (k0_pay17 (iblk m c 0 t) (iblk m c 7 t)) (iblk m c 6 t))
      (k0_pay22 (k0_pay14 (k0_pay10 (X0_4 m c t) (iblk m c 1 t) (iblk m c 2 t) (X0_3 m c t) (iblk m c 5 t))
        (k0_pay11 (X0_4 m c t) (iblk m c 1 t) (iblk m c 2 t) (X0_3 m c t) (iblk m c 5 t)) k0_pay12)
        (k0_pay17 (iblk m c 0 t) (iblk m c 7 t)) (iblk m c 6 t)) (FloatOps.ofBits FTy.f32 1157627904#32)
      = mat 256 2048 fun i j => dgt F B X (sk D) Z G W N (256 * t.val + i) j * sy F B X (sk D) (256 * t.val + i) j * gz (Z (256 * t.val + i) j) := by
  have h8 : k0_pay8 (F := Ideal) (iblk m c 1 t) (iblk m c 2 t) (X0_3 m c t) (iblk m c 5 t) = mat 256 2048 fun i => sy F B X (sk D) (256 * t.val + i) := by
    rw [blk1 H, blk2 H, blk3 H, blk5 H, p8]
    rfl
  have h6 : k0_pay6 (F := Ideal) (X0_4 m c t) = mat 256 2048 fun i => Z (256 * t.val + i) := by
    rw [blk4 H, p6]
  rw [h8, h6]
  exact p26 _ _ _ (dgp H t)

/-- The gradient of both directions' outputs. -/
theorem fin9 : (dats m 0 c).arrAt 9 (cfgs 0).N = mat 16384 2048 fun i j => dgt F B X (sk D) Z G W N i j * sl (Z i j) := by
  refine (dats m 0 c).arrAt_eq_of_covers 9 _ (by decide +kernel) fun t _ y => ?_
  obtain ⟨e0, e1, e2, e3, e4, e5, e6, e7, e8, e9, e10, e11, e12⟩ := idx t
  have ht : t.val < 64 := lt_of_lt_of_eq t.isLt N_0
  have hy : (y 0).val < 256 := (y 0).isLt
  have key : ((cfg0.win 9).blk t).view.emb y = ix2 ⟨256 * t.val + (y 0).val, by omega⟩ (y 1) := by
    blk_ext [e9]
  blk_simp
  rw [after0_9]
  refine Eq.trans ?_ (congrArg (mat 16384 2048 _) key).symm
  by_cases h0 : t.val % 64 = 0
  · rw [outsAt0_A m c t h0 (by omega)]; frame_out
    exact congrFun (dyp H t) y
  · by_cases h1 : t.val % 64 = 63
    · rw [outsAt0_C m c t h0 h1]; frame_out
      exact congrFun (dyp H t) y
    · rw [outsAt0_B m c t h0 h1]; frame_out
      exact congrFun (dyp H t) y

/-- The gradient of the gate. -/
theorem fin10 : (dats m 0 c).arrAt 10 (cfgs 0).N = mat 16384 2048 fun i j => dgt F B X (sk D) Z G W N i j * sy F B X (sk D) i j * gz (Z i j) := by
  refine (dats m 0 c).arrAt_eq_of_covers 10 _ (by decide +kernel) fun t _ y => ?_
  obtain ⟨e0, e1, e2, e3, e4, e5, e6, e7, e8, e9, e10, e11, e12⟩ := idx t
  have ht : t.val < 64 := lt_of_lt_of_eq t.isLt N_0
  have hy : (y 0).val < 256 := (y 0).isLt
  have key : ((cfg0.win 10).blk t).view.emb y = ix2 ⟨256 * t.val + (y 0).val, by omega⟩ (y 1) := by
    blk_ext [e10]
  blk_simp
  rw [after0_10]
  refine Eq.trans ?_ (congrArg (mat 16384 2048 _) key).symm
  by_cases h0 : t.val % 64 = 0
  · rw [outsAt0_A m c t h0 (by omega)]; frame_out
    exact congrFun (dzp H t) y
  · by_cases h1 : t.val % 64 = 63
    · rw [outsAt0_C m c t h0 h1]; frame_out
      exact congrFun (dzp H t) y
    · rw [outsAt0_B m c t h0 h1]; frame_out
      exact congrFun (dzp H t) y

/-- The gradient of the output weights. -/
theorem fin8 : (dats m 0 c).arrAt 8 (cfgs 0).N = mat 2048 1024 fun j k => ∑ i ∈ Finset.range 16384, gt F B X (sk D) Z i j * rn 2048 2048 (gt F B X (sk D) Z i) * N 0 j * G i k := by
  refine (dats m 0 c).arrAt_eq_of_covers 8 _ (by decide +kernel) fun t hf y => ?_
  obtain ⟨e0, e1, e2, e3, e4, e5, e6, e7, e8, e9, e10, e11, e12⟩ := idx t
  have h1 := (flush0_8 t).mp hf
  have ht : t.val = 63 := by have := lt_of_lt_of_eq t.isLt N_0; omega
  have key : ((cfg0.win 8).blk t).view.emb y = ix2 (y 0) (y 1) := by
    blk_ext [e8]
  blk_simp
  refine Eq.trans ?_ (congrArg (mat 2048 1024 _) key).symm
  rw [after0_8, carW H]
  rw [ht]
  exact congrArg (fun r : ℝ => (r : EReal)) (sum_blocks (fun i => gt F B X (sk D) Z i (y 0).val * rn 2048 2048 (gt F B X (sk D) Z i) * N 0 (y 0).val * G i (y 1).val) 64 256)

/-- The gradient of the norm's weight. -/
theorem fin11 : (dats m 0 c).arrAt 11 (cfgs 0).N = mat 1 2048 fun _ j => ∑ i ∈ Finset.range 16384, dyn G W i j * (gt F B X (sk D) Z i j * rn 2048 2048 (gt F B X (sk D) Z i)) := by
  refine (dats m 0 c).arrAt_eq_of_covers 11 _ (by decide +kernel) fun t hf y => ?_
  obtain ⟨e0, e1, e2, e3, e4, e5, e6, e7, e8, e9, e10, e11, e12⟩ := idx t
  have h1 := (flush0_11 t).mp hf
  have ht : t.val = 63 := by have := lt_of_lt_of_eq t.isLt N_0; omega
  have key : ((cfg0.win 11).blk t).view.emb y = ix2 (y 0) (y 1) := by
    blk_ext [e11]
  blk_simp
  refine Eq.trans ?_ (congrArg (mat 1 2048 _) key).symm
  rw [after0_11, outsAt0_C m c t (by omega) h1]; frame_out
  simp only [read_unread_whole]
  refine (congrFun ((congrArg (k0_pay1 (F := Ideal)) (p20 _ _ (carN H (t.val - 1) _) (gop H t))).trans (p1 _)) y).trans ?_
  rw [ht]
  simp only [← Finset.sum_range_succ, Nat.reduceSub, Nat.reduceAdd]
  exact congrArg (fun r : ℝ => (r : EReal)) (sum_rows256 fun i => dyn G W i (y 1).val * (gt F B X (sk D) Z i (y 1).val * rn 2048 2048 (gt F B X (sk D) Z i)))

/-- The gradient of the skip's factor, column by column. -/
theorem fin12 : (dats m 0 c).arrAt 12 (cfgs 0).N = mat 1 2048 fun _ j => ∑ i ∈ Finset.range 16384, dgt F B X (sk D) Z G W N i j * sl (Z i j) * sl (X i j) := by
  refine (dats m 0 c).arrAt_eq_of_covers 12 _ (by decide +kernel) fun t hf y => ?_
  obtain ⟨e0, e1, e2, e3, e4, e5, e6, e7, e8, e9, e10, e11, e12⟩ := idx t
  have h1 := (flush0_12 t).mp hf
  have ht : t.val = 63 := by have := lt_of_lt_of_eq t.isLt N_0; omega
  have key : ((cfg0.win 12).blk t).view.emb y = ix2 (y 0) (y 1) := by
    blk_ext [e12]
  blk_simp
  refine Eq.trans ?_ (congrArg (mat 1 2048 _) key).symm
  rw [after0_12, outsAt0_C m c t (by omega) h1]; frame_out
  simp only [read_unread_whole]
  refine (congrFun ((congrArg (k0_pay2 (F := Ideal)) (p30 _ _ (carD H (t.val - 1) _) (adp H t))).trans (p2 _)) y).trans ?_
  rw [ht]
  simp only [← Finset.sum_range_succ, Nat.reduceSub, Nat.reduceAdd]
  exact congrArg (fun r : ℝ => (r : EReal)) (sum_rows256 fun i => dgt F B X (sk D) Z G W N i (y 1).val * sl (Z i (y 1).val) * sl (X i (y 1).val))

end Cert.Kernel2Ideal.V
-- ==== Proof.SoutR.lean ====
module

public import proofs.«01_k».proof.Proof.Gen.Reference2Ideal.Read
public import Idealize.ShloMosaic.Lib.Pipeline.ValueKit
public import proofs.«01_k».proof.Proof.RealLift

/-! The five results of the reference for the SSD layer's output-side backward call on real arguments. -/

@[expose] public section

set_option maxRecDepth 16384

noncomputable section

open Idealize.ShloMosaic Idealize.ShloMosaic.TcCoe Idealize.SL.Sem

namespace Cert.Reference2Ideal.V
open Cert.Reference2Ideal Cert.Reference2Ideal.Gen Cert.Reference2Ideal.Read Cert.RealLift

variable (G F B X Z W P S K : ℕ → ℕ → ℝ) (D N : ℕ → ℝ)

theorem v1 : val_main_v1 (F := Ideal) (mat 16384 3072 X) = mat 16384 2048 fun i j => sl (X i j) := by
  funext j
  simp only [val_main_v1_apply, val_main_v0_apply, val_main_call0_v0_apply, val_main_call0_v1_apply, val_main_call0_v2_apply, val_main_call0_v3_apply, val_main_call0_v4_apply, val_main_call0_v5_apply,
    val_main_call0_cst_apply, val_main_call0_cst_0_apply, Ideal.hostNegf_def, Ideal.hostUnary_exp_def, Ideal.addf_def, Ideal.mulf_def, Ideal.hostDivf_def, Ideal.ofBits_def, lit_one, EReal.coe_one, Ideal.negf_def]
  simp only [mat, sg_real, ← EReal.coe_mul]
  rfl

theorem v2 : val_main_v2 (F := Ideal) (mat 16384 5184 Z) = mat 16384 2048 Z := by
  funext j
  simp only [val_main_v2_apply]

theorem v7 : val_main_v7 (F := Ideal) (row 32 D) = mat 16384 2048 fun _ j => D (j / 64) := by
  funext j
  simp only [val_main_v7_apply, val_main_v6_apply, val_main_v4_apply, val_main_v3_apply]

theorem v9 : val_main_v9 (F := Ideal) (mat 16384 2048 F) (mat 16384 2048 B) (mat 16384 3072 X) (row 32 D) = mat 16384 2048 (sy F B X (sk fun _ => D)) := by
  funext j
  simp only [val_main_v9_apply, val_main_v8_apply, val_main_v5_apply, v7, v1, Ideal.addf_def, Ideal.mulf_def, ← EReal.coe_mul, ← EReal.coe_add]
  rfl

theorem v10_2 : val_main_v10_2 (F := Ideal) (mat 16384 5184 Z) = mat 16384 2048 fun i j => sg (Z i j) := by
  funext j
  simp only [val_main_v10_2_apply, val_main_call1_v0_apply, val_main_call1_v1_apply, val_main_call1_v2_apply, val_main_call1_v3_apply, val_main_call1_v4_apply,
    val_main_call1_cst_apply, val_main_call1_cst_0_apply, v2, Ideal.hostNegf_def, Ideal.hostUnary_exp_def, Ideal.addf_def, Ideal.hostDivf_def, Ideal.ofBits_def, lit_one, EReal.coe_one, v2, Ideal.negf_def]
  simp only [mat, sg_real]

theorem v10_1 : val_main_v10_1 (F := Ideal) (mat 16384 5184 Z) = mat 16384 2048 fun i j => sg (Z i j) * (1 - sg (Z i j)) := by
  funext j
  simp only [val_main_v10_1_apply, val_main_call1_v7_apply, val_main_call1_v6_apply, val_main_call1_cst_1_apply, v10_2, Ideal.subf_def, Ideal.mulf_def, Ideal.ofBits_def, lit_one,
    ← EReal.coe_sub, ← EReal.coe_mul]

theorem v10_0 : val_main_v10_0 (F := Ideal) (mat 16384 5184 Z) = mat 16384 2048 fun i j => sl (Z i j) := by
  funext j
  simp only [val_main_v10_0_apply, v10_2, v2, Ideal.mulf_def, ← EReal.coe_mul]
  rfl

theorem v11 : val_main_v11 (F := Ideal) (mat 16384 2048 F) (mat 16384 2048 B) (mat 16384 3072 X) (mat 16384 5184 Z) (row 32 D) = mat 16384 2048 (gt F B X (sk fun _ => D) Z) := by
  funext j
  simp only [val_main_v11_apply, v9, v10_0, Ideal.mulf_def, ← EReal.coe_mul]
  rfl

section norm
variable (T : ℕ → ℕ → ℝ) {F B X Z D}
variable (h : val_main_v11 (F := Ideal) (mat 16384 2048 F) (mat 16384 2048 B) (mat 16384 3072 X) (mat 16384 5184 Z) (row 32 D) = mat 16384 2048 T)
include h

theorem v20 : val_main_v20 (F := Ideal) (mat 16384 2048 F) (mat 16384 2048 B) (mat 16384 3072 X) (mat 16384 5184 Z) (row 32 D) = mat 16384 1 fun i _ => msq 2048 2048 (T i) := by
  funext j
  simp only [val_main_v20_apply, val_main_v19_apply, val_main_v18_apply, val_main_v17_apply, val_main_v16_apply, val_main_v15_apply, val_main_v12_apply, h,
    val_main_cst_0_apply, val_main_cst_1_apply, val_main_cst_2_apply, Ideal.addf_def, Ideal.mulf_def, Ideal.hostDivf_def, Ideal.ofBits_def,
    lit_zero, lit_2048, lit_eps, ← EReal.coe_mul, coe_sum, ← EReal.coe_add, zero_add]
  rw [div_real (by norm_num), ← EReal.coe_add]
  rfl

theorem v21 : val_main_v21 (F := Ideal) (mat 16384 2048 F) (mat 16384 2048 B) (mat 16384 3072 X) (mat 16384 5184 Z) (row 32 D) = mat 16384 1 fun i _ => rn 2048 2048 (T i) := by
  funext j
  simp only [val_main_v21_apply, v20 _ h, Ideal.hostUnary_rsqrt_def]
  exact rsqrt_real (msq_pos 2048 (by norm_num) _)

theorem v24 : val_main_v24 (F := Ideal) (mat 16384 2048 F) (mat 16384 2048 B) (mat 16384 3072 X) (mat 16384 5184 Z) (row 32 D) = mat 16384 1 fun i _ => -(1 / 2) * (rn 2048 2048 (T i) / msq 2048 2048 (T i)) := by
  funext j
  simp only [val_main_v24_apply, val_main_v23_apply, val_main_v22_apply, val_main_cst_3_apply, v21 _ h, v20 _ h, Ideal.hostDivf_def, Ideal.mulf_def, Ideal.ofBits_def, lit_neg_half]
  rw [div_real (msq_pos 2048 (by norm_num) _).ne', ← EReal.coe_mul]

theorem v26 : val_main_v26 (F := Ideal) (mat 16384 2048 F) (mat 16384 2048 B) (mat 16384 3072 X) (mat 16384 5184 Z) (row 32 D) = mat 16384 2048 fun i j => T i j * rn 2048 2048 (T i) := by
  funext j
  simp only [val_main_v26_apply, val_main_v25_apply, v21 _ h, h, Ideal.mulf_def, ← EReal.coe_mul]

theorem v32 : val_main_v32 (F := Ideal) (mat 16384 1024 G) (mat 16384 2048 F) (mat 16384 2048 B) (mat 16384 3072 X) (mat 16384 5184 Z) (row 32 D) (row 2048 N) = mat 2048 1024 fun j k =>
    ∑ i ∈ Finset.range 16384, G i k * (T i j * rn 2048 2048 (T i) * N j) := by
  funext j
  simp only [val_main_v32_apply, val_main_v31_apply, val_main_v29_apply, val_main_v28_apply, val_main_v27_apply, v26 _ h, Ideal.mulf_def, ← EReal.coe_mul, coe_sum, Finset.sum_range]

omit h in
theorem v33 : val_main_v33 (F := Ideal) (mat 16384 1024 G) (mat 2048 1024 W) = mat 16384 2048 (dyn G W) := by
  funext j
  simp only [val_main_v33_apply, ← EReal.coe_mul, coe_sum]
  rfl

theorem v61 : val_main_v61 (F := Ideal) (mat 16384 1024 G) (mat 16384 2048 F) (mat 16384 2048 B) (mat 16384 3072 X) (mat 16384 5184 Z) (row 32 D) (mat 2048 1024 W) = mat 1 2048 fun _ j =>
    ∑ i ∈ Finset.range 16384, T i j * rn 2048 2048 (T i) * dyn G W i j := by
  funext j
  simp only [val_main_v61_apply, val_main_v39_apply, val_main_v36_apply, val_main_v35_apply, val_main_v34_apply, val_main_cst_4_apply, val_main_cst_5_apply, v26 _ h, v33, Ideal.mulf_def, Ideal.ofBits_def, lit_zero,
    ← EReal.coe_mul, coe_sum, ← EReal.coe_add, zero_add, Fin.sum_univ_one, Finset.sum_range, Fin.val_zero, Nat.zero_mul]

omit h in
theorem v38 : val_main_v38 (F := Ideal) (mat 16384 1024 G) (row 2048 N) (mat 2048 1024 W) = mat 16384 2048 fun i j => dyn G W i j * N j := by
  funext j
  simp only [val_main_v38_apply, val_main_v37_apply, val_main_v27_apply, v33, Ideal.mulf_def, ← EReal.coe_mul]

theorem v48 : val_main_v49 (F := Ideal) (mat 16384 1024 G) (mat 16384 2048 F) (mat 16384 2048 B) (mat 16384 3072 X) (mat 16384 5184 Z) (row 32 D) (row 2048 N) (mat 2048 1024 W) = mat 16384 2048 fun i j =>
      (∑ k : Fin 2048, T i k * (dyn G W i k * N k)) * (-(1 / 2) * (rn 2048 2048 (T i) / msq 2048 2048 (T i))) / 2048 := by
  funext j
  simp only [val_main_v49_apply, val_main_v48_apply, val_main_v47_apply, val_main_v46_apply, val_main_v45_apply, val_main_v42_apply, val_main_v41_apply, val_main_v40_apply,
    val_main_cst_6_apply, val_main_cst_7_apply, val_main_cst_8_apply, v24 _ h, v38, h, Ideal.mulf_def, Ideal.hostDivf_def, Ideal.ofBits_def, lit_zero, lit_2048, ← EReal.coe_mul, coe_sum,
    ← EReal.coe_add, zero_add, Fin.sum_univ_one]
  rw [div_real (by norm_num), ← EReal.coe_add, zero_add]
  simp only [Nat.mul_one, Fin.val_zero, Nat.add_zero]

theorem v51 : val_main_v51 (F := Ideal) (mat 16384 1024 G) (mat 16384 2048 F) (mat 16384 2048 B) (mat 16384 3072 X) (mat 16384 5184 Z) (row 32 D) (row 2048 N) (mat 2048 1024 W) = mat 16384 2048 fun i j =>
      normGrad 2048 2048 (T i) (fun k => dyn G W i k * N k) j := by
  funext j
  simp only [val_main_v51_apply, val_main_v50_apply, val_main_v44_apply, val_main_v43_apply, val_main_v14_apply, val_main_v13_apply, val_main_cst_apply, v48 _ _ _ _ h, v38, v21 _ h, h, Ideal.mulf_def, Ideal.addf_def,
    Ideal.ofBits_def, lit_two, ← EReal.coe_mul, ← EReal.coe_add]
  refine congrArg (fun r : ℝ => (r : EReal)) ?_
  beta_reduce
  rw [normGrad_eq (d := 2048) 2048 (by norm_num)]
  ring

end norm

theorem v51_dgt : val_main_v51 (F := Ideal) (mat 16384 1024 G) (mat 16384 2048 F) (mat 16384 2048 B) (mat 16384 3072 X) (mat 16384 5184 Z) (row 32 D) (row 2048 N) (mat 2048 1024 W)
    = mat 16384 2048 (dgt F B X (sk fun _ => D) Z G W fun _ => N) := v51 G W N _ (v11 F B X Z D)

section tail
variable (T : ℕ → ℕ → ℝ) {F B X Z D N G W}
variable (h : val_main_v51 (F := Ideal) (mat 16384 1024 G) (mat 16384 2048 F) (mat 16384 2048 B) (mat 16384 3072 X) (mat 16384 5184 Z) (row 32 D) (row 2048 N) (mat 2048 1024 W) = mat 16384 2048 T)
include h

theorem v53 : val_main_v53 (F := Ideal) (mat 16384 1024 G) (mat 16384 2048 F) (mat 16384 2048 B) (mat 16384 3072 X) (mat 16384 5184 Z) (row 32 D) (row 2048 N) (mat 2048 1024 W) = mat 16384 2048 fun i j =>
    T i j * sl (Z i j) := by
  funext j
  simp only [val_main_v53_apply, h, v10_0, Ideal.mulf_def, ← EReal.coe_mul]

theorem v59 : val_main_v59 (F := Ideal) (mat 16384 1024 G) (mat 16384 2048 F) (mat 16384 2048 B) (mat 16384 3072 X) (mat 16384 5184 Z) (row 32 D) (row 2048 N) (mat 2048 1024 W) = mat 16384 2048 fun i j =>
    T i j * sl (Z i j) := by
  funext j
  simp only [val_main_v59_apply, v53 _ h]
  rfl

theorem v60 : val_main_v60 (F := Ideal) (mat 16384 1024 G) (mat 16384 2048 F) (mat 16384 2048 B) (mat 16384 3072 X) (mat 16384 5184 Z) (row 32 D) (row 2048 N) (mat 2048 1024 W) = mat 16384 2048 fun i j =>
    T i j * sy F B X (sk fun _ => D) i j * gz (Z i j) := by
  funext j
  simp only [val_main_v60_apply, val_main_v54_apply, val_main_call2_v0_apply, val_main_call2_v1_apply, val_main_call2_v2_apply, val_main_v52_apply, h, v9, v2, v10_1, v10_2, Ideal.mulf_def, Ideal.addf_def, ← EReal.coe_mul, ← EReal.coe_add]
  refine congrArg (fun r : ℝ => (r : EReal)) ?_
  beta_reduce
  rw [gz]
  ring

theorem v62 : val_main_v62 (F := Ideal) (mat 16384 1024 G) (mat 16384 2048 F) (mat 16384 2048 B) (mat 16384 3072 X) (mat 16384 5184 Z) (row 32 D) (row 2048 N) (mat 2048 1024 W) = mat 1 2048 fun _ j =>
    ∑ i ∈ Finset.range 16384, sl (X i j) * (T i j * sl (Z i j)) := by
  funext j
  simp only [val_main_v62_apply, val_main_v58_apply, val_main_v57_apply, val_main_v56_apply, val_main_v55_apply, val_main_cst_9_apply, val_main_cst_10_apply, v53 _ h, v1, Ideal.mulf_def, Ideal.ofBits_def, lit_zero,
    ← EReal.coe_mul, coe_sum, ← EReal.coe_add, zero_add, Fin.sum_univ_one, Finset.sum_range, Fin.val_zero, Nat.zero_mul]

end tail

end Cert.Reference2Ideal.V
-- ==== Proof.Sout.lean ====
module

public import proofs.«01_k».proof.Defs
public import proofs.«01_k».proof.Proof.SoutF
public import proofs.«01_k».proof.Proof.SoutR
public import proofs.«01_k».proof.Proof.Gen.Pre_sout_finite
public import proofs.«01_k».proof.Proof.Gen.Kernel2.Frame

/-! The SSD layer's output-side backward call: the kernel's and the reference's five results are the same real arrays. -/

@[expose] public section

set_option maxRecDepth 16384

noncomputable section

open Idealize.ShloMosaic Idealize.ShloMosaic.TcCoe Idealize.SL.Sem

namespace Cert.Sout
open Cert.RealLift Cert.Kernel2Ideal.V Cert.Reference2Ideal.V

/-- Finite arguments are real arrays. -/
theorem real_args (a0 : Shape.Idx ⟨2, ![16384, 1024]⟩ → EReal) (a1 a2 : Shape.Idx ⟨2, ![16384, 2048]⟩ → EReal) (a3 : Shape.Idx ⟨2, ![16384, 3072]⟩ → EReal)
    (a4 : Shape.Idx ⟨2, ![16384, 5184]⟩ → EReal) (a5 : Shape.Idx ⟨1, ![32]⟩ → EReal) (a6 : Shape.Idx ⟨1, ![2048]⟩ → EReal) (a7 : Shape.Idx ⟨2, ![2048, 1024]⟩ → EReal)
    (h : Cert.Pre_sout_finite.fn (F := Ideal) a0 a1 a2 a3 a4 a5 a6 a7 = fun _ => 1#1) :
    ∃ (G F B X Z W : ℕ → ℕ → ℝ) (D N : ℕ → ℝ), a0 = mat 16384 1024 G ∧ a1 = mat 16384 2048 F ∧ a2 = mat 16384 2048 B ∧ a3 = mat 16384 3072 X
      ∧ a4 = mat 16384 5184 Z ∧ a5 = row 32 D ∧ a6 = row 2048 N ∧ a7 = mat 2048 1024 W := by
  obtain ⟨e, e7⟩ := IntOp.andi_eq_one.1 (congrFun h ix0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton (Shape.Idx Cert.Pre_sout_finite.S_) := ⟨fun a b => funext fun i => i.elim0⟩
  obtain ⟨G, h0⟩ := real_mat e0 fun _ => lit_top
  obtain ⟨F, h1⟩ := real_mat e1 fun _ => lit_top
  obtain ⟨B, h2⟩ := real_mat e2 fun _ => lit_top
  obtain ⟨X, h3⟩ := real_mat e3 fun _ => lit_top
  obtain ⟨Z, h4⟩ := real_mat e4 fun _ => lit_top
  obtain ⟨D, h5⟩ := real_row e5 fun _ => lit_top
  obtain ⟨N, h6⟩ := real_row e6 fun _ => lit_top
  obtain ⟨W, h7⟩ := real_mat e7 fun _ => lit_top
  exact ⟨G, F, B, X, Z, W, D, N, h0, h1, h2, h3, h4, h5, h6, h7⟩

/-- The reference runs, keeps its arguments and leaves no semaphore raised. -/
theorem frame_ref : Cert.quiescent_Reference2Ideal (hReference2Ideal := Cert.Reference2Ideal.Gen.facts) :=
  fun m g _ => (θ_run Cert.Reference2Ideal.defs _ _).mono (fun r h => ⟨fun c => (h c).2.2.2.2.2, sem_eq_zero_of_no_sems (by decide) r.2⟩)
    (Cert.Reference2Ideal.Value.run (F := Ideal) m g)

section results
variable {G F B X Z W : ℕ → ℕ → ℝ} {D N : ℕ → ℝ} {m : (ℓ : Loc Cert.Kernel2Ideal.nD Cert.Kernel2Ideal.τ Cert.Kernel2Ideal.sig) → Buf (Elt Ideal) ℓ} {c : Dev Cert.Kernel2Ideal.nD}
  (H : Args G F B X Z (fun _ => D) (fun _ => N) W m c)
include H

theorem res8 : Cert.Reference2Ideal.Read.val_main_v32 (F := Ideal) (mat 16384 1024 G) (mat 16384 2048 F) (mat 16384 2048 B) (mat 16384 3072 X) (mat 16384 5184 Z) (row 32 D) (row 2048 N) = Cert.Kernel2Ideal.Value.G8 m c := by
  refine (v32 G N _ (v11 F B X Z D)).trans (Eq.trans ?_ ((Cert.Kernel2Ideal.Value.final8 m c).symm.trans (fin8 H)).symm)
  funext i
  exact congrArg (fun r : ℝ => (r : EReal)) (Finset.sum_congr rfl fun k _ => mul_comm _ _)

theorem res9 : Cert.Reference2Ideal.Read.val_main_v59 (F := Ideal) (mat 16384 1024 G) (mat 16384 2048 F) (mat 16384 2048 B) (mat 16384 3072 X) (mat 16384 5184 Z) (row 32 D) (row 2048 N) (mat 2048 1024 W) = Cert.Kernel2Ideal.Value.G9 m c := by
  refine (v59 _ (v51_dgt G F B X Z W D N)).trans (Eq.trans ?_ ((Cert.Kernel2Ideal.Value.final9 m c).symm.trans (fin9 H)).symm)
  rfl

theorem res10 : Cert.Reference2Ideal.Read.val_main_v60 (F := Ideal) (mat 16384 1024 G) (mat 16384 2048 F) (mat 16384 2048 B) (mat 16384 3072 X) (mat 16384 5184 Z) (row 32 D) (row 2048 N) (mat 2048 1024 W) = Cert.Kernel2Ideal.Value.G10 m c := by
  refine (v60 _ (v51_dgt G F B X Z W D N)).trans (Eq.trans ?_ ((Cert.Kernel2Ideal.Value.final10 m c).symm.trans (fin10 H)).symm)
  rfl

theorem res11 : Cert.Reference2Ideal.Read.val_main_v61 (F := Ideal) (mat 16384 1024 G) (mat 16384 2048 F) (mat 16384 2048 B) (mat 16384 3072 X) (mat 16384 5184 Z) (row 32 D) (mat 2048 1024 W) = Cert.Kernel2Ideal.Value.G11 m c := by
  refine (v61 G W _ (v11 F B X Z D)).trans (Eq.trans ?_ ((Cert.Kernel2Ideal.Value.final11 m c).symm.trans (fin11 H)).symm)
  funext i
  exact congrArg (fun r : ℝ => (r : EReal)) (Finset.sum_congr rfl fun k _ => mul_comm _ _)

theorem res12 : Cert.Reference2Ideal.Read.val_main_v62 (F := Ideal) (mat 16384 1024 G) (mat 16384 2048 F) (mat 16384 2048 B) (mat 16384 3072 X) (mat 16384 5184 Z) (row 32 D) (row 2048 N) (mat 2048 1024 W) = Cert.Kernel2Ideal.Value.G12 m c := by
  refine (v62 _ (v51_dgt G F B X Z W D N)).trans (Eq.trans ?_ ((Cert.Kernel2Ideal.Value.final12 m c).symm.trans (fin12 H)).symm)
  funext i
  exact congrArg (fun r : ℝ => (r : EReal)) (Finset.sum_congr rfl fun k _ => mul_comm _ _)

end results

-- five results of up to eight arguments are read in one theorem: the limit is for their forty rewrites
set_option maxHeartbeats 1000000 in
/-- The kernel and the vector-Jacobian product of the gate, norm and output projection leave the same five arrays. -/
theorem algebraic : Cert.algebraic_Kernel2Ideal_Reference2Ideal_pre_sout_finite (hKernel2Ideal := Cert.Kernel2Ideal.Gen.facts)
    (hReference2Ideal := Cert.Reference2Ideal.Gen.facts) (hPre_sout_finite := Cert.Pre_sout_finite.Gen.facts) := by
  intro m g m' g' hpre hargs
  refine ⟨fun c => Cert.Kernel2Ideal.Value.G8 m c, fun c => Cert.Kernel2Ideal.Value.G9 m c, fun c => Cert.Kernel2Ideal.Value.G10 m c,
    fun c => Cert.Kernel2Ideal.Value.G11 m c, fun c => Cert.Kernel2Ideal.Value.G12 m c, Cert.Kernel2Ideal.Value.run m g, ?_⟩
  refine (θ_run _ _ _).mono (fun r h c => ?_) (Cert.Reference2Ideal.Value.run m' g')
  obtain ⟨r0, r1, r2, r3, r4, ra⟩ := h c
  obtain ⟨a0, a1, a2, a3, a4, a5, a6, a7⟩ := hargs c
  obtain ⟨G, F, B, X, Z, W, D, N, h0, h1, h2, h3, h4, h5, h6, h7⟩ := real_args _ _ _ _ _ _ _ _ (hpre c)
  have H : Args G F B X Z (fun _ => D) (fun _ => N) W m c := ⟨h0, h1, h2, h3, h4, h5, h6, h7⟩
  refine ⟨r0.trans ?_, r1.trans ?_, r2.trans ?_, r3.trans ?_, r4.trans ?_, ra⟩
  · rw [Cert.Reference2Ideal.Read.val_main_v32_eq, a0, a1, a2, a3, a4, a5, a6, h0, h1, h2, h3, h4, h5, h6]
    exact res8 H
  · rw [Cert.Reference2Ideal.Read.val_main_v59_eq, a0, a1, a2, a3, a4, a5, a6, a7, h0, h1, h2, h3, h4, h5, h6, h7]
    exact res9 H
  · rw [Cert.Reference2Ideal.Read.val_main_v60_eq, a0, a1, a2, a3, a4, a5, a6, a7, h0, h1, h2, h3, h4, h5, h6, h7]
    exact res10 H
  · rw [Cert.Reference2Ideal.Read.val_main_v61_eq, a0, a1, a2, a3, a4, a5, a7, h0, h1, h2, h3, h4, h5, h7]
    exact res11 H
  · rw [Cert.Reference2Ideal.Read.val_main_v62_eq, a0, a1, a2, a3, a4, a5, a6, a7, h0, h1, h2, h3, h4, h5, h6, h7]
    exact res12 H

end Cert.Sout
-- ==== Proof.NormLift.lean ====
module

public import proofs.«01_k».proof.Proof.RealLift

/-! The layer norm of a row of 2048 real numbers, the gated output after it, and their gradients. -/

@[expose] public section

noncomputable section

open Idealize.ShloMosaic

namespace Cert.RealLift

/-- The mean of a row. -/
def mean (x : ℕ → ℝ) : ℝ := (∑ k : Fin 2048, x k) / 2048

/-- A row about its mean. -/
def ctr (x : ℕ → ℝ) (j : ℕ) : ℝ := x j - mean x

/-- The reciprocal of the row's standard deviation. -/
def rl (x : ℕ → ℝ) : ℝ := rn 2048 2048 (ctr x)

/-- The normalised row. -/
def un (x : ℕ → ℝ) (j : ℕ) : ℝ := ctr x j * rl x

/-- The layer norm: the normalised row, scaled and shifted. -/
def ul (x a b : ℕ → ℝ) (j : ℕ) : ℝ := un x j * a j + b j

/-- The gradient at the layer norm's result, from the gradient at the gated output, the gate and the row. -/
def dul (U Z G W L M : ℕ → ℕ → ℝ) (i j : ℕ) : ℝ := dyn G W i j * sl (Z i j) * gz (ul (U i) (L 0) (M 0) j)

/-- The gradient through the layer norm: `g` at the normalised row, taken back to the row `x`. -/
def lnGrad (x g : ℕ → ℝ) (j : ℕ) : ℝ := rl x * (g j - mean g - un x j * ((∑ k : Fin 2048, g k * un x k) / 2048))

/-- A row about its mean adds up to zero. -/
theorem sum_ctr (x : ℕ → ℝ) : (∑ k : Fin 2048, ctr x k) = 0 := by
  simp only [ctr, Finset.sum_sub_distrib, Finset.sum_const, Finset.card_univ, Fintype.card_fin, mean, nsmul_eq_mul]
  ring

/-- The gradient through the variance and the reciprocal root, before the mean is taken off. -/
def lnPart (x g : ℕ → ℝ) (j : ℕ) : ℝ :=
  g j * rl x + ctr x j * ((∑ k : Fin 2048, ctr x k * g k) * (-(1 / 2) * (rl x / msq 2048 2048 (ctr x))) / 2048)
    + (∑ k : Fin 2048, ctr x k * g k) * (-(1 / 2) * (rl x / msq 2048 2048 (ctr x))) / 2048 * ctr x j

/-- The gradient through the layer norm as the chain rule gives it: through the variance, and through the mean. -/
theorem lnGrad_eq (x g : ℕ → ℝ) (j : ℕ) : lnGrad x g j = lnPart x g j + (∑ k : Fin 2048, -lnPart x g k) / 2048 := by
  set c := (∑ k : Fin 2048, ctr x k * g k) * (-(1 / 2) * (rl x / msq 2048 2048 (ctr x))) / 2048 with hc
  have hp : ∀ k, lnPart x g k = g k * rl x + 2 * c * ctr x k := fun k => by
    unfold lnPart
    rw [← hc]
    ring
  have hs : (∑ k : Fin 2048, -lnPart x g k) = -(rl x * ∑ k : Fin 2048, g k) := by
    simp only [hp, Finset.sum_neg_distrib, Finset.sum_add_distrib, ← Finset.mul_sum, sum_ctr, mul_zero, add_zero, ← Finset.sum_mul, mul_comm (rl x)]
  have hg : (∑ k : Fin 2048, g k * un x k) = (∑ k : Fin 2048, ctr x k * g k) * rl x := by
    rw [Finset.sum_mul]
    exact Finset.sum_congr rfl fun k _ => by unfold un; ring
  have h2 : rl x / msq 2048 2048 (ctr x) = rl x * (rl x * rl x) := by
    unfold rl
    rw [rn_mul_rn 2048 (by norm_num)]
    ring
  rw [hs, hp, hc, h2]
  unfold lnGrad
  rw [hg]
  unfold un mean
  ring

end Cert.RealLift
-- ==== Proof.CoutK.lean ====
module

public import proofs.«01_k».proof.Proof.Gen.Kernel3Ideal.Value
public import Idealize.ShloMosaic.Lib.Pipeline.ReadBack
public import proofs.«01_k».proof.Proof.NormLift

/-! The values the conformer layer's output-side backward kernel computes at a point, on real arguments. -/

@[expose] public section

set_option maxRecDepth 16384

noncomputable section

open Idealize.ShloMosaic Idealize.ShloMosaic.TcCoe Idealize.SL.Sem
open Idealize.ShloMosaic.Pipeline (Dat)

namespace Cert.Kernel3Ideal.V
open Cert.Kernel3Ideal Cert.Kernel3Ideal.Gen Cert.RealLift

section pay
variable (U Z G W L M A P Q S T : ℕ → ℕ → ℝ)

theorem p7 : k0_pay7 (F := Ideal) (mat 256 2048 U) = mat 256 2048 fun i j => ctr (U i) j := by
  funext j
  pointwise [k0_pay7]
  simp only [lit_2048, coe_sum]
  rw [div_real (by norm_num), ← EReal.coe_sub]
  rfl

theorem p8 : k0_pay8 (F := Ideal) (mat 256 2048 U) = mat 256 1 fun i _ => rl (U i) := by
  funext j
  pointwise [k0_pay8]
  rw [p7]
  simp only [lit_2048, lit_eps, ← EReal.coe_mul, coe_sum]
  rw [div_real (by norm_num), ← EReal.coe_add]
  exact rsqrt_real (msq_pos 2048 (by norm_num) _)

theorem p9 : k0_pay9 (F := Ideal) (mat 256 2048 U) = mat 256 2048 fun i j => un (U i) j := by
  funext j
  pointwise [k0_pay9]
  rw [p7, p8, ← EReal.coe_mul]
  rfl

theorem p10 : k0_pay10 (F := Ideal) (mat 256 2048 U) (mat 1 2048 L) (mat 1 2048 M) = mat 256 2048 fun i j => ul (U i) (L 0) (M 0) j := by
  funext j
  pointwise [k0_pay10]
  rw [p9, ← EReal.coe_mul, ← EReal.coe_add]
  rfl

theorem p11 : k0_pay11 (F := Ideal) (mat 256 2048 Z) = mat 256 2048 Z := by
  funext j
  pointwise [k0_pay11]

theorem p12 : k0_pay12 (F := Ideal) (mat 256 2048 U) (mat 1 2048 L) (mat 1 2048 M) = mat 256 2048 fun i j => sl (ul (U i) (L 0) (M 0) j) := by
  funext j
  pointwise [k0_pay12]
  rw [p10]
  simp only [mat, zero_sub, sg_real, ← EReal.coe_mul]
  rfl

theorem p13 : k0_pay13 (F := Ideal) (mat 256 2048 Z) (0 : EReal) = mat 256 2048 fun i j => sl (Z i j) := by
  funext j
  pointwise [k0_pay13]
  simp only [mat, zero_sub, sg_real, ← EReal.coe_mul]
  rfl

theorem p15 : k0_pay15 (F := Ideal) (mat 256 2048 Z) (mat 256 2048 A) (FloatOps.ofBits FTy.f32 0#32) (mat 256 1024 G) (mat 2048 1024 S)
    = mat 2048 1024 fun j k => S j k + ∑ i ∈ Finset.range 256, A i j * sl (Z i j) * G i k := by
  funext j
  pointwise [k0_pay15, k0_pay14]
  rw [p13]
  simp only [← EReal.coe_mul, coe_sum, ← EReal.coe_add, Finset.sum_range]
  rfl

theorem p16 : k0_pay16 (F := Ideal) (mat 256 1024 G) (mat 2048 1024 W) = mat 256 2048 (dyn G W) := by
  funext j
  pointwise [k0_pay16, k0_pay14]
  simp only [← EReal.coe_mul, coe_sum]
  rfl

theorem p17 : k0_pay17 (F := Ideal) (mat 256 2048 Z) (mat 256 2048 A) (mat 256 1024 G) (mat 2048 1024 W) = mat 256 2048 fun i j => dyn G W i j * A i j * gz (Z i j) := by
  funext j
  pointwise [k0_pay17]
  rw [p16]
  simp only [mat, zero_sub, sg_real]
  simp only [← EReal.coe_one, ← EReal.coe_sub, ← EReal.coe_mul, ← EReal.coe_add]
  rfl

theorem p18 : k0_pay18 (F := Ideal) (mat 256 2048 Z) (FloatOps.ofBits FTy.f32 0#32) (mat 256 1024 G) (mat 2048 1024 W) = mat 256 2048 fun i j => dyn G W i j * sl (Z i j) := by
  funext j
  pointwise [k0_pay18]
  rw [p16, p13, ← EReal.coe_mul]

theorem p19 : k0_pay19 (F := Ideal) (mat 256 2048 P) (mat 256 2048 Q) (FloatOps.ofBits FTy.f32 0#32) = mat 256 2048 fun i j => Q i j * gz (P i j) := by
  funext j
  pointwise [k0_pay19]
  simp only [mat, zero_sub, sg_real]
  simp only [← EReal.coe_one, ← EReal.coe_sub, ← EReal.coe_mul, ← EReal.coe_add]
  rfl

variable {v0 v1 v2 : FVec Ideal S256x2048 .f32} {k : Ideal .f32} {s : FVec Ideal S8x2048 .f32}

theorem p20 (h : k0_pay19 (F := Ideal) v1 v2 k = mat 256 2048 T) : k0_pay20 (F := Ideal) (mat 256 2048 A) v1 v2 k = mat 256 2048 fun i j => T i j * A i j := by
  funext j
  pointwise [k0_pay20]
  rw [h, ← EReal.coe_mul]

/-- The eight partial sums of a block's rows: lane `i` takes the rows `8 k + i`. -/
theorem p23 (hs : s = mat 8 2048 S) (h : k0_pay20 (F := Ideal) v0 v1 v2 k = mat 256 2048 T) :
    k0_pay23 (F := Ideal) s (k0_pay20 v0 v1 v2 k) (k0_pay21 v0 v1 v2 k) (k0_pay22 v0 v1 v2 k) = mat 8 2048 fun i j => S i j + ∑ k ∈ Finset.range 32, T (8 * k + i) j := by
  funext j
  pointwise [k0_pay23, k0_pay21, k0_pay22]
  rw [h, hs]
  simp only [← EReal.coe_add]
  norm_num only [Finset.sum_range_succ, Finset.sum_range_zero, zero_add, Nat.mul_zero]
  rfl

/-- `p23` of the gradient at the norm's result. -/
theorem p25 (hs : s = mat 8 2048 S) (h : v0 = mat 256 2048 T) :
    k0_pay25 (F := Ideal) v0 s (k0_pay24 v0) = mat 8 2048 fun i j => S i j + ∑ k ∈ Finset.range 32, T (8 * k + i) j := by
  funext j
  pointwise [k0_pay25, k0_pay24]
  rw [h, hs]
  simp only [← EReal.coe_add]
  norm_num only [Finset.sum_range_succ, Finset.sum_range_zero, zero_add, Nat.mul_zero]
  rfl

theorem p26 : k0_pay26 (F := Ideal) (mat 256 2048 T) (mat 1 2048 L) = mat 256 2048 fun i j => T i j * L 0 j := by
  funext j
  pointwise [k0_pay26]
  rw [← EReal.coe_mul]
  rfl

theorem p27 : k0_pay27 (F := Ideal) (mat 256 2048 T) (mat 1 2048 L) = mat 256 1 fun i _ => mean fun j => T i j * L 0 j := by
  funext j
  pointwise [k0_pay27]
  rw [p26]
  simp only [lit_2048, coe_sum]
  rw [div_real (by norm_num)]
  rfl

theorem p28 : k0_pay28 (F := Ideal) (mat 256 2048 A) (mat 256 2048 T) (mat 1 2048 L) = mat 256 1 fun i _ => ∑ k : Fin 2048, T i k * L 0 k * A i k := by
  funext j
  pointwise [k0_pay28]
  rw [p26]
  simp only [← EReal.coe_mul, coe_sum]
  rfl

/-- The gradient of a row, from its standard deviation, the normalised row and the gradient at it. -/
theorem p1 : k0_pay1 (F := Ideal) (mat 256 1 fun i _ => rl (U i)) (mat 256 2048 fun i j => un (U i) j) (mat 256 2048 fun i j => T i j * L 0 j)
      (mat 256 1 fun i _ => mean fun j => T i j * L 0 j) (mat 256 1 fun i _ => ∑ k : Fin 2048, T i k * L 0 k * un (U i) k)
    = mat 256 2048 fun i j => lnGrad (U i) (fun k => T i k * L 0 k) j := by
  funext j
  pointwise [k0_pay1]
  simp only [lit_2048]
  rw [div_real (by norm_num)]
  simp only [← EReal.coe_mul, ← EReal.coe_sub]
  rfl

theorem p2 : k0_pay2 (F := Ideal) (mat 8 2048 T) = mat 1 2048 fun _ j => ∑ i : Fin 8, T i j := by
  funext j
  pointwise [k0_pay2]
  simp only [coe_sum]
  rfl

theorem p3 : k0_pay3 (F := Ideal) (mat 8 2048 T) = mat 1 2048 fun _ j => ∑ i : Fin 8, T i j := by
  funext j
  pointwise [k0_pay3]
  simp only [coe_sum]
  rfl

theorem p4 : k0_pay4 (F := Ideal) = mat 8 2048 fun _ _ => 0 := by
  funext j
  pointwise [k0_pay4]
  simp

theorem p5 : k0_pay5 (F := Ideal) = mat 8 2048 fun _ _ => 0 := by
  funext j
  pointwise [k0_pay5]
  simp

theorem p6 : k0_pay6 (F := Ideal) = mat 2048 1024 fun _ _ => 0 := by
  funext j
  pointwise [k0_pay6]
  simp

end pay

/-- The windows' blocks at a point, by number. -/
theorem idx : ∀ t : Fin cfg0.N, win0_0.index t = ![t.val, 0] ∧ win0_1.index t = ![t.val, 0] ∧ win0_2.index t = ![t.val, 2] ∧
    win0_3.index t = ![0, 0] ∧ win0_4.index t = ![0, 0] ∧ win0_5.index t = ![0, 0] ∧ win0_6.index t = ![0, 0] ∧
    win0_7.index t = ![t.val, 0] ∧ win0_8.index t = ![t.val, 0] ∧ win0_9.index t = ![0, 0] ∧ win0_10.index t = ![0, 0] :=
  (by decide +kernel : ∀ t : Fin grid0.N, _)

variable (G Y Z L M W : ℕ → ℕ → ℝ) (B : ℕ → ℝ) (m : (ℓ : Loc nD τ sig) → Buf (Elt Ideal) ℓ) (c : Dev nD)

/-- The seven arguments are real arrays. -/
structure Args : Prop where
  h0 : m ((c.tc : Thread nD τ).loc main_arg0) = mat 16384 1024 G
  h1 : m ((c.tc : Thread nD τ).loc main_arg1) = mat 16384 2048 Y
  h2 : m ((c.tc : Thread nD τ).loc main_arg2) = row 2048 B
  h3 : m ((c.tc : Thread nD τ).loc main_arg3) = mat 16384 6144 Z
  h4 : m ((c.tc : Thread nD τ).loc main_arg4) = mat 1 2048 L
  h5 : m ((c.tc : Thread nD τ).loc main_arg5) = mat 1 2048 M
  h6 : m ((c.tc : Thread nD τ).loc main_arg6) = mat 2048 1024 W

/-- The convolution's output: the sum of products and the bias. -/
def ub (Y : ℕ → ℕ → ℝ) (B : ℕ → ℝ) (i j : ℕ) : ℝ := Y i j + B j

/-- The gate's columns of the projection. -/
def zc (Z : ℕ → ℕ → ℝ) (i j : ℕ) : ℝ := Z i (4096 + j)

variable {G Y Z L M W B m c} (H : Args G Y Z L M W B m c)
include H

theorem blk0 (t : Fin cfg0.N) : iblk m c 0 t = mat 256 1024 fun i => G (256 * t.val + i) := by
  funext y
  have ht : t.val < 64 := lt_of_lt_of_eq t.isLt N_0
  have hy : (y 0).val < 256 := (y 0).isLt
  obtain ⟨e0, e1, e2, e3, e4, e5, e6, e7, e8, e9, e10⟩ := idx t
  have e : iblk m c 0 t y = m ((c.tc : Thread nD τ).loc main_arg0) (ix2 ⟨256 * t.val + (y 0).val, by omega⟩ (y 1)) := by
    blk_point [iblk, V, e0]
  rw [e, H.h0]
  rfl

theorem host1 : V m c main_v3 = mat 16384 2048 (ub Y B) := by
  have e : V m c main_v3 = truncf .bf16 (addf (F := Ideal) (φ := .f32) (m ((c.tc : Thread nD τ).loc main_arg1))
      (broadcastInDim S16384x2048 ![0, 1] bcast_S1x2048_S16384x2048_0_1 (broadcastInDim S1x2048 ![1] bcast_S2048_S1x2048_1 (m ((c.tc : Thread nD τ).loc main_arg2))))) bitsLt_bf16_f32 := by
    after_results_simp
    rfl
  rw [e, H.h1, H.h2]
  funext j
  pointwise []
  rw [← EReal.coe_add]
  rfl

theorem blk1 (t : Fin cfg0.N) : iblk m c 1 t = mat 256 2048 fun i => ub Y B (256 * t.val + i) := by
  funext y
  have ht : t.val < 64 := lt_of_lt_of_eq t.isLt N_0
  have hy : (y 0).val < 256 := (y 0).isLt
  obtain ⟨e0, e1, e2, e3, e4, e5, e6, e7, e8, e9, e10⟩ := idx t
  have key : ((cfg0.win 1).blk t).view.emb y = ix2 ⟨256 * t.val + (y 0).val, by omega⟩ (y 1) := by
    blk_ext [e1]
  have hA : iblk m c 1 t y = V m c main_v3 (((cfg0.win 1).blk t).view.emb y) := rfl
  rw [hA, host1 H, key]
  rfl

theorem blk2 (t : Fin cfg0.N) : iblk m c 2 t = mat 256 2048 fun i => zc Z (256 * t.val + i) := by
  funext y
  have ht : t.val < 64 := lt_of_lt_of_eq t.isLt N_0
  have hy : (y 0).val < 256 := (y 0).isLt
  have hy1 : (y 1).val < 2048 := (y 1).isLt
  obtain ⟨e0, e1, e2, e3, e4, e5, e6, e7, e8, e9, e10⟩ := idx t
  have e : iblk m c 2 t y = m ((c.tc : Thread nD τ).loc main_arg3) (ix2 ⟨256 * t.val + (y 0).val, by omega⟩ ⟨4096 + (y 1).val, by omega⟩) := by
    blk_point [iblk, V, e2]
  rw [e, H.h3]
  rfl

theorem blk3 (t : Fin cfg0.N) : iblk m c 3 t = mat 1 2048 L := by
  funext y
  obtain ⟨e0, e1, e2, e3, e4, e5, e6, e7, e8, e9, e10⟩ := idx t
  have e : iblk m c 3 t y = m ((c.tc : Thread nD τ).loc main_arg4) (ix2 (y 0) (y 1)) := by
    blk_point [iblk, V, e3]
  rw [e, H.h4]
  rfl

theorem blk4 (t : Fin cfg0.N) : iblk m c 4 t = mat 1 2048 M := by
  funext y
  obtain ⟨e0, e1, e2, e3, e4, e5, e6, e7, e8, e9, e10⟩ := idx t
  have e : iblk m c 4 t y = m ((c.tc : Thread nD τ).loc main_arg5) (ix2 (y 0) (y 1)) := by
    blk_point [iblk, V, e4]
  rw [e, H.h5]
  rfl

theorem blk5 (t : Fin cfg0.N) : iblk m c 5 t = mat 2048 1024 W := by
  funext y
  obtain ⟨e0, e1, e2, e3, e4, e5, e6, e7, e8, e9, e10⟩ := idx t
  have e : iblk m c 5 t y = m ((c.tc : Thread nD τ).loc main_arg6) (ix2 (y 0) (y 1)) := by
    blk_point [iblk, V, e5]
  rw [e, H.h6]
  rfl

/-- The gradient at the norm's result at a point. -/
theorem dup (t : Fin cfg0.N) : k0_pay19 (F := Ideal) (k0_pay10 (iblk m c 1 t) (iblk m c 3 t) (iblk m c 4 t))
      (k0_pay18 (k0_pay11 (iblk m c 2 t)) (FloatOps.ofBits FTy.f32 0#32) (iblk m c 0 t) (iblk m c 5 t)) (FloatOps.ofBits FTy.f32 0#32)
    = mat 256 2048 fun i => dul (ub Y B) (zc Z) G W L M (256 * t.val + i) := by
  rw [blk0 H, blk1 H, blk2 H, blk3 H, blk4 H, blk5 H, p10, p11, p18, p19]
  rfl

end Cert.Kernel3Ideal.V
-- ==== Proof.CoutF.lean ====
module

public import proofs.«01_k».proof.Proof.CoutK

/-! What the conformer layer's output-side backward kernel carries from point to point, and the five arrays it leaves. -/

@[expose] public section

set_option maxRecDepth 16384

noncomputable section

open Idealize.ShloMosaic Idealize.ShloMosaic.TcCoe Idealize.SL.Sem
open Idealize.ShloMosaic.Pipeline (Dat)

namespace Cert.Kernel3Ideal.V
open Cert.Kernel3Ideal Cert.Kernel3Ideal.Gen Cert.RealLift

variable {G Y Z L M W : ℕ → ℕ → ℝ} {B : ℕ → ℝ} {m : (ℓ : Loc nD τ sig) → Buf (Elt Ideal) ℓ} {c : Dev nD} (H : Args G Y Z L M W B m c)
include H

theorem dwp (t : Fin cfg0.N) {s : FVec Ideal S2048x1024 .f32} (S : ℕ → ℕ → ℝ) (hs : s = mat 2048 1024 S) :
    k0_pay15 (F := Ideal) (k0_pay11 (iblk m c 2 t)) (k0_pay12 (iblk m c 1 t) (iblk m c 3 t) (iblk m c 4 t)) (FloatOps.ofBits FTy.f32 0#32) (iblk m c 0 t) s
    = mat 2048 1024 fun j k => S j k + ∑ i ∈ Finset.range 256, sl (ul (ub Y B (256 * t.val + i)) (L 0) (M 0) j) * sl (zc Z (256 * t.val + i) j) * G (256 * t.val + i) k := by
  rw [blk0 H, blk1 H, blk2 H, blk3 H, blk4 H, hs, p11, p12, p15]

theorem dlp (t : Fin cfg0.N) : k0_pay20 (F := Ideal) (k0_pay9 (iblk m c 1 t)) (k0_pay10 (iblk m c 1 t) (iblk m c 3 t) (iblk m c 4 t)) (k0_pay18 (k0_pay11 (iblk m c 2 t)) (FloatOps.ofBits FTy.f32 0#32) (iblk m c 0 t) (iblk m c 5 t)) (FloatOps.ofBits FTy.f32 0#32)
    = mat 256 2048 fun i j => dul (ub Y B) (zc Z) G W L M (256 * t.val + i) j * un (ub Y B (256 * t.val + i)) j := by
  rw [blk1 H, p9, ← blk1 H]
  exact p20 _ _ (dup H t)

theorem dzp (t : Fin cfg0.N) : k0_pay17 (F := Ideal) (k0_pay11 (iblk m c 2 t)) (k0_pay12 (iblk m c 1 t) (iblk m c 3 t) (iblk m c 4 t)) (iblk m c 0 t) (iblk m c 5 t)
    = mat 256 2048 fun i j => dyn G W (256 * t.val + i) j * sl (ul (ub Y B (256 * t.val + i)) (L 0) (M 0) j) * gz (zc Z (256 * t.val + i) j) := by
  rw [blk0 H, blk1 H, blk2 H, blk3 H, blk4 H, blk5 H, p11, p12, p17]
  rfl

theorem dxp (t : Fin cfg0.N) : k0_pay1 (F := Ideal) (k0_pay8 (iblk m c 1 t)) (k0_pay9 (iblk m c 1 t))
      (k0_pay26 (k0_pay19 (k0_pay10 (iblk m c 1 t) (iblk m c 3 t) (iblk m c 4 t)) (k0_pay18 (k0_pay11 (iblk m c 2 t)) (FloatOps.ofBits FTy.f32 0#32) (iblk m c 0 t) (iblk m c 5 t)) (FloatOps.ofBits FTy.f32 0#32)) (iblk m c 3 t))
      (k0_pay27 (k0_pay19 (k0_pay10 (iblk m c 1 t) (iblk m c 3 t) (iblk m c 4 t)) (k0_pay18 (k0_pay11 (iblk m c 2 t)) (FloatOps.ofBits FTy.f32 0#32) (iblk m c 0 t) (iblk m c 5 t)) (FloatOps.ofBits FTy.f32 0#32)) (iblk m c 3 t))
      (k0_pay28 (k0_pay9 (iblk m c 1 t)) (k0_pay19 (k0_pay10 (iblk m c 1 t) (iblk m c 3 t) (iblk m c 4 t)) (k0_pay18 (k0_pay11 (iblk m c 2 t)) (FloatOps.ofBits FTy.f32 0#32) (iblk m c 0 t) (iblk m c 5 t)) (FloatOps.ofBits FTy.f32 0#32)) (iblk m c 3 t))
    = mat 256 2048 fun i j => lnGrad (ub Y B (256 * t.val + i)) (fun k => dul (ub Y B) (zc Z) G W L M (256 * t.val + i) k * L 0 k) j := by
  rw [dup H, blk1 H, blk3 H, p8, p9, p26, p27, p28]
  exact p1 _ _ _

/-- The gradient of the output weights over the rows seen so far. -/
theorem carW (n : ℕ) (h : n < cfg0.N) :
    (outsAt0 m c n h).1 = mat 2048 1024 fun j k => ∑ t ∈ Finset.range (n + 1), ∑ i ∈ Finset.range 256,
      sl (ul (ub Y B (256 * t + i)) (L 0) (M 0) j) * sl (zc Z (256 * t + i) j) * G (256 * t + i) k := by
  have hN : n < 64 := lt_of_lt_of_eq h N_0
  induction n with
  | zero =>
    rw [outsAt0_A m c ⟨0, h⟩ (by simp) (by simp)]
    frame_out
    refine (dwp H _ _ p6).trans ?_
    simp [sl]
  | succ n ih =>
    have ih' := ih (by omega) (by omega)
    by_cases h1 : n + 1 = 63
    · rw [outsAt0_C m c ⟨n + 1, h⟩ (by simp only; omega) (by simp only; omega)]
      frame_out
      refine (dwp H _ _ ih').trans ?_
      simp only [Finset.sum_range_succ _ (n + 1), sl]
    · rw [outsAt0_B m c ⟨n + 1, h⟩ (by simp only; omega) (by simp only; omega)]
      frame_out
      refine (dwp H _ _ ih').trans ?_
      simp only [Finset.sum_range_succ _ (n + 1), sl]

/-- The eight partial rows of the norm weight's gradient. -/
theorem carL (n : ℕ) (h : n < cfg0.N) :
    (outsAt0 m c n h).2.2.2.2.2.1 = mat 8 2048 fun i j => ∑ t ∈ Finset.range (n + 1), ∑ k ∈ Finset.range 32,
      dul (ub Y B) (zc Z) G W L M (256 * t + (8 * k + i)) j * un (ub Y B (256 * t + (8 * k + i))) j := by
  have hN : n < 64 := lt_of_lt_of_eq h N_0
  induction n with
  | zero =>
    rw [outsAt0_A m c ⟨0, h⟩ (by simp) (by simp)]
    frame_out
    refine (p23 _ _ p4 (dlp H _)).trans ?_
    simp
  | succ n ih =>
    have ih' := ih (by omega) (by omega)
    by_cases h1 : n + 1 = 63
    · rw [outsAt0_C m c ⟨n + 1, h⟩ (by simp only; omega) (by simp only; omega)]
      frame_out
      simp only [read_unread_whole]
      refine (p23 _ _ ih' (dlp H _)).trans ?_
      simp only [Finset.sum_range_succ _ (n + 1)]
    · rw [outsAt0_B m c ⟨n + 1, h⟩ (by simp only; omega) (by simp only; omega)]
      frame_out
      simp only [read_unread_whole]
      refine (p23 _ _ ih' (dlp H _)).trans ?_
      simp only [Finset.sum_range_succ _ (n + 1)]

/-- The eight partial rows of the norm bias's gradient. -/
theorem carM (n : ℕ) (h : n < cfg0.N) :
    (outsAt0 m c n h).2.2.2.2.2.2 = mat 8 2048 fun i j => ∑ t ∈ Finset.range (n + 1), ∑ k ∈ Finset.range 32,
      dul (ub Y B) (zc Z) G W L M (256 * t + (8 * k + i)) j := by
  have hN : n < 64 := lt_of_lt_of_eq h N_0
  induction n with
  | zero =>
    rw [outsAt0_A m c ⟨0, h⟩ (by simp) (by simp)]
    frame_out
    refine (p25 _ _ p5 (dup H _)).trans ?_
    simp
  | succ n ih =>
    have ih' := ih (by omega) (by omega)
    by_cases h1 : n + 1 = 63
    · rw [outsAt0_C m c ⟨n + 1, h⟩ (by simp only; omega) (by simp only; omega)]
      frame_out
      simp only [read_unread_whole]
      refine (p25 _ _ ih' (dup H _)).trans ?_
      simp only [Finset.sum_range_succ _ (n + 1)]
    · rw [outsAt0_B m c ⟨n + 1, h⟩ (by simp only; omega) (by simp only; omega)]
      frame_out
      simp only [read_unread_whole]
      refine (p25 _ _ ih' (dup H _)).trans ?_
      simp only [Finset.sum_range_succ _ (n + 1)]

/-- The gradient of the convolution's output. -/
theorem fin7 : (dats m 0 c).arrAt 7 (cfgs 0).N = mat 16384 2048 fun i j => lnGrad (ub Y B i) (fun k => dul (ub Y B) (zc Z) G W L M i k * L 0 k) j := by
  refine (dats m 0 c).arrAt_eq_of_covers 7 _ (by decide +kernel) fun t _ y => ?_
  obtain ⟨e0, e1, e2, e3, e4, e5, e6, e7, e8, e9, e10⟩ := idx t
  have ht : t.val < 64 := lt_of_lt_of_eq t.isLt N_0
  have hy : (y 0).val < 256 := (y 0).isLt
  have key : ((cfg0.win 7).blk t).view.emb y = ix2 ⟨256 * t.val + (y 0).val, by omega⟩ (y 1) := by
    blk_ext [e7]
  blk_simp
  rw [after0_7]
  refine Eq.trans ?_ (congrArg (mat 16384 2048 _) key).symm
  by_cases h0 : t.val % 64 = 0
  · rw [outsAt0_A m c t h0 (by omega)]; frame_out
    exact congrFun (dxp H t) y
  · by_cases h1 : t.val % 64 = 63
    · rw [outsAt0_C m c t h0 h1]; frame_out
      exact congrFun (dxp H t) y
    · rw [outsAt0_B m c t h0 h1]; frame_out
      exact congrFun (dxp H t) y

/-- The gradient of the gate. -/
theorem fin8 : (dats m 0 c).arrAt 8 (cfgs 0).N = mat 16384 2048 fun i j => dyn G W i j * sl (ul (ub Y B i) (L 0) (M 0) j) * gz (zc Z i j) := by
  refine (dats m 0 c).arrAt_eq_of_covers 8 _ (by decide +kernel) fun t _ y => ?_
  obtain ⟨e0, e1, e2, e3, e4, e5, e6, e7, e8, e9, e10⟩ := idx t
  have ht : t.val < 64 := lt_of_lt_of_eq t.isLt N_0
  have hy : (y 0).val < 256 := (y 0).isLt
  have key : ((cfg0.win 8).blk t).view.emb y = ix2 ⟨256 * t.val + (y 0).val, by omega⟩ (y 1) := by
    blk_ext [e8]
  blk_simp
  rw [after0_8]
  refine Eq.trans ?_ (congrArg (mat 16384 2048 _) key).symm
  by_cases h0 : t.val % 64 = 0
  · rw [outsAt0_A m c t h0 (by omega)]; frame_out
    exact congrFun (dzp H t) y
  · by_cases h1 : t.val % 64 = 63
    · rw [outsAt0_C m c t h0 h1]; frame_out
      exact congrFun (dzp H t) y
    · rw [outsAt0_B m c t h0 h1]; frame_out
      exact congrFun (dzp H t) y

/-- The gradient of the output weights. -/
theorem fin6 : (dats m 0 c).arrAt 6 (cfgs 0).N = mat 2048 1024 fun j k => ∑ i ∈ Finset.range 16384, sl (ul (ub Y B i) (L 0) (M 0) j) * sl (zc Z i j) * G i k := by
  refine (dats m 0 c).arrAt_eq_of_covers 6 _ (by decide +kernel) fun t hf y => ?_
  obtain ⟨e0, e1, e2, e3, e4, e5, e6, e7, e8, e9, e10⟩ := idx t
  have h1 := (flush0_6 t).mp hf
  have ht : t.val = 63 := by have := lt_of_lt_of_eq t.isLt N_0; omega
  have key : ((cfg0.win 6).blk t).view.emb y = ix2 (y 0) (y 1) := by
    blk_ext [e6]
  blk_simp
  refine Eq.trans ?_ (congrArg (mat 2048 1024 _) key).symm
  rw [after0_6, carW H]
  rw [ht]
  exact congrArg (fun r : ℝ => (r : EReal)) (sum_blocks (fun i => sl (ul (ub Y B i) (L 0) (M 0) (y 0).val) * sl (zc Z i (y 0).val) * G i (y 1).val) 64 256)

/-- The gradient of the norm's weight. -/
theorem fin9 : (dats m 0 c).arrAt 9 (cfgs 0).N = mat 1 2048 fun _ j => ∑ i ∈ Finset.range 16384, dul (ub Y B) (zc Z) G W L M i j * un (ub Y B i) j := by
  refine (dats m 0 c).arrAt_eq_of_covers 9 _ (by decide +kernel) fun t hf y => ?_
  obtain ⟨e0, e1, e2, e3, e4, e5, e6, e7, e8, e9, e10⟩ := idx t
  have h1 := (flush0_9 t).mp hf
  have ht : t.val = 63 := by have := lt_of_lt_of_eq t.isLt N_0; omega
  have key : ((cfg0.win 9).blk t).view.emb y = ix2 (y 0) (y 1) := by
    blk_ext [e9]
  blk_simp
  refine Eq.trans ?_ (congrArg (mat 1 2048 _) key).symm
  rw [after0_9, outsAt0_C m c t (by omega) h1]; frame_out
  simp only [read_unread_whole]
  refine (congrFun ((congrArg (k0_pay2 (F := Ideal)) (p23 _ _ (carL H (t.val - 1) _) (dlp H t))).trans (p2 _)) y).trans ?_
  rw [ht]
  simp only [← Finset.sum_range_succ, Nat.reduceSub, Nat.reduceAdd]
  exact congrArg (fun r : ℝ => (r : EReal)) (sum_rows256 fun i => dul (ub Y B) (zc Z) G W L M i (y 1).val * un (ub Y B i) (y 1).val)

/-- The gradient of the norm's bias. -/
theorem fin10 : (dats m 0 c).arrAt 10 (cfgs 0).N = mat 1 2048 fun _ j => ∑ i ∈ Finset.range 16384, dul (ub Y B) (zc Z) G W L M i j := by
  refine (dats m 0 c).arrAt_eq_of_covers 10 _ (by decide +kernel) fun t hf y => ?_
  obtain ⟨e0, e1, e2, e3, e4, e5, e6, e7, e8, e9, e10⟩ := idx t
  have h1 := (flush0_10 t).mp hf
  have ht : t.val = 63 := by have := lt_of_lt_of_eq t.isLt N_0; omega
  have key : ((cfg0.win 10).blk t).view.emb y = ix2 (y 0) (y 1) := by
    blk_ext [e10]
  blk_simp
  refine Eq.trans ?_ (congrArg (mat 1 2048 _) key).symm
  rw [after0_10, outsAt0_C m c t (by omega) h1]; frame_out
  simp only [read_unread_whole]
  refine (congrFun ((congrArg (k0_pay3 (F := Ideal)) (p25 _ _ (carM H (t.val - 1) _) (dup H t))).trans (p3 _)) y).trans ?_
  rw [ht]
  simp only [← Finset.sum_range_succ, Nat.reduceSub, Nat.reduceAdd]
  exact congrArg (fun r : ℝ => (r : EReal)) (sum_rows256 fun i => dul (ub Y B) (zc Z) G W L M i (y 1).val)

end Cert.Kernel3Ideal.V
-- ==== Proof.CoutR.lean ====
module

public import proofs.«01_k».proof.Proof.Gen.Reference3Ideal.Read
public import Idealize.ShloMosaic.Lib.Pipeline.ValueKit
public import proofs.«01_k».proof.Proof.NormLift

/-! The five results of the reference for the conformer layer's output-side backward call on real arguments. -/

@[expose] public section

set_option maxRecDepth 16384

noncomputable section

open Idealize.ShloMosaic Idealize.ShloMosaic.TcCoe Idealize.SL.Sem

namespace Cert.Reference3Ideal.V
open Cert.Reference3Ideal Cert.Reference3Ideal.Gen Cert.Reference3Ideal.Read Cert.RealLift

variable (G Y Z L M W : ℕ → ℕ → ℝ) (B : ℕ → ℝ)

theorem v2 : val_main_v2 (F := Ideal) (mat 16384 2048 Y) (row 2048 B) = mat 16384 2048 (fun i j => Y i j + B j) := by
  funext j
  simp only [val_main_v2_apply, val_main_v1_apply, val_main_v0_apply, Ideal.addf_def, ← EReal.coe_add]

section norm
variable {Y B} (U : ℕ → ℕ → ℝ) (h : val_main_v2 (F := Ideal) (mat 16384 2048 Y) (row 2048 B) = mat 16384 2048 U)
include h

theorem v9 : val_main_v9 (F := Ideal) (mat 16384 2048 Y) (row 2048 B) = mat 16384 1 fun i _ => mean (U i) := by
  funext j
  simp only [val_main_v9_apply, val_main_v8_apply, val_main_v7_apply, val_main_v6_apply, val_main_cst_apply, val_main_cst_0_apply, h, Ideal.hostDivf_def, Ideal.ofBits_def, lit_zero, lit_2048, coe_sum, ← EReal.coe_add, zero_add]
  rw [div_real (by norm_num)]
  rfl

theorem v11 : val_main_v11 (F := Ideal) (mat 16384 2048 Y) (row 2048 B) = mat 16384 2048 fun i => ctr (U i) := by
  funext j
  simp only [val_main_v11_apply, val_main_v10_apply, v9 _ h, h, Ideal.subf_def, ← EReal.coe_sub]
  rfl

theorem v18 : val_main_v18 (F := Ideal) (mat 16384 2048 Y) (row 2048 B) = mat 16384 1 fun i _ => msq 2048 2048 (ctr (U i)) := by
  funext j
  simp only [val_main_v18_apply, val_main_v17_apply, val_main_v16_apply, val_main_v15_apply, val_main_v14_apply, val_main_v13_apply, val_main_v12_apply, val_main_cst_1_apply, val_main_cst_2_apply, val_main_cst_3_apply, v11 _ h, Ideal.addf_def, Ideal.mulf_def, Ideal.hostDivf_def, Ideal.ofBits_def, lit_zero, lit_2048, lit_eps, ← EReal.coe_mul, coe_sum, ← EReal.coe_add, zero_add]
  rw [div_real (by norm_num), ← EReal.coe_add]
  rfl

theorem v19 : val_main_v19 (F := Ideal) (mat 16384 2048 Y) (row 2048 B) = mat 16384 1 fun i _ => rl (U i) := by
  funext j
  simp only [val_main_v19_apply, v18 _ h, Ideal.hostUnary_rsqrt_def]
  exact rsqrt_real (msq_pos 2048 (by norm_num) _)

theorem v22 : val_main_v22 (F := Ideal) (mat 16384 2048 Y) (row 2048 B) = mat 16384 1 fun i _ => -(1 / 2) * (rl (U i) / msq 2048 2048 (ctr (U i))) := by
  funext j
  simp only [val_main_v22_apply, val_main_v21_apply, val_main_v20_apply, val_main_cst_4_apply, v19 _ h, v18 _ h, Ideal.hostDivf_def, Ideal.mulf_def, Ideal.ofBits_def, lit_neg_half]
  rw [div_real (msq_pos 2048 (by norm_num) _).ne', ← EReal.coe_mul]

theorem v24 : val_main_v24 (F := Ideal) (mat 16384 2048 Y) (row 2048 B) = mat 16384 2048 fun i => un (U i) := by
  funext j
  simp only [val_main_v24_apply, val_main_v23_apply, v11 _ h, v19 _ h, Ideal.mulf_def, ← EReal.coe_mul]
  rfl

theorem v30 : val_main_v30 (F := Ideal) (mat 16384 2048 Y) (row 2048 B) (mat 1 2048 L) (mat 1 2048 M) = mat 16384 2048 fun i => ul (U i) (L 0) (M 0) := by
  funext j
  simp only [val_main_v30_apply, val_main_v29_apply, val_main_v28_apply, val_main_v27_apply, val_main_v26_apply, val_main_v25_apply, val_main_v5_apply, val_main_v4_apply, v24 _ h, Ideal.mulf_def, Ideal.addf_def, ← EReal.coe_mul, ← EReal.coe_add]
  rw [Nat.mod_eq_of_lt (show (j 1).val < 2048 from (j 1).isLt)]
  rfl

theorem v31_2 : val_main_v31_2 (F := Ideal) (mat 16384 2048 Y) (row 2048 B) (mat 1 2048 L) (mat 1 2048 M) = mat 16384 2048 fun i j => sg (ul (U i) (L 0) (M 0) j) := by
  funext j
  simp only [val_main_v31_2_apply, val_main_call0_v0_apply, val_main_call0_v1_apply, val_main_call0_v2_apply, val_main_call0_v3_apply, val_main_call0_v4_apply, val_main_call0_cst_apply, val_main_call0_cst_0_apply, v30 _ _ _ h, Ideal.hostNegf_def, Ideal.hostUnary_exp_def, Ideal.addf_def, Ideal.hostDivf_def, Ideal.ofBits_def, lit_one, EReal.coe_one, Ideal.negf_def]
  simp only [mat, sg_real]

theorem v31_1 : val_main_v31_1 (F := Ideal) (mat 16384 2048 Y) (row 2048 B) (mat 1 2048 L) (mat 1 2048 M) = mat 16384 2048 fun i j => sg (ul (U i) (L 0) (M 0) j) * (1 - sg (ul (U i) (L 0) (M 0) j)) := by
  funext j
  simp only [val_main_v31_1_apply, val_main_call0_v7_apply, val_main_call0_v6_apply, val_main_call0_cst_1_apply, v31_2 _ _ _ h, Ideal.subf_def, Ideal.mulf_def, Ideal.ofBits_def, lit_one, ← EReal.coe_sub, ← EReal.coe_mul]

theorem v31_0 : val_main_v31_0 (F := Ideal) (mat 16384 2048 Y) (row 2048 B) (mat 1 2048 L) (mat 1 2048 M) = mat 16384 2048 fun i j => sl (ul (U i) (L 0) (M 0) j) := by
  funext j
  simp only [val_main_v31_0_apply, v31_2 _ _ _ h, v30 _ _ _ h, Ideal.mulf_def, ← EReal.coe_mul]
  rfl

omit h in
theorem v3 : val_main_v3 (F := Ideal) (mat 16384 6144 Z) = mat 16384 2048 fun i j => Z i (4096 + j) := by
  funext j
  simp only [val_main_v3_apply]

omit h in
theorem v32_2 : val_main_v32_2 (F := Ideal) (mat 16384 6144 Z) = mat 16384 2048 fun i j => sg (Z i (4096 + j)) := by
  funext j
  simp only [val_main_v32_2_apply, val_main_call1_v0_apply, val_main_call1_v1_apply, val_main_call1_v2_apply, val_main_call1_v3_apply, val_main_call1_v4_apply, val_main_call1_cst_apply, val_main_call1_cst_0_apply, v3, Ideal.hostNegf_def, Ideal.hostUnary_exp_def, Ideal.addf_def, Ideal.hostDivf_def, Ideal.ofBits_def, lit_one, EReal.coe_one, Ideal.negf_def]
  simp only [mat, sg_real]

omit h in
theorem v32_1 : val_main_v32_1 (F := Ideal) (mat 16384 6144 Z) = mat 16384 2048 fun i j => sg (Z i (4096 + j)) * (1 - sg (Z i (4096 + j))) := by
  funext j
  simp only [val_main_v32_1_apply, val_main_call1_v7_apply, val_main_call1_v6_apply, val_main_call1_cst_1_apply, v32_2, Ideal.subf_def, Ideal.mulf_def, Ideal.ofBits_def, lit_one, ← EReal.coe_sub, ← EReal.coe_mul]

omit h in
theorem v32_0 : val_main_v32_0 (F := Ideal) (mat 16384 6144 Z) = mat 16384 2048 fun i j => sl (Z i (4096 + j)) := by
  funext j
  simp only [val_main_v32_0_apply, v32_2, v3, Ideal.mulf_def, ← EReal.coe_mul]
  rfl

theorem v36 : val_main_v36 (F := Ideal) (mat 16384 1024 G) (mat 16384 2048 Y) (row 2048 B) (mat 16384 6144 Z) (mat 1 2048 L) (mat 1 2048 M) = mat 2048 1024 fun j k => ∑ i ∈ Finset.range 16384, G i k * (sl (ul (U i) (L 0) (M 0) j) * sl (Z i (4096 + j))) := by
  funext j
  simp only [val_main_v36_apply, val_main_v35_apply, val_main_v33_apply, v31_0 _ _ _ h, v32_0, Ideal.mulf_def, ← EReal.coe_mul, coe_sum, Finset.sum_range]

omit h in
theorem v37 : val_main_v37 (F := Ideal) (mat 16384 1024 G) (mat 2048 1024 W) = mat 16384 2048 (dyn G W) := by
  funext j
  simp only [val_main_v37_apply, ← EReal.coe_mul, coe_sum]
  rfl

theorem v74 : val_main_v74 (F := Ideal) (mat 16384 1024 G) (mat 16384 2048 Y) (row 2048 B) (mat 16384 6144 Z) (mat 1 2048 L) (mat 1 2048 M) (mat 2048 1024 W) = mat 16384 2048 fun i j => dyn G W i j * sl (ul (U i) (L 0) (M 0) j) * gz (Z i (4096 + j)) := by
  funext j
  simp only [val_main_v74_apply, val_main_v40_apply, val_main_call2_v0_apply, val_main_call2_v1_apply, val_main_call2_v2_apply, val_main_v38_apply, v31_0 _ _ _ h, v32_1, v32_2, v3, v37, Ideal.mulf_def, Ideal.addf_def, ← EReal.coe_mul, ← EReal.coe_add]
  refine congrArg (fun r : ℝ => (r : EReal)) ?_
  beta_reduce
  rw [gz]
  ring

theorem v41 : val_main_v41 (F := Ideal) (mat 16384 1024 G) (mat 16384 2048 Y) (row 2048 B) (mat 16384 6144 Z) (mat 1 2048 L) (mat 1 2048 M) (mat 2048 1024 W) = mat 16384 2048 fun i j => dyn G W i j * sl (Z i (4096 + j)) * gz (ul (U i) (L 0) (M 0) j) := by
  funext j
  simp only [val_main_v41_apply, val_main_call3_v0_apply, val_main_call3_v1_apply, val_main_call3_v2_apply, val_main_v39_apply, v31_1 _ _ _ h, v31_2 _ _ _ h, v30 _ _ _ h, v32_0, v37, Ideal.mulf_def, Ideal.addf_def, ← EReal.coe_mul, ← EReal.coe_add]
  refine congrArg (fun r : ℝ => (r : EReal)) ?_
  beta_reduce
  rw [gz]
  ring

variable {G Z L M W} (T : ℕ → ℕ → ℝ)
variable (h41 : val_main_v41 (F := Ideal) (mat 16384 1024 G) (mat 16384 2048 Y) (row 2048 B) (mat 16384 6144 Z) (mat 1 2048 L) (mat 1 2048 M) (mat 2048 1024 W) = mat 16384 2048 T)
include h41

omit h in
theorem v49 : val_main_v49 (F := Ideal) (mat 16384 1024 G) (mat 16384 2048 Y) (row 2048 B) (mat 16384 6144 Z) (mat 1 2048 L) (mat 1 2048 M) (mat 2048 1024 W) = mat 16384 2048 fun i j => T i j * L 0 j := by
  funext j
  simp only [val_main_v49_apply, val_main_v48_apply, val_main_v25_apply, val_main_v4_apply, h41, Ideal.mulf_def, ← EReal.coe_mul]
  rw [Nat.mod_eq_of_lt (show (j 1).val < 2048 from (j 1).isLt)]

omit h in
theorem v76 : val_main_v76 (F := Ideal) (mat 16384 1024 G) (mat 16384 2048 Y) (row 2048 B) (mat 16384 6144 Z) (mat 1 2048 L) (mat 1 2048 M) (mat 2048 1024 W) = mat 1 2048 fun _ j => ∑ i ∈ Finset.range 16384, T i j := by
  funext j
  simp only [val_main_v76_apply, val_main_v44_apply, val_main_v43_apply, val_main_v42_apply, val_main_cst_5_apply, val_main_cst_6_apply, h41, Ideal.mulf_def, Ideal.ofBits_def, lit_zero, ← EReal.coe_mul, coe_sum, ← EReal.coe_add, zero_add, Fin.sum_univ_one, Finset.sum_range, Fin.val_zero, Nat.zero_mul]

theorem v75 : val_main_v75 (F := Ideal) (mat 16384 1024 G) (mat 16384 2048 Y) (row 2048 B) (mat 16384 6144 Z) (mat 1 2048 L) (mat 1 2048 M) (mat 2048 1024 W) = mat 1 2048 fun _ j => ∑ i ∈ Finset.range 16384, un (U i) j * T i j := by
  funext j
  simp only [val_main_v75_apply, val_main_v50_apply, val_main_v47_apply, val_main_v46_apply, val_main_v45_apply, val_main_cst_7_apply, val_main_cst_8_apply, v24 _ h, h41, Ideal.mulf_def, Ideal.ofBits_def, lit_zero, ← EReal.coe_mul, coe_sum, ← EReal.coe_add, zero_add, Fin.sum_univ_one, Finset.sum_range, Fin.val_zero, Nat.zero_mul]

theorem v60 : val_main_v60 (F := Ideal) (mat 16384 1024 G) (mat 16384 2048 Y) (row 2048 B) (mat 16384 6144 Z) (mat 1 2048 L) (mat 1 2048 M) (mat 2048 1024 W) = mat 16384 2048 fun i j => (∑ k : Fin 2048, ctr (U i) k * (T i k * L 0 k)) * (-(1 / 2) * (rl (U i) / msq 2048 2048 (ctr (U i)))) / 2048 := by
  funext j
  simp only [val_main_v60_apply, val_main_v59_apply, val_main_v58_apply, val_main_v57_apply, val_main_v56_apply, val_main_v53_apply, val_main_v52_apply, val_main_v51_apply, val_main_cst_9_apply, val_main_cst_10_apply, val_main_cst_11_apply, v22 _ h, v49 _ h41, v11 _ h, Ideal.mulf_def, Ideal.hostDivf_def, Ideal.ofBits_def, lit_zero, lit_2048, ← EReal.coe_mul, coe_sum, ← EReal.coe_add, zero_add, Fin.sum_univ_one]
  rw [div_real (by norm_num), ← EReal.coe_add, zero_add]
  simp only [Nat.mul_one, Fin.val_zero, Nat.add_zero]

theorem v64 : val_main_v64 (F := Ideal) (mat 16384 1024 G) (mat 16384 2048 Y) (row 2048 B) (mat 16384 6144 Z) (mat 1 2048 L) (mat 1 2048 M) (mat 2048 1024 W) = mat 16384 2048 fun i => lnPart (U i) fun k => T i k * L 0 k := by
  funext j
  simp only [val_main_v64_apply, val_main_v63_apply, val_main_v62_apply, val_main_v61_apply, val_main_v55_apply, val_main_v54_apply, v60 _ h _ h41, v49 _ h41, v19 _ h, v11 _ h, Ideal.mulf_def, Ideal.addf_def, ← EReal.coe_mul, ← EReal.coe_add]
  rfl

theorem v71 : val_main_v71 (F := Ideal) (mat 16384 1024 G) (mat 16384 2048 Y) (row 2048 B) (mat 16384 6144 Z) (mat 1 2048 L) (mat 1 2048 M) (mat 2048 1024 W) = mat 16384 2048 fun i _ => (∑ k : Fin 2048, -lnPart (U i) (fun k => T i k * L 0 k) k) / 2048 := by
  funext j
  simp only [val_main_v71_apply, val_main_v70_apply, val_main_v69_apply, val_main_v68_apply, val_main_v67_apply, val_main_v66_apply, val_main_v65_apply, val_main_cst_12_apply, val_main_cst_13_apply, val_main_cst_14_apply, v64 _ h _ h41, Ideal.hostNegf_def, Ideal.negf_def, Ideal.hostDivf_def, Ideal.ofBits_def, lit_zero, lit_2048, ← EReal.coe_neg, coe_sum, ← EReal.coe_add, zero_add, Fin.sum_univ_one]
  rw [div_real (by norm_num), ← EReal.coe_add, zero_add]
  simp only [Nat.mul_one, Fin.val_zero, Nat.add_zero]

theorem v73 : val_main_v73 (F := Ideal) (mat 16384 1024 G) (mat 16384 2048 Y) (row 2048 B) (mat 16384 6144 Z) (mat 1 2048 L) (mat 1 2048 M) (mat 2048 1024 W) = mat 16384 2048 fun i => lnGrad (U i) fun k => T i k * L 0 k := by
  funext j
  simp only [val_main_v73_apply, val_main_v72_apply, v71 _ h _ h41, v64 _ h _ h41, Ideal.addf_def, ← EReal.coe_add]
  refine congrArg (fun r : ℝ => (r : EReal)) ?_
  beta_reduce
  rw [lnGrad_eq]

end norm

end Cert.Reference3Ideal.V
-- ==== Proof.Cout.lean ====
module

public import proofs.«01_k».proof.Defs
public import proofs.«01_k».proof.Proof.CoutF
public import proofs.«01_k».proof.Proof.CoutR
public import proofs.«01_k».proof.Proof.Gen.Pre_cout_finite
public import proofs.«01_k».proof.Proof.Gen.Kernel3.Frame

/-! The conformer layer's output-side backward call: the kernel's and the reference's five results are the same real arrays. -/

@[expose] public section

set_option maxRecDepth 16384

noncomputable section

open Idealize.ShloMosaic Idealize.ShloMosaic.TcCoe Idealize.SL.Sem

namespace Cert.Cout
open Cert.RealLift Cert.Kernel3Ideal.V Cert.Reference3Ideal.V

/-- Finite arguments are real arrays. -/
theorem real_args (a0 : Shape.Idx ⟨2, ![16384, 1024]⟩ → EReal) (a1 : Shape.Idx ⟨2, ![16384, 2048]⟩ → EReal) (a2 : Shape.Idx ⟨1, ![2048]⟩ → EReal)
    (a3 : Shape.Idx ⟨2, ![16384, 6144]⟩ → EReal) (a4 a5 : Shape.Idx ⟨2, ![1, 2048]⟩ → EReal) (a6 : Shape.Idx ⟨2, ![2048, 1024]⟩ → EReal)
    (h : Cert.Pre_cout_finite.fn (F := Ideal) a0 a1 a2 a3 a4 a5 a6 = fun _ => 1#1) :
    ∃ (G Y Z L M W : ℕ → ℕ → ℝ) (B : ℕ → ℝ), a0 = mat 16384 1024 G ∧ a1 = mat 16384 2048 Y ∧ a2 = row 2048 B ∧ a3 = mat 16384 6144 Z
      ∧ a4 = mat 1 2048 L ∧ a5 = mat 1 2048 M ∧ a6 = mat 2048 1024 W := by
  obtain ⟨e, e6⟩ := IntOp.andi_eq_one.1 (congrFun h ix0)
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton (Shape.Idx Cert.Pre_cout_finite.S_) := ⟨fun a b => funext fun i => i.elim0⟩
  obtain ⟨G, h0⟩ := real_mat e0 fun _ => lit_top
  obtain ⟨Y, h1⟩ := real_mat e1 fun _ => lit_top
  obtain ⟨B, h2⟩ := real_row e2 fun _ => lit_top
  obtain ⟨Z, h3⟩ := real_mat e3 fun _ => lit_top
  obtain ⟨L, h4⟩ := real_mat e4 fun _ => lit_top
  obtain ⟨M, h5⟩ := real_mat e5 fun _ => lit_top
  obtain ⟨W, h6⟩ := real_mat e6 fun _ => lit_top
  exact ⟨G, Y, Z, L, M, W, B, h0, h1, h2, h3, h4, h5, h6⟩

/-- The reference runs, keeps its arguments and leaves no semaphore raised. -/
theorem frame_ref : Cert.quiescent_Reference3Ideal (hReference3Ideal := Cert.Reference3Ideal.Gen.facts) :=
  fun m g _ => (θ_run Cert.Reference3Ideal.defs _ _).mono (fun r h => ⟨fun c => (h c).2.2.2.2.2, sem_eq_zero_of_no_sems (by decide) r.2⟩)
    (Cert.Reference3Ideal.Value.run (F := Ideal) m g)

section results
variable {G Y Z L M W : ℕ → ℕ → ℝ} {B : ℕ → ℝ} {m : (ℓ : Loc Cert.Kernel3Ideal.nD Cert.Kernel3Ideal.τ Cert.Kernel3Ideal.sig) → Buf (Elt Ideal) ℓ} {c : Dev Cert.Kernel3Ideal.nD}
  (H : Args G Y Z L M W B m c)
include H

theorem res6 : Cert.Reference3Ideal.Read.val_main_v36 (F := Ideal) (mat 16384 1024 G) (mat 16384 2048 Y) (row 2048 B) (mat 16384 6144 Z) (mat 1 2048 L) (mat 1 2048 M) = Cert.Kernel3Ideal.Value.G6 m c := by
  refine (v36 G Z L M (ub Y B) (v2 Y B)).trans (Eq.trans ?_ ((Cert.Kernel3Ideal.Value.final6 m c).symm.trans (fin6 H)).symm)
  funext i
  exact congrArg (fun r : ℝ => (r : EReal)) (Finset.sum_congr rfl fun k _ => mul_comm _ _)

theorem res7 : Cert.Reference3Ideal.Read.val_main_v73 (F := Ideal) (mat 16384 1024 G) (mat 16384 2048 Y) (row 2048 B) (mat 16384 6144 Z) (mat 1 2048 L) (mat 1 2048 M) (mat 2048 1024 W) = Cert.Kernel3Ideal.Value.G7 m c := by
  refine (v73 (ub Y B) (v2 Y B) _ (v41 G Z L M W (ub Y B) (v2 Y B))).trans (Eq.trans ?_ ((Cert.Kernel3Ideal.Value.final7 m c).symm.trans (fin7 H)).symm)
  rfl

theorem res8 : Cert.Reference3Ideal.Read.val_main_v74 (F := Ideal) (mat 16384 1024 G) (mat 16384 2048 Y) (row 2048 B) (mat 16384 6144 Z) (mat 1 2048 L) (mat 1 2048 M) (mat 2048 1024 W) = Cert.Kernel3Ideal.Value.G8 m c := by
  refine (v74 G Z L M W (ub Y B) (v2 Y B)).trans (Eq.trans ?_ ((Cert.Kernel3Ideal.Value.final8 m c).symm.trans (fin8 H)).symm)
  rfl

theorem res9 : Cert.Reference3Ideal.Read.val_main_v75 (F := Ideal) (mat 16384 1024 G) (mat 16384 2048 Y) (row 2048 B) (mat 16384 6144 Z) (mat 1 2048 L) (mat 1 2048 M) (mat 2048 1024 W) = Cert.Kernel3Ideal.Value.G9 m c := by
  refine (v75 (ub Y B) (v2 Y B) _ (v41 G Z L M W (ub Y B) (v2 Y B))).trans (Eq.trans ?_ ((Cert.Kernel3Ideal.Value.final9 m c).symm.trans (fin9 H)).symm)
  funext i
  exact congrArg (fun r : ℝ => (r : EReal)) (Finset.sum_congr rfl fun k _ => mul_comm _ _)

theorem res10 : Cert.Reference3Ideal.Read.val_main_v76 (F := Ideal) (mat 16384 1024 G) (mat 16384 2048 Y) (row 2048 B) (mat 16384 6144 Z) (mat 1 2048 L) (mat 1 2048 M) (mat 2048 1024 W) = Cert.Kernel3Ideal.Value.G10 m c := by
  refine (v76 _ (v41 G Z L M W (ub Y B) (v2 Y B))).trans (Eq.trans ?_ ((Cert.Kernel3Ideal.Value.final10 m c).symm.trans (fin10 H)).symm)
  rfl

end results

-- five results of up to seven arguments are read in one theorem: the limit is for their seventy rewrites
set_option maxHeartbeats 1000000 in
/-- The kernel and the vector-Jacobian product of the layer norm, gate and output projection leave the same five arrays. -/
theorem algebraic : Cert.algebraic_Kernel3Ideal_Reference3Ideal_pre_cout_finite (hKernel3Ideal := Cert.Kernel3Ideal.Gen.facts)
    (hReference3Ideal := Cert.Reference3Ideal.Gen.facts) (hPre_cout_finite := Cert.Pre_cout_finite.Gen.facts) := by
  intro m g m' g' hpre hargs
  refine ⟨fun c => Cert.Kernel3Ideal.Value.G6 m c, fun c => Cert.Kernel3Ideal.Value.G7 m c, fun c => Cert.Kernel3Ideal.Value.G8 m c,
    fun c => Cert.Kernel3Ideal.Value.G9 m c, fun c => Cert.Kernel3Ideal.Value.G10 m c, Cert.Kernel3Ideal.Value.run m g, ?_⟩
  refine (θ_run _ _ _).mono (fun r h c => ?_) (Cert.Reference3Ideal.Value.run m' g')
  obtain ⟨r0, r1, r2, r3, r4, ra⟩ := h c
  obtain ⟨a0, a1, a2, a3, a4, a5, a6⟩ := hargs c
  obtain ⟨G, Y, Z, L, M, W, B, h0, h1, h2, h3, h4, h5, h6⟩ := real_args _ _ _ _ _ _ _ (hpre c)
  have H : Args G Y Z L M W B m c := ⟨h0, h1, h2, h3, h4, h5, h6⟩
  have e0 := a0.trans h0
  have e1 := a1.trans h1
  have e2 := a2.trans h2
  have e3 := a3.trans h3
  have e4 := a4.trans h4
  have e5 := a5.trans h5
  have e6 := a6.trans h6
  refine ⟨r0.trans ?_, r1.trans ?_, r2.trans ?_, r3.trans ?_, r4.trans ?_, ra⟩
  · refine (Cert.Reference3Ideal.Read.val_main_v36_eq _).trans (Eq.trans ?_ (res6 H))
    congr 1 <;> assumption
  · refine (Cert.Reference3Ideal.Read.val_main_v73_eq _).trans (Eq.trans ?_ (res7 H))
    congr 1 <;> assumption
  · refine (Cert.Reference3Ideal.Read.val_main_v74_eq _).trans (Eq.trans ?_ (res8 H))
    congr 1 <;> assumption
  · refine (Cert.Reference3Ideal.Read.val_main_v75_eq _).trans (Eq.trans ?_ (res9 H))
    congr 1 <;> assumption
  · refine (Cert.Reference3Ideal.Read.val_main_v76_eq _).trans (Eq.trans ?_ (res10 H))
    congr 1 <;> assumption

end Cert.Cout
-- ==== Proof.EMat.lean ====
module

public import Idealize.ShloMosaic.Lib.Pipeline.ValueKit
public import proofs.«01_k».proof.Proof.RealLift

/-! Arrays of extended reals by row and column number, and the forward calls' functions on them: no argument need be finite. -/

@[expose] public section

noncomputable section

open Idealize.ShloMosaic

namespace Cert.EMat

/-- A matrix of extended reals, by row and column number, as an array. -/
abbrev em (a b : ℕ) (X : ℕ → ℕ → EReal) : Shape.Idx ⟨2, ![a, b]⟩ → EReal := fun i => X (i 0).val (i 1).val

/-- A row of extended reals, by column number, as an array. -/
abbrev er (a : ℕ) (X : ℕ → EReal) : Shape.Idx ⟨1, ![a]⟩ → EReal := fun i => X (i 0).val

/-- Every array of two axes is a matrix by row and column number. -/
theorem exists_em {a b : ℕ} (x : Shape.Idx ⟨2, ![a, b]⟩ → EReal) : ∃ X : ℕ → ℕ → EReal, x = em a b X := by
  refine ⟨fun i j => if h : i < a ∧ j < b then x (ix2 ⟨i, h.1⟩ ⟨j, h.2⟩) else 0, funext fun i => ?_⟩
  have h : (i 0).val < a ∧ (i 1).val < b := ⟨(i 0).isLt, (i 1).isLt⟩
  show _ = dite _ _ _
  rw [dif_pos h]
  exact congrArg x (eq_ix2 i)

/-- Every array of one axis is a row by column number. -/
theorem exists_er {a : ℕ} (x : Shape.Idx ⟨1, ![a]⟩ → EReal) : ∃ X : ℕ → EReal, x = er a X := by
  refine ⟨fun i => if h : i < a then x (ix1 ⟨i, h⟩) else 0, funext fun i => ?_⟩
  have h : (i 0).val < a := (i 0).isLt
  show _ = dite _ _ _
  rw [dif_pos h]
  exact congrArg x (eq_ix1 i)

/-- A load through a rectangle of a matrix is the matrix shifted by the rectangle's corner. -/
theorem ld_em (a b h w r s : ℕ) (X : ℕ → ℕ → EReal) (inb) :
    View.ld (Val := Elt Ideal) (S := ⟨2, ![a, b]⟩) (e' := .f32) (em a b X) (Rect.unit (s := ⟨2, ![a, b]⟩) ![r, s] ![h, w] inb)
      = em h w fun i j => X (r + i) (s + j) := by
  funext j
  show X _ _ = _
  rw [Rect.idx_unit_val, Rect.idx_unit_val]
  rfl

/-- `ld_em` of a bf16 array. -/
theorem ld_em16 (a b h w r s : ℕ) (X : ℕ → ℕ → EReal) (inb) :
    View.ld (Val := Elt Ideal) (S := ⟨2, ![a, b]⟩) (e' := .bf16) (em a b X) (Rect.unit (s := ⟨2, ![a, b]⟩) ![r, s] ![h, w] inb)
      = em h w fun i j => X (r + i) (s + j) := ld_em a b h w r s X inb

/-- The reciprocal root mean square of a row of `n` numbers, `d` being `n` as a literal. -/
def rq (n : ℕ) (d : EReal) (x : ℕ → EReal) : EReal :=
  Ideal.rsqrt (Ideal.div (∑ k : Fin n, x k * x k) d + Ideal.ofBits FTy.f32 925353388#32)

/-- The literal 1024. -/
abbrev k1024 : EReal := Ideal.ofBits FTy.f32 1149239296#32

/-- The literal 2048. -/
abbrev k2048 : EReal := Ideal.ofBits FTy.f32 1157627904#32

/-- The normalised row. -/
def nr (x : ℕ → EReal) (w : ℕ → EReal) (j : ℕ) : EReal := x j * rq 1024 k1024 x * w j

/-- The gate `x * logistic x`. -/
def sw (x : EReal) : EReal := x * Ideal.div 1 (1 + Ideal.exp (-x))

/-- A row less its mean. -/
def cr (x : ℕ → EReal) (j : ℕ) : EReal := x j - Ideal.div (∑ k : Fin 2048, x k) k2048

/-- The row through the layer norm. -/
def lr (x l m : ℕ → EReal) (j : ℕ) : EReal := cr x j * rq 2048 k2048 (cr x) * l j + m j

theorem one_lit : Ideal.ofBits FTy.f32 1065353216#32 = (1 : EReal) := Cert.RealLift.lit_one.trans EReal.coe_one

theorem zero_lit : Ideal.ofBits FTy.f32 0#32 = (0 : EReal) := Cert.RealLift.lit_zero.trans EReal.coe_zero

end Cert.EMat
-- ==== Proof.InF7.lean ====
module

public import proofs.«01_k».proof.Defs
public import proofs.«01_k».proof.Proof.Gen.Kernel7Ideal.Value
public import proofs.«01_k».proof.Proof.Gen.Reference7Ideal.Read
public import proofs.«01_k».proof.Proof.Gen.Kernel7.Frame
public import Idealize.ShloMosaic.Lib.Pipeline.ReadBack
public import proofs.«01_k».proof.Proof.EMat

/-! The conformer mixer's input-side forward call: the kernel's six column tiles are the product of the normalised rows with the weights. -/

@[expose] public section

set_option maxRecDepth 16384

noncomputable section

open Idealize.ShloMosaic Idealize.ShloMosaic.TcCoe Idealize.SL.Sem
open Idealize.ShloMosaic.Pipeline (Dat)

namespace Cert.Kernel7Ideal.V
open Cert.Kernel7Ideal Cert.Kernel7Ideal.Gen Cert.EMat

section pay
variable (X N W : ℕ → ℕ → EReal)

theorem p4 : k0_pay4 (F := Ideal) (em 512 1024 X) (em 1 1024 N) = em 512 1024 fun i j => nr (X i) (N 0) j := by
  funext j
  pointwise [k0_pay4]
  rfl

theorem p5 : k0_pay5 (F := Ideal) (em 512 1024 X) (em 1 1024 N) (em 1024 1024 W) = em 512 1024 fun i j => ∑ k : Fin 1024, nr (X i) (N 0) k * W k j := by
  funext j
  pointwise [k0_pay5]
  rw [p4]
  rfl

/-- A column tile from the loads of the three blocks. -/
theorem tile (s : ℕ) (inb) (inb') (inb'') : k0_pay5 (F := Ideal) (View.ld (Val := Elt Ideal) (S := S512x1024) (e' := .f32) (em 512 1024 X) (Rect.unit ![0, 0] ![512, 1024] inb))
      (View.ld (Val := Elt Ideal) (S := S1x1024) (e' := .f32) (em 1 1024 N) (Rect.unit ![0, 0] ![1, 1024] inb'))
      (View.ld (Val := Elt Ideal) (S := S1024x6144) (e' := .bf16) (em 1024 6144 W) (Rect.unit ![0, s] ![1024, 1024] inb''))
    = em 512 1024 fun i j => ∑ k : Fin 1024, nr (X i) (N 0) k * W k (s + j) := by
  rw [ld_em, ld_em, ld_em16, p5]
  simp only [Nat.zero_add]

end pay

/-- The windows' blocks at a point, by number. -/
theorem idx : ∀ t : Fin cfg0.N, win0_0.index t = ![t.val, 0] ∧ win0_1.index t = ![0, 0] ∧ win0_2.index t = ![0, 0] ∧
    win0_3.index t = ![t.val, 0] :=
  (by decide +kernel : ∀ t : Fin grid0.N, _)

variable (X : ℕ → ℕ → EReal) (N : ℕ → EReal) (W : ℕ → ℕ → EReal) (m : (ℓ : Loc nD τ sig) → Buf (Elt Ideal) ℓ) (c : Dev nD)

/-- The three arguments by row and column number. -/
structure Args : Prop where
  h0 : m ((c.tc : Thread nD τ).loc main_arg0) = em 16384 1024 X
  h1 : m ((c.tc : Thread nD τ).loc main_arg1) = er 1024 N
  h2 : m ((c.tc : Thread nD τ).loc main_arg2) = em 1024 6144 W

variable {X N W m c} (H : Args X N W m c)
include H

theorem blk0 (t : Fin cfg0.N) : iblk m c 0 t = em 512 1024 fun i => X (512 * t.val + i) := by
  funext y
  have ht : t.val < 32 := lt_of_lt_of_eq t.isLt N_0
  have hy : (y 0).val < 512 := (y 0).isLt
  obtain ⟨e0, e1, e2, e3⟩ := idx t
  have e : iblk m c 0 t y = m ((c.tc : Thread nD τ).loc main_arg0) (ix2 ⟨512 * t.val + (y 0).val, by omega⟩ (y 1)) := by
    blk_point [iblk, V, e0]
  rw [e, H.h0]
  rfl

theorem blk1 (t : Fin cfg0.N) : iblk m c 1 t = em 1 1024 fun _ => N := by
  funext y
  obtain ⟨e0, e1, e2, e3⟩ := idx t
  have e : iblk m c 1 t y = m ((c.tc : Thread nD τ).loc main_arg1) (ix1 (y 1)) := by
    blk_point [iblk, V, e1]
  rw [e, H.h1]
  rfl

theorem blk2 (t : Fin cfg0.N) : iblk m c 2 t = em 1024 6144 W := by
  funext y
  obtain ⟨e0, e1, e2, e3⟩ := idx t
  have e : iblk m c 2 t y = m ((c.tc : Thread nD τ).loc main_arg2) (ix2 (y 0) (y 1)) := by
    blk_point [iblk, V, e2]
  rw [e, H.h2]
  rfl

/-- The array the kernel leaves. -/
theorem fin3 : (dats m 0 c).arrAt 3 cfg0.N = em 16384 6144 fun i j => ∑ k : Fin 1024, nr (X i) N k * W k j := by
  refine (dats m 0 c).arrAt_eq_of_covers 3 _ (by decide +kernel) fun t _ y => ?_
  obtain ⟨e0, e1, e2, e3⟩ := idx t
  have ht : t.val < 32 := lt_of_lt_of_eq t.isLt N_0
  have hy : (y 0).val < 512 := (y 0).isLt
  have key : ((cfg0.win 3).blk t).view.emb y = ix2 ⟨512 * t.val + (y 0).val, by omega⟩ (y 1) := by
    blk_ext [e3]
  blk_simp
  rw [after0_3]
  refine Eq.trans ?_ (congrArg (em 16384 6144 _) key).symm
  rw [blk0 H, blk1 H, blk2 H]
  canon_tiles x h using cover0_3 ..
  all_goals
    refine (congrFun (tile _ _ W _ _ _ _) x).trans ?_
    show _ = ∑ k : Fin 1024, nr (X (512 * t.val + (y 0).val)) N k * W k (y 1).val
    simp only [h0, h1] <;> simp only [Nat.zero_add]

end Cert.Kernel7Ideal.V

namespace Cert.Reference7Ideal.V
open Cert.Reference7Ideal Cert.Reference7Ideal.Gen Cert.Reference7Ideal.Read Cert.EMat

theorem v14 (X W : ℕ → ℕ → EReal) (N : ℕ → EReal) : val_main_v14 (F := Ideal) (em 16384 1024 X) (er 1024 N) (em 1024 6144 W)
    = em 16384 6144 fun i j => ∑ k : Fin 1024, nr (X i) N k * W k j := by
  funext j
  show val_main_v13 (F := Ideal) _ _ _ j = _
  simp only [val_main_v13_apply, val_main_v12_apply, val_main_v11_apply, val_main_v10_apply, val_main_v9_apply, val_main_v8_apply, val_main_v7_apply,
    val_main_v6_apply, val_main_v4_apply, val_main_v5_apply, val_main_v3_apply, val_main_v2_apply, val_main_v1_apply, val_main_v0_apply,
    val_main_cst_apply, val_main_cst_0_apply, val_main_cst_1_apply, Ideal.addf_def, Ideal.mulf_def, Ideal.hostDivf_def, Ideal.hostUnary_rsqrt_def, Ideal.ofBits_def,
    zero_lit, zero_add]
  rfl

end Cert.Reference7Ideal.V

namespace Cert.InF7
open Cert.EMat Cert.Kernel7Ideal.V Cert.Reference7Ideal.V

/-- The reference runs, keeps its arguments and leaves no semaphore raised. -/
theorem frame_ref : Cert.quiescent_Reference7Ideal (hReference7Ideal := Cert.Reference7Ideal.Gen.facts) :=
  fun m g _ => (θ_run Cert.Reference7Ideal.defs _ _).mono (fun r h => ⟨fun c => (h c).2, sem_eq_zero_of_no_sems (by decide) r.2⟩)
    (Cert.Reference7Ideal.Value.run (F := Ideal) m g)

/-- The kernel and the norm followed by the projection leave the same array. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨_, Cert.Kernel7Ideal.Value.run_blocks m g, ?_⟩
  refine (θ_run _ _ _).mono (fun r h c => ?_) (Cert.Reference7Ideal.Value.run m' g')
  obtain ⟨r0, ra⟩ := h c
  obtain ⟨a0, a1, a2⟩ := hargs c
  obtain ⟨X, h0⟩ := exists_em (m ((c.tc : Thread _ _).loc Cert.Kernel7Ideal.main_arg0))
  obtain ⟨N, h1⟩ := exists_er (m ((c.tc : Thread _ _).loc Cert.Kernel7Ideal.main_arg1))
  obtain ⟨W, h2⟩ := exists_em (m ((c.tc : Thread _ _).loc Cert.Kernel7Ideal.main_arg2))
  have e0 := a0.trans h0
  have e1 := a1.trans h1
  have e2 := a2.trans h2
  have H : Args X N W m c := ⟨h0, h1, h2⟩
  refine ⟨r0.trans ?_, ra⟩
  refine (Cert.Reference7Ideal.Read.val_main_v14_eq _ _ _).trans (Eq.trans ?_ ((v14 X W N).trans (fin3 H).symm))
  congr 1 <;> assumption

end Cert.InF7
-- ==== Proof.InF8.lean ====
module

public import proofs.«01_k».proof.Defs
public import proofs.«01_k».proof.Proof.Gen.Kernel8Ideal.Value
public import proofs.«01_k».proof.Proof.Gen.Reference8Ideal.Read
public import proofs.«01_k».proof.Proof.Gen.Kernel8.Frame
public import Idealize.ShloMosaic.Lib.Pipeline.ReadBack
public import proofs.«01_k».proof.Proof.EMat

/-! The state-space mixer's input-side forward call: the kernel's six column tiles are the product of the normalised rows with the weights,
the last of them also left unrounded. -/

@[expose] public section

set_option maxRecDepth 16384

noncomputable section

open Idealize.ShloMosaic Idealize.ShloMosaic.TcCoe Idealize.SL.Sem
open Idealize.ShloMosaic.Pipeline (Dat)

namespace Cert.Kernel8Ideal.V
open Cert.Kernel8Ideal Cert.Kernel8Ideal.Gen Cert.EMat

section pay
variable (X N W : ℕ → ℕ → EReal)

theorem p5 : k0_pay5 (F := Ideal) (em 512 1024 X) (em 1 1024 N) = em 512 1024 fun i j => nr (X i) (N 0) j := by
  funext j
  pointwise [k0_pay5]
  rfl

theorem p6 : k0_pay6 (F := Ideal) (em 512 1024 X) (em 1 1024 N) (em 1024 1024 W) = em 512 1024 fun i j => ∑ k : Fin 1024, nr (X i) (N 0) k * W j k := by
  funext j
  pointwise [k0_pay6]
  rw [p5]
  rfl

/-- A column tile from the load of its weights. -/
theorem tile (s : ℕ) (inb) : k0_pay6 (F := Ideal) (em 512 1024 X) (em 1 1024 N)
      (View.ld (Val := Elt Ideal) (S := S5248x1024) (e' := .bf16) (em 5248 1024 W) (Rect.unit ![s, 0] ![1024, 1024] inb))
    = em 512 1024 fun i j => ∑ k : Fin 1024, nr (X i) (N 0) k * W (s + j) k := by
  rw [ld_em16, p6]
  simp only [Nat.zero_add]

/-- The last tile, of 128 columns, before its rounding. -/
theorem last (inb) : k0_pay3 (F := Ideal) (k0_pay5 (em 512 1024 X) (em 1 1024 N))
      (View.ld (Val := Elt Ideal) (S := S5248x1024) (e' := .bf16) (em 5248 1024 W) (Rect.unit ![5120, 0] ![128, 1024] inb))
    = em 512 128 fun i j => ∑ k : Fin 1024, nr (X i) (N 0) k * W (5120 + j) k := by
  rw [ld_em16, p5]
  simp only [Nat.zero_add]
  funext j
  pointwise [k0_pay3]
  rfl

end pay

/-- The windows' blocks at a point, by number. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

variable (X : ℕ → ℕ → EReal) (N : ℕ → EReal) (W : ℕ → ℕ → EReal) (m : (ℓ : Loc nD τ sig) → Buf (Elt Ideal) ℓ) (c : Dev nD)

/-- The arguments by row and column number. -/
structure Args : Prop where
  h0 : m ((c.tc : Thread nD τ).loc main_arg0) = em 16384 1024 X
  h1 : m ((c.tc : Thread nD τ).loc main_arg1) = er 1024 N
  h2 : m ((c.tc : Thread nD τ).loc main_arg2) = em 1024 5184 W

/-- The transposed weights, the rows after them zero. -/
def wt (W : ℕ → ℕ → EReal) (j k : ℕ) : EReal := if j < 5184 then W k j else 0

variable {X N W m c} (H : Args X N W m c)
include H

theorem blk0 (t : Fin cfg0.N) : iblk m c 0 t = em 512 1024 fun i => X (512 * t.val + i) := by
  funext y
  have ht : t.val < 32 := lt_of_lt_of_eq t.isLt N_0
  have hy : (y 0).val < 512 := (y 0).isLt
  obtain ⟨e0, e1, e2, e3, e4⟩ := idx t
  have e : iblk m c 0 t y = m ((c.tc : Thread nD τ).loc main_arg0) (ix2 ⟨512 * t.val + (y 0).val, by omega⟩ (y 1)) := by
    blk_point [iblk, V, e0]
  rw [e, H.h0]
  rfl

theorem blk1 (t : Fin cfg0.N) : iblk m c 1 t = em 1 1024 fun _ => N := by
  funext y
  obtain ⟨e0, e1, e2, e3, e4⟩ := idx t
  have e : iblk m c 1 t y = m ((c.tc : Thread nD τ).loc main_arg1) (ix1 (y 1)) := by
    blk_point [iblk, V, e1]
  rw [e, H.h1]
  rfl

theorem host2 : V m c main_v3 = em 5248 1024 (wt W) := by
  have e : V m c main_v3 = truncf .bf16 (concatenate S5248x1024 0 [⟨S5184x1024, transpose S5184x1024 [1, 0] (m ((c.tc : Thread nD τ).loc main_arg2)) transposes_S1024x5184_S5184x1024_1_0⟩,
      ⟨S64x1024, broadcastInDim S64x1024 ![] bcast_S_S64x1024 (constant (F := Ideal) S_ .f32 0x00000000#32)⟩] concatenates_S5184x1024_S64x1024_S5248x1024_d0) bitsLt_bf16_f32 := by
    after_results_simp
    rfl
  rw [e, H.h2]
  funext j
  pointwise []
  rfl

theorem blk2 (t : Fin cfg0.N) : iblk m c 2 t = em 5248 1024 (wt W) := by
  funext y
  obtain ⟨e0, e1, e2, e3, e4⟩ := idx t
  have e : iblk m c 2 t y = V m c main_v3 (ix2 (y 0) (y 1)) := by
    generalize hV : V m c main_v3 = v
    have hA : iblk m c 2 t y = v (((cfg0.win 2).blk t).view.emb y) := by rw [← hV]; rfl
    rw [hA]
    refine congrArg v ?_
    blk_ext [e2]
  rw [e, host2 H]
  rfl

/-- The rounded array the kernel leaves. -/
theorem fin3 : (dats m 0 c).arrAt 3 cfg0.N = em 16384 5248 fun i j => ∑ k : Fin 1024, nr (X i) N k * wt W j k := by
  refine (dats m 0 c).arrAt_eq_of_covers 3 _ (by decide +kernel) fun t _ y => ?_
  obtain ⟨e0, e1, e2, e3, e4⟩ := idx t
  have ht : t.val < 32 := lt_of_lt_of_eq t.isLt N_0
  have hy : (y 0).val < 512 := (y 0).isLt
  have key : ((cfg0.win 3).blk t).view.emb y = ix2 ⟨512 * t.val + (y 0).val, by omega⟩ (y 1) := by
    blk_ext [e3]
  blk_simp
  rw [after0_3]
  refine Eq.trans ?_ (congrArg (em 16384 5248 _) key).symm
  unfold outsAt0
  rw [blk0 H, blk1 H, blk2 H]
  dsimp only
  frame_out
  canon_tiles x h using View.cover_of_tiledBy _ ![512, 128] (by sl_kernel_rfl) _
  all_goals
    first
      | refine (congrFun (tile _ _ _ _ _) x).trans ?_
      | refine (congrFun (last _ _ _ _) x).trans ?_
    show _ = ∑ k : Fin 1024, nr (X (512 * t.val + (y 0).val)) N k * wt W (y 1).val k
    simp only [h0, h1] <;> simp only [Nat.zero_add]

/-- The last 128 columns, unrounded. -/
theorem fin4 : (dats m 0 c).arrAt 4 cfg0.N = em 16384 128 fun i j => ∑ k : Fin 1024, nr (X i) N k * wt W (5120 + j) k := by
  refine (dats m 0 c).arrAt_eq_of_covers 4 _ (by decide +kernel) fun t _ y => ?_
  obtain ⟨e0, e1, e2, e3, e4⟩ := idx t
  have ht : t.val < 32 := lt_of_lt_of_eq t.isLt N_0
  have hy : (y 0).val < 512 := (y 0).isLt
  have key : ((cfg0.win 4).blk t).view.emb y = ix2 ⟨512 * t.val + (y 0).val, by omega⟩ (y 1) := by
    blk_ext [e4]
  blk_simp
  rw [after0_4]
  refine Eq.trans ?_ (congrArg (em 16384 128 _) key).symm
  unfold outsAt0
  rw [blk0 H, blk1 H, blk2 H]
  dsimp only
  frame_out
  exact congrFun (last _ _ _ _) y

end Cert.Kernel8Ideal.V

namespace Cert.Reference8Ideal.V
open Cert.Reference8Ideal Cert.Reference8Ideal.Gen Cert.Reference8Ideal.Read Cert.EMat

theorem v13 (X W : ℕ → ℕ → EReal) (N : ℕ → EReal) : val_main_v13 (F := Ideal) (em 16384 1024 X) (er 1024 N) (em 1024 5184 W)
    = em 16384 5184 fun i j => ∑ k : Fin 1024, nr (X i) N k * W k j := by
  funext j
  simp only [val_main_v0_apply, val_main_cst_apply, val_main_v1_apply, val_main_v2_apply, val_main_cst_0_apply, val_main_v3_apply, val_main_v4_apply, val_main_cst_1_apply, val_main_v5_apply, val_main_v6_apply, val_main_v7_apply, val_main_v8_apply, val_main_v9_apply, val_main_v10_apply, val_main_v11_apply, val_main_v12_apply, val_main_v13_apply, Ideal.addf_def, Ideal.subf_def, Ideal.mulf_def, Ideal.hostDivf_def, Ideal.hostUnary_rsqrt_def, Ideal.hostUnary_exp_def, Ideal.hostNegf_def, Ideal.negf_def, Ideal.ofBits_def, zero_lit, one_lit, zero_add]
  rfl

/-- The zero columns after the projection are the product with the zero weights. -/
theorem v15 (X W : ℕ → ℕ → EReal) (N : ℕ → EReal) : val_main_v15 (F := Ideal) (em 16384 1024 X) (er 1024 N) (em 1024 5184 W)
    = em 16384 5248 fun i j => ∑ k : Fin 1024, nr (X i) N k * Cert.Kernel8Ideal.V.wt W j k := by
  funext j
  pointwise [val_main_v15]
  rw [v13]
  show _ = ∑ k : Fin 1024, nr (X (j 0).val) N k * (if (j 1).val < 5184 then W k (j 1).val else 0)
  split
  · rfl
  · simp only [mul_zero, Finset.sum_const_zero]
    simp only [val_main_v14_apply, val_main_cst_2_apply, Ideal.ofBits_def, zero_lit]

theorem v16 (X W : ℕ → ℕ → EReal) (N : ℕ → EReal) : val_main_v16 (F := Ideal) (em 16384 1024 X) (er 1024 N) (em 1024 5184 W)
    = em 16384 5248 fun i j => ∑ k : Fin 1024, nr (X i) N k * Cert.Kernel8Ideal.V.wt W j k := v15 X W N

theorem v17 (X W : ℕ → ℕ → EReal) (N : ℕ → EReal) : val_main_v17 (F := Ideal) (em 16384 1024 X) (er 1024 N) (em 1024 5184 W)
    = em 16384 128 fun i j => ∑ k : Fin 1024, nr (X i) N k * Cert.Kernel8Ideal.V.wt W (5120 + j) k := by
  funext j
  simp only [val_main_v17_apply, v15]

end Cert.Reference8Ideal.V

namespace Cert.InF8
open Cert.EMat Cert.Kernel8Ideal.V Cert.Reference8Ideal.V

/-- The reference runs, keeps its arguments and leaves no semaphore raised. -/
theorem frame_ref : Cert.quiescent_Reference8Ideal (hReference8Ideal := Cert.Reference8Ideal.Gen.facts) :=
  fun m g _ => (θ_run Cert.Reference8Ideal.defs _ _).mono (fun r h => ⟨fun c => (h c).2.2, sem_eq_zero_of_no_sems (by decide) r.2⟩)
    (Cert.Reference8Ideal.Value.run (F := Ideal) m g)

/-- The kernel and the norm followed by the padded projection leave the same two arrays. -/
theorem algebraic : Cert.algebraic_Kernel8Ideal_Reference8Ideal (hKernel8Ideal := Cert.Kernel8Ideal.Gen.facts)
    (hReference8Ideal := Cert.Reference8Ideal.Gen.facts) := by
  intro m g m' g' _ hargs
  refine ⟨_, _, Cert.Kernel8Ideal.Value.run_blocks m g, ?_⟩
  refine (θ_run _ _ _).mono (fun r h c => ?_) (Cert.Reference8Ideal.Value.run m' g')
  obtain ⟨r0, r1, ra⟩ := h c
  obtain ⟨a0, a1, a2⟩ := hargs c
  obtain ⟨X, h0⟩ := exists_em (m ((c.tc : Thread _ _).loc Cert.Kernel8Ideal.main_arg0))
  obtain ⟨N, h1⟩ := exists_er (m ((c.tc : Thread _ _).loc Cert.Kernel8Ideal.main_arg1))
  obtain ⟨W, h2⟩ := exists_em (m ((c.tc : Thread _ _).loc Cert.Kernel8Ideal.main_arg2))
  have e0 := a0.trans h0
  have e1 := a1.trans h1
  have e2 := a2.trans h2
  have H : Args X N W m c := ⟨h0, h1, h2⟩
  refine ⟨r0.trans ?_, r1.trans ?_, ra⟩
  · refine (Cert.Reference8Ideal.Read.val_main_v16_eq _ _ _).trans (Eq.trans ?_ ((v16 X W N).trans (fin3 H).symm))
    congr 1 <;> assumption
  · refine (Cert.Reference8Ideal.Read.val_main_v17_eq _ _ _).trans (Eq.trans ?_ ((v17 X W N).trans (fin4 H).symm))
    congr 1 <;> assumption

end Cert.InF8
-- ==== Proof.OutF9.lean ====
module

public import proofs.«01_k».proof.Defs
public import proofs.«01_k».proof.Proof.Gen.Kernel9Ideal.Value
public import proofs.«01_k».proof.Proof.Gen.Reference9Ideal.Read
public import proofs.«01_k».proof.Proof.Gen.Kernel9.Frame
public import Idealize.ShloMosaic.Lib.Pipeline.ReadBack
public import proofs.«01_k».proof.Proof.EMat

/-! The conformer mixer's output-side forward call: layer norm, the two gates, the output projection and the residual. -/

@[expose] public section

set_option maxRecDepth 16384

noncomputable section

open Idealize.ShloMosaic Idealize.ShloMosaic.TcCoe Idealize.SL.Sem
open Idealize.ShloMosaic.Pipeline (Dat)

namespace Cert.Kernel9Ideal.V
open Cert.Kernel9Ideal Cert.Kernel9Ideal.Gen Cert.EMat

section pay
variable (U Z L M H W : ℕ → ℕ → EReal)

theorem p2 : k0_pay2 (F := Ideal) (em 256 2048 U) (em 1 2048 L) (em 1 2048 M) = em 256 2048 fun i j => sw (lr (U i) (L 0) (M 0) j) := by
  funext j
  pointwise [k0_pay2]
  simp only [zero_sub]
  rfl

/-- The rows a point leaves. -/
theorem p1 : k0_pay1 (F := Ideal) (k0_pay2 (em 256 2048 U) (em 1 2048 L) (em 1 2048 M)) (k0_pay3 (em 256 2048 Z)) (k0_pay4 (em 256 2048 Z))
      (Scalar.ofBits .f32 0x3F800000#32) (em 256 1024 H) (em 2048 1024 W)
    = em 256 1024 fun i j => H i j + ∑ k : Fin 2048, sw (lr (U i) (L 0) (M 0) k) * sw (Z i k) * W k j := by
  rw [p2]
  funext j
  pointwise [k0_pay1, k0_pay3, k0_pay4]
  simp only [zero_sub, Ideal.ofBits_def, one_lit]
  rfl

end pay

/-- The windows' blocks at a point, by number. -/
theorem idx : ∀ t : Fin cfg0.N, win0_0.index t = ![t.val, 0] ∧ win0_1.index t = ![t.val, 2] ∧ win0_2.index t = ![t.val, 0] ∧ win0_3.index t = ![0, 0] ∧ win0_4.index t = ![0, 0] ∧ win0_5.index t = ![0, 0] ∧ win0_6.index t = ![t.val, 0] :=
  (by decide +kernel : ∀ t : Fin grid0.N, _)

variable (U Z Hh : ℕ → ℕ → EReal) (L M : ℕ → EReal) (W : ℕ → ℕ → EReal) (m : (ℓ : Loc nD τ sig) → Buf (Elt Ideal) ℓ) (c : Dev nD)

/-- The arguments by row and column number. -/
structure Args : Prop where
  h0 : m ((c.tc : Thread nD τ).loc main_arg0) = em 16384 2048 U
  h1 : m ((c.tc : Thread nD τ).loc main_arg1) = em 16384 6144 Z
  h2 : m ((c.tc : Thread nD τ).loc main_arg2) = em 16384 1024 Hh
  h3 : m ((c.tc : Thread nD τ).loc main_arg3) = er 2048 L
  h4 : m ((c.tc : Thread nD τ).loc main_arg4) = er 2048 M
  h5 : m ((c.tc : Thread nD τ).loc main_arg5) = em 2048 1024 W

variable {U Z Hh L M W m c} (H : Args U Z Hh L M W m c)
include H

theorem blk0 (t : Fin cfg0.N) : iblk m c 0 t = em 256 2048 fun i => U (256 * t.val + i) := by
  funext y
  have ht : t.val < 64 := lt_of_lt_of_eq t.isLt N_0
  have hy : (y 0).val < 256 := (y 0).isLt
  obtain ⟨e0, e1, e2, e3, e4, e5, e6⟩ := idx t
  have e : iblk m c 0 t y = m ((c.tc : Thread nD τ).loc main_arg0) (ix2 ⟨256 * t.val + (y 0).val, by omega⟩ (y 1)) := by
    blk_point [iblk, V, e0]
  rw [e, H.h0]
  rfl

theorem blk1 (t : Fin cfg0.N) : iblk m c 1 t = em 256 2048 fun i j => Z (256 * t.val + i) (4096 + j) := by
  funext y
  have ht : t.val < 64 := lt_of_lt_of_eq t.isLt N_0
  have hy : (y 0).val < 256 := (y 0).isLt
  have hy1 : (y 1).val < 2048 := (y 1).isLt
  obtain ⟨e0, e1, e2, e3, e4, e5, e6⟩ := idx t
  have e : iblk m c 1 t y = m ((c.tc : Thread nD τ).loc main_arg1) (ix2 ⟨256 * t.val + (y 0).val, by omega⟩ ⟨4096 + (y 1).val, by omega⟩) := by
    blk_point [iblk, V, e1]
  rw [e, H.h1]
  rfl

theorem blk2 (t : Fin cfg0.N) : iblk m c 2 t = em 256 1024 fun i => Hh (256 * t.val + i) := by
  funext y
  have ht : t.val < 64 := lt_of_lt_of_eq t.isLt N_0
  have hy : (y 0).val < 256 := (y 0).isLt
  obtain ⟨e0, e1, e2, e3, e4, e5, e6⟩ := idx t
  have e : iblk m c 2 t y = m ((c.tc : Thread nD τ).loc main_arg2) (ix2 ⟨256 * t.val + (y 0).val, by omega⟩ (y 1)) := by
    blk_point [iblk, V, e2]
  rw [e, H.h2]
  rfl

theorem blk3 (t : Fin cfg0.N) : iblk m c 3 t = em 1 2048 fun _ => L := by
  funext y
  obtain ⟨e0, e1, e2, e3, e4, e5, e6⟩ := idx t
  have e : iblk m c 3 t y = m ((c.tc : Thread nD τ).loc main_arg3) (ix1 (y 1)) := by
    blk_point [iblk, V, e3]
  rw [e, H.h3]
  rfl

theorem blk4 (t : Fin cfg0.N) : iblk m c 4 t = em 1 2048 fun _ => M := by
  funext y
  obtain ⟨e0, e1, e2, e3, e4, e5, e6⟩ := idx t
  have e : iblk m c 4 t y = m ((c.tc : Thread nD τ).loc main_arg4) (ix1 (y 1)) := by
    blk_point [iblk, V, e4]
  rw [e, H.h4]
  rfl

theorem blk5 (t : Fin cfg0.N) : iblk m c 5 t = em 2048 1024 W := by
  funext y
  obtain ⟨e0, e1, e2, e3, e4, e5, e6⟩ := idx t
  have e : iblk m c 5 t y = m ((c.tc : Thread nD τ).loc main_arg5) (ix2 (y 0) (y 1)) := by
    blk_point [iblk, V, e5]
  rw [e, H.h5]
  rfl

/-- The array the kernel leaves. -/
theorem fin6 : (dats m 0 c).arrAt 6 cfg0.N = em 16384 1024 fun i j => Hh i j + ∑ k : Fin 2048, sw (lr (U i) L M k) * sw (Z i (4096 + k)) * W k j := by
  refine (dats m 0 c).arrAt_eq_of_covers 6 _ (by decide +kernel) fun t _ y => ?_
  obtain ⟨e0, e1, e2, e3, e4, e5, e6⟩ := idx t
  have ht : t.val < 64 := lt_of_lt_of_eq t.isLt N_0
  have hy : (y 0).val < 256 := (y 0).isLt
  have key : ((cfg0.win 6).blk t).view.emb y = ix2 ⟨256 * t.val + (y 0).val, by omega⟩ (y 1) := by
    blk_ext [e6]
  blk_simp
  rw [after0_6]
  frame_out
  refine Eq.trans ?_ (congrArg (em 16384 1024 _) key).symm
  rw [blk0 H, blk1 H, blk2 H, blk3 H, blk4 H, blk5 H]
  exact congrFun (p1 _ _ _ _ _ _) y

end Cert.Kernel9Ideal.V

namespace Cert.Reference9Ideal.V
open Cert.Reference9Ideal Cert.Reference9Ideal.Gen Cert.Reference9Ideal.Read Cert.EMat

theorem v27 (U Z Hh W : ℕ → ℕ → EReal) (L M : ℕ → EReal) :
    val_main_v27 (F := Ideal) (em 16384 2048 U) (em 16384 6144 Z) (em 16384 1024 Hh) (er 2048 L) (er 2048 M) (em 2048 1024 W)
    = em 16384 1024 fun i j => Hh i j + ∑ k : Fin 2048, sw (lr (U i) L M k) * sw (Z i (4096 + k)) * W k j := by
  funext j
  simp only [val_main_v0_apply, val_main_cst_apply, val_main_v1_apply, val_main_v2_apply, val_main_cst_0_apply, val_main_v3_apply, val_main_v4_apply, val_main_v5_apply, val_main_v6_apply, val_main_v7_apply, val_main_cst_1_apply, val_main_v8_apply, val_main_v9_apply, val_main_cst_2_apply, val_main_v10_apply, val_main_v11_apply, val_main_cst_3_apply, val_main_v12_apply, val_main_v13_apply, val_main_v14_apply, val_main_v15_apply, val_main_v16_apply, val_main_v17_apply, val_main_v18_apply, val_main_v19_apply, val_main_v20_apply, val_main_v21_apply, val_main_v22_apply, val_main_call0_v0_apply, val_main_call0_v1_apply, val_main_call0_cst_apply, val_main_call0_v2_apply, val_main_call0_v3_apply, val_main_call0_cst_0_apply, val_main_call0_v4_apply, val_main_call0_v5_apply, val_main_v23_apply, val_main_call1_v0_apply, val_main_call1_v1_apply, val_main_call1_cst_apply, val_main_call1_v2_apply, val_main_call1_v3_apply, val_main_call1_cst_0_apply, val_main_call1_v4_apply, val_main_call1_v5_apply, val_main_v24_apply, val_main_v25_apply, val_main_v26_apply, val_main_v27_apply, Ideal.addf_def, Ideal.subf_def, Ideal.mulf_def, Ideal.hostDivf_def, Ideal.hostUnary_rsqrt_def, Ideal.hostUnary_exp_def, Ideal.hostNegf_def, Ideal.negf_def, Ideal.ofBits_def, zero_lit, one_lit, zero_add]
  rfl

end Cert.Reference9Ideal.V

namespace Cert.OutF9
open Cert.EMat Cert.Kernel9Ideal.V Cert.Reference9Ideal.V

/-- The reference runs, keeps its arguments and leaves no semaphore raised. -/
theorem frame_ref : Cert.quiescent_Reference9Ideal (hReference9Ideal := Cert.Reference9Ideal.Gen.facts) :=
  fun m g _ => (θ_run Cert.Reference9Ideal.defs _ _).mono (fun r h => ⟨fun c => (h c).2, sem_eq_zero_of_no_sems (by decide) r.2⟩)
    (Cert.Reference9Ideal.Value.run (F := Ideal) m g)

/-- The kernel and the layer norm, gates, projection and residual leave the same array. -/
theorem algebraic : Cert.algebraic_Kernel9Ideal_Reference9Ideal (hKernel9Ideal := Cert.Kernel9Ideal.Gen.facts)
    (hReference9Ideal := Cert.Reference9Ideal.Gen.facts) := by
  intro m g m' g' _ hargs
  refine ⟨_, Cert.Kernel9Ideal.Value.run_blocks m g, ?_⟩
  refine (θ_run _ _ _).mono (fun r h c => ?_) (Cert.Reference9Ideal.Value.run m' g')
  obtain ⟨r0, ra⟩ := h c
  obtain ⟨a0, a1, a2, a3, a4, a5⟩ := hargs c
  obtain ⟨U, h0⟩ := exists_em (m ((c.tc : Thread _ _).loc Cert.Kernel9Ideal.main_arg0))
  obtain ⟨Z, h1⟩ := exists_em (m ((c.tc : Thread _ _).loc Cert.Kernel9Ideal.main_arg1))
  obtain ⟨Hh, h2⟩ := exists_em (m ((c.tc : Thread _ _).loc Cert.Kernel9Ideal.main_arg2))
  obtain ⟨L, h3⟩ := exists_er (m ((c.tc : Thread _ _).loc Cert.Kernel9Ideal.main_arg3))
  obtain ⟨M, h4⟩ := exists_er (m ((c.tc : Thread _ _).loc Cert.Kernel9Ideal.main_arg4))
  obtain ⟨W, h5⟩ := exists_em (m ((c.tc : Thread _ _).loc Cert.Kernel9Ideal.main_arg5))
  have e0 := a0.trans h0
  have e1 := a1.trans h1
  have e2 := a2.trans h2
  have e3 := a3.trans h3
  have e4 := a4.trans h4
  have e5 := a5.trans h5
  have H : Args U Z Hh L M W m c := ⟨h0, h1, h2, h3, h4, h5⟩
  refine ⟨r0.trans ?_, ra⟩
  refine (Cert.Reference9Ideal.Read.val_main_v27_eq _ _).trans (Eq.trans ?_ ((v27 U Z Hh W L M).trans (fin6 H).symm))
  congr 1 <;> assumption

end Cert.OutF9
-- ==== Proof.OutF10.lean ====
module

public import proofs.«01_k».proof.Defs
public import proofs.«01_k».proof.Proof.Gen.Kernel10Ideal.Value
public import proofs.«01_k».proof.Proof.Gen.Reference10Ideal.Read
public import proofs.«01_k».proof.Proof.Gen.Kernel10.Frame
public import Idealize.ShloMosaic.Lib.Pipeline.ReadBack
public import proofs.«01_k».proof.Proof.EMat

/-! The state-space mixer's output-side forward call: the skip, the gate, the root mean square norm, the output projection and the residual. -/

@[expose] public section

set_option maxRecDepth 16384

noncomputable section

open Idealize.ShloMosaic Idealize.ShloMosaic.TcCoe Idealize.SL.Sem
open Idealize.ShloMosaic.Pipeline (Dat)

namespace Cert.Kernel10Ideal.V
open Cert.Kernel10Ideal Cert.Kernel10Ideal.Gen Cert.EMat

/-- The gated output of the scan, with the skip. -/
def gg (F B X Z : ℕ → ℕ → EReal) (D : ℕ → EReal) (i j : ℕ) : EReal := (F i j + B i j + sw (X i j) * D j) * sw (Z i j)

/-- The gated row through the norm. -/
def nn (F B X Z : ℕ → ℕ → EReal) (D N : ℕ → EReal) (i j : ℕ) : EReal := gg F B X Z D i j * rq 2048 k2048 (gg F B X Z D i) * N j

section pay
variable (F B X Z D N H W : ℕ → ℕ → EReal)

theorem p2 : k0_pay2 (F := Ideal) (em 256 2048 F) (em 256 2048 B) (em 256 2048 X) (em 256 2048 Z) (em 1 2048 D)
    = em 256 2048 (gg F B X Z (D 0)) := by
  funext j
  pointwise [k0_pay2]
  simp only [zero_sub]
  rfl

theorem p3 : k0_pay3 (F := Ideal) (em 256 2048 F) (em 256 2048 B) (em 256 2048 X) (em 256 2048 Z) (em 1 2048 D)
    = em 256 2048 fun i _ => rq 2048 k2048 (gg F B X Z (D 0) i) := by
  funext j
  pointwise [k0_pay3]
  rw [p2]
  rfl

/-- The rows a point leaves. -/
theorem p1 : k0_pay1 (F := Ideal) (k0_pay2 (em 256 2048 F) (em 256 2048 B) (em 256 2048 X) (em 256 2048 Z) (em 1 2048 D))
      (k0_pay3 (em 256 2048 F) (em 256 2048 B) (em 256 2048 X) (em 256 2048 Z) (em 1 2048 D)) (em 256 1024 H) (em 1 2048 N) (em 2048 1024 W)
    = em 256 1024 fun i j => H i j + ∑ k : Fin 2048, nn F B X Z (D 0) (N 0) i k * W k j := by
  rw [p2, p3]
  funext j
  pointwise [k0_pay1]
  rfl

end pay

/-- The windows' blocks at a point, by number. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![t.val, 0] ∧ win0_7.index t = ![0, 0] ∧ win0_8.index t = ![t.val, 0] :=
  (by decide +kernel : ∀ t : Fin grid0.N, _)

variable (F B X Z : ℕ → ℕ → EReal) (D N : ℕ → EReal) (Hh W : ℕ → ℕ → EReal) (m : (ℓ : Loc nD τ sig) → Buf (Elt Ideal) ℓ) (c : Dev nD)

/-- The arguments by row and column number. -/
structure Args : Prop where
  h0 : m ((c.tc : Thread nD τ).loc main_arg0) = em 16384 2048 F
  h1 : m ((c.tc : Thread nD τ).loc main_arg1) = em 16384 2048 B
  h2 : m ((c.tc : Thread nD τ).loc main_arg2) = em 16384 3072 X
  h3 : m ((c.tc : Thread nD τ).loc main_arg3) = em 16384 5184 Z
  h4 : m ((c.tc : Thread nD τ).loc main_arg4) = er 32 D
  h5 : m ((c.tc : Thread nD τ).loc main_arg5) = er 2048 N
  h6 : m ((c.tc : Thread nD τ).loc main_arg6) = em 16384 1024 Hh
  h7 : m ((c.tc : Thread nD τ).loc main_arg7) = em 2048 1024 W

/-- The projection padded to 5248 columns. -/
def zp (Z : ℕ → ℕ → EReal) (i j : ℕ) : EReal := if j < 5184 then Z i j else 0

theorem row3 (t : Fin cfg0.N) (y : ((cfg0.win 3).xblock (cfg0.grid.coords t)).Idx) : 256 * t.val + (y 0).val < 16384 := by
  have ht : t.val < 64 := lt_of_lt_of_eq t.isLt N_0
  have hy : (y 0).val < 256 := lt_of_lt_of_eq (y 0).isLt (xsize0_3 t 0)
  omega

theorem col3 (t : Fin cfg0.N) (y : ((cfg0.win 3).xblock (cfg0.grid.coords t)).Idx) : (y 1).val < 5248 :=
  lt_trans (lt_of_lt_of_eq (y 1).isLt (xsize0_3 t 1)) (by decide)

theorem emb3 (t : Fin cfg0.N) (y : ((cfg0.win 3).xblock (cfg0.grid.coords t)).Idx) :
    ((cfg0.win 3).blk t).view.emb y = ix2 ⟨256 * t.val + (y 0).val, row3 t y⟩ ⟨(y 1).val, col3 t y⟩ := by
  have e3 := (idx t).2.2.2.1
  funext a
  apply Fin.ext
  refine Fin.cases ?_ (fun a => ?_) a
  · show (((cfg0.win 3).blk t).view.emb y 0).val = 256 * t.val + (y 0).val
    blk_simp [e3]
    rw [Nat.mul_comm]
  · obtain rfl : a = 0 := Subsingleton.elim _ _
    refine (Pipeline.Window.rect_emb_val win0_3 t y 1 rfl).trans ?_
    rw [e3]
    exact (congrArg (· + (y 1).val) (Nat.zero_mul 2048)).trans (Nat.zero_add _)

variable {F B X Z D N Hh W m c} (H : Args F B X Z D N Hh W m c)
include H

theorem blk0 (t : Fin cfg0.N) : iblk m c 0 t = em 256 2048 fun i => F (256 * t.val + i) := by
  funext y
  have ht : t.val < 64 := lt_of_lt_of_eq t.isLt N_0
  have hy : (y 0).val < 256 := (y 0).isLt
  obtain ⟨e0, e1, e2, e3, e4, e5, e6, e7, e8⟩ := idx t
  have e : iblk m c 0 t y = m ((c.tc : Thread nD τ).loc main_arg0) (ix2 ⟨256 * t.val + (y 0).val, by omega⟩ (y 1)) := by
    blk_point [iblk, V, e0]
  rw [e, H.h0]
  rfl

theorem blk1 (t : Fin cfg0.N) : iblk m c 1 t = em 256 2048 fun i => B (256 * t.val + i) := by
  funext y
  have ht : t.val < 64 := lt_of_lt_of_eq t.isLt N_0
  have hy : (y 0).val < 256 := (y 0).isLt
  obtain ⟨e0, e1, e2, e3, e4, e5, e6, e7, e8⟩ := idx t
  have e : iblk m c 1 t y = m ((c.tc : Thread nD τ).loc main_arg1) (ix2 ⟨256 * t.val + (y 0).val, by omega⟩ (y 1)) := by
    blk_point [iblk, V, e1]
  rw [e, H.h1]
  rfl

theorem at2 (t : Fin cfg0.N) (y : ((cfg0.win 2).xblock (cfg0.grid.coords t)).Idx) : iblk m c 2 t y = X (256 * t.val + (y 0).val) (y 1).val := by
  have ht : t.val < 64 := lt_of_lt_of_eq t.isLt N_0
  have hy : (y 0).val < 256 := lt_of_lt_of_eq (y 0).isLt (xsize0_2 t 0)
  have hy1 : (y 1).val < 2048 := lt_of_lt_of_eq (y 1).isLt (xsize0_2 t 1)
  obtain ⟨e0, e1, e2, e3, e4, e5, e6, e7, e8⟩ := idx t
  have e : iblk m c 2 t y = m ((c.tc : Thread nD τ).loc main_arg2) (ix2 ⟨256 * t.val + (y 0).val, by omega⟩ ⟨(y 1).val, by omega⟩) := by
    blk_point [iblk, V, e2]
  rw [e, H.h2]
  rfl

theorem blk2 (t : Fin cfg0.N) : X0_2 m c t = em 256 2048 fun i => X (256 * t.val + i) := by
  funext y
  have hy1 : (y 1).val < 2048 := (y 1).isLt
  unfold X0_2 Pipeline.Window.fill
  rw [dif_pos (moved0_2 t y), at2 H]

theorem host3 : V m c main_v2 = em 16384 5248 (zp Z) := by
  have e : V m c main_v2 = truncf .bf16 (concatenate S16384x5248 1 [⟨S16384x5184, m ((c.tc : Thread nD τ).loc main_arg3)⟩,
      ⟨S16384x64, broadcastInDim S16384x64 ![] bcast_S_S16384x64 (constant (F := Ideal) S_ .f32 0x00000000#32)⟩]
      concatenates_S16384x5184_S16384x64_S16384x5248_d1) bitsLt_bf16_f32 := by
    after_results_simp
    rfl
  rw [e, H.h3]
  funext j
  pointwise []
  rfl

theorem blk3 (t : Fin cfg0.N) : X0_3 m c t = em 256 2048 fun i => Z (256 * t.val + i) := by
  funext y
  have hy1 : (y 1).val < 2048 := (y 1).isLt
  unfold X0_3 Pipeline.Window.fill
  have hA : ∀ y, iblk m c 3 t y = V m c main_v2 (((cfg0.win 3).blk t).view.emb y) := fun _ => rfl
  rw [dif_pos (moved0_3 t y), hA, host3 H, emb3]
  show (if (y 1).val < 5184 then Z (256 * t.val + (y 0).val) (y 1).val else 0) = _
  rw [if_pos (by omega)]

theorem blk4 (t : Fin cfg0.N) : iblk m c 4 t = em 1 2048 fun _ j => D (j / 64) := by
  funext y
  have hy1 : (y 1).val < 2048 := (y 1).isLt
  obtain ⟨e0, e1, e2, e3, e4, e5, e6, e7, e8⟩ := idx t
  have e : iblk m c 4 t y = m ((c.tc : Thread nD τ).loc main_arg4) (ix1 ⟨(y 1).val / 64, by omega⟩) := by
    blk_point [iblk, V, e4]
  rw [e, H.h4]
  rfl

theorem blk5 (t : Fin cfg0.N) : iblk m c 5 t = em 1 2048 fun _ => N := by
  funext y
  obtain ⟨e0, e1, e2, e3, e4, e5, e6, e7, e8⟩ := idx t
  have e : iblk m c 5 t y = m ((c.tc : Thread nD τ).loc main_arg5) (ix1 (y 1)) := by
    blk_point [iblk, V, e5]
  rw [e, H.h5]
  rfl

theorem blk6 (t : Fin cfg0.N) : iblk m c 6 t = em 256 1024 fun i => Hh (256 * t.val + i) := by
  funext y
  have ht : t.val < 64 := lt_of_lt_of_eq t.isLt N_0
  have hy : (y 0).val < 256 := (y 0).isLt
  obtain ⟨e0, e1, e2, e3, e4, e5, e6, e7, e8⟩ := idx t
  have e : iblk m c 6 t y = m ((c.tc : Thread nD τ).loc main_arg6) (ix2 ⟨256 * t.val + (y 0).val, by omega⟩ (y 1)) := by
    blk_point [iblk, V, e6]
  rw [e, H.h6]
  rfl

theorem blk7 (t : Fin cfg0.N) : iblk m c 7 t = em 2048 1024 W := by
  funext y
  obtain ⟨e0, e1, e2, e3, e4, e5, e6, e7, e8⟩ := idx t
  have e : iblk m c 7 t y = m ((c.tc : Thread nD τ).loc main_arg7) (ix2 (y 0) (y 1)) := by
    blk_point [iblk, V, e7]
  rw [e, H.h7]
  rfl

/-- The array the kernel leaves. -/
theorem fin8 : (dats m 0 c).arrAt 8 cfg0.N = em 16384 1024 fun i j => Hh i j + ∑ k : Fin 2048, nn F B X Z (fun j => D (j / 64)) N i k * W k j := by
  refine (dats m 0 c).arrAt_eq_of_covers 8 _ (by decide +kernel) fun t _ y => ?_
  obtain ⟨e0, e1, e2, e3, e4, e5, e6, e7, e8⟩ := idx t
  have ht : t.val < 64 := lt_of_lt_of_eq t.isLt N_0
  have hy : (y 0).val < 256 := (y 0).isLt
  have key : ((cfg0.win 8).blk t).view.emb y = ix2 ⟨256 * t.val + (y 0).val, by omega⟩ (y 1) := by
    blk_ext [e8]
  blk_simp
  rw [after0_8]
  refine Eq.trans ?_ (congrArg (em 16384 1024 _) key).symm
  unfold outsAt0
  frame_out
  rw [blk0 H, blk1 H, blk2 H, blk3 H, blk4 H, blk5 H, blk6 H, blk7 H]
  exact congrFun (p1 _ _ _ _ _ _ _ _) y

end Cert.Kernel10Ideal.V

namespace Cert.Reference10Ideal.V
open Cert.Reference10Ideal Cert.Reference10Ideal.Gen Cert.Reference10Ideal.Read Cert.EMat

open Cert.Kernel10Ideal.V

theorem v11 (F B X Z : ℕ → ℕ → EReal) (D : ℕ → EReal) :
    val_main_v11 (F := Ideal) (em 16384 2048 F) (em 16384 2048 B) (em 16384 3072 X) (em 16384 5184 Z) (er 32 D)
    = em 16384 2048 (gg F B X Z fun j => D (j / 64)) := by
  funext j
  simp only [val_main_call0_v0_apply, val_main_call0_v1_apply, val_main_call0_cst_apply, val_main_call0_v2_apply, val_main_call0_v3_apply, val_main_call0_cst_0_apply, val_main_call0_v4_apply, val_main_call0_v5_apply, val_main_v0_apply, val_main_v1_apply, val_main_v2_apply, val_main_v3_apply, val_main_v4_apply, val_main_v5_apply, val_main_v6_apply, val_main_v7_apply, val_main_v8_apply, val_main_v9_apply, val_main_call1_v0_apply, val_main_call1_v1_apply, val_main_call1_cst_apply, val_main_call1_v2_apply, val_main_call1_v3_apply, val_main_call1_cst_0_apply, val_main_call1_v4_apply, val_main_call1_v5_apply, val_main_v10_apply, val_main_v11_apply, Ideal.addf_def, Ideal.subf_def, Ideal.mulf_def, Ideal.hostDivf_def, Ideal.hostUnary_rsqrt_def, Ideal.hostUnary_exp_def, Ideal.hostNegf_def, Ideal.negf_def, Ideal.ofBits_def, zero_lit, one_lit, zero_add]
  rfl

theorem v26 (F B X Z Hh W : ℕ → ℕ → EReal) (D N : ℕ → EReal) :
    val_main_v26 (F := Ideal) (em 16384 2048 F) (em 16384 2048 B) (em 16384 3072 X) (em 16384 5184 Z) (er 32 D) (er 2048 N) (em 16384 1024 Hh) (em 2048 1024 W)
    = em 16384 1024 fun i j => Hh i j + ∑ k : Fin 2048, nn F B X Z (fun j => D (j / 64)) N i k * W k j := by
  funext j
  simp only [val_main_v12_apply, val_main_cst_apply, val_main_v13_apply, val_main_v14_apply, val_main_cst_0_apply, val_main_v15_apply, val_main_v16_apply, val_main_cst_1_apply, val_main_v17_apply, val_main_v18_apply, val_main_v19_apply, val_main_v20_apply, val_main_v21_apply, val_main_v22_apply, val_main_v23_apply, val_main_v24_apply, val_main_v25_apply, val_main_v26_apply, v11, Ideal.addf_def, Ideal.subf_def, Ideal.mulf_def, Ideal.hostDivf_def, Ideal.hostUnary_rsqrt_def, Ideal.hostUnary_exp_def, Ideal.hostNegf_def, Ideal.negf_def, Ideal.ofBits_def, zero_lit, one_lit, zero_add]
  rfl

end Cert.Reference10Ideal.V

namespace Cert.OutF10
open Cert.EMat Cert.Kernel10Ideal.V Cert.Reference10Ideal.V

/-- The reference runs, keeps its arguments and leaves no semaphore raised. -/
theorem frame_ref : Cert.quiescent_Reference10Ideal (hReference10Ideal := Cert.Reference10Ideal.Gen.facts) :=
  fun m g _ => (θ_run Cert.Reference10Ideal.defs _ _).mono (fun r h => ⟨fun c => (h c).2, sem_eq_zero_of_no_sems (by decide) r.2⟩)
    (Cert.Reference10Ideal.Value.run (F := Ideal) m g)

/-- The kernel and the skip, gate, norm, projection and residual leave the same array. -/
theorem algebraic : Cert.algebraic_Kernel10Ideal_Reference10Ideal (hKernel10Ideal := Cert.Kernel10Ideal.Gen.facts)
    (hReference10Ideal := Cert.Reference10Ideal.Gen.facts) := by
  intro m g m' g' _ hargs
  refine ⟨_, Cert.Kernel10Ideal.Value.run_blocks m g, ?_⟩
  refine (θ_run _ _ _).mono (fun r h c => ?_) (Cert.Reference10Ideal.Value.run m' g')
  obtain ⟨r0, ra⟩ := h c
  obtain ⟨a0, a1, a2, a3, a4, a5, a6, a7⟩ := hargs c
  obtain ⟨F, h0⟩ := exists_em (m ((c.tc : Thread _ _).loc Cert.Kernel10Ideal.main_arg0))
  obtain ⟨B, h1⟩ := exists_em (m ((c.tc : Thread _ _).loc Cert.Kernel10Ideal.main_arg1))
  obtain ⟨X, h2⟩ := exists_em (m ((c.tc : Thread _ _).loc Cert.Kernel10Ideal.main_arg2))
  obtain ⟨Z, h3⟩ := exists_em (m ((c.tc : Thread _ _).loc Cert.Kernel10Ideal.main_arg3))
  obtain ⟨D, h4⟩ := exists_er (m ((c.tc : Thread _ _).loc Cert.Kernel10Ideal.main_arg4))
  obtain ⟨N, h5⟩ := exists_er (m ((c.tc : Thread _ _).loc Cert.Kernel10Ideal.main_arg5))
  obtain ⟨Hh, h6⟩ := exists_em (m ((c.tc : Thread _ _).loc Cert.Kernel10Ideal.main_arg6))
  obtain ⟨W, h7⟩ := exists_em (m ((c.tc : Thread _ _).loc Cert.Kernel10Ideal.main_arg7))
  have e0 := a0.trans h0
  have e1 := a1.trans h1
  have e2 := a2.trans h2
  have e3 := a3.trans h3
  have e4 := a4.trans h4
  have e5 := a5.trans h5
  have e6 := a6.trans h6
  have e7 := a7.trans h7
  have H : Args F B X Z D N Hh W m c := ⟨h0, h1, h2, h3, h4, h5, h6, h7⟩
  refine ⟨r0.trans ?_, ra⟩
  refine (Cert.Reference10Ideal.Read.val_main_v26_eq _ _).trans (Eq.trans ?_ ((v26 F B X Z Hh W D N).trans (fin8 H).symm))
  congr 1 <;> assumption

end Cert.OutF10
-- ==== Proof.ConvF11.lean ====
module

public import proofs.«01_k».proof.Defs
public import proofs.«01_k».proof.Proof.Gen.Kernel11Ideal.Value
public import proofs.«01_k».proof.Proof.Gen.Reference11Ideal.Read
public import proofs.«01_k».proof.Proof.Gen.Kernel11.Frame
public import Idealize.ShloMosaic.Lib.Pipeline.ReadBack
public import proofs.«01_k».proof.Proof.EMat

/-! The state-space mixer's forward convolution: five taps along the rows, of the padded projection's columns, with the bias. -/

@[expose] public section

set_option maxRecDepth 16384

noncomputable section

open Idealize.ShloMosaic Idealize.ShloMosaic.TcCoe Idealize.SL.Sem
open Idealize.ShloMosaic.Pipeline (Dat)

namespace Cert.Kernel11Ideal.V
open Cert.Kernel11Ideal Cert.Kernel11Ideal.Gen Cert.EMat

/-- The five taps of a row of the output over the window's rows, in the kernel's order. -/
def tap (X W : ℕ → ℕ → EReal) (B : ℕ → EReal) (i j : ℕ) : EReal :=
  W 2 j * X (i + 16) j + W 3 j * X (i + 17) j + W 4 j * X (i + 18) j + W 0 j * X (i + 14) j + W 1 j * X (i + 15) j + B j

/-- Sixteen rows of the output from the five slabs of the window, the taps' rows and the bias. -/
def G (a2 a3 a4 a0 a1 : Vec Ideal S16x1024 .f32) (w2 w3 w4 w0 w1 b : Vec Ideal S1x1024 .f32) : FVec Ideal S16x1024 .bf16 :=
  k0_pay9 (k0_pay8 (k0_pay6 a2 w2) (k0_pay7 a2 w2) a3 w3 a4 w4 a0 w0 a1 w1 b)

theorem G_eq (A2 A3 A4 A0 A1 : ℕ → ℕ → EReal) (W2 W3 W4 W0 W1 B : ℕ → EReal) :
    G (em 16 1024 A2) (em 16 1024 A3) (em 16 1024 A4) (em 16 1024 A0) (em 16 1024 A1) (em 1 1024 fun _ => W2) (em 1 1024 fun _ => W3)
      (em 1 1024 fun _ => W4) (em 1 1024 fun _ => W0) (em 1 1024 fun _ => W1) (em 1 1024 fun _ => B)
    = em 16 1024 fun i j => W2 j * A2 i j + W3 j * A3 i j + W4 j * A4 i j + W0 j * A0 i j + W1 j * A1 i j + B j := by
  funext y
  pointwise [G, k0_pay9, k0_pay8, k0_pay7, k0_pay6, k0_pay5]
  split_ifs with hl
  · rfl
  · show W2 (y 1).val * A2 (8 + ((y 0).val - 8)) (y 1).val + W3 (y 1).val * A3 (8 + ((y 0).val - 8)) (y 1).val
      + W4 (y 1).val * A4 (8 + ((y 0).val - 8)) (y 1).val + W0 (y 1).val * A0 (8 + ((y 0).val - 8)) (y 1).val
      + W1 (y 1).val * A1 (8 + ((y 0).val - 8)) (y 1).val + B (y 1).val = _
    rw [Nat.add_sub_cancel' (not_lt.mp hl)]
  · exact absurd rfl ‹¬_›

/-- A piece of the output: sixteen rows from row `o`. -/
theorem piece (X W : ℕ → ℕ → EReal) (B : ℕ → EReal) (o : ℕ) (y : S512x1024.Idx) (x : S16x1024.Idx) (h0 : (y 0).val = o + (x 0).val)
    (h1 : (y 1).val = (x 1).val) :
    G (em 16 1024 fun i => X (o + 16 + i)) (em 16 1024 fun i => X (o + 17 + i)) (em 16 1024 fun i => X (o + 18 + i))
      (em 16 1024 fun i => X (o + 14 + i)) (em 16 1024 fun i => X (o + 15 + i)) (em 1 1024 fun _ => W 2) (em 1 1024 fun _ => W 3)
      (em 1 1024 fun _ => W 4) (em 1 1024 fun _ => W 0) (em 1 1024 fun _ => W 1) (em 1 1024 fun _ => B) x
    = tap X W B (y 0).val (y 1).val := by
  rw [G_eq, h0, h1]
  unfold tap
  simp only [Nat.add_right_comm o (x 0).val]

/-- The windows' blocks at a point, by number. -/
theorem idx : ∀ t : Fin cfg0.N, win0_0.index t = ![t.val % 32, 2 + t.val / 32] ∧ win0_1.index t = ![32 * (t.val % 32) - 1, 2 + t.val / 32] ∧
    win0_2.index t = ![min (32 * (t.val % 32) + 32) 1023, 2 + t.val / 32] ∧ win0_3.index t = ![0, t.val / 32] ∧ win0_4.index t = ![0, t.val / 32] ∧
    win0_5.index t = ![t.val % 32, t.val / 32] ∧ (grid0.coords t 1).val = t.val % 32 :=
  (by decide +kernel : ∀ t : Fin grid0.N, _)

/-- The convolution's columns with sixteen rows of zeros before and after them. -/
def gw (X : ℕ → ℕ → EReal) (i j : ℕ) : EReal := if 16 ≤ i ∧ i < 16400 then X (i - 16) (2048 + j) else 0

/-- The window's rows at a point: sixteen rows before the block, the block, sixteen rows after it; zero outside the array. -/
def win (X : ℕ → ℕ → EReal) (p q i j : ℕ) : EReal := gw X (512 * p + i) (1024 * q + j)

theorem p2 (X : ℕ → ℕ → EReal) (t : Fin cfg0.N) :
    k0_pay2 (F := Ideal) (grid0.coords t) (em 16 1024 fun i j => X (16 * (32 * (t.val % 32) - 1) + i) (2048 + (1024 * (t.val / 32) + j)))
    = em 16 1024 (win X (t.val % 32) (t.val / 32)) := by
  have e := (idx t).2.2.2.2.2.2
  funext y
  have hy : (y 0).val < 16 := (y 0).isLt
  have hp : t.val % 32 < 32 := Nat.mod_lt _ (by decide)
  unfold k0_pay2
  rw [e]
  generalize t.val % 32 = p at *
  generalize t.val / 32 = q at *
  show _ = win X p q (y 0).val (y 1).val
  unfold win gw
  obtain rfl | h := Nat.eq_zero_or_pos p
  · rw [if_neg (by omega)]
    pointwise []
    rfl
  · have hc : Scalar.cmpi .sgt (BitVec.ofNat 32 p) 0#32 = 1#1 := by
      interval_cases p <;> rfl
    simp only [hc]
    rw [if_pos (by omega)]
    pointwise []
    show X _ _ = X _ _
    congr 1
    omega

theorem p3 (X : ℕ → ℕ → EReal) (p q : ℕ) (hp : p < 32) :
    k0_pay3 (F := Ideal) (em 512 1024 fun i j => X (512 * p + i) (2048 + (1024 * q + j)))
    = em 512 1024 fun i => win X p q (16 + i) := by
  funext y
  have hy : (y 0).val < 512 := (y 0).isLt
  pointwise [k0_pay3]
  show X _ _ = win X p q (16 + (y 0).val) (y 1).val
  unfold win gw
  rw [if_pos (by omega)]
  congr 1
  omega

theorem p4 (X : ℕ → ℕ → EReal) (t : Fin cfg0.N) :
    k0_pay4 (F := Ideal) (grid0.coords t) (em 16 1024 fun i j => X (16 * min (32 * (t.val % 32) + 32) 1023 + i) (2048 + (1024 * (t.val / 32) + j)))
    = em 16 1024 fun i => win X (t.val % 32) (t.val / 32) (528 + i) := by
  have e := (idx t).2.2.2.2.2.2
  funext y
  have hy : (y 0).val < 16 := (y 0).isLt
  have hp : t.val % 32 < 32 := Nat.mod_lt _ (by decide)
  unfold k0_pay4
  rw [e]
  generalize t.val % 32 = p at *
  generalize t.val / 32 = q at *
  show _ = win X p q (528 + (y 0).val) (y 1).val
  unfold win gw
  obtain h | h := Nat.lt_or_ge p 31
  · have hc : Scalar.cmpi .slt (BitVec.ofNat 32 p) 31#32 = 1#1 := by
      interval_cases p <;> rfl
    simp only [hc]
    rw [if_pos (by omega)]
    pointwise []
    show X _ _ = X _ _
    congr 1
    omega
  · obtain rfl : p = 31 := by omega
    rw [if_neg (by omega)]
    pointwise []
    rfl

/-- A load of sixteen rows of the window from row `r`. -/
theorem slab (X : ℕ → ℕ → EReal) (P P' : Vec Ideal S16x1024 .f32) (M : Vec Ideal S512x1024 .f32)
    (h : P = em 16 1024 X) (h' : M = em 512 1024 fun i => X (16 + i)) (h'' : P' = em 16 1024 fun i => X (528 + i))
    (r : ℕ) (i2 i1 i0 inb) :
    (View.whole cc0_scratch0).readCov (Val := Elt Ideal) [⟨Rect.unit (s := S544x1024) ![528, 0] ![16, 1024] i2, P'⟩,
      ⟨Rect.unit (s := S544x1024) ![16, 0] ![512, 1024] i1, M⟩, ⟨Rect.unit (s := S544x1024) ![0, 0] ![16, 1024] i0, P⟩]
      (Rect.unit (s := S544x1024) ![r, 0] ![16, 1024] inb).toLoadRect
    = em 16 1024 fun i => X (r + i) := by
  have hc : View.canon [⟨Rect.unit (s := S544x1024) ![528, 0] ![16, 1024] i2, P'⟩,
      ⟨Rect.unit (s := S544x1024) ![16, 0] ![512, 1024] i1, M⟩, (⟨Rect.unit (s := S544x1024) ![0, 0] ![16, 1024] i0, P⟩ : View.Piece (Elt Ideal) S544x1024 .f32)]
      = em 544 1024 X := by
    funext y
    subst h h' h''
    canon_tiles x h using View.cover_of_tiledBy _ ![16, 1024] (by sl_kernel_rfl) _
    all_goals
      show X _ _ = X (y 0).val (y 1).val
      rw [h0, h1]
  rw [View.readCov_eq_canon', hc]
  funext j
  show X _ _ = _
  rw [Rect.idx_unit_val, Rect.idx_unit_val]
  show X (r + (j 0).val) (0 + (j 1).val) = X (r + (j 0).val) (j 1).val
  rw [Nat.zero_add]

/-- A load of one tap's row. -/
theorem row (W : ℕ → ℕ → EReal) (k : ℕ) (inb) :
    View.ld (Val := Elt Ideal) (S := S5x1024) (e' := .f32) (em 5 1024 W) (Rect.unit (s := S5x1024) ![k, 0] ![1, 1024] inb) = em 1 1024 fun _ => W k := by
  rw [ld_em]
  funext j
  have hj : (j 0).val < 1 := (j 0).isLt
  show W (k + (j 0).val) (0 + (j 1).val) = W k (j 1).val
  rw [Nat.zero_add]
  congr 1
  omega

variable (X W : ℕ → ℕ → EReal) (B : ℕ → EReal) (m : (ℓ : Loc nD τ sig) → Buf (Elt Ideal) ℓ) (c : Dev nD)

/-- The arguments by row and column number. -/
structure Args : Prop where
  h0 : m ((c.tc : Thread nD τ).loc main_arg0) = em 16384 5184 X
  h1 : m ((c.tc : Thread nD τ).loc main_arg1) = em 5 3072 W
  h2 : m ((c.tc : Thread nD τ).loc main_arg2) = er 3072 B

/-- The projection padded to 5248 columns. -/
def zp (X : ℕ → ℕ → EReal) (i j : ℕ) : EReal := if j < 5184 then X i j else 0

variable {X W B m c} (H : Args X W B m c)
include H

theorem host : V m c main_v2 = em 16384 5248 (zp X) := by
  have e : V m c main_v2 = truncf .bf16 (concatenate S16384x5248 1 [⟨S16384x5184, m ((c.tc : Thread nD τ).loc main_arg0)⟩,
      ⟨S16384x64, broadcastInDim S16384x64 ![] bcast_S_S16384x64 (constant (F := Ideal) S_ .f32 0x00000000#32)⟩]
      concatenates_S16384x5184_S16384x64_S16384x5248_d1) bitsLt_bf16_f32 := by
    after_results_simp
    rfl
  rw [e, H.h0]
  funext j
  pointwise []
  rfl

theorem at0 (t : Fin cfg0.N) (y : ((cfg0.win 0).xblock (cfg0.grid.coords t)).Idx) :
    iblk m c 0 t y = X (512 * (t.val % 32) + (y 0).val) (2048 + (1024 * (t.val / 32) + (y 1).val)) := by
  have ht : t.val < 96 := lt_of_lt_of_eq t.isLt N_0
  have hy : (y 0).val < 512 := lt_of_lt_of_eq (y 0).isLt (xsize0_0 t 0)
  have hy1 : (y 1).val < 1024 := lt_of_lt_of_eq (y 1).isLt (xsize0_0 t 1)
  obtain ⟨e0, e1, e2, e3, e4, e5, e6⟩ := idx t
  have e : iblk m c 0 t y = V m c main_v2 (ix2 ⟨512 * (t.val % 32) + (y 0).val, by omega⟩ ⟨2048 + (1024 * (t.val / 32) + (y 1).val), by omega⟩) := by
    blk_point [iblk, e0]
  rw [e, host H]
  show (if 2048 + (1024 * (t.val / 32) + (y 1).val) < 5184 then X _ _ else 0) = _
  rw [if_pos (by omega)]
  rfl

theorem blk0 (t : Fin cfg0.N) : X0_0 m c t = em 512 1024 fun i j => X (512 * (t.val % 32) + i) (2048 + (1024 * (t.val / 32) + j)) := by
  funext y
  unfold X0_0 Pipeline.Window.fill
  rw [dif_pos (moved0_0 t y), at0 H]

theorem at1 (t : Fin cfg0.N) (y : ((cfg0.win 1).xblock (cfg0.grid.coords t)).Idx) :
    iblk m c 1 t y = X (16 * (32 * (t.val % 32) - 1) + (y 0).val) (2048 + (1024 * (t.val / 32) + (y 1).val)) := by
  have ht : t.val < 96 := lt_of_lt_of_eq t.isLt N_0
  have hy : (y 0).val < 16 := lt_of_lt_of_eq (y 0).isLt (xsize0_1 t 0)
  have hy1 : (y 1).val < 1024 := lt_of_lt_of_eq (y 1).isLt (xsize0_1 t 1)
  obtain ⟨e0, e1, e2, e3, e4, e5, e6⟩ := idx t
  have e : iblk m c 1 t y = V m c main_v2 (ix2 ⟨16 * (32 * (t.val % 32) - 1) + (y 0).val, by omega⟩ ⟨2048 + (1024 * (t.val / 32) + (y 1).val), by omega⟩) := by
    blk_point [iblk, e1]
  rw [e, host H]
  show (if 2048 + (1024 * (t.val / 32) + (y 1).val) < 5184 then X _ _ else 0) = _
  rw [if_pos (by omega)]
  rfl

theorem blk1 (t : Fin cfg0.N) : X0_1 m c t = em 16 1024 fun i j => X (16 * (32 * (t.val % 32) - 1) + i) (2048 + (1024 * (t.val / 32) + j)) := by
  funext y
  unfold X0_1 Pipeline.Window.fill
  rw [dif_pos (moved0_1 t y), at1 H]

theorem at2 (t : Fin cfg0.N) (y : ((cfg0.win 2).xblock (cfg0.grid.coords t)).Idx) :
    iblk m c 2 t y = X (16 * min (32 * (t.val % 32) + 32) 1023 + (y 0).val) (2048 + (1024 * (t.val / 32) + (y 1).val)) := by
  have ht : t.val < 96 := lt_of_lt_of_eq t.isLt N_0
  have hy : (y 0).val < 16 := lt_of_lt_of_eq (y 0).isLt (xsize0_2 t 0)
  have hy1 : (y 1).val < 1024 := lt_of_lt_of_eq (y 1).isLt (xsize0_2 t 1)
  obtain ⟨e0, e1, e2, e3, e4, e5, e6⟩ := idx t
  have e : iblk m c 2 t y = V m c main_v2 (ix2 ⟨16 * min (32 * (t.val % 32) + 32) 1023 + (y 0).val, by omega⟩ ⟨2048 + (1024 * (t.val / 32) + (y 1).val), by omega⟩) := by
    blk_point [iblk, e2]
  rw [e, host H]
  show (if 2048 + (1024 * (t.val / 32) + (y 1).val) < 5184 then X _ _ else 0) = _
  rw [if_pos (by omega)]
  rfl

theorem blk2 (t : Fin cfg0.N) : X0_2 m c t = em 16 1024 fun i j => X (16 * min (32 * (t.val % 32) + 32) 1023 + i) (2048 + (1024 * (t.val / 32) + j)) := by
  funext y
  unfold X0_2 Pipeline.Window.fill
  rw [dif_pos (moved0_2 t y), at2 H]

theorem blk3 (t : Fin cfg0.N) : iblk m c 3 t = em 5 1024 fun i j => W i (1024 * (t.val / 32) + j) := by
  funext y
  have ht : t.val < 96 := lt_of_lt_of_eq t.isLt N_0
  have hy : (y 1).val < 1024 := (y 1).isLt
  obtain ⟨e0, e1, e2, e3, e4, e5, e6⟩ := idx t
  have e : iblk m c 3 t y = m ((c.tc : Thread nD τ).loc main_arg1) (ix2 (y 0) ⟨1024 * (t.val / 32) + (y 1).val, by omega⟩) := by
    blk_point [iblk, V, e3]
  rw [e, H.h1]
  rfl

theorem blk4 (t : Fin cfg0.N) : iblk m c 4 t = em 1 1024 fun _ j => B (1024 * (t.val / 32) + j) := by
  funext y
  have ht : t.val < 96 := lt_of_lt_of_eq t.isLt N_0
  have hy : (y 1).val < 1024 := (y 1).isLt
  obtain ⟨e0, e1, e2, e3, e4, e5, e6⟩ := idx t
  have e : iblk m c 4 t y = m ((c.tc : Thread nD τ).loc main_arg2) (ix1 ⟨1024 * (t.val / 32) + (y 1).val, by omega⟩) := by
    blk_point [iblk, V, e4]
  rw [e, H.h2]
  rfl

/-- What a point leaves in the output's block. -/
theorem out (t : Fin cfg0.N) (y : S512x1024.Idx) : outsAt0 m c t y = tap (gw X) W B (512 * (t.val % 32) + (y 0).val) (1024 * (t.val / 32) + (y 1).val) := by
  have hp : t.val % 32 < 32 := Nat.mod_lt _ (by decide)
  have hs := slab (win X (t.val % 32) (t.val / 32)) _ _ _ (p2 X t) (p3 X _ (t.val / 32) hp) (p4 X t)
  have e : tap (gw X) W B (512 * (t.val % 32) + (y 0).val) (1024 * (t.val / 32) + (y 1).val)
      = tap (win X (t.val % 32) (t.val / 32)) (fun k j => W k (1024 * (t.val / 32) + j)) (fun j => B (1024 * (t.val / 32) + j)) (y 0).val (y 1).val := by
    unfold tap win
    simp only [Nat.add_assoc]
  rw [e]
  unfold outsAt0
  rw [blk0 H, blk1 H, blk2 H, blk3 H, blk4 H]
  frame_out
  simp only [hs, row]
  canon_tiles x h
  all_goals
    first
    | refine Eq.trans ?_ (piece _ _ _ _ y x h0 h1)
    | refine Eq.trans ?_ (piece _ _ _ 0 y x (h0.trans (Nat.zero_add _).symm) h1)
    refine congrFun ?_ x
    rfl

/-- The array the kernel leaves. -/
theorem fin5 : (dats m 0 c).arrAt 5 cfg0.N = em 16384 3072 (tap (gw X) W B) := by
  refine (dats m 0 c).arrAt_eq_of_covers 5 _ (by decide +kernel) fun t _ y => ?_
  obtain ⟨e0, e1, e2, e3, e4, e5, e6⟩ := idx t
  have ht : t.val < 96 := lt_of_lt_of_eq t.isLt N_0
  have hy : (y 0).val < 512 := (y 0).isLt
  have hy1 : (y 1).val < 1024 := (y 1).isLt
  have key : ((cfg0.win 5).blk t).view.emb y = ix2 ⟨512 * (t.val % 32) + (y 0).val, by omega⟩ ⟨1024 * (t.val / 32) + (y 1).val, by omega⟩ := by
    blk_ext [e5]
  blk_simp
  rw [after0_5]
  refine Eq.trans ?_ (congrArg (em 16384 3072 _) key).symm
  exact out H t y

end Cert.Kernel11Ideal.V

namespace Cert.Reference11Ideal.V
open Cert.Reference11Ideal Cert.Reference11Ideal.Gen Cert.Reference11Ideal.Read Cert.EMat

open Cert.Kernel11Ideal.V

/-- The columns between the two rows of zeros. -/
theorem v2 (X : ℕ → ℕ → EReal) : val_main_v2 (F := Ideal) (em 16384 5184 X) = em 16388 3072 fun i => gw X (i + 14) := by
  funext j
  have hj : (j 0).val < 16388 := (j 0).isLt
  pointwise [val_main_v2, val_main_v1, val_main_v0, val_main_cst]
  show _ = if 16 ≤ (j 0).val + 14 ∧ (j 0).val + 14 < 16400 then X ((j 0).val + 14 - 16) (2048 + (j 1).val) else 0
  split_ifs with h1 h2 h3 h4 <;> first
    | rfl
    | exact absurd rfl ‹¬_›
    | (exfalso; omega)
    | (refine Eq.trans ?_ (if_pos (by omega)).symm; show X ((j 0).val - 2) (2048 + (j 1).val) = X ((j 0).val + 14 - 16) (2048 + (j 1).val); congr 1)

theorem v42 (X W : ℕ → ℕ → EReal) (B : ℕ → EReal) :
    val_main_v42 (F := Ideal) (em 16384 5184 X) (em 5 3072 W) (er 3072 B) = em 16384 3072 (tap (gw X) W B) := by
  funext j
  simp only [val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_cst_0_apply, v2, Ideal.addf_def, Ideal.mulf_def, Ideal.ofBits_def, zero_lit, zero_add]
  have hj : (j 1).val % 3072 = (j 1).val := Nat.mod_eq_of_lt (j 1).isLt
  show gw X ((j 0).val + 14) (j 1).val * W 0 ((j 1).val % 3072) + gw X (1 + (j 0).val + 14) (j 1).val * W 1 ((j 1).val % 3072)
    + gw X (2 + (j 0).val + 14) (j 1).val * W 2 ((j 1).val % 3072) + gw X (3 + (j 0).val + 14) (j 1).val * W 3 ((j 1).val % 3072)
    + gw X (4 + (j 0).val + 14) (j 1).val * W 4 ((j 1).val % 3072) + B (j 1).val = tap (gw X) W B (j 0).val (j 1).val
  rw [hj]
  have e : ∀ k : ℕ, k + (j 0).val + 14 = (j 0).val + (k + 14) := fun k => by omega
  simp only [e]
  unfold tap
  simp only [mul_comm (W _ _)]
  congr 1
  abel

end Cert.Reference11Ideal.V

namespace Cert.ConvF11
open Cert.EMat Cert.Kernel11Ideal.V Cert.Reference11Ideal.V

/-- The reference runs, keeps its arguments and leaves no semaphore raised. -/
theorem frame_ref : Cert.quiescent_Reference11Ideal (hReference11Ideal := Cert.Reference11Ideal.Gen.facts) :=
  fun m g _ => (θ_run Cert.Reference11Ideal.defs _ _).mono (fun r h => ⟨fun c => (h c).2, sem_eq_zero_of_no_sems (by decide) r.2⟩)
    (Cert.Reference11Ideal.Value.run (F := Ideal) m g)

/-- The kernel and the sum of the five shifted products with the bias leave the same array. -/
theorem algebraic : Cert.algebraic_Kernel11Ideal_Reference11Ideal (hKernel11Ideal := Cert.Kernel11Ideal.Gen.facts)
    (hReference11Ideal := Cert.Reference11Ideal.Gen.facts) := by
  intro m g m' g' _ hargs
  refine ⟨_, Cert.Kernel11Ideal.Value.run_blocks m g, ?_⟩
  refine (θ_run _ _ _).mono (fun r h c => ?_) (Cert.Reference11Ideal.Value.run m' g')
  obtain ⟨r0, ra⟩ := h c
  obtain ⟨a0, a1, a2⟩ := hargs c
  obtain ⟨X, h0⟩ := exists_em (m ((c.tc : Thread _ _).loc Cert.Kernel11Ideal.main_arg0))
  obtain ⟨W, h1⟩ := exists_em (m ((c.tc : Thread _ _).loc Cert.Kernel11Ideal.main_arg1))
  obtain ⟨B, h2⟩ := exists_er (m ((c.tc : Thread _ _).loc Cert.Kernel11Ideal.main_arg2))
  have e0 := a0.trans h0
  have e1 := a1.trans h1
  have e2 := a2.trans h2
  have H : Args X W B m c := ⟨h0, h1, h2⟩
  refine ⟨r0.trans ?_, ra⟩
  refine (Cert.Reference11Ideal.Read.val_main_v42_eq _ _).trans (Eq.trans ?_ ((v42 X W B).trans (fin5 H).symm))
  congr 1 <;> assumption

end Cert.ConvF11
-- ==== Proof.Conv6R.lean ====
module

public import proofs.«01_k».proof.Proof.Gen.Reference6Ideal.Read
public import proofs.«01_k».proof.Proof.EMat

/-! The reference of the state-space mixer's backward convolution: its three gradients as functions of the row and the column number. -/

@[expose] public section

set_option maxRecDepth 16384

noncomputable section

open Idealize.ShloMosaic Idealize.ShloMosaic.TcCoe Idealize.SL.Sem

namespace Cert.Conv6

/-- An array with sixteen rows of zeros before and after it. -/
def gw (X : ℕ → ℕ → EReal) (i j : ℕ) : EReal := if 16 ≤ i ∧ i < 16400 then X (i - 16) j else 0

/-- The five taps of a row of the input's gradient over the window's rows, in the kernel's order. -/
def tap (D W : ℕ → ℕ → EReal) (i j : ℕ) : EReal :=
  W 2 j * D (i + 16) j + W 1 j * D (i + 17) j + W 0 j * D (i + 18) j + W 4 j * D (i + 14) j + W 3 j * D (i + 15) j

/-- The convolution's columns of the projection. -/
def col (X : ℕ → ℕ → EReal) (i j : ℕ) : EReal := X i (2048 + j)

/-- The gradient of tap `k`. -/
def dtap (D X : ℕ → ℕ → EReal) (k j : ℕ) : EReal := ∑ l : Fin 16384, D l.val j * gw X (l.val + 14 + k) j

/-- The gradient of the bias. -/
def dbias (D : ℕ → ℕ → EReal) (j : ℕ) : EReal := ∑ l : Fin 16384, D l.val j

/-- The two gradients of the output, added. -/
def sum (A B : ℕ → ℕ → EReal) (i j : ℕ) : EReal := A i j + B i j

end Cert.Conv6

namespace Cert.Reference6Ideal.V
open Cert.Reference6Ideal Cert.Reference6Ideal.Gen Cert.Reference6Ideal.Read Cert.EMat Cert.Conv6

variable (A B X W : ℕ → ℕ → EReal)

/-- The columns between the two rows of zeros. -/
theorem v3 : val_main_v3 (F := Ideal) (em 16384 5184 X) = em 16388 3072 fun i => gw (col X) (i + 14) := by
  funext j
  have hj : (j 0).val < 16388 := (j 0).isLt
  pointwise [val_main_v3, val_main_v2, val_main_v0, val_main_cst_0]
  all_goals try pointwise [val_main_v4, val_main_v5, val_main_cst_1, val_main_cst_2]
  show _ = if 16 ≤ (j 0).val + 14 ∧ (j 0).val + 14 < 16400 then X ((j 0).val + 14 - 16) (2048 + (j 1).val) else 0
  split_ifs with h1 h2 h3 h4 <;> first
    | rfl
    | exact zero_lit
    | exact absurd rfl ‹¬_›
    | (exfalso; omega)
    | (refine Eq.trans ?_ (if_pos (by omega)).symm; show X ((j 0).val - 2) (2048 + (j 1).val) = X ((j 0).val + 14 - 16) (2048 + (j 1).val); congr 1)

/-- The zero both reductions start from, and the row of the reduction over one row. -/
theorem zsum (f : ℕ → Fin 16384 → EReal) (j : ℕ) :
    Ideal.ofBits .f32 0#32 + (Ideal.ofBits .f32 0#32 + ∑ l : Fin 16384, f (0 * 3072 + j) l) = ∑ l : Fin 16384, f j l := by
  rw [zero_lit, zero_add, zero_add, Nat.zero_mul, Nat.zero_add]

theorem tsum (k j : ℕ) : ∑ l : Fin 16384, gw (col X) (k + l.val + 14) j * (A l.val j + B l.val j) = dtap (sum A B) (col X) k j :=
  Finset.sum_congr rfl fun l _ => by
    rw [show k + l.val + 14 = l.val + 14 + k from by omega]
    exact mul_comm _ _

theorem v55 : val_main_v55 (F := Ideal) (em 16384 3072 A) (em 16384 3072 B) (em 16384 5184 X) = em 1 3072 fun _ => dtap (sum A B) (col X) 4 := by
  funext y
  rw [val_main_v55_apply, val_main_v54_apply, Fin.sum_univ_one, val_main_v51_apply, val_main_v50_apply]
  simp only [val_main_v49_apply, val_main_v35_apply, v3, val_main_v45_apply]
  exact (zsum (fun j l => gw (col X) (4 + l.val + 14) j * (A l.val j + B l.val j)) (y 1).val).trans (tsum A B X 4 _)

theorem v64 : val_main_v64 (F := Ideal) (em 16384 3072 A) (em 16384 3072 B) (em 16384 5184 X) = em 1 3072 fun _ => dtap (sum A B) (col X) 3 := by
  funext y
  rw [val_main_v64_apply, val_main_v63_apply, Fin.sum_univ_one, val_main_v60_apply, val_main_v59_apply]
  simp only [val_main_v58_apply, val_main_v28_apply, v3, val_main_v45_apply]
  exact (zsum (fun j l => gw (col X) (3 + l.val + 14) j * (A l.val j + B l.val j)) (y 1).val).trans (tsum A B X 3 _)

theorem v75 : val_main_v75 (F := Ideal) (em 16384 3072 A) (em 16384 3072 B) (em 16384 5184 X) = em 1 3072 fun _ => dtap (sum A B) (col X) 2 := by
  funext y
  rw [val_main_v75_apply, val_main_v74_apply, Fin.sum_univ_one, val_main_v71_apply, val_main_v70_apply]
  simp only [val_main_v69_apply, val_main_v21_apply, v3, val_main_v45_apply]
  exact (zsum (fun j l => gw (col X) (2 + l.val + 14) j * (A l.val j + B l.val j)) (y 1).val).trans (tsum A B X 2 _)

theorem v86 : val_main_v86 (F := Ideal) (em 16384 3072 A) (em 16384 3072 B) (em 16384 5184 X) = em 1 3072 fun _ => dtap (sum A B) (col X) 1 := by
  funext y
  rw [val_main_v86_apply, val_main_v85_apply, Fin.sum_univ_one, val_main_v82_apply, val_main_v81_apply]
  simp only [val_main_v80_apply, val_main_v14_apply, v3, val_main_v45_apply]
  exact (zsum (fun j l => gw (col X) (1 + l.val + 14) j * (A l.val j + B l.val j)) (y 1).val).trans (tsum A B X 1 _)

theorem v97 : val_main_v97 (F := Ideal) (em 16384 3072 A) (em 16384 3072 B) (em 16384 5184 X) = em 1 3072 fun _ => dtap (sum A B) (col X) 0 := by
  funext y
  rw [val_main_v97_apply, val_main_v96_apply, Fin.sum_univ_one, val_main_v93_apply, val_main_v92_apply]
  simp only [val_main_v91_apply, val_main_v6_apply, v3, val_main_v45_apply]
  refine (zsum (fun j l => gw (col X) (l.val + 14) j * (A l.val j + B l.val j)) (y 1).val).trans (Eq.trans ?_ (tsum A B X 0 _))
  simp only [Nat.zero_add]

/-- One tap's row among rows of zeros. -/
theorem padt (k e : ℕ) (T : ℕ → EReal) (z : S_.Idx → EReal) (hz : ∀ i, z i = 0) (h) (hs) :
    pad S5x3072 ![k, 0] ![e, 0] ![0, 0] (em 1 3072 fun _ => T) z h hs = em 5 3072 fun i j => if i = k then T j else 0 := by
  funext y
  have hy : (y 1).val < 3072 := (y 1).isLt
  rw [pad_apply]
  show _ = if (y 0).val = k then T (y 1).val else 0
  by_cases hk : (y 0).val = k
  · rw [if_pos hk, dif_pos (fun a => by
      match a with
      | ⟨0, _⟩ => show k ≤ (y 0).val ∧ ((y 0).val - k) % (0 + 1) = 0 ∧ ((y 0).val - k) / (0 + 1) < 1; omega
      | ⟨1, _⟩ => show 0 ≤ (y 1).val ∧ ((y 1).val - 0) % (0 + 1) = 0 ∧ ((y 1).val - 0) / (0 + 1) < 3072; omega)]
    show T (((y 1).val - 0) / (0 + 1)) = _
    rw [Nat.sub_zero, Nat.zero_add, Nat.div_one]
  · rw [if_neg hk, dif_neg (fun hin => hk (by
      have h0 : k ≤ (y 0).val ∧ ((y 0).val - k) % (0 + 1) = 0 ∧ ((y 0).val - k) / (0 + 1) < 1 := hin 0
      omega))]
    exact hz _

/-- A matrix between rows of zeros. -/
theorem padd (k e : ℕ) (T : ℕ → ℕ → EReal) (z : S_.Idx → EReal) (hz : ∀ i, z i = 0) (h) (hs) :
    pad S16388x3072 ![k, 0] ![e, 0] ![0, 0] (em 16384 3072 T) z h hs
      = em 16388 3072 fun i j => if k ≤ i ∧ i < 16384 + k then T (i - k) j else 0 := by
  funext y
  have hy : (y 1).val < 3072 := (y 1).isLt
  rw [pad_apply]
  show _ = if k ≤ (y 0).val ∧ (y 0).val < 16384 + k then T ((y 0).val - k) (y 1).val else 0
  by_cases hk : k ≤ (y 0).val ∧ (y 0).val < 16384 + k
  · rw [if_pos hk, dif_pos (fun a => by
      match a with
      | ⟨0, _⟩ => show k ≤ (y 0).val ∧ ((y 0).val - k) % (0 + 1) = 0 ∧ ((y 0).val - k) / (0 + 1) < 16384; omega
      | ⟨1, _⟩ => show 0 ≤ (y 1).val ∧ ((y 1).val - 0) % (0 + 1) = 0 ∧ ((y 1).val - 0) / (0 + 1) < 3072; omega)]
    show T (((y 0).val - k) / (0 + 1)) (((y 1).val - 0) / (0 + 1)) = _
    rw [Nat.sub_zero, Nat.zero_add, Nat.div_one, Nat.div_one]
  · rw [if_neg hk, dif_neg (fun hin => hk (by
      have h0 : k ≤ (y 0).val ∧ ((y 0).val - k) % (0 + 1) = 0 ∧ ((y 0).val - k) / (0 + 1) < 16384 := hin 0
      omega))]
    exact hz _

/-- The taps' gradient. -/
theorem v99 : val_main_v99 (F := Ideal) (em 16384 3072 A) (em 16384 3072 B) (em 16384 5184 X) = em 5 3072 fun k => dtap (sum A B) (col X) k := by
  have e4 := padt 4 0 (dtap (sum A B) (col X) 4) _ (fun i => (val_main_cst_8_apply (F := Ideal) i).trans zero_lit) pads_S1x3072_S5x3072_400_000 h_S_
  have e3 := padt 3 1 (dtap (sum A B) (col X) 3) _ (fun i => (val_main_cst_12_apply (F := Ideal) i).trans zero_lit) pads_S1x3072_S5x3072_310_000 h_S_
  have e2 := padt 2 2 (dtap (sum A B) (col X) 2) _ (fun i => (val_main_cst_16_apply (F := Ideal) i).trans zero_lit) pads_S1x3072_S5x3072_220_000 h_S_
  have e1 := padt 1 3 (dtap (sum A B) (col X) 1) _ (fun i => (val_main_cst_20_apply (F := Ideal) i).trans zero_lit) pads_S1x3072_S5x3072_130_000 h_S_
  have e0 := padt 0 4 (dtap (sum A B) (col X) 0) _ (fun i => (val_main_cst_24_apply (F := Ideal) i).trans zero_lit) pads_S1x3072_S5x3072_040_000 h_S_
  funext y
  unfold val_main_v99 val_main_v88 val_main_v77 val_main_v66 val_main_v56 val_main_v65 val_main_v76 val_main_v87 val_main_v98
  rw [v55, v64, v75, v86, v97, e4, e3, e2, e1, e0]
  have hy : (y 0).val < 5 := (y 0).isLt
  show (((((if (y 0).val = 4 then dtap (sum A B) (col X) 4 (y 1).val else 0) + (if (y 0).val = 3 then dtap (sum A B) (col X) 3 (y 1).val else 0))
    + (if (y 0).val = 2 then dtap (sum A B) (col X) 2 (y 1).val else 0)) + (if (y 0).val = 1 then dtap (sum A B) (col X) 1 (y 1).val else 0))
    + (if (y 0).val = 0 then dtap (sum A B) (col X) 0 (y 1).val else 0) : EReal) = dtap (sum A B) (col X) (y 0).val (y 1).val
  generalize (y 0).val = k at hy ⊢
  interval_cases k <;> simp

/-- The bias' gradient. -/
theorem v106 : val_main_v106 (F := Ideal) (em 16384 3072 A) (em 16384 3072 B) = em 1 3072 fun _ => dbias (sum A B) := by
  funext y
  rw [val_main_v106_apply, val_main_v48_apply, Fin.sum_univ_one, val_main_v47_apply, val_main_v46_apply]
  simp only [val_main_v45_apply]
  exact zsum (fun j l => A l.val j + B l.val j) (y 1).val

theorem v53 : val_main_v53 (F := Ideal) (em 16384 3072 A) (em 16384 3072 B) (em 5 3072 W) = em 16384 3072 fun i j => sum A B i j * W 4 j := by
  funext j
  simp only [val_main_v53_apply, val_main_v52_apply, val_main_v38_apply, val_main_v37_apply, val_main_v36_apply, val_main_v35_apply, val_main_v45_apply]
  have hj : (j 1).val % 3072 = (j 1).val := Nat.mod_eq_of_lt (j 1).isLt
  show sum A B (j 0).val (j 1).val * W 4 ((j 1).val % 3072) = sum A B (j 0).val (j 1).val * W 4 (j 1).val
  rw [hj]

theorem v62 : val_main_v62 (F := Ideal) (em 16384 3072 A) (em 16384 3072 B) (em 5 3072 W) = em 16384 3072 fun i j => sum A B i j * W 3 j := by
  funext j
  simp only [val_main_v62_apply, val_main_v61_apply, val_main_v31_apply, val_main_v30_apply, val_main_v29_apply, val_main_v45_apply]
  have hj : (j 1).val % 3072 = (j 1).val := Nat.mod_eq_of_lt (j 1).isLt
  show sum A B (j 0).val (j 1).val * W 3 ((j 1).val % 3072) = sum A B (j 0).val (j 1).val * W 3 (j 1).val
  rw [hj]

theorem v73 : val_main_v73 (F := Ideal) (em 16384 3072 A) (em 16384 3072 B) (em 5 3072 W) = em 16384 3072 fun i j => sum A B i j * W 2 j := by
  funext j
  simp only [val_main_v73_apply, val_main_v72_apply, val_main_v24_apply, val_main_v23_apply, val_main_v22_apply, val_main_v45_apply]
  have hj : (j 1).val % 3072 = (j 1).val := Nat.mod_eq_of_lt (j 1).isLt
  show sum A B (j 0).val (j 1).val * W 2 ((j 1).val % 3072) = sum A B (j 0).val (j 1).val * W 2 (j 1).val
  rw [hj]

theorem v84 : val_main_v84 (F := Ideal) (em 16384 3072 A) (em 16384 3072 B) (em 5 3072 W) = em 16384 3072 fun i j => sum A B i j * W 1 j := by
  funext j
  simp only [val_main_v84_apply, val_main_v83_apply, val_main_v17_apply, val_main_v16_apply, val_main_v15_apply, val_main_v45_apply]
  have hj : (j 1).val % 3072 = (j 1).val := Nat.mod_eq_of_lt (j 1).isLt
  show sum A B (j 0).val (j 1).val * W 1 ((j 1).val % 3072) = sum A B (j 0).val (j 1).val * W 1 (j 1).val
  rw [hj]

theorem v95 : val_main_v95 (F := Ideal) (em 16384 3072 A) (em 16384 3072 B) (em 5 3072 W) = em 16384 3072 fun i j => sum A B i j * W 0 j := by
  funext j
  simp only [val_main_v95_apply, val_main_v94_apply, val_main_v9_apply, val_main_v8_apply, val_main_v7_apply, val_main_v45_apply]
  have hj : (j 1).val % 3072 = (j 1).val := Nat.mod_eq_of_lt (j 1).isLt
  show sum A B (j 0).val (j 1).val * W 0 ((j 1).val % 3072) = sum A B (j 0).val (j 1).val * W 0 (j 1).val
  rw [hj]

/-- A shifted row of the gradient times a tap, zero outside the array. -/
theorem shift (D : ℕ → ℕ → EReal) (w : EReal) (i j k o : ℕ) (ho : o + k = i + 16) :
    (if k ≤ i ∧ i < 16384 + k then D (i - k) j * w else 0) = w * gw D o j := by
  unfold gw
  by_cases h : k ≤ i ∧ i < 16384 + k
  · rw [if_pos h, if_pos (by omega), show o - 16 = i - k from by omega, mul_comm]
  · rw [if_neg h, if_neg (by omega), mul_zero]

/-- The input's gradient. -/
theorem v105 : val_main_v105 (F := Ideal) (em 16384 3072 A) (em 16384 3072 B) (em 5 3072 W) = em 16384 3072 (tap (gw (sum A B)) W) := by
  have e4 := padd 4 0 (fun i j => sum A B i j * W 4 j) _ (fun i => (val_main_cst_9_apply (F := Ideal) i).trans zero_lit) pads_S16384x3072_S16388x3072_400_000 h_S_
  have e3 := padd 3 1 (fun i j => sum A B i j * W 3 j) _ (fun i => (val_main_cst_13_apply (F := Ideal) i).trans zero_lit) pads_S16384x3072_S16388x3072_310_000 h_S_
  have e2 := padd 2 2 (fun i j => sum A B i j * W 2 j) _ (fun i => (val_main_cst_17_apply (F := Ideal) i).trans zero_lit) pads_S16384x3072_S16388x3072_220_000 h_S_
  have e1 := padd 1 3 (fun i j => sum A B i j * W 1 j) _ (fun i => (val_main_cst_21_apply (F := Ideal) i).trans zero_lit) pads_S16384x3072_S16388x3072_130_000 h_S_
  have e0 := padd 0 4 (fun i j => sum A B i j * W 0 j) _ (fun i => (val_main_cst_25_apply (F := Ideal) i).trans zero_lit) pads_S16384x3072_S16388x3072_040_000 h_S_
  funext y
  rw [val_main_v105_apply, val_main_v103_apply]
  unfold val_main_v101 val_main_v90 val_main_v79 val_main_v68 val_main_v57 val_main_v67 val_main_v78 val_main_v89 val_main_v100
  rw [v53, v62, v73, v84, v95, e4, e3, e2, e1, e0]
  have s := fun (k o : ℕ) (ho : o + k = 2 + (y 0).val + 16) => shift (sum A B) (W k (y 1).val) (2 + (y 0).val) (y 1).val k o ho
  refine Eq.trans (congrArg₂ (· + ·) (congrArg₂ (· + ·) (congrArg₂ (· + ·) (congrArg₂ (· + ·) (s 4 ((y 0).val + 14) (by omega)) (s 3 ((y 0).val + 15) (by omega)))
    (s 2 ((y 0).val + 16) (by omega))) (s 1 ((y 0).val + 17) (by omega))) (s 0 ((y 0).val + 18) (by omega))) ?_
  show _ = tap (gw (sum A B)) W (y 0).val (y 1).val
  unfold tap
  abel

end Cert.Reference6Ideal.V
-- ==== Proof.ConvK6.lean ====
module

public import proofs.«01_k».proof.Proof.Gen.Kernel6Ideal.Frame
public import Idealize.ShloMosaic.Lib.Pipeline.Value
public import Idealize.ShloMosaic.Lib.Pipeline.ReadBack
public import proofs.«01_k».proof.Proof.Conv6R

/-! The state-space mixer's backward convolution: the gradients of the five taps' input, of the taps and of the bias, from two gradients
of the output that are added first. -/

@[expose] public section

set_option maxRecDepth 16384

noncomputable section

open Idealize.ShloMosaic Idealize.ShloMosaic.TcCoe Idealize.SL.Sem
open Idealize.ShloMosaic.Pipeline (Dat)

namespace Cert.Kernel6Ideal.V
open Cert.Kernel6Ideal Cert.Kernel6Ideal.Gen Cert.EMat Cert.Conv6

/-- Sixteen rows of the input's gradient from the five slabs of the window and the taps' rows. -/
def G (a2 a1 a0 a4 a3 : Vec Ideal S16x1024 .f32) (w2 w1 w0 w4 w3 : Vec Ideal S1x1024 .f32) : FVec Ideal S16x1024 .bf16 :=
  k0_pay23 (k0_pay21 a2 (k0_pay16 w2) a1 w1 a0 w0 a4 w4 a3 w3) (k0_pay22 a2 (k0_pay16 w2) a1 w1 a0 w0 a4 w4 a3 w3)

theorem G_eq (A2 A1 A0 A4 A3 : ℕ → ℕ → EReal) (W2 W1 W0 W4 W3 : ℕ → EReal) :
    G (em 16 1024 A2) (em 16 1024 A1) (em 16 1024 A0) (em 16 1024 A4) (em 16 1024 A3) (em 1 1024 fun _ => W2) (em 1 1024 fun _ => W1)
      (em 1 1024 fun _ => W0) (em 1 1024 fun _ => W4) (em 1 1024 fun _ => W3)
    = em 16 1024 fun i j => W2 j * A2 i j + W1 j * A1 i j + W0 j * A0 i j + W4 j * A4 i j + W3 j * A3 i j := by
  funext y
  pointwise [G, k0_pay23, k0_pay22, k0_pay21, k0_pay20, k0_pay19, k0_pay18, k0_pay17, k0_pay16]
  split_ifs with hl
  · rfl
  · show W2 (y 1).val * A2 (8 + ((y 0).val - 8)) (y 1).val + W1 (y 1).val * A1 (8 + ((y 0).val - 8)) (y 1).val
      + W0 (y 1).val * A0 (8 + ((y 0).val - 8)) (y 1).val + W4 (y 1).val * A4 (8 + ((y 0).val - 8)) (y 1).val
      + W3 (y 1).val * A3 (8 + ((y 0).val - 8)) (y 1).val = _
    rw [Nat.add_sub_cancel' (not_lt.mp hl)]
  · exact absurd rfl ‹¬_›

/-- A piece of the input's gradient: sixteen rows from row `o`. -/
theorem piece (D W : ℕ → ℕ → EReal) (o : ℕ) (y : S512x1024.Idx) (x : S16x1024.Idx) (h0 : (y 0).val = o + (x 0).val)
    (h1 : (y 1).val = (x 1).val) :
    G (em 16 1024 fun i => D (o + 16 + i)) (em 16 1024 fun i => D (o + 17 + i)) (em 16 1024 fun i => D (o + 18 + i))
      (em 16 1024 fun i => D (o + 14 + i)) (em 16 1024 fun i => D (o + 15 + i)) (em 1 1024 fun _ => W 2) (em 1 1024 fun _ => W 1)
      (em 1 1024 fun _ => W 0) (em 1 1024 fun _ => W 4) (em 1 1024 fun _ => W 3) x
    = tap D W (y 0).val (y 1).val := by
  rw [G_eq, h0, h1]
  unfold tap
  simp only [Nat.add_right_comm o (x 0).val]

/-- One tap's eight partial sums as an array of three axes. -/
abbrev e3 (A : ℕ → ℕ → EReal) : Vec Ideal S1x8x1024 .f32 := fun y => A (y 1).val (y 2).val

/-- What sixteen rows add to the eight partial sums. -/
def two (T : ℕ → ℕ → EReal) (s j : ℕ) : EReal := T s j + T (8 + s) j

theorem stepW (D U A : ℕ → ℕ → EReal) :
    k0_pay25 (F := Ideal) (em 16 1024 D) (em 16 1024 U) (e3 A) = e3 fun s j => A s j + two (fun i j => D i j * U i j) s j := by
  funext y
  pointwise [k0_pay25]
  rfl

theorem stepB (D A : ℕ → ℕ → EReal) : k0_pay24 (F := Ideal) (em 16 1024 D) (em 8 1024 A) = em 8 1024 fun s j => A s j + two D s j := by
  funext y
  pointwise [k0_pay24]
  rfl

theorem fin2 (A : ℕ → ℕ → EReal) : k0_pay2 (F := Ideal) (e3 A) = em 1 1024 fun _ j => ∑ s : Fin 8, A s j := by
  funext y
  pointwise [k0_pay2]
  rfl

theorem fin1 (A : ℕ → ℕ → EReal) : k0_pay1 (F := Ideal) (em 8 1024 A) = em 1 1024 fun _ j => ∑ s : Fin 8, A s j := by
  funext y
  pointwise [k0_pay1]
  rfl

theorem zero15 : k0_pay15 (F := Ideal) = em 8 1024 fun _ _ => 0 := by
  funext y
  pointwise [k0_pay15]

/-- The windows' blocks at a point, by number. -/
theorem idx : ∀ t : Fin cfg0.N, (win0_0.index t = ![t.val % 32, t.val / 32] ∧ win0_1.index t = ![32 * (t.val % 32) - 1, t.val / 32] ∧
    win0_2.index t = ![min (32 * (t.val % 32) + 32) 1023, t.val / 32]) ∧ (win0_3.index t = ![t.val % 32, t.val / 32] ∧
    win0_4.index t = ![32 * (t.val % 32) - 1, t.val / 32] ∧ win0_5.index t = ![min (32 * (t.val % 32) + 32) 1023, t.val / 32]) ∧
    (win0_6.index t = ![t.val % 32, 2 + t.val / 32] ∧ win0_7.index t = ![32 * (t.val % 32) - 1, 2 + t.val / 32] ∧
    win0_8.index t = ![min (32 * (t.val % 32) + 32) 1023, 2 + t.val / 32]) ∧ win0_9.index t = ![0, t.val / 32] ∧
    win0_10.index t = ![t.val % 32, t.val / 32] ∧ win0_11.index t = ![0, t.val / 32] ∧ win0_12.index t = ![0, t.val / 32] ∧
    (grid0.coords t 1).val = t.val % 32 :=
  (by decide +kernel : ∀ t : Fin grid0.N, _)

theorem coord (t : Fin cfg0.N) : (grid0.coords t 1).val = t.val % 32 := (idx t).2.2.2.2.2.2.2

/-- The window's rows at a point: sixteen rows before the block, the block, sixteen rows after it; zero outside the array. -/
def win (X : ℕ → ℕ → EReal) (p q i j : ℕ) : EReal := gw X (512 * p + i) (1024 * q + j)

section fill
variable (A B X : ℕ → ℕ → EReal) (p q : ℕ) (hp : p < 32)

/-- The rows before the block. -/
abbrev before (X : ℕ → ℕ → EReal) (p q : ℕ) (i j : ℕ) : EReal := X (16 * (32 * p - 1) + i) (1024 * q + j)

/-- The block's rows. -/
abbrev block (X : ℕ → ℕ → EReal) (p q : ℕ) (i j : ℕ) : EReal := X (512 * p + i) (1024 * q + j)

/-- The rows after the block. -/
abbrev after (X : ℕ → ℕ → EReal) (p q : ℕ) (i j : ℕ) : EReal := X (16 * min (32 * p + 32) 1023 + i) (1024 * q + j)

theorem before_win (h : 0 < p) (i j : ℕ) (hi : i < 16) (hp : p < 32) : before X p q i j = win X p q i j := by
  unfold win gw before
  rw [if_pos (by omega)]
  congr 1
  omega

theorem block_win (i j : ℕ) (hi : i < 512) (hp : p < 32) : block X p q i j = win X p q (16 + i) j := by
  unfold win gw block
  rw [if_pos (by omega)]
  congr 1
  omega

theorem after_win (h : p < 31) (i j : ℕ) (hi : i < 16) : after X p q i j = win X p q (528 + i) j := by
  unfold win gw after
  rw [if_pos (by omega)]
  congr 1
  omega

theorem sgt_pos (h : 0 < p) (hp : p < 32) : Scalar.cmpi .sgt (BitVec.ofNat 32 p) 0#32 = 1#1 := by
  interval_cases p <;> rfl

theorem slt_pos (h : p < 31) : Scalar.cmpi .slt (BitVec.ofNat 32 p) 31#32 = 1#1 := by
  interval_cases p <;> rfl

include hp

theorem u0 : k0_pay11 (F := Ideal) (BitVec.ofNat 32 p) (em 16 1024 (before X p q)) = em 16 1024 (win X p q) := by
  funext y
  have hy : (y 0).val < 16 := (y 0).isLt
  unfold k0_pay11
  obtain rfl | h := Nat.eq_zero_or_pos p
  · refine Eq.trans ?_ (show (0 : EReal) = win X 0 q (y 0).val (y 1).val from ?_)
    · pointwise []
      exact if_neg (by decide)
    · unfold win gw
      rw [if_neg (by omega)]
  · simp only [sgt_pos p h hp]
    refine Eq.trans ?_ (before_win X p q h (y 0).val (y 1).val hy hp)
    pointwise []

theorem u1 : k0_pay12 (F := Ideal) (em 512 1024 (block X p q)) = em 512 1024 fun i => win X p q (16 + i) := by
  funext y
  refine Eq.trans ?_ (block_win X p q (y 0).val (y 1).val (y 0).isLt hp)
  pointwise [k0_pay12]

theorem u2 : k0_pay13 (F := Ideal) (BitVec.ofNat 32 p) (em 16 1024 (after X p q)) = em 16 1024 fun i => win X p q (528 + i) := by
  funext y
  have hy : (y 0).val < 16 := (y 0).isLt
  unfold k0_pay13
  obtain h | h := Nat.lt_or_ge p 31
  · simp only [slt_pos p h]
    refine Eq.trans ?_ (after_win X p q h (y 0).val (y 1).val hy)
    pointwise []
  · obtain rfl : p = 31 := by omega
    refine Eq.trans ?_ (show (0 : EReal) = win X 31 q (528 + (y 0).val) (y 1).val from ?_)
    · pointwise []
      exact if_neg (by decide)
    · unfold win gw
      rw [if_neg (by omega)]

theorem d1 : k0_pay8 (F := Ideal) (em 512 1024 (block A p q)) (em 512 1024 (block B p q))
    = em 512 1024 fun i => win (sum A B) p q (16 + i) := by
  funext y
  refine Eq.trans ?_ (block_win (sum A B) p q (y 0).val (y 1).val (y 0).isLt hp)
  pointwise [k0_pay8]
  rfl

omit hp

theorem d0 (t : Fin cfg0.N) (e : (grid0.coords t 1).val = p) (hp : p < 32) :
    k0_pay7 (F := Ideal) (grid0.coords t) (em 16 1024 (before A p q)) (em 16 1024 (before B p q)) = em 16 1024 (win (sum A B) p q) := by
  funext y
  have hy : (y 0).val < 16 := (y 0).isLt
  unfold k0_pay7
  rw [e]
  obtain rfl | h := Nat.eq_zero_or_pos p
  · refine Eq.trans ?_ (show (0 : EReal) = win (sum A B) 0 q (y 0).val (y 1).val from ?_)
    · pointwise []
      exact if_neg (by decide)
    · unfold win gw
      rw [if_neg (by omega)]
  · simp only [sgt_pos p h hp]
    refine Eq.trans ?_ (before_win (sum A B) p q h (y 0).val (y 1).val hy hp)
    pointwise []
    rfl

theorem d2 (t : Fin cfg0.N) (e : (grid0.coords t 1).val = p) (hp : p < 32) :
    k0_pay10 (F := Ideal) (k0_pay9 (grid0.coords t) (em 16 1024 (after A p q)) (em 16 1024 (after B p q)))
      = em 16 1024 fun i => win (sum A B) p q (528 + i) := by
  funext y
  have hy : (y 0).val < 16 := (y 0).isLt
  unfold k0_pay10 k0_pay9
  rw [e]
  obtain h | h := Nat.lt_or_ge p 31
  · simp only [slt_pos p h]
    refine Eq.trans ?_ (after_win (sum A B) p q h (y 0).val (y 1).val hy)
    pointwise []
    rfl
  · obtain rfl : p = 31 := by omega
    refine Eq.trans ?_ (show (0 : EReal) = win (sum A B) 31 q (528 + (y 0).val) (y 1).val from ?_)
    · pointwise []
      exact if_neg (by decide)
    · unfold win gw
      rw [if_neg (by omega)]

end fill

/-- The three stores fill the window. -/
theorem filled (X : ℕ → ℕ → EReal) (P P' : Vec Ideal S16x1024 .f32) (M : Vec Ideal S512x1024 .f32)
    (h : P = em 16 1024 X) (h' : M = em 512 1024 fun i => X (16 + i)) (h'' : P' = em 16 1024 fun i => X (528 + i)) (i2 i1 i0) :
    View.canon [⟨Rect.unit (s := S544x1024) ![528, 0] ![16, 1024] i2, P'⟩,
      ⟨Rect.unit (s := S544x1024) ![16, 0] ![512, 1024] i1, M⟩, (⟨Rect.unit (s := S544x1024) ![0, 0] ![16, 1024] i0, P⟩ : View.Piece (Elt Ideal) S544x1024 .f32)]
      = em 544 1024 X := by
  funext y
  subst h h' h''
  canon_tiles x h using View.cover_of_tiledBy _ ![16, 1024] (by sl_kernel_rfl) _
  all_goals
    show X _ _ = X (y 0).val (y 1).val
    rw [h0, h1]

/-- Sixteen rows of the window from row `r`. -/
theorem rows (X : ℕ → ℕ → EReal) (r : ℕ) (inb) :
    (fun j => em 544 1024 X ((Rect.unit (s := S544x1024) ![r, 0] ![16, 1024] inb).toLoadRect.idx j)) = em 16 1024 fun i => X (r + i) := by
  funext j
  show X _ _ = _
  rw [Rect.idx_unit_val, Rect.idx_unit_val]
  show X (r + (j 0).val) (0 + (j 1).val) = X (r + (j 0).val) (j 1).val
  rw [Nat.zero_add]

/-- A load of sixteen rows of the gradients' window from row `r`. -/
theorem slab (X : ℕ → ℕ → EReal) (P P' : Vec Ideal S16x1024 .f32) (M : Vec Ideal S512x1024 .f32)
    (h : P = em 16 1024 X) (h' : M = em 512 1024 fun i => X (16 + i)) (h'' : P' = em 16 1024 fun i => X (528 + i))
    (r : ℕ) (i2 i1 i0 inb) :
    (View.whole cc0_scratch0).readCov (Val := Elt Ideal) [⟨Rect.unit (s := S544x1024) ![528, 0] ![16, 1024] i2, P'⟩,
      ⟨Rect.unit (s := S544x1024) ![16, 0] ![512, 1024] i1, M⟩, ⟨Rect.unit (s := S544x1024) ![0, 0] ![16, 1024] i0, P⟩]
      (Rect.unit (s := S544x1024) ![r, 0] ![16, 1024] inb).toLoadRect
    = em 16 1024 fun i => X (r + i) := by
  rw [View.readCov_eq_canon', filled X P P' M h h' h'']
  exact rows X r inb

/-- A load of sixteen rows of the input's window from row `r`. -/
theorem slab' (X : ℕ → ℕ → EReal) (P P' : Vec Ideal S16x1024 .f32) (M : Vec Ideal S512x1024 .f32)
    (h : P = em 16 1024 X) (h' : M = em 512 1024 fun i => X (16 + i)) (h'' : P' = em 16 1024 fun i => X (528 + i))
    (r : ℕ) (i2 i1 i0 inb) :
    (View.whole cc0_scratch2).readCov (Val := Elt Ideal) [⟨Rect.unit (s := S544x1024) ![528, 0] ![16, 1024] i2, P'⟩,
      ⟨Rect.unit (s := S544x1024) ![16, 0] ![512, 1024] i1, M⟩, ⟨Rect.unit (s := S544x1024) ![0, 0] ![16, 1024] i0, P⟩]
      (Rect.unit (s := S544x1024) ![r, 0] ![16, 1024] inb).toLoadRect
    = em 16 1024 fun i => X (r + i) := by
  rw [View.readCov_eq_canon', filled X P P' M h h' h'']
  exact rows X r inb

/-- A load of one tap's row. -/
theorem row (W : ℕ → ℕ → EReal) (k : ℕ) (inb) :
    View.ld (Val := Elt Ideal) (S := S5x1024) (e' := .f32) (em 5 1024 W) (Rect.unit (s := S5x1024) ![k, 0] ![1, 1024] inb) = em 1 1024 fun _ => W k := by
  rw [ld_em]
  funext j
  have hj : (j 0).val < 1 := (j 0).isLt
  show W (k + (j 0).val) (0 + (j 1).val) = W k (j 1).val
  rw [Nat.zero_add]
  congr 1
  omega

variable (A B X W : ℕ → ℕ → EReal) (m : (ℓ : Loc nD τ sig) → Buf (Elt Ideal) ℓ) (c : Dev nD)

/-- The arguments by row and column number. -/
structure Args : Prop where
  h0 : m ((c.tc : Thread nD τ).loc main_arg0) = em 16384 3072 A
  h1 : m ((c.tc : Thread nD τ).loc main_arg1) = em 16384 3072 B
  h2 : m ((c.tc : Thread nD τ).loc main_arg2) = em 16384 5184 X
  h3 : m ((c.tc : Thread nD τ).loc main_arg3) = em 5 3072 W

/-- The projection padded to 5248 columns. -/
def zp (X : ℕ → ℕ → EReal) (i j : ℕ) : EReal := if j < 5184 then X i j else 0

variable {A B X W m c} (H : Args A B X W m c)
include H

theorem host2 : V m c main_v2 = em 16384 5248 (zp X) := by
  have e : V m c main_v2 = truncf .bf16 (concatenate S16384x5248 1 [⟨S16384x5184, m ((c.tc : Thread nD τ).loc main_arg2)⟩,
      ⟨S16384x64, broadcastInDim S16384x64 ![] bcast_S_S16384x64 (constant (F := Ideal) S_ .f32 0x00000000#32)⟩]
      concatenates_S16384x5184_S16384x64_S16384x5248_d1) bitsLt_bf16_f32 := by
    after_results_simp
    rfl
  rw [e, H.h2]
  funext j
  pointwise []
  rfl

theorem host3 : V m c main_v3 = em 16384 3072 A := by
  have e : V m c main_v3 = (truncf .bf16 (m ((c.tc : Thread nD τ).loc main_arg0) : FVec Ideal S16384x3072 .f32) bitsLt_bf16_f32 : FVec Ideal S16384x3072 .bf16) := by
    rfl
  rw [e, H.h0]
  funext j
  pointwise []

theorem host4 : V m c main_v4 = em 16384 3072 B := by
  have e : V m c main_v4 = (truncf .bf16 (m ((c.tc : Thread nD τ).loc main_arg1) : FVec Ideal S16384x3072 .f32) bitsLt_bf16_f32 : FVec Ideal S16384x3072 .bf16) := by
    rfl
  rw [e, H.h1]
  funext j
  pointwise []

theorem blk0 (t : Fin cfg0.N) : iblk m c 0 t = em 512 1024 (block A (t.val % 32) (t.val / 32)) := by
  funext y
  have ht : t.val < 96 := lt_of_lt_of_eq t.isLt N_0
  have hy : (y 0).val < 512 := (y 0).isLt
  have hy1 : (y 1).val < 1024 := (y 1).isLt
  obtain ⟨⟨e0, e1, e2⟩, ⟨e3, e4, e5⟩, ⟨e6, e7, e8⟩, e9, e10⟩ := idx t
  have e : iblk m c 0 t y = V m c main_v3 (ix2 ⟨512 * (t.val % 32) + (y 0).val, by omega⟩ ⟨1024 * (t.val / 32) + (y 1).val, by omega⟩) := by
    blk_point [iblk, e0]
  rw [e, host3 H]
  rfl

theorem blk1 (t : Fin cfg0.N) : iblk m c 1 t = em 16 1024 (before A (t.val % 32) (t.val / 32)) := by
  funext y
  have ht : t.val < 96 := lt_of_lt_of_eq t.isLt N_0
  have hy : (y 0).val < 16 := (y 0).isLt
  have hy1 : (y 1).val < 1024 := (y 1).isLt
  obtain ⟨⟨e0, e1, e2⟩, ⟨e3, e4, e5⟩, ⟨e6, e7, e8⟩, e9, e10⟩ := idx t
  have e : iblk m c 1 t y = V m c main_v3 (ix2 ⟨16 * (32 * (t.val % 32) - 1) + (y 0).val, by omega⟩ ⟨1024 * (t.val / 32) + (y 1).val, by omega⟩) := by
    blk_point [iblk, e1]
  rw [e, host3 H]
  rfl

theorem blk2 (t : Fin cfg0.N) : iblk m c 2 t = em 16 1024 (after A (t.val % 32) (t.val / 32)) := by
  funext y
  have ht : t.val < 96 := lt_of_lt_of_eq t.isLt N_0
  have hy : (y 0).val < 16 := (y 0).isLt
  have hy1 : (y 1).val < 1024 := (y 1).isLt
  obtain ⟨⟨e0, e1, e2⟩, ⟨e3, e4, e5⟩, ⟨e6, e7, e8⟩, e9, e10⟩ := idx t
  have e : iblk m c 2 t y = V m c main_v3 (ix2 ⟨16 * min (32 * (t.val % 32) + 32) 1023 + (y 0).val, by omega⟩ ⟨1024 * (t.val / 32) + (y 1).val, by omega⟩) := by
    blk_point [iblk, e2]
  rw [e, host3 H]
  rfl

theorem blk3 (t : Fin cfg0.N) : iblk m c 3 t = em 512 1024 (block B (t.val % 32) (t.val / 32)) := by
  funext y
  have ht : t.val < 96 := lt_of_lt_of_eq t.isLt N_0
  have hy : (y 0).val < 512 := (y 0).isLt
  have hy1 : (y 1).val < 1024 := (y 1).isLt
  obtain ⟨⟨e0, e1, e2⟩, ⟨e3, e4, e5⟩, ⟨e6, e7, e8⟩, e9, e10⟩ := idx t
  have e : iblk m c 3 t y = V m c main_v4 (ix2 ⟨512 * (t.val % 32) + (y 0).val, by omega⟩ ⟨1024 * (t.val / 32) + (y 1).val, by omega⟩) := by
    blk_point [iblk, e3]
  rw [e, host4 H]
  rfl

theorem blk4 (t : Fin cfg0.N) : iblk m c 4 t = em 16 1024 (before B (t.val % 32) (t.val / 32)) := by
  funext y
  have ht : t.val < 96 := lt_of_lt_of_eq t.isLt N_0
  have hy : (y 0).val < 16 := (y 0).isLt
  have hy1 : (y 1).val < 1024 := (y 1).isLt
  obtain ⟨⟨e0, e1, e2⟩, ⟨e3, e4, e5⟩, ⟨e6, e7, e8⟩, e9, e10⟩ := idx t
  have e : iblk m c 4 t y = V m c main_v4 (ix2 ⟨16 * (32 * (t.val % 32) - 1) + (y 0).val, by omega⟩ ⟨1024 * (t.val / 32) + (y 1).val, by omega⟩) := by
    blk_point [iblk, e4]
  rw [e, host4 H]
  rfl

theorem blk5 (t : Fin cfg0.N) : iblk m c 5 t = em 16 1024 (after B (t.val % 32) (t.val / 32)) := by
  funext y
  have ht : t.val < 96 := lt_of_lt_of_eq t.isLt N_0
  have hy : (y 0).val < 16 := (y 0).isLt
  have hy1 : (y 1).val < 1024 := (y 1).isLt
  obtain ⟨⟨e0, e1, e2⟩, ⟨e3, e4, e5⟩, ⟨e6, e7, e8⟩, e9, e10⟩ := idx t
  have e : iblk m c 5 t y = V m c main_v4 (ix2 ⟨16 * min (32 * (t.val % 32) + 32) 1023 + (y 0).val, by omega⟩ ⟨1024 * (t.val / 32) + (y 1).val, by omega⟩) := by
    blk_point [iblk, e5]
  rw [e, host4 H]
  rfl

theorem at6 (t : Fin cfg0.N) (y : ((cfg0.win 6).xblock (cfg0.grid.coords t)).Idx) :
    iblk m c 6 t y = block (col X) (t.val % 32) (t.val / 32) (y 0).val (y 1).val := by
  have ht : t.val < 96 := lt_of_lt_of_eq t.isLt N_0
  have hy : (y 0).val < 512 := lt_of_lt_of_eq (y 0).isLt (xsize0_6 t 0)
  have hy1 : (y 1).val < 1024 := lt_of_lt_of_eq (y 1).isLt (xsize0_6 t 1)
  obtain ⟨⟨e0, e1, e2⟩, ⟨e3, e4, e5⟩, ⟨e6, e7, e8⟩, e9, e10⟩ := idx t
  have e : iblk m c 6 t y = V m c main_v2 (ix2 ⟨512 * (t.val % 32) + (y 0).val, by omega⟩ ⟨2048 + (1024 * (t.val / 32) + (y 1).val), by omega⟩) := by
    blk_point [iblk, e6]
  rw [e, host2 H]
  show (if 2048 + (1024 * (t.val / 32) + (y 1).val) < 5184 then X _ _ else 0) = _
  rw [if_pos (by omega)]
  rfl

theorem blk6 (t : Fin cfg0.N) : X0_6 m c t = em 512 1024 (block (col X) (t.val % 32) (t.val / 32)) := by
  funext y
  unfold X0_6 Pipeline.Window.fill
  rw [dif_pos (moved0_6 t y), at6 H]

theorem at7 (t : Fin cfg0.N) (y : ((cfg0.win 7).xblock (cfg0.grid.coords t)).Idx) :
    iblk m c 7 t y = before (col X) (t.val % 32) (t.val / 32) (y 0).val (y 1).val := by
  have ht : t.val < 96 := lt_of_lt_of_eq t.isLt N_0
  have hy : (y 0).val < 16 := lt_of_lt_of_eq (y 0).isLt (xsize0_7 t 0)
  have hy1 : (y 1).val < 1024 := lt_of_lt_of_eq (y 1).isLt (xsize0_7 t 1)
  obtain ⟨⟨e0, e1, e2⟩, ⟨e3, e4, e5⟩, ⟨e6, e7, e8⟩, e9, e10⟩ := idx t
  have e : iblk m c 7 t y = V m c main_v2 (ix2 ⟨16 * (32 * (t.val % 32) - 1) + (y 0).val, by omega⟩ ⟨2048 + (1024 * (t.val / 32) + (y 1).val), by omega⟩) := by
    blk_point [iblk, e7]
  rw [e, host2 H]
  show (if 2048 + (1024 * (t.val / 32) + (y 1).val) < 5184 then X _ _ else 0) = _
  rw [if_pos (by omega)]
  rfl

theorem blk7 (t : Fin cfg0.N) : X0_7 m c t = em 16 1024 (before (col X) (t.val % 32) (t.val / 32)) := by
  funext y
  unfold X0_7 Pipeline.Window.fill
  rw [dif_pos (moved0_7 t y), at7 H]

theorem at8 (t : Fin cfg0.N) (y : ((cfg0.win 8).xblock (cfg0.grid.coords t)).Idx) :
    iblk m c 8 t y = after (col X) (t.val % 32) (t.val / 32) (y 0).val (y 1).val := by
  have ht : t.val < 96 := lt_of_lt_of_eq t.isLt N_0
  have hy : (y 0).val < 16 := lt_of_lt_of_eq (y 0).isLt (xsize0_8 t 0)
  have hy1 : (y 1).val < 1024 := lt_of_lt_of_eq (y 1).isLt (xsize0_8 t 1)
  obtain ⟨⟨e0, e1, e2⟩, ⟨e3, e4, e5⟩, ⟨e6, e7, e8⟩, e9, e10⟩ := idx t
  have e : iblk m c 8 t y = V m c main_v2 (ix2 ⟨16 * min (32 * (t.val % 32) + 32) 1023 + (y 0).val, by omega⟩ ⟨2048 + (1024 * (t.val / 32) + (y 1).val), by omega⟩) := by
    blk_point [iblk, e8]
  rw [e, host2 H]
  show (if 2048 + (1024 * (t.val / 32) + (y 1).val) < 5184 then X _ _ else 0) = _
  rw [if_pos (by omega)]
  rfl

theorem blk8 (t : Fin cfg0.N) : X0_8 m c t = em 16 1024 (after (col X) (t.val % 32) (t.val / 32)) := by
  funext y
  unfold X0_8 Pipeline.Window.fill
  rw [dif_pos (moved0_8 t y), at8 H]

theorem blk9 (t : Fin cfg0.N) : iblk m c 9 t = em 5 1024 fun i j => W i (1024 * (t.val / 32) + j) := by
  funext y
  have ht : t.val < 96 := lt_of_lt_of_eq t.isLt N_0
  have hy : (y 1).val < 1024 := (y 1).isLt
  obtain ⟨⟨e0, e1, e2⟩, ⟨e3, e4, e5⟩, ⟨e6, e7, e8⟩, e9, e10⟩ := idx t
  have e : iblk m c 9 t y = m ((c.tc : Thread nD τ).loc main_arg3) (ix2 (y 0) ⟨1024 * (t.val / 32) + (y 1).val, by omega⟩) := by
    blk_point [iblk, V, e9]
  rw [e, H.h3]
  rfl

end Cert.Kernel6Ideal.V
-- ==== Proof.ConvS6.lean ====
module

public import proofs.«01_k».proof.Proof.ConvK6

/-! The state-space mixer's backward convolution: what the two carried scratch arrays hold after each point, the partial sums of the taps'
and of the bias' gradients. -/

@[expose] public section

set_option maxRecDepth 16384

noncomputable section

open Idealize.ShloMosaic Idealize.ShloMosaic.TcCoe Idealize.SL.Sem

namespace Cert.Kernel6Ideal.V
open Cert.Kernel6Ideal Cert.Kernel6Ideal.Gen Cert.EMat Cert.Conv6

/-- The five taps' partial sums as one array of three axes. -/
abbrev e5 (A : ℕ → ℕ → ℕ → EReal) : Vec Ideal S5x8x1024 .f32 := fun y => A (y 0).val (y 1).val (y 2).val

/-- A load of one tap's row skips the store of another's. -/
theorem skipT (v : View sig .tc .vmem S5x8x1024 .f32) (k k' : ℕ) (inb inb') (w : Vec Ideal S1x8x1024 .f32) (L : List (View.Piece (Elt Ideal) S5x8x1024 .f32))
    (h : k ≠ k') : v.readCov (⟨Rect.unit (s := S5x8x1024) ![k, 0, 0] ![1, 8, 1024] inb, w⟩ :: L) (Rect.unit (s := S5x8x1024) ![k', 0, 0] ![1, 8, 1024] inb').toLoadRect
      = v.readCov L (Rect.unit (s := S5x8x1024) ![k', 0, 0] ![1, 8, 1024] inb').toLoadRect := by
  refine View.readCov_skip v (Rect.unit (s := S5x8x1024) ![k, 0, 0] ![1, 8, 1024] inb) w L (Rect.unit (s := S5x8x1024) ![k', 0, 0] ![1, 8, 1024] inb').toLoadRect ?_
  unfold LoadRect.disj
  rw [decide_eq_true_eq]
  refine ⟨(0 : Fin 3), Or.inr (Or.inr ?_)⟩
  rcases Nat.lt_or_gt_of_ne h with h | h
  · exact Or.inl (lt_of_eq_of_lt (show k + 1 * (1 - 1) = k from rfl) h)
  · exact Or.inr (lt_of_eq_of_lt (show k' + 1 * (1 - 1) = k' from rfl) h)

/-- The last store of a tap's row, read at that tap, and any other store passed over. -/
theorem canonT (A : ℕ → ℕ → ℕ → EReal) (k : ℕ) (inb) (w : Vec Ideal S1x8x1024 .f32) (L : List (View.Piece (Elt Ideal) S5x8x1024 .f32)) (h : w = e3 (A k))
    (y : S5x8x1024.Idx) (r : (y 0).val ≠ k → View.canon L y = e5 A y) :
    View.canon (⟨Rect.unit (s := S5x8x1024) ![k, 0, 0] ![1, 8, 1024] inb, w⟩ :: L) y = e5 A y := by
  by_cases hk : (y 0).val = k
  · have e : y = (Rect.unit (s := S5x8x1024) ![k, 0, 0] ![1, 8, 1024] inb).emb (ix3 0 (y 1) (y 2) : S1x8x1024.Idx) := by
      funext a
      apply Fin.ext
      match a with
      | ⟨0, _⟩ => show (y 0).val = k + 1 * 0; omega
      | ⟨1, _⟩ => show (y 1).val = 0 + 1 * (y 1).val; omega
      | ⟨2, _⟩ => show (y 2).val = 0 + 1 * (y 2).val; omega
    refine (congrArg (View.canon _) e).trans ((View.canon_cons_emb (Rect.unit (s := S5x8x1024) ![k, 0, 0] ![1, 8, 1024] inb) w L (ix3 0 (y 1) (y 2) : S1x8x1024.Idx)).trans ?_)
    rw [h]
    show A k (y 1).val (y 2).val = A (y 0).val (y 1).val (y 2).val
    rw [hk]
  · refine (View.canon_cons_of_not_mem ⟨Rect.unit (s := S5x8x1024) ![k, 0, 0] ![1, 8, 1024] inb, w⟩ L ?_).trans (r hk)
    intro hm
    have hm' : y ∈ (Rect.unit (s := S5x8x1024) ![k, 0, 0] ![1, 8, 1024] inb).set := hm
    rw [Rect.mem_set_unit] at hm'
    have h0 : k ≤ (y 0).val ∧ (y 0).val < k + 1 := hm' 0
    omega

theorem canon5 (A : ℕ → ℕ → ℕ → EReal) (i1 i0 i4 i3 i2) (w1 w0 w4 w3 w2 : Vec Ideal S1x8x1024 .f32) (L : List (View.Piece (Elt Ideal) S5x8x1024 .f32))
    (h1 : w1 = e3 (A 1)) (h0 : w0 = e3 (A 0)) (h4 : w4 = e3 (A 4)) (h3 : w3 = e3 (A 3)) (h2 : w2 = e3 (A 2)) :
    View.canon (⟨Rect.unit (s := S5x8x1024) ![1, 0, 0] ![1, 8, 1024] i1, w1⟩ :: ⟨Rect.unit (s := S5x8x1024) ![0, 0, 0] ![1, 8, 1024] i0, w0⟩ ::
      ⟨Rect.unit (s := S5x8x1024) ![4, 0, 0] ![1, 8, 1024] i4, w4⟩ :: ⟨Rect.unit (s := S5x8x1024) ![3, 0, 0] ![1, 8, 1024] i3, w3⟩ ::
      ⟨Rect.unit (s := S5x8x1024) ![2, 0, 0] ![1, 8, 1024] i2, w2⟩ :: L) = e5 A := by
  funext y
  have hy : (y 0).val < 5 := (y 0).isLt
  refine canonT A 1 i1 w1 _ h1 y fun n1 => canonT A 0 i0 w0 _ h0 y fun n0 => canonT A 4 i4 w4 _ h4 y fun n4 =>
    canonT A 3 i3 w3 _ h3 y fun n3 => canonT A 2 i2 w2 _ h2 y fun n2 => ?_
  omega

/-- A load of one tap's row of the partial sums. -/
theorem ld5 (A : ℕ → ℕ → ℕ → EReal) (k : ℕ) (inb) :
    View.ld (Val := Elt Ideal) (S := S5x8x1024) (e' := .f32) (e5 A) (Rect.unit (s := S5x8x1024) ![k, 0, 0] ![1, 8, 1024] inb) = e3 (A k) := by
  funext j
  have hj : (j 0).val < 1 := (j 0).isLt
  show A (k + 1 * (j 0).val) (0 + 1 * (j 1).val) (0 + 1 * (j 2).val) = A k (j 1).val (j 2).val
  rw [show k + 1 * (j 0).val = k from by omega, show 0 + 1 * (j 1).val = (j 1).val from by omega, show 0 + 1 * (j 2).val = (j 2).val from by omega]

/-- A load of one tap's row after a fill of all of them. -/
theorem fill5 (v : View sig .tc .vmem S5x8x1024 .f32) (A : ℕ → ℕ → ℕ → EReal) (k : ℕ) (inb inb') :
    v.readCov (Val := Elt Ideal) [⟨Rect.unit (s := S5x8x1024) ![0, 0, 0] ![5, 8, 1024] inb, e5 A⟩] (Rect.unit (s := S5x8x1024) ![k, 0, 0] ![1, 8, 1024] inb').toLoadRect
      = e3 (A k) :=
  (View.readCov_fill (Val := Elt Ideal) v inb (e5 A) [] (Rect.unit (s := S5x8x1024) ![k, 0, 0] ![1, 8, 1024] inb') (by decide)).trans (ld5 A k inb')

theorem zero14 : k0_pay14 (F := Ideal) = e5 fun _ _ _ => 0 := by
  funext y
  pointwise [k0_pay14]

/-- The partial sums of one tap over the first rows of a point, sixteen rows at a time. -/
def itW (D U : ℕ → ℕ → EReal) (acc : Vec Ideal S1x8x1024 .f32) (k : ℕ) : ℕ → Vec Ideal S1x8x1024 .f32
  | 0 => acc
  | n + 1 => k0_pay25 (em 16 1024 fun i => D (16 * n + 16 + i)) (em 16 1024 fun i => U (16 * n + 14 + k + i)) (itW D U acc k n)

/-- The partial sums of the bias over the first rows of a point. -/
def itB (D : ℕ → ℕ → EReal) (acc : Vec Ideal S8x1024 .f32) : ℕ → Vec Ideal S8x1024 .f32
  | 0 => acc
  | n + 1 => k0_pay24 (em 16 1024 fun i => D (16 * n + 16 + i)) (itB D acc n)

/-- What a point adds to one tap's partial sums. -/
def ptW (D U : ℕ → ℕ → EReal) (k s j : ℕ) : EReal :=
  ∑ r ∈ Finset.range 32, two (fun i j => D (16 * r + 16 + i) j * U (16 * r + 14 + k + i) j) s j

/-- What a point adds to the bias' partial sums. -/
def ptB (D : ℕ → ℕ → EReal) (s j : ℕ) : EReal := ∑ r ∈ Finset.range 32, two (fun i j => D (16 * r + 16 + i) j) s j

theorem itW_eq (D U A : ℕ → ℕ → EReal) (k n : ℕ) : itW D U (e3 A) k n
    = e3 fun s j => A s j + ∑ r ∈ Finset.range n, two (fun i j => D (16 * r + 16 + i) j * U (16 * r + 14 + k + i) j) s j := by
  induction n with
  | zero =>
    funext y
    show A _ _ = A _ _ + 0
    rw [add_zero]
  | succ n ih =>
    show k0_pay25 (F := Ideal) (em 16 1024 fun i => D (16 * n + 16 + i)) (em 16 1024 fun i => U (16 * n + 14 + k + i)) (itW D U (e3 A) k n) = _
    rw [ih, stepW]
    funext y
    show A (y 1).val (y 2).val + ∑ r ∈ Finset.range n, _ + _ = A (y 1).val (y 2).val + ∑ r ∈ Finset.range (n + 1), _
    rw [Finset.sum_range_succ, add_assoc]

theorem itB_eq (D A : ℕ → ℕ → EReal) (n : ℕ) : itB D (em 8 1024 A) n
    = em 8 1024 fun s j => A s j + ∑ r ∈ Finset.range n, two (fun i j => D (16 * r + 16 + i) j) s j := by
  induction n with
  | zero =>
    funext y
    show A _ _ = A _ _ + 0
    rw [add_zero]
  | succ n ih =>
    show k0_pay24 (F := Ideal) (em 16 1024 fun i => D (16 * n + 16 + i)) (itB D (em 8 1024 A) n) = _
    rw [ih, stepB]
    funext y
    show A (y 0).val (y 1).val + ∑ r ∈ Finset.range n, _ + _ = A (y 0).val (y 1).val + ∑ r ∈ Finset.range (n + 1), _
    rw [Finset.sum_range_succ, add_assoc]

variable {A B X W : ℕ → ℕ → EReal} {m : (ℓ : Loc nD τ sig) → Buf (Elt Ideal) ℓ} {c : Dev nD}

/-- The point's place in its column block, and that block's number. -/
abbrev pp (t : Fin cfg0.N) : ℕ := t.val % 32
abbrev qq (t : Fin cfg0.N) : ℕ := t.val / 32

theorem pp_lt (t : Fin cfg0.N) : pp t < 32 := Nat.mod_lt _ (by decide)

/-- The gradients' window at a point. -/
abbrev wd (A B : ℕ → ℕ → EReal) (t : Fin cfg0.N) : ℕ → ℕ → EReal := win (sum A B) (pp t) (qq t)

/-- The input's window at a point. -/
abbrev wu (X : ℕ → ℕ → EReal) (t : Fin cfg0.N) : ℕ → ℕ → EReal := win (col X) (pp t) (qq t)

variable (H : Args A B X W m c)
include H

theorem bStart (t : Fin cfg0.N) (h0 : t.val % 32 = 0) : (outsAt0 m c t.val t.isLt).2.2.2.2 = em 8 1024 fun s j => 0 + ptB (wd A B t) s j := by
  have hd := slab (wd A B t) _ _ _ (d0 A B _ (qq t) t (coord t) (pp_lt t)) (d1 A B _ (qq t) (pp_lt t)) (d2 A B _ (qq t) t (coord t) (pp_lt t))
  rw [outsAt0_A m c t h0 (by omega), blk0 H t, blk1 H t, blk2 H t, blk3 H t, blk4 H t, blk5 H t, blk6 H t, blk7 H t, blk8 H t, blk9 H t]
  frame_out
  simp only [hd, zero15]
  exact itB_eq (wd A B t) (fun _ _ => 0) 32

theorem bStep (t : Fin cfg0.N) (h0 : ¬t.val % 32 = 0) (P : ℕ → ℕ → EReal)
    (ih : (outsAt0 m c (t.val - 1) (Nat.lt_of_le_of_lt (Nat.sub_le _ _) t.isLt)).2.2.2.2 = em 8 1024 P) :
    (outsAt0 m c t.val t.isLt).2.2.2.2 = em 8 1024 fun s j => P s j + ptB (wd A B t) s j := by
  have hd := slab (wd A B t) _ _ _ (d0 A B _ (qq t) t (coord t) (pp_lt t)) (d1 A B _ (qq t) (pp_lt t)) (d2 A B _ (qq t) t (coord t) (pp_lt t))
  by_cases h1 : t.val % 32 = 31
  · rw [outsAt0_C m c t h0 h1, blk0 H t, blk1 H t, blk2 H t, blk3 H t, blk4 H t, blk5 H t, blk6 H t, blk7 H t, blk8 H t, blk9 H t]
    frame_out
    simp only [hd, read_unread_whole, ih]
    exact itB_eq (wd A B t) P 32
  · rw [outsAt0_B m c t h0 h1, blk0 H t, blk1 H t, blk2 H t, blk3 H t, blk4 H t, blk5 H t, blk6 H t, blk7 H t, blk8 H t, blk9 H t]
    frame_out
    simp only [hd, read_unread_whole, ih]
    exact itB_eq (wd A B t) P 32

theorem wStart (t : Fin cfg0.N) (h0 : t.val % 32 = 0) : (outsAt0 m c t.val t.isLt).2.2.2.1 = e5 fun k s j => 0 + ptW (wd A B t) (wu X t) k s j := by
  have hd := slab (wd A B t) _ _ _ (d0 A B _ (qq t) t (coord t) (pp_lt t)) (d1 A B _ (qq t) (pp_lt t)) (d2 A B _ (qq t) t (coord t) (pp_lt t))
  have hu := slab' (wu X t) _ _ _ (u0 (col X) _ (qq t) (pp_lt t)) (u1 (col X) _ (qq t) (pp_lt t)) (u2 (col X) _ (qq t) (pp_lt t))
  rw [outsAt0_A m c t h0 (by omega), blk0 H t, blk1 H t, blk2 H t, blk3 H t, blk4 H t, blk5 H t, blk6 H t, blk7 H t, blk8 H t, blk9 H t]
  frame_out
  refine canon5 (fun k s j => 0 + ptW (wd A B t) (wu X t) k s j) _ _ _ _ _ _ _ _ _ _ _ ?_ ?_ ?_ ?_ ?_
  all_goals simp +decide only [↓skipT, ↓View.readCov_cons_toLoadRect]
  all_goals simp only [hd, hu, coord t, zero14, fill5]
  · exact itW_eq (wd A B t) (wu X t) (fun _ _ => 0) 1 32
  · exact itW_eq (wd A B t) (wu X t) (fun _ _ => 0) 0 32
  · exact itW_eq (wd A B t) (wu X t) (fun _ _ => 0) 4 32
  · exact itW_eq (wd A B t) (wu X t) (fun _ _ => 0) 3 32
  · exact itW_eq (wd A B t) (wu X t) (fun _ _ => 0) 2 32

theorem wStep (t : Fin cfg0.N) (h0 : ¬t.val % 32 = 0) (P : ℕ → ℕ → ℕ → EReal)
    (ih : (outsAt0 m c (t.val - 1) (Nat.lt_of_le_of_lt (Nat.sub_le _ _) t.isLt)).2.2.2.1 = e5 P) :
    (outsAt0 m c t.val t.isLt).2.2.2.1 = e5 fun k s j => P k s j + ptW (wd A B t) (wu X t) k s j := by
  have hd := slab (wd A B t) _ _ _ (d0 A B _ (qq t) t (coord t) (pp_lt t)) (d1 A B _ (qq t) (pp_lt t)) (d2 A B _ (qq t) t (coord t) (pp_lt t))
  have hu := slab' (wu X t) _ _ _ (u0 (col X) _ (qq t) (pp_lt t)) (u1 (col X) _ (qq t) (pp_lt t)) (u2 (col X) _ (qq t) (pp_lt t))
  by_cases h1 : t.val % 32 = 31
  · rw [outsAt0_C m c t h0 h1, blk0 H t, blk1 H t, blk2 H t, blk3 H t, blk4 H t, blk5 H t, blk6 H t, blk7 H t, blk8 H t, blk9 H t]
    frame_out
    refine canon5 (fun k s j => P k s j + ptW (wd A B t) (wu X t) k s j) _ _ _ _ _ _ _ _ _ _ _ ?_ ?_ ?_ ?_ ?_
    all_goals simp +decide only [↓skipT, ↓View.readCov_cons_toLoadRect]
    all_goals simp only [hd, hu, coord t, read_unread_whole, ih, ld5]
    · exact itW_eq (wd A B t) (wu X t) (P 1) 1 32
    · exact itW_eq (wd A B t) (wu X t) (P 0) 0 32
    · exact itW_eq (wd A B t) (wu X t) (P 4) 4 32
    · exact itW_eq (wd A B t) (wu X t) (P 3) 3 32
    · exact itW_eq (wd A B t) (wu X t) (P 2) 2 32
  · rw [outsAt0_B m c t h0 h1, blk0 H t, blk1 H t, blk2 H t, blk3 H t, blk4 H t, blk5 H t, blk6 H t, blk7 H t, blk8 H t, blk9 H t]
    frame_out
    refine canon5 (fun k s j => P k s j + ptW (wd A B t) (wu X t) k s j) _ _ _ _ _ _ _ _ _ _ _ ?_ ?_ ?_ ?_ ?_
    all_goals simp +decide only [↓skipT, ↓View.readCov_cons_toLoadRect]
    all_goals simp only [hd, hu, coord t, read_unread_whole, ih, ld5]
    · exact itW_eq (wd A B t) (wu X t) (P 1) 1 32
    · exact itW_eq (wd A B t) (wu X t) (P 0) 0 32
    · exact itW_eq (wd A B t) (wu X t) (P 4) 4 32
    · exact itW_eq (wd A B t) (wu X t) (P 3) 3 32
    · exact itW_eq (wd A B t) (wu X t) (P 2) 2 32

theorem carB (n : ℕ) (h : n < cfg0.N) : (outsAt0 m c n h).2.2.2.2
    = em 8 1024 fun s j => ∑ p ∈ Finset.range (n % 32 + 1), ptB (win (sum A B) p (n / 32)) s j := by
  induction n with
  | zero =>
    refine (bStart H ⟨0, h⟩ (by simp)).trans ?_
    funext y
    show 0 + ptB (win (sum A B) (0 % 32) (0 / 32)) (y 0).val (y 1).val = ∑ p ∈ Finset.range (0 % 32 + 1), ptB (win (sum A B) p (0 / 32)) (y 0).val (y 1).val
    rw [Nat.zero_mod, Finset.sum_range_one, zero_add]
  | succ n ih =>
    by_cases h0 : (n + 1) % 32 = 0
    · refine (bStart H ⟨n + 1, h⟩ h0).trans ?_
      funext y
      show 0 + ptB (win (sum A B) ((n + 1) % 32) ((n + 1) / 32)) (y 0).val (y 1).val = ∑ p ∈ Finset.range ((n + 1) % 32 + 1), ptB (win (sum A B) p ((n + 1) / 32)) (y 0).val (y 1).val
      rw [h0, Finset.sum_range_one, zero_add]
    · refine (bStep H ⟨n + 1, h⟩ h0 _ (ih (by omega))).trans ?_
      funext y
      show (∑ p ∈ Finset.range (n % 32 + 1), ptB (win (sum A B) p (n / 32)) (y 0).val (y 1).val) + ptB (win (sum A B) ((n + 1) % 32) ((n + 1) / 32)) (y 0).val (y 1).val
        = ∑ p ∈ Finset.range ((n + 1) % 32 + 1), ptB (win (sum A B) p ((n + 1) / 32)) (y 0).val (y 1).val
      rw [Finset.sum_range_succ _ ((n + 1) % 32), show n % 32 + 1 = (n + 1) % 32 from by omega, show n / 32 = (n + 1) / 32 from by omega]

theorem carW (n : ℕ) (h : n < cfg0.N) : (outsAt0 m c n h).2.2.2.1
    = e5 fun k s j => ∑ p ∈ Finset.range (n % 32 + 1), ptW (win (sum A B) p (n / 32)) (win (col X) p (n / 32)) k s j := by
  induction n with
  | zero =>
    refine (wStart H ⟨0, h⟩ (by simp)).trans ?_
    funext y
    show 0 + ptW (win (sum A B) (0 % 32) (0 / 32)) (win (col X) (0 % 32) (0 / 32)) (y 0).val (y 1).val (y 2).val
      = ∑ p ∈ Finset.range (0 % 32 + 1), ptW (win (sum A B) p (0 / 32)) (win (col X) p (0 / 32)) (y 0).val (y 1).val (y 2).val
    rw [Nat.zero_mod, Finset.sum_range_one, zero_add]
  | succ n ih =>
    by_cases h0 : (n + 1) % 32 = 0
    · refine (wStart H ⟨n + 1, h⟩ h0).trans ?_
      funext y
      show 0 + ptW (win (sum A B) ((n + 1) % 32) ((n + 1) / 32)) (win (col X) ((n + 1) % 32) ((n + 1) / 32)) (y 0).val (y 1).val (y 2).val
        = ∑ p ∈ Finset.range ((n + 1) % 32 + 1), ptW (win (sum A B) p ((n + 1) / 32)) (win (col X) p ((n + 1) / 32)) (y 0).val (y 1).val (y 2).val
      rw [h0, Finset.sum_range_one, zero_add]
    · refine (wStep H ⟨n + 1, h⟩ h0 _ (ih (by omega))).trans ?_
      funext y
      show (∑ p ∈ Finset.range (n % 32 + 1), ptW (win (sum A B) p (n / 32)) (win (col X) p (n / 32)) (y 0).val (y 1).val (y 2).val)
          + ptW (win (sum A B) ((n + 1) % 32) ((n + 1) / 32)) (win (col X) ((n + 1) % 32) ((n + 1) / 32)) (y 0).val (y 1).val (y 2).val
        = ∑ p ∈ Finset.range ((n + 1) % 32 + 1), ptW (win (sum A B) p ((n + 1) / 32)) (win (col X) p ((n + 1) / 32)) (y 0).val (y 1).val (y 2).val
      rw [Finset.sum_range_succ _ ((n + 1) % 32), show n % 32 + 1 = (n + 1) % 32 from by omega, show n / 32 = (n + 1) / 32 from by omega]

end Cert.Kernel6Ideal.V
-- ==== Proof.ConvB6.lean ====
module

public import proofs.«01_k».proof.Proof.ConvS6
public import proofs.«01_k».proof.Proof.Gen.Reference6Ideal.Run
public import proofs.«01_k».proof.Defs

/-! The state-space mixer's backward convolution: what the outputs hold when the kernel ends, and the claims. -/

@[expose] public section

set_option maxRecDepth 16384

noncomputable section

open Idealize.ShloMosaic Idealize.ShloMosaic.TcCoe Idealize.SL.Sem
open Idealize.ShloMosaic.Pipeline (Dat)

namespace Cert.Kernel6Ideal.V
open Cert.Kernel6Ideal Cert.Kernel6Ideal.Gen Cert.EMat Cert.Conv6

/-- A sum over `b * n` numbers, by blocks of `b`. -/
theorem by_blocks (b n : ℕ) (f : ℕ → EReal) : ∑ l ∈ Finset.range (b * n), f l = ∑ x ∈ Finset.range n, ∑ y ∈ Finset.range b, f (b * x + y) := by
  induction n with
  | zero => rfl
  | succ n ih => rw [Nat.mul_succ, Finset.sum_range_add, ih, Finset.sum_range_succ]

/-- The eight partial sums over all points, blocks and halves of a block are the sum over all rows. -/
theorem by_rows (f : ℕ → EReal) : ∑ s : Fin 8, ∑ p ∈ Finset.range 32, ∑ r ∈ Finset.range 32, (f (512 * p + (16 * r + s.val)) + f (512 * p + (16 * r + (8 + s.val))))
    = ∑ l : Fin 16384, f l.val := by
  refine Eq.trans ?_ (Finset.sum_range (n := 16384) f)
  rw [show 16384 = 512 * 32 from rfl, by_blocks 512 32, Finset.sum_comm]
  refine Finset.sum_congr rfl fun p _ => ?_
  rw [show 512 = 16 * 32 from rfl, by_blocks 16 32, Finset.sum_comm]
  refine Finset.sum_congr rfl fun r _ => ?_
  rw [show Finset.range 16 = Finset.range (8 + 8) from rfl, Finset.sum_range_add, Finset.sum_range, Finset.sum_range, ← Finset.sum_add_distrib]

/-- The gradients' window inside the array. -/
theorem win_in (D : ℕ → ℕ → EReal) (p q i j : ℕ) (hi : i < 512) (hp : p < 32) : win D p q (16 + i) j = D (512 * p + i) (1024 * q + j) :=
  (block_win D p q i j hi hp).symm

theorem sumB (D : ℕ → ℕ → EReal) (q j : ℕ) : ∑ s : Fin 8, ∑ p ∈ Finset.range 32, ptB (win D p q) s.val j = dbias D (1024 * q + j) := by
  refine Eq.trans ?_ (by_rows fun l => D l (1024 * q + j))
  refine Finset.sum_congr rfl fun s _ => Finset.sum_congr rfl fun p hp => Finset.sum_congr rfl fun r hr => ?_
  have hs := s.isLt
  have hp' := Finset.mem_range.mp hp
  have hr' := Finset.mem_range.mp hr
  show win D p q (16 * r + 16 + s.val) j + win D p q (16 * r + 16 + (8 + s.val)) j = _
  rw [show 16 * r + 16 + s.val = 16 + (16 * r + s.val) from by omega, show 16 * r + 16 + (8 + s.val) = 16 + (16 * r + (8 + s.val)) from by omega,
    win_in D p q _ j (by omega) hp', win_in D p q _ j (by omega) hp']

theorem sumW (D U : ℕ → ℕ → EReal) (k q j : ℕ) :
    ∑ s : Fin 8, ∑ p ∈ Finset.range 32, ptW (win D p q) (win U p q) k s.val j = dtap D U k (1024 * q + j) := by
  refine Eq.trans ?_ (by_rows fun l => D l (1024 * q + j) * gw U (l + 14 + k) (1024 * q + j))
  refine Finset.sum_congr rfl fun s _ => Finset.sum_congr rfl fun p hp => Finset.sum_congr rfl fun r hr => ?_
  have hs := s.isLt
  have hp' := Finset.mem_range.mp hp
  have hr' := Finset.mem_range.mp hr
  show win D p q (16 * r + 16 + s.val) j * gw U (512 * p + (16 * r + 14 + k + s.val)) (1024 * q + j)
    + win D p q (16 * r + 16 + (8 + s.val)) j * gw U (512 * p + (16 * r + 14 + k + (8 + s.val))) (1024 * q + j) = _
  rw [show 16 * r + 16 + s.val = 16 + (16 * r + s.val) from by omega, show 16 * r + 16 + (8 + s.val) = 16 + (16 * r + (8 + s.val)) from by omega,
    win_in D p q _ j (by omega) hp', win_in D p q _ j (by omega) hp',
    show 512 * p + (16 * r + 14 + k + s.val) = 512 * p + (16 * r + s.val) + 14 + k from by omega,
    show 512 * p + (16 * r + 14 + k + (8 + s.val)) = 512 * p + (16 * r + (8 + s.val)) + 14 + k from by omega]

variable {A B X W : ℕ → ℕ → EReal} {m : (ℓ : Loc nD τ sig) → Buf (Elt Ideal) ℓ} {c : Dev nD} (H : Args A B X W m c)
include H

/-- The five rows of taps that the last point of a column block leaves, from the partial sums it finds. -/
theorem lastW (t : Fin cfg0.N) (h1 : t.val % 32 = 31) (P : ℕ → ℕ → ℕ → EReal)
    (ih : (outsAt0 m c (t.val - 1) (Nat.lt_of_le_of_lt (Nat.sub_le _ _) t.isLt)).2.2.2.1 = e5 P) :
    (outsAt0 m c t.val t.isLt).2.1 = em 5 1024 fun k j => ∑ s : Fin 8, (P k s j + ptW (wd A B t) (wu X t) k s j) := by
  have hd := slab (wd A B t) _ _ _ (d0 A B _ (qq t) t (coord t) (pp_lt t)) (d1 A B _ (qq t) (pp_lt t)) (d2 A B _ (qq t) t (coord t) (pp_lt t))
  have hu := slab' (wu X t) _ _ _ (u0 (col X) _ (qq t) (pp_lt t)) (u1 (col X) _ (qq t) (pp_lt t)) (u2 (col X) _ (qq t) (pp_lt t))
  have hp (k : ℕ) (y : S5x1024.Idx) (x : S1x1024.Idx) (h0 : (y 0).val = k + (x 0).val) (h1 : (y 1).val = (x 1).val) :
      k0_pay2 (F := Ideal) (itW (wd A B t) (wu X t) (e3 (P k)) k 32) x
      = ∑ s : Fin 8, (P (y 0).val s (y 1).val + ptW (wd A B t) (wu X t) (y 0).val s (y 1).val) := by
    have hx : (x 0).val < 1 := (x 0).isLt
    rw [itW_eq, fin2, h0, h1, show k + (x 0).val = k from by omega]
    rfl
  rw [outsAt0_C m c t (by omega) h1, blk0 H t, blk1 H t, blk2 H t, blk3 H t, blk4 H t, blk5 H t, blk6 H t, blk7 H t, blk8 H t, blk9 H t]
  frame_out
  funext y
  canon_tiles x h
  all_goals simp +decide only [↓skipT, ↓View.readCov_cons_toLoadRect]
  all_goals simp only [hd, hu, coord t, read_unread_whole, ih, ld5]
  all_goals
    first
    | exact hp _ y x h0 h1
    | exact hp 0 y x (h0.trans (Nat.zero_add _).symm) h1

/-- The bias' gradient that the last point of a column block leaves, from the partial sums it finds. -/
theorem lastB (t : Fin cfg0.N) (h1 : t.val % 32 = 31) (P : ℕ → ℕ → EReal)
    (ih : (outsAt0 m c (t.val - 1) (Nat.lt_of_le_of_lt (Nat.sub_le _ _) t.isLt)).2.2.2.2 = em 8 1024 P) :
    (outsAt0 m c t.val t.isLt).2.2.1 = em 1 1024 fun _ j => ∑ s : Fin 8, (P s j + ptB (wd A B t) s j) := by
  have hd := slab (wd A B t) _ _ _ (d0 A B _ (qq t) t (coord t) (pp_lt t)) (d1 A B _ (qq t) (pp_lt t)) (d2 A B _ (qq t) t (coord t) (pp_lt t))
  rw [outsAt0_C m c t (by omega) h1, blk0 H t, blk1 H t, blk2 H t, blk3 H t, blk4 H t, blk5 H t, blk6 H t, blk7 H t, blk8 H t, blk9 H t]
  frame_out
  simp only [hd, read_unread_whole, ih]
  exact (congrArg (k0_pay1 (F := Ideal)) (itB_eq (wd A B t) P 32)).trans (fin1 _)

/-- What a point leaves in the block of the input's gradient. -/
theorem out (t : Fin cfg0.N) (y : S512x1024.Idx) : (outsAt0 m c t.val t.isLt).1 y
    = tap (gw (sum A B)) W (512 * pp t + (y 0).val) (1024 * qq t + (y 1).val) := by
  have hd := slab (wd A B t) _ _ _ (d0 A B _ (qq t) t (coord t) (pp_lt t)) (d1 A B _ (qq t) (pp_lt t)) (d2 A B _ (qq t) t (coord t) (pp_lt t))
  have e : tap (gw (sum A B)) W (512 * pp t + (y 0).val) (1024 * qq t + (y 1).val)
      = tap (wd A B t) (fun k j => W k (1024 * (t.val / 32) + j)) (y 0).val (y 1).val := by
    unfold tap wd win
    simp only [Nat.add_assoc]
  rw [e]
  by_cases h2 : t.val % 32 = 0
  · rw [outsAt0_A m c t h2 (by omega), blk0 H t, blk1 H t, blk2 H t, blk3 H t, blk4 H t, blk5 H t, blk6 H t, blk7 H t, blk8 H t, blk9 H t]
    frame_out
    simp only [hd, row]
    canon_tiles x h
    all_goals
      first
      | refine Eq.trans ?_ (piece _ _ _ y x h0 h1)
      | refine Eq.trans ?_ (piece _ _ 0 y x (h0.trans (Nat.zero_add _).symm) h1)
      refine congrFun ?_ x
      rfl
  by_cases h3 : t.val % 32 = 31
  · rw [outsAt0_C m c t h2 h3, blk0 H t, blk1 H t, blk2 H t, blk3 H t, blk4 H t, blk5 H t, blk6 H t, blk7 H t, blk8 H t, blk9 H t]
    frame_out
    simp only [hd, row]
    canon_tiles x h
    all_goals
      first
      | refine Eq.trans ?_ (piece _ _ _ y x h0 h1)
      | refine Eq.trans ?_ (piece _ _ 0 y x (h0.trans (Nat.zero_add _).symm) h1)
      refine congrFun ?_ x
      rfl
  · rw [outsAt0_B m c t h2 h3, blk0 H t, blk1 H t, blk2 H t, blk3 H t, blk4 H t, blk5 H t, blk6 H t, blk7 H t, blk8 H t, blk9 H t]
    frame_out
    simp only [hd, row]
    canon_tiles x h
    all_goals
      first
      | refine Eq.trans ?_ (piece _ _ _ y x h0 h1)
      | refine Eq.trans ?_ (piece _ _ 0 y x (h0.trans (Nat.zero_add _).symm) h1)
      refine congrFun ?_ x
      rfl

/-- The arrays the kernel leaves: the input's gradient, the taps' and the bias'. -/
theorem fin10 : (dats m 0 c).arrAt 10 cfg0.N = em 16384 3072 (tap (gw (sum A B)) W) := by
  refine (dats m 0 c).arrAt_eq_of_covers 10 _ (by decide +kernel) fun t _ y => ?_
  have e10 := (idx t).2.2.2.2.1
  have ht : t.val < 96 := lt_of_lt_of_eq t.isLt N_0
  have hy : (y 0).val < 512 := (y 0).isLt
  have hy1 : (y 1).val < 1024 := (y 1).isLt
  have key : ((cfg0.win 10).blk t).view.emb y = ix2 ⟨512 * (t.val % 32) + (y 0).val, by omega⟩ ⟨1024 * (t.val / 32) + (y 1).val, by omega⟩ := by
    blk_ext [e10]
  blk_simp
  rw [after0_10]
  refine Eq.trans ?_ (congrArg (em 16384 3072 _) key).symm
  exact out H t y

theorem fin11 : (dats m 0 c).arrAt 11 cfg0.N = em 5 3072 fun k => dtap (sum A B) (col X) k := by
  refine (dats m 0 c).arrAt_eq_of_covers 11 _ (by decide +kernel) fun t hf y => ?_
  have h1 := (flush0_11 t).mp hf
  have e11 := (idx t).2.2.2.2.2.1
  have ht : t.val < 96 := lt_of_lt_of_eq t.isLt N_0
  have hy1 : (y 1).val < 1024 := (y 1).isLt
  have key : ((cfg0.win 11).blk t).view.emb y = ix2 (y 0) ⟨1024 * (t.val / 32) + (y 1).val, by omega⟩ := by
    blk_ext [e11]
  blk_simp
  rw [after0_11]
  refine Eq.trans ?_ (congrArg (em 5 3072 _) key).symm
  refine (congrFun (lastW H t h1 _ (carW H _ _)) y).trans (Eq.trans ?_ (sumW (sum A B) (col X) (y 0).val (t.val / 32) (y 1).val))
  refine Finset.sum_congr rfl fun s _ => ?_
  rw [show (t.val - 1) % 32 + 1 = 31 from by omega, show (t.val - 1) / 32 = t.val / 32 from by omega, Finset.sum_range_succ _ 31]
  show _ + ptW (win (sum A B) (t.val % 32) (t.val / 32)) (win (col X) (t.val % 32) (t.val / 32)) _ _ _ = _
  rw [h1]

theorem fin12 : (dats m 0 c).arrAt 12 cfg0.N = em 1 3072 fun _ => dbias (sum A B) := by
  refine (dats m 0 c).arrAt_eq_of_covers 12 _ (by decide +kernel) fun t hf y => ?_
  have h1 := (flush0_12 t).mp hf
  have e12 := (idx t).2.2.2.2.2.2.1
  have ht : t.val < 96 := lt_of_lt_of_eq t.isLt N_0
  have hy1 : (y 1).val < 1024 := (y 1).isLt
  have key : ((cfg0.win 12).blk t).view.emb y = ix2 (y 0) ⟨1024 * (t.val / 32) + (y 1).val, by omega⟩ := by
    blk_ext [e12]
  blk_simp
  rw [after0_12]
  refine Eq.trans ?_ (congrArg (em 1 3072 _) key).symm
  refine (congrFun (lastB H t h1 _ (carB H _ _)) y).trans (Eq.trans ?_ (sumB (sum A B) (t.val / 32) (y 1).val))
  refine Finset.sum_congr rfl fun s _ => ?_
  rw [show (t.val - 1) % 32 + 1 = 31 from by omega, show (t.val - 1) / 32 = t.val / 32 from by omega, Finset.sum_range_succ _ 31]
  show _ + ptB (win (sum A B) (t.val % 32) (t.val / 32)) _ _ = _
  rw [h1]

end Cert.Kernel6Ideal.V

namespace Cert.ConvB6
open Cert.EMat Cert.Conv6 Cert.Kernel6Ideal.V

/-- A run of the kernel ends with its three arrays as the grid's last point leaves them, and its arguments as they were. -/
theorem run (m : (ℓ : Loc Cert.Kernel6Ideal.nD Cert.Kernel6Ideal.τ Cert.Kernel6Ideal.sig) → Buf (Elt Ideal) ℓ) (ρ : Dev Cert.Kernel6Ideal.nD → PrngReg) :
    θ_run Cert.Kernel6Ideal.defs (onTc (τ := Cert.Kernel6Ideal.τ) (Cert.Kernel6Ideal.main (F := Ideal))) ⟨m, fun _ => 0, ρ⟩ fun r => ∀ c : Dev Cert.Kernel6Ideal.nD,
      r.2.mem ((c.tc : Thread _ _).loc Cert.Kernel6Ideal.main_v5_0) = (Cert.Kernel6Ideal.Gen.dats m 0 c).arrAt 10 Cert.Kernel6Ideal.cfg0.N
      ∧ r.2.mem ((c.tc : Thread _ _).loc Cert.Kernel6Ideal.main_v5_1) = (Cert.Kernel6Ideal.Gen.dats m 0 c).arrAt 11 Cert.Kernel6Ideal.cfg0.N
      ∧ r.2.mem ((c.tc : Thread _ _).loc Cert.Kernel6Ideal.main_v5_2) = (Cert.Kernel6Ideal.Gen.dats m 0 c).arrAt 12 Cert.Kernel6Ideal.cfg0.N
      ∧ r.2.mem ((c.tc : Thread _ _).loc Cert.Kernel6Ideal.main_arg0) = m ((c.tc : Thread _ _).loc Cert.Kernel6Ideal.main_arg0)
      ∧ r.2.mem ((c.tc : Thread _ _).loc Cert.Kernel6Ideal.main_arg1) = m ((c.tc : Thread _ _).loc Cert.Kernel6Ideal.main_arg1)
      ∧ r.2.mem ((c.tc : Thread _ _).loc Cert.Kernel6Ideal.main_arg2) = m ((c.tc : Thread _ _).loc Cert.Kernel6Ideal.main_arg2)
      ∧ r.2.mem ((c.tc : Thread _ _).loc Cert.Kernel6Ideal.main_arg3) = m ((c.tc : Thread _ _).loc Cert.Kernel6Ideal.main_arg3) :=
  (θ_run Cert.Kernel6Ideal.defs _ _).mono (fun r h c => ⟨(h c).1 10, (h c).1 11, (h c).1 12,
      ((h c).2 Cert.Kernel6Ideal.main_arg0 (Pipeline.mem_restRefs_of Cert.Kernel6Ideal.main_arg0 (by decide) (by decide))).trans (Cert.Kernel6Ideal.Gen.V_main_arg0 m c),
      ((h c).2 Cert.Kernel6Ideal.main_arg1 (Pipeline.mem_restRefs_of Cert.Kernel6Ideal.main_arg1 (by decide) (by decide))).trans (Cert.Kernel6Ideal.Gen.V_main_arg1 m c),
      ((h c).2 Cert.Kernel6Ideal.main_arg2 (Pipeline.mem_restRefs_of Cert.Kernel6Ideal.main_arg2 (by decide) (by decide))).trans (Cert.Kernel6Ideal.Gen.V_main_arg2 m c),
      ((h c).1 9).trans (((Cert.Kernel6Ideal.Gen.dats m 0 c).arrAt_in 9 rfl _).trans ((Cert.Kernel6Ideal.Gen.A_eq m c 9).trans (Cert.Kernel6Ideal.Gen.V_main_arg3 m c)))⟩)
    (Cert.Kernel6Ideal.Gen.run_main m ρ)

theorem frame_ref : Cert.quiescent_Reference6Ideal (hReference6Ideal := Cert.Reference6Ideal.Gen.facts) :=
  fun m g _ => (θ_run Cert.Reference6Ideal.defs _ _).mono (fun r h => ⟨fun c => (h c).2.2.2, sem_eq_zero_of_no_sems (by decide) r.2⟩)
    (Cert.Reference6Ideal.Value.run (F := Ideal) m g)

theorem algebraic : Cert.algebraic_Kernel6Ideal_Reference6Ideal (hKernel6Ideal := Cert.Kernel6Ideal.Gen.facts)
    (hReference6Ideal := Cert.Reference6Ideal.Gen.facts) := by
  intro m g m' g' _ hargs
  refine ⟨_, _, _, run m g, ?_⟩
  refine (θ_run _ _ _).mono (fun r h c => ?_) (Cert.Reference6Ideal.Value.run m' g')
  obtain ⟨r0, r1, r2, ra⟩ := h c
  obtain ⟨a0, a1, a2, a3⟩ := hargs c
  obtain ⟨A, h0⟩ := exists_em (m ((c.tc : Thread _ _).loc Cert.Kernel6Ideal.main_arg0))
  obtain ⟨B, h1⟩ := exists_em (m ((c.tc : Thread _ _).loc Cert.Kernel6Ideal.main_arg1))
  obtain ⟨X, h2⟩ := exists_em (m ((c.tc : Thread _ _).loc Cert.Kernel6Ideal.main_arg2))
  obtain ⟨W, h3⟩ := exists_em (m ((c.tc : Thread _ _).loc Cert.Kernel6Ideal.main_arg3))
  have e0 := a0.trans h0
  have e1 := a1.trans h1
  have e2 := a2.trans h2
  have e3 := a3.trans h3
  have H : Args A B X W m c := ⟨h0, h1, h2, h3⟩
  refine ⟨r0.trans ?_, r1.trans ?_, r2.trans ?_, ra⟩
  · refine (Cert.Reference6Ideal.Read.val_main_v105_eq _ _ _).trans (Eq.trans ?_ ((Cert.Reference6Ideal.V.v105 A B W).trans (fin10 H).symm))
    congr 1 <;> assumption
  · refine (Cert.Reference6Ideal.Read.val_main_v99_eq _ _).trans (Eq.trans ?_ ((Cert.Reference6Ideal.V.v99 A B X).trans (fin11 H).symm))
    congr 1 <;> assumption
  · refine (Cert.Reference6Ideal.Read.val_main_v106_eq _ _).trans (Eq.trans ?_ ((Cert.Reference6Ideal.V.v106 A B).trans (fin12 H).symm))
    congr 1 <;> assumption

end Cert.ConvB6
-- ==== Proof.WGrad12.lean ====
module

public import proofs.«01_k».proof.Defs
public import proofs.«01_k».proof.Proof.Gen.Kernel12Ideal.Value
public import proofs.«01_k».proof.Proof.Gen.Reference12Ideal.Read
public import proofs.«01_k».proof.Proof.Gen.Kernel12.Frame
public import Idealize.ShloMosaic.Lib.Pipeline.ReadBack
public import proofs.«01_k».proof.Proof.ConvB6

/-! The gradient of the state-space mixer's projection weights for the convolution's columns: eight products of 2048 rows each are
carried and added; the last point of a column tile writes the tile out transposed. -/

@[expose] public section

set_option maxRecDepth 16384

noncomputable section

open Idealize.ShloMosaic Idealize.ShloMosaic.TcCoe Idealize.SL.Sem
open Idealize.ShloMosaic.Pipeline (Dat)

namespace Cert.Kernel12Ideal.V
open Cert.Kernel12Ideal Cert.Kernel12Ideal.Gen Cert.EMat

section pay
variable (X D S : ℕ → ℕ → EReal)

theorem p1 : k0_pay1 (F := Ideal) = em 1024 1024 fun _ _ => 0 := by
  funext j
  pointwise [k0_pay1]

theorem p2 : k0_pay2 (F := Ideal) (em 1024 1024 S) (em 2048 1024 X) (em 2048 1024 D)
    = em 1024 1024 fun i j => S i j + ∑ k ∈ Finset.range 2048, X k i * D k j := by
  funext j
  pointwise [k0_pay2]
  simp only [Finset.sum_range]
  rfl

theorem p3 : k0_pay3 (F := Ideal) (em 1024 1024 S) = em 1024 1024 fun i j => S j i := by
  funext j
  pointwise [k0_pay3]
  rfl

end pay

/-- The windows' blocks at a point, by number. -/
theorem idx : ∀ t : Fin cfg0.N, win0_0.index t = ![t.val % 8, 0] ∧ win0_1.index t = ![t.val % 8, t.val / 8] ∧ win0_2.index t = ![t.val / 8, 0] :=
  (by decide +kernel : ∀ t : Fin grid0.N, _)

variable (X D : ℕ → ℕ → EReal) (m : (ℓ : Loc nD τ sig) → Buf (Elt Ideal) ℓ) (c : Dev nD)

/-- The two arguments by row and column number. -/
structure Args : Prop where
  h0 : m ((c.tc : Thread nD τ).loc main_arg0) = em 16384 1024 X
  h1 : m ((c.tc : Thread nD τ).loc main_arg1) = em 16384 3072 D

/-- What the rows of point `p` of column tile `q` add at row `i` and column `j`. -/
def part (p q i j : ℕ) : EReal := ∑ k ∈ Finset.range 2048, X (2048 * p + k) i * D (2048 * p + k) (1024 * q + j)

variable {X D m c} (H : Args X D m c)
include H

theorem blk0 (t : Fin cfg0.N) : iblk m c 0 t = em 2048 1024 fun i => X (2048 * (t.val % 8) + i) := by
  funext y
  have hy : (y 0).val < 2048 := (y 0).isLt
  obtain ⟨e0, e1, e2⟩ := idx t
  have e : iblk m c 0 t y = m ((c.tc : Thread nD τ).loc main_arg0) (ix2 ⟨2048 * (t.val % 8) + (y 0).val, by omega⟩ (y 1)) := by
    blk_point [iblk, V, e0]
  rw [e, H.h0]
  rfl

theorem blk1 (t : Fin cfg0.N) : iblk m c 1 t = em 2048 1024 fun i j => D (2048 * (t.val % 8) + i) (1024 * (t.val / 8) + j) := by
  funext y
  have ht : t.val < 24 := lt_of_lt_of_eq t.isLt N_0
  have hy : (y 0).val < 2048 := (y 0).isLt
  have hy1 : (y 1).val < 1024 := (y 1).isLt
  obtain ⟨e0, e1, e2⟩ := idx t
  have e : iblk m c 1 t y = m ((c.tc : Thread nD τ).loc main_arg1)
      (ix2 ⟨2048 * (t.val % 8) + (y 0).val, by omega⟩ ⟨1024 * (t.val / 8) + (y 1).val, by omega⟩) := by
    blk_point [iblk, V, e1]
  rw [e, H.h1]
  rfl

/-- A point adds its rows' part to what the scratch held. -/
theorem step (t : Fin cfg0.N) {s : FVec Ideal S1024x1024 .f32} (S : ℕ → ℕ → EReal) (hs : s = em 1024 1024 S) :
    k0_pay2 (F := Ideal) s (iblk m c 0 t) (iblk m c 1 t) = em 1024 1024 fun i j => S i j + part X D (t.val % 8) (t.val / 8) i j := by
  rw [blk0 H, blk1 H, hs, p2]
  rfl

theorem start (t : Fin cfg0.N) (h0 : t.val % 8 = 0) : (outsAt0 m c t.val t.isLt).2 = em 1024 1024 fun i j => part X D (t.val % 8) (t.val / 8) i j := by
  rw [outsAt0_A m c t h0 (by omega)]
  frame_out
  refine (step H t _ p1).trans ?_
  simp only [zero_add]

theorem next (n : ℕ) (h : n + 1 < cfg0.N) (h0 : ¬(n + 1) % 8 = 0) (S : ℕ → ℕ → EReal) (hs : (outsAt0 m c n (by omega)).2 = em 1024 1024 S) :
    (outsAt0 m c (n + 1) h).2 = em 1024 1024 fun i j => S i j + part X D ((n + 1) % 8) ((n + 1) / 8) i j := by
  by_cases h1 : (n + 1) % 8 = 7
  · rw [outsAt0_C m c ⟨n + 1, h⟩ h0 h1]
    frame_out
    simp only [read_unread_whole]
    exact step H ⟨n + 1, h⟩ S hs
  · rw [outsAt0_B m c ⟨n + 1, h⟩ h0 h1]
    frame_out
    simp only [read_unread_whole]
    exact step H ⟨n + 1, h⟩ S hs

/-- What the scratch holds after a point: the parts of the column tile's points so far. -/
theorem car (n : ℕ) (h : n < cfg0.N) : (outsAt0 m c n h).2 = em 1024 1024 fun i j => ∑ p ∈ Finset.range (n % 8 + 1), part X D p (n / 8) i j := by
  induction n with
  | zero =>
    refine (start H ⟨0, h⟩ (by simp)).trans ?_
    funext y
    show part X D (0 % 8) (0 / 8) (y 0).val (y 1).val = ∑ p ∈ Finset.range (0 % 8 + 1), part X D p (0 / 8) (y 0).val (y 1).val
    rw [Nat.zero_mod, Finset.sum_range_one]
  | succ n ih =>
    by_cases h0 : (n + 1) % 8 = 0
    · refine (start H ⟨n + 1, h⟩ h0).trans ?_
      funext y
      show part X D ((n + 1) % 8) ((n + 1) / 8) (y 0).val (y 1).val = ∑ p ∈ Finset.range ((n + 1) % 8 + 1), part X D p ((n + 1) / 8) (y 0).val (y 1).val
      rw [h0, Finset.sum_range_one]
    · refine (next H n h h0 _ (ih (by omega))).trans ?_
      funext y
      show (∑ p ∈ Finset.range (n % 8 + 1), part X D p (n / 8) (y 0).val (y 1).val) + part X D ((n + 1) % 8) ((n + 1) / 8) (y 0).val (y 1).val
        = ∑ p ∈ Finset.range ((n + 1) % 8 + 1), part X D p ((n + 1) / 8) (y 0).val (y 1).val
      rw [Finset.sum_range_succ _ ((n + 1) % 8), show n % 8 + 1 = (n + 1) % 8 from by omega, show n / 8 = (n + 1) / 8 from by omega]

/-- The last point of a column tile writes out what it leaves in the scratch, transposed. -/
theorem out (t : Fin cfg0.N) (h1 : t.val % 8 = 7) : (outsAt0 m c t.val t.isLt).1 = k0_pay3 (F := Ideal) (outsAt0 m c t.val t.isLt).2 := by
  rw [outsAt0_C m c t (by omega) h1]
  frame_out

/-- The array the kernel leaves. -/
theorem fin2 : (dats m 0 c).arrAt 2 cfg0.N = em 3072 1024 fun j i => ∑ k : Fin 16384, D k j * X k i := by
  refine (dats m 0 c).arrAt_eq_of_covers 2 _ (by decide +kernel) fun t hf y => ?_
  obtain ⟨e0, e1, e2⟩ := idx t
  have h1 := (flush0_2 t).mp hf
  have ht : t.val < 24 := lt_of_lt_of_eq t.isLt N_0
  have hy : (y 0).val < 1024 := (y 0).isLt
  have key : ((cfg0.win 2).blk t).view.emb y = ix2 ⟨1024 * (t.val / 8) + (y 0).val, by omega⟩ (y 1) := by
    blk_ext [e2]
  blk_simp
  refine Eq.trans ?_ (congrArg (em 3072 1024 _) key).symm
  rw [after0_2, out H t h1, car H, p3]
  show ∑ p ∈ Finset.range (t.val % 8 + 1), part X D p (t.val / 8) (y 1).val (y 0).val
    = ∑ k : Fin 16384, D k (1024 * (t.val / 8) + (y 0).val) * X k (y 1).val
  rw [h1]
  refine Eq.trans ?_ (Finset.sum_range (n := 16384) fun k => D k (1024 * (t.val / 8) + (y 0).val) * X k (y 1).val)
  rw [show 16384 = 2048 * 8 from rfl, Cert.Kernel6Ideal.V.by_blocks 2048 8]
  exact Finset.sum_congr rfl fun p _ => Finset.sum_congr rfl fun k _ => mul_comm _ _

end Cert.Kernel12Ideal.V

namespace Cert.Reference12Ideal.V
open Cert.Reference12Ideal Cert.Reference12Ideal.Gen Cert.Reference12Ideal.Read Cert.EMat

theorem v4 (X D : ℕ → ℕ → EReal) : val_main_v4 (F := Ideal) (em 16384 1024 X) (em 16384 3072 D)
    = em 3072 1024 fun j i => ∑ k : Fin 16384, D k j * X k i := by
  funext j
  rw [val_main_v4_apply, val_main_v3_apply, val_main_v2_apply]

end Cert.Reference12Ideal.V

namespace Cert.WGrad12
open Cert.EMat Cert.Kernel12Ideal.V Cert.Reference12Ideal.V

/-- The reference runs, keeps its arguments and leaves no semaphore raised. -/
theorem frame_ref : Cert.quiescent_Reference12Ideal (hReference12Ideal := Cert.Reference12Ideal.Gen.facts) :=
  fun m g _ => (θ_run Cert.Reference12Ideal.defs _ _).mono (fun r h => ⟨fun c => (h c).2, sem_eq_zero_of_no_sems (by decide) r.2⟩)
    (Cert.Reference12Ideal.Value.run (F := Ideal) m g)

/-- The kernel and the derivative of the product by its weights leave the same array. -/
theorem algebraic : Cert.algebraic_Kernel12Ideal_Reference12Ideal (hKernel12Ideal := Cert.Kernel12Ideal.Gen.facts)
    (hReference12Ideal := Cert.Reference12Ideal.Gen.facts) := by
  intro m g m' g' _ hargs
  refine ⟨_, Cert.Kernel12Ideal.Value.run_blocks m g, ?_⟩
  refine (θ_run _ _ _).mono (fun r h c => ?_) (Cert.Reference12Ideal.Value.run m' g')
  obtain ⟨r0, ra⟩ := h c
  obtain ⟨a0, a1⟩ := hargs c
  obtain ⟨X, h0⟩ := exists_em (m ((c.tc : Thread _ _).loc Cert.Kernel12Ideal.main_arg0))
  obtain ⟨D, h1⟩ := exists_em (m ((c.tc : Thread _ _).loc Cert.Kernel12Ideal.main_arg1))
  have e0 := a0.trans h0
  have e1 := a1.trans h1
  have H : Args X D m c := ⟨h0, h1⟩
  refine ⟨r0.trans ?_, ra⟩
  refine (Cert.Reference12Ideal.Read.val_main_v4_eq _ _).trans (Eq.trans ?_ ((v4 X D).trans (fin2 H).symm))
  congr 1 <;> assumption

end Cert.WGrad12
-- ==== Proof.Adam13.lean ====
module

public import proofs.«01_k».proof.Defs
public import proofs.«01_k».proof.Proof.Gen.Kernel13Ideal.Value
public import proofs.«01_k».proof.Proof.Gen.Reference13Ideal.Read
public import proofs.«01_k».proof.Proof.Gen.Kernel13.Frame
public import Idealize.ShloMosaic.Lib.Pipeline.ReadBack
public import proofs.«01_k».proof.Proof.EMat

/-! The optimiser's call for a layer's input projection: the sum of the eight devices' parts, and one AdamW step with it. The kernel
multiplies by the inverses of the numbers by which the reference divides. -/

@[expose] public section

set_option maxRecDepth 16384

noncomputable section

open Idealize.ShloMosaic Idealize.ShloMosaic.TcCoe Idealize.SL.Sem
open Idealize.ShloMosaic.Pipeline (Dat)

namespace Cert.Adam13

/-- An array of three axes by its indices' numbers. -/
abbrev ec (a b c : ℕ) (X : ℕ → ℕ → ℕ → EReal) : Shape.Idx ⟨3, ![a, b, c]⟩ → EReal := fun i => X (i 0).val (i 1).val (i 2).val

/-- Every array of three axes is a function of its indices' numbers. -/
theorem exists_ec {a b c : ℕ} (x : Shape.Idx ⟨3, ![a, b, c]⟩ → EReal) : ∃ X : ℕ → ℕ → ℕ → EReal, x = ec a b c X := by
  refine ⟨fun i j k => if h : i < a ∧ j < b ∧ k < c then x (ix3 ⟨i, h.1⟩ ⟨j, h.2.1⟩ ⟨k, h.2.2⟩) else 0, funext fun i => ?_⟩
  have h : (i 0).val < a ∧ (i 1).val < b ∧ (i 2).val < c := ⟨(i 0).isLt, (i 1).isLt, (i 2).isLt⟩
  show _ = dite _ _ _
  rw [dif_pos h]
  exact congrArg x (eq_ix3 i)

/-- A load of whole planes is the array shifted by the planes before them. -/
theorem ld_ec (a b c h w z p : ℕ) (X : ℕ → ℕ → ℕ → EReal) (inb) :
    View.ld (Val := Elt Ideal) (S := ⟨3, ![a, b, c]⟩) (e' := .bf16) (ec a b c X) (Rect.unit (s := ⟨3, ![a, b, c]⟩) ![p, 0, 0] ![h, w, z] inb)
      = ec h w z fun i => X (p + i) := by
  funext j
  show X _ _ _ = _
  rw [Rect.idx_unit_val, Rect.idx_unit_val, Rect.idx_unit_val]
  show X (p + (j 0).val) (0 + (j 1).val) (0 + (j 2).val) = _
  rw [Nat.zero_add, Nat.zero_add]

/-- The sum of the eight parts, from the first. -/
def gs (P : ℕ → EReal) : EReal := P 0 + P 1 + P 2 + P 3 + P 4 + P 5 + P 6 + P 7

/-- The new first moment. -/
def mn (M G : EReal) : EReal := Ideal.ofBits .f32 0x3F666666#32 * M + Ideal.ofBits .f32 0x3DCCCCCD#32 * G

/-- The new second moment. -/
def vn (V G : EReal) : EReal := Ideal.ofBits .f32 0x3F7FBE77#32 * V + Ideal.ofBits .f32 0x3A83126F#32 * (G * G)

/-- The step of the weight, with the moments' corrections as factors. -/
def dl (W M V G : EReal) : EReal :=
  Ideal.ofBits .f32 0xBA83126F#32 * (Ideal.div (mn M G * ((8388608 / 5463681 : ℝ) : EReal))
    (Ideal.sqrt (vn V G * ((268435456 / 2672307 : ℝ) : EReal)) + Ideal.ofBits .f32 0x322BCC77#32) + Ideal.ofBits .f32 0x3C23D70A#32 * W)

theorem bias1 : Ideal.ofBits FTy.f32 0x3F26BD02#32 = ((5463681 / 8388608 : ℝ) : EReal) := by
  simp [Ideal.ofBits, Ideal.ieee, -EReal.coe_mul]; norm_num

theorem bias2 : Ideal.ofBits FTy.f32 0x3C231ACC#32 = ((2672307 / 268435456 : ℝ) : EReal) := by
  simp [Ideal.ofBits, Ideal.ieee, -EReal.coe_mul]; norm_num

/-- A quotient by the first correction is the product with the kernel's named factor. -/
theorem div_bias1 (x : EReal) : Ideal.div x (Ideal.ofBits FTy.f32 0x3F26BD02#32) = x * ((8388608 / 5463681 : ℝ) : EReal) := by
  rw [bias1, Ideal.div_coe (by norm_num), one_div_div]

/-- The same of the second correction. -/
theorem div_bias2 (x : EReal) : Ideal.div x (Ideal.ofBits FTy.f32 0x3C231ACC#32) = x * ((268435456 / 2672307 : ℝ) : EReal) := by
  rw [bias2, Ideal.div_coe (by norm_num), one_div_div]

end Cert.Adam13

namespace Cert.Kernel13Ideal.V
open Cert.Kernel13Ideal Cert.Kernel13Ideal.Gen Cert.EMat Cert.Adam13

theorem c1 : Named.named (F := Ideal) κ "c1" (φ := .f32) 0x3FC48605#32 = ((8388608 / 5463681 : ℝ) : EReal) :=
  IdealRules.named_const.ideal_named_scalar _ _ _ _ rfl

theorem c2 : Named.named (F := Ideal) κ "c2" (φ := .f32) 0x42C8E6D3#32 = ((268435456 / 2672307 : ℝ) : EReal) :=
  IdealRules.named_const.ideal_named_scalar _ _ _ _ rfl

section pay
variable (P W M V : ℕ → ℕ → ℕ → EReal) (G : ℕ → ℕ → EReal)

theorem p5 (x1 x2 x3 : Vec Ideal S1x256x768 .f32) : k0_pay5 (F := Ideal) (ec 8 256 768 P) x1 x2 x3 = em 256 768 fun i j => gs fun s => P s i j := by
  unfold k0_pay5
  rw [ld_ec, ld_ec, ld_ec, ld_ec, ld_ec, ld_ec, ld_ec, ld_ec]
  funext j
  pointwise [k0_pay1]
  rfl

theorem p2 : k0_pay2 (F := Ideal) (em 256 768 G) (ec 1 256 768 M) = em 256 768 fun i j => mn (M 0 i j) (G i j) := by
  funext j
  pointwise [k0_pay2]
  rfl

theorem p3 : k0_pay3 (F := Ideal) (em 256 768 G) (ec 1 256 768 V) = em 256 768 fun i j => vn (V 0 i j) (G i j) := by
  funext j
  pointwise [k0_pay3]
  rfl

theorem p4 : k0_pay4 (F := Ideal) (em 256 768 G) (ec 1 256 768 M) (ec 1 256 768 V) (ec 1 256 768 W)
    = em 256 768 fun i j => dl (W 0 i j) (M 0 i j) (V 0 i j) (G i j) := by
  funext j
  pointwise [k0_pay4]
  rw [p2, p3, c1, c2]
  rfl

end pay

/-- The windows' blocks at a point, by number. -/
theorem idx : ∀ t : Fin cfg0.N, win0_0.index t = ![0, t.val, 0] ∧ win0_1.index t = ![1, t.val, 0] ∧ win0_2.index t = ![1, t.val, 0] ∧
    win0_3.index t = ![1, t.val, 0] ∧ win0_4.index t = ![t.val, 0] ∧ win0_5.index t = ![t.val, 0] ∧ win0_6.index t = ![t.val, 0] ∧
    win0_7.index t = ![t.val, 0] :=
  (by decide +kernel : ∀ t : Fin grid0.N, _)

variable (P W M V : ℕ → ℕ → ℕ → EReal) (m : (ℓ : Loc nD τ sig) → Buf (Elt Ideal) ℓ) (c : Dev nD)

/-- The four arguments by number. -/
structure Args : Prop where
  h0 : m ((c.tc : Thread nD τ).loc main_arg0) = ec 8 1024 768 P
  h1 : m ((c.tc : Thread nD τ).loc main_arg1) = ec 2 1024 768 W
  h2 : m ((c.tc : Thread nD τ).loc main_arg2) = ec 2 1024 768 M
  h3 : m ((c.tc : Thread nD τ).loc main_arg3) = ec 2 1024 768 V

variable {P W M V m c} (H : Args P W M V m c)
include H

theorem blk0 (t : Fin cfg0.N) : iblk m c 0 t = ec 8 256 768 fun s i => P s (256 * t.val + i) := by
  funext y
  have ht : t.val < 4 := lt_of_lt_of_eq t.isLt N_0
  have hy : (y 1).val < 256 := (y 1).isLt
  obtain ⟨e0, e1, e2, e3, e4, e5, e6, e7⟩ := idx t
  have e : iblk m c 0 t y = m ((c.tc : Thread nD τ).loc main_arg0) (ix3 (y 0) ⟨256 * t.val + (y 1).val, by omega⟩ (y 2)) := by
    blk_point [iblk, Gen.V, e0]
  rw [e, H.h0]
  rfl

theorem blk1 (t : Fin cfg0.N) : iblk m c 1 t = ec 1 256 768 fun s i => W (1 + s) (256 * t.val + i) := by
  funext y
  have ht : t.val < 4 := lt_of_lt_of_eq t.isLt N_0
  have hy : (y 1).val < 256 := (y 1).isLt
  have hz : (y 0).val < 1 := (y 0).isLt
  obtain ⟨e0, e1, e2, e3, e4, e5, e6, e7⟩ := idx t
  have e : iblk m c 1 t y = m ((c.tc : Thread nD τ).loc main_arg1) (ix3 ⟨1 + (y 0).val, by omega⟩ ⟨256 * t.val + (y 1).val, by omega⟩ (y 2)) := by
    blk_point [iblk, Gen.V, e1]
  rw [e, H.h1]
  rfl

theorem blk2 (t : Fin cfg0.N) : iblk m c 2 t = ec 1 256 768 fun s i => M (1 + s) (256 * t.val + i) := by
  funext y
  have ht : t.val < 4 := lt_of_lt_of_eq t.isLt N_0
  have hy : (y 1).val < 256 := (y 1).isLt
  have hz : (y 0).val < 1 := (y 0).isLt
  obtain ⟨e0, e1, e2, e3, e4, e5, e6, e7⟩ := idx t
  have e : iblk m c 2 t y = m ((c.tc : Thread nD τ).loc main_arg2) (ix3 ⟨1 + (y 0).val, by omega⟩ ⟨256 * t.val + (y 1).val, by omega⟩ (y 2)) := by
    blk_point [iblk, Gen.V, e2]
  rw [e, H.h2]
  rfl

theorem blk3 (t : Fin cfg0.N) : iblk m c 3 t = ec 1 256 768 fun s i => V (1 + s) (256 * t.val + i) := by
  funext y
  have ht : t.val < 4 := lt_of_lt_of_eq t.isLt N_0
  have hy : (y 1).val < 256 := (y 1).isLt
  have hz : (y 0).val < 1 := (y 0).isLt
  obtain ⟨e0, e1, e2, e3, e4, e5, e6, e7⟩ := idx t
  have e : iblk m c 3 t y = m ((c.tc : Thread nD τ).loc main_arg3) (ix3 ⟨1 + (y 0).val, by omega⟩ ⟨256 * t.val + (y 1).val, by omega⟩ (y 2)) := by
    blk_point [iblk, Gen.V, e3]
  rw [e, H.h3]
  rfl

/-- The sum of the devices' parts that the kernel leaves. -/
theorem fin4 : (dats m 0 c).arrAt 4 cfg0.N = em 1024 768 fun i j => gs fun s => P s i j := by
  refine (dats m 0 c).arrAt_eq_of_covers 4 _ (by decide +kernel) fun t _ y => ?_
  obtain ⟨e0, e1, e2, e3, e4, e5, e6, e7⟩ := idx t
  have ht : t.val < 4 := lt_of_lt_of_eq t.isLt N_0
  have hy : (y 0).val < 256 := (y 0).isLt
  have key : ((cfg0.win 4).blk t).view.emb y = ix2 ⟨256 * t.val + (y 0).val, by omega⟩ (y 1) := by
    blk_ext [e4]
  blk_simp
  rw [after0_4]
  frame_out
  refine Eq.trans ?_ (congrArg (em 1024 768 _) key).symm
  rw [blk0 H]
  exact congrFun (p5 _ _ _ _) y

/-- The step of the weight. -/
theorem fin5 : (dats m 0 c).arrAt 5 cfg0.N = em 1024 768 fun i j => dl (W 1 i j) (M 1 i j) (V 1 i j) (gs fun s => P s i j) := by
  refine (dats m 0 c).arrAt_eq_of_covers 5 _ (by decide +kernel) fun t _ y => ?_
  obtain ⟨e0, e1, e2, e3, e4, e5, e6, e7⟩ := idx t
  have ht : t.val < 4 := lt_of_lt_of_eq t.isLt N_0
  have hy : (y 0).val < 256 := (y 0).isLt
  have key : ((cfg0.win 5).blk t).view.emb y = ix2 ⟨256 * t.val + (y 0).val, by omega⟩ (y 1) := by
    blk_ext [e5]
  blk_simp
  rw [after0_5]
  frame_out
  refine Eq.trans ?_ (congrArg (em 1024 768 _) key).symm
  rw [blk0 H, blk1 H, blk2 H, blk3 H, p5]
  exact congrFun (p4 _ _ _ _) y

/-- The new first moment. -/
theorem fin6 : (dats m 0 c).arrAt 6 cfg0.N = em 1024 768 fun i j => mn (M 1 i j) (gs fun s => P s i j) := by
  refine (dats m 0 c).arrAt_eq_of_covers 6 _ (by decide +kernel) fun t _ y => ?_
  obtain ⟨e0, e1, e2, e3, e4, e5, e6, e7⟩ := idx t
  have ht : t.val < 4 := lt_of_lt_of_eq t.isLt N_0
  have hy : (y 0).val < 256 := (y 0).isLt
  have key : ((cfg0.win 6).blk t).view.emb y = ix2 ⟨256 * t.val + (y 0).val, by omega⟩ (y 1) := by
    blk_ext [e6]
  blk_simp
  rw [after0_6]
  frame_out
  refine Eq.trans ?_ (congrArg (em 1024 768 _) key).symm
  rw [blk0 H, blk2 H, p5]
  exact congrFun (p2 _ _) y

/-- The new second moment. -/
theorem fin7 : (dats m 0 c).arrAt 7 cfg0.N = em 1024 768 fun i j => vn (V 1 i j) (gs fun s => P s i j) := by
  refine (dats m 0 c).arrAt_eq_of_covers 7 _ (by decide +kernel) fun t _ y => ?_
  obtain ⟨e0, e1, e2, e3, e4, e5, e6, e7⟩ := idx t
  have ht : t.val < 4 := lt_of_lt_of_eq t.isLt N_0
  have hy : (y 0).val < 256 := (y 0).isLt
  have key : ((cfg0.win 7).blk t).view.emb y = ix2 ⟨256 * t.val + (y 0).val, by omega⟩ (y 1) := by
    blk_ext [e7]
  blk_simp
  rw [after0_7]
  frame_out
  refine Eq.trans ?_ (congrArg (em 1024 768 _) key).symm
  rw [blk0 H, blk3 H, p5]
  exact congrFun (p3 _ _) y

end Cert.Kernel13Ideal.V

namespace Cert.Reference13Ideal.V
open Cert.Reference13Ideal Cert.Reference13Ideal.Gen Cert.Reference13Ideal.Read Cert.EMat Cert.Adam13

variable (P W M V : ℕ → ℕ → ℕ → EReal)

theorem v0 : val_main_v0 (F := Ideal) (ec 8 1024 768 P) = em 1024 768 fun i j => gs fun s => P s i j := by
  funext j
  rw [val_main_v0_apply, val_main_cst_apply, Ideal.ofBits_def, zero_lit, zero_add, Fin.sum_univ_eight]
  rfl

/-- The layer's plane of a weight or moment, as the reference cuts it out. -/
theorem plane (X : ℕ → ℕ → ℕ → EReal) : val_main_v2 (F := Ideal) (ec 2 1024 768 X) = em 1024 768 fun i j => X 1 i j := by
  funext j
  have h0 : (j 0).val < 1024 := (j 0).isLt
  have h1 : (j 1).val < 768 := (j 1).isLt
  rw [val_main_v2_apply, val_main_v1_apply]
  show X 1 (((j 0).val * 768 + (j 1).val) / 768 % 1024) (((j 0).val * 768 + (j 1).val) % 768) = X 1 (j 0).val (j 1).val
  rw [show ((j 0).val * 768 + (j 1).val) / 768 % 1024 = (j 0).val by omega, show ((j 0).val * 768 + (j 1).val) % 768 = (j 1).val by omega]

theorem v11 : val_main_v11 (F := Ideal) (ec 8 1024 768 P) (ec 2 1024 768 M) = em 1024 768 fun i j => mn (M 1 i j) (gs fun s => P s i j) := by
  funext j
  rw [val_main_v11_apply, val_main_v10_apply, val_main_v8_apply, v0, show val_main_v4 (F := Ideal) (ec 2 1024 768 M) = _ from plane M]
  rfl

theorem v17 : val_main_v17 (F := Ideal) (ec 8 1024 768 P) (ec 2 1024 768 V) = em 1024 768 fun i j => vn (V 1 i j) (gs fun s => P s i j) := by
  funext j
  rw [val_main_v17_apply, val_main_v16_apply, val_main_v14_apply, val_main_v13_apply, v0, show val_main_v6 (F := Ideal) (ec 2 1024 768 V) = _ from plane V]
  rfl

theorem v30 : val_main_v30 (F := Ideal) (ec 8 1024 768 P) (ec 2 1024 768 W) (ec 2 1024 768 M) (ec 2 1024 768 V)
    = em 1024 768 fun i j => dl (W 1 i j) (M 1 i j) (V 1 i j) (gs fun s => P s i j) := by
  funext j
  simp only [val_main_v30_apply, val_main_v29_apply, val_main_cst_8_apply, val_main_v28_apply, val_main_v27_apply, val_main_v26_apply, val_main_cst_7_apply,
    val_main_v25_apply, val_main_v24_apply, val_main_v23_apply, val_main_cst_6_apply, val_main_v22_apply, val_main_v21_apply, val_main_v20_apply,
    val_main_cst_5_apply, val_main_v19_apply, val_main_v18_apply, val_main_cst_4_apply, v11, v17, plane, Ideal.addf_def, Ideal.mulf_def,
    Ideal.hostDivf_def, Ideal.hostUnary_sqrt_def, Ideal.ofBits_def, div_bias1, div_bias2]
  rfl

end Cert.Reference13Ideal.V

namespace Cert.Adam13
open Cert.EMat Cert.Kernel13Ideal.V Cert.Reference13Ideal.V

/-- The two named factors are what the table of names says. -/
theorem preserves : Cert.preserves_Kernel13_Kernel13Ideal :=
  ⟨IdealRules.named_const.statement Cert.Kernel13Ideal.κ "c1" .f32 0x3FC48605#32 ((8388608 / 5463681 : ℝ) : EReal) rfl,
    IdealRules.named_const.statement Cert.Kernel13Ideal.κ "c2" .f32 0x42C8E6D3#32 ((268435456 / 2672307 : ℝ) : EReal) rfl⟩

/-- The reference runs, keeps its arguments and leaves no semaphore raised. -/
theorem frame_ref : Cert.quiescent_Reference13Ideal (hReference13Ideal := Cert.Reference13Ideal.Gen.facts) :=
  fun m g _ => (θ_run Cert.Reference13Ideal.defs _ _).mono (fun r h => ⟨fun c => (h c).2.2.2.2, sem_eq_zero_of_no_sems (by decide) r.2⟩)
    (Cert.Reference13Ideal.Value.run (F := Ideal) m g)

/-- The kernel and the reference leave the same sum of the parts, step of the weight and new moments. -/
theorem algebraic : Cert.algebraic_Kernel13Ideal_Reference13Ideal (hKernel13Ideal := Cert.Kernel13Ideal.Gen.facts)
    (hReference13Ideal := Cert.Reference13Ideal.Gen.facts) := by
  intro m g m' g' _ hargs
  refine ⟨_, _, _, _, Cert.Kernel13Ideal.Value.run_blocks m g, ?_⟩
  refine (θ_run _ _ _).mono (fun r h c => ?_) (Cert.Reference13Ideal.Value.run m' g')
  obtain ⟨r0, r1, r2, r3, ra⟩ := h c
  obtain ⟨a0, a1, a2, a3⟩ := hargs c
  obtain ⟨P, h0⟩ := exists_ec (m ((c.tc : Thread _ _).loc Cert.Kernel13Ideal.main_arg0))
  obtain ⟨W, h1⟩ := exists_ec (m ((c.tc : Thread _ _).loc Cert.Kernel13Ideal.main_arg1))
  obtain ⟨M, h2⟩ := exists_ec (m ((c.tc : Thread _ _).loc Cert.Kernel13Ideal.main_arg2))
  obtain ⟨V, h3⟩ := exists_ec (m ((c.tc : Thread _ _).loc Cert.Kernel13Ideal.main_arg3))
  have e0 := a0.trans h0
  have e1 := a1.trans h1
  have e2 := a2.trans h2
  have e3 := a3.trans h3
  have H : Args P W M V m c := ⟨h0, h1, h2, h3⟩
  refine ⟨r0.trans ?_, r1.trans ?_, r2.trans ?_, r3.trans ?_, ra⟩
  · refine (Cert.Reference13Ideal.Read.val_main_v0_eq _).trans (Eq.trans ?_ ((v0 P).trans (fin4 H).symm))
    congr 1 <;> assumption
  · refine (Cert.Reference13Ideal.Read.val_main_v30_eq _ _ _ _).trans (Eq.trans ?_ ((v30 P W M V).trans (fin5 H).symm))
    congr 1 <;> assumption
  · refine (Cert.Reference13Ideal.Read.val_main_v11_eq _ _).trans (Eq.trans ?_ ((v11 P M).trans (fin6 H).symm))
    congr 1 <;> assumption
  · refine (Cert.Reference13Ideal.Read.val_main_v17_eq _ _).trans (Eq.trans ?_ ((v17 P V).trans (fin7 H).symm))
    congr 1 <;> assumption

end Cert.Adam13
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel4Ideal.Value
public import proofs.«01_k».proof.Proof.Gen.Reference4Ideal.Run
public import proofs.«01_k».proof.Proof.Gen.Reference4Ideal.Read

public import proofs.«01_k».proof.Proof.Gen.ReferenceIdeal
public import proofs.«01_k».proof.Proof.Gen.Pre_loss_finite
public import proofs.«01_k».proof.Proof.Gen.Pre_cin_finite
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_sout_finite
public import proofs.«01_k».proof.Proof.Gen.Kernel2Ideal.Frame
public import proofs.«01_k».proof.Proof.Gen.Kernel3.Frame
public import proofs.«01_k».proof.Proof.Gen.Kernel3Ideal.Value
public import proofs.«01_k».proof.Proof.Gen.Pre_cout_finite
public import proofs.«01_k».proof.Proof.Gen.Kernel3Ideal.Frame
public import proofs.«01_k».proof.Proof.Gen.Kernel4.Frame
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_sin_finite
public import proofs.«01_k».proof.Proof.Gen.Kernel5Ideal.Frame
public import proofs.«01_k».proof.Proof.Gen.Kernel6.Frame
public import proofs.«01_k».proof.Proof.Gen.Kernel7.Frame
public import proofs.«01_k».proof.Proof.Gen.Kernel7Ideal.Value
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Kernel9Ideal.Frame
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Kernel6Ideal.Frame
public import proofs.«01_k».proof.Proof.Gen.Reference3Ideal.Run
public import proofs.«01_k».proof.Proof.Gen.Reference3Ideal.Read
public import proofs.«01_k».proof.Proof.Loss
public import proofs.«01_k».proof.Proof.In4
public import proofs.«01_k».proof.Proof.In5
public import proofs.«01_k».proof.Proof.Sout
public import proofs.«01_k».proof.Proof.Cout
public import proofs.«01_k».proof.Proof.InF7
public import proofs.«01_k».proof.Proof.InF8
public import proofs.«01_k».proof.Proof.OutF9
public import proofs.«01_k».proof.Proof.OutF10
public import proofs.«01_k».proof.Proof.ConvF11
public import proofs.«01_k».proof.Proof.ConvB6
public import proofs.«01_k».proof.Proof.WGrad12
public import proofs.«01_k».proof.Proof.Adam13
public import proofs.«01_k».proof.Proof.Gen.Kernel11.Frame
public import proofs.«01_k».proof.Proof.Gen.Kernel11Ideal.Value
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel13.Frame
public import proofs.«01_k».proof.Proof.Gen.Kernel13Ideal.Value
public import proofs.«01_k».proof.Proof.Gen.Kernel13Ideal.Frame
public import proofs.«01_k».proof.Proof.Gen.Reference13Ideal.Run
public import proofs.«01_k».proof.Proof.Gen.Reference13Ideal.Read
public import proofs.«01_k».proof.Proof.Gen.Kernel12Ideal.Value
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Reference6Ideal.Run
public import proofs.«01_k».proof.Proof.Gen.Reference6Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Pre_loss_finite.Gen.facts, Cert.Pre_sout_finite.Gen.facts, Cert.Pre_cout_finite.Gen.facts, Cert.Pre_cin_finite.Gen.facts, Cert.Pre_sin_finite.Gen.facts, by
  exact ⟨fun m ρ _ => Cert.Kernel.Gen.frame m ρ, fun m ρ _ => Cert.KernelIdeal.Gen.frame m ρ, fun m ρ _ => Cert.KernelIdeal.Gen.frame m ρ,
    fun m ρ _ => Cert.Loss.frame_ref m ρ, fun m ρ _ => Cert.Loss.frame_ref m ρ,
    fun m ρ _ => Cert.Kernel2.Gen.frame m ρ, fun m ρ _ => Cert.Kernel2Ideal.Gen.frame m ρ, fun m ρ _ => Cert.Kernel2Ideal.Gen.frame m ρ,
    Cert.Sout.frame_ref, fun m ρ _ => Cert.Sout.frame_ref m ρ trivial,
    fun m ρ _ => Cert.Kernel3.Gen.frame m ρ, fun m ρ _ => Cert.Kernel3Ideal.Gen.frame m ρ, fun m ρ _ => Cert.Kernel3Ideal.Gen.frame m ρ,
    Cert.Cout.frame_ref, fun m ρ _ => Cert.Cout.frame_ref m ρ trivial,
    fun m ρ _ => Cert.Kernel4.Gen.frame m ρ, fun m ρ _ => Cert.Kernel4Ideal.Gen.frame m ρ, fun m ρ _ => Cert.Kernel4Ideal.Gen.frame m ρ,
    Cert.In4.frame_ref, fun m ρ _ => Cert.In4.frame_ref m ρ trivial,
    fun m ρ _ => Cert.Kernel5.Gen.frame m ρ, fun m ρ _ => Cert.Kernel5Ideal.Gen.frame m ρ, fun m ρ _ => Cert.Kernel5Ideal.Gen.frame m ρ,
    Cert.In5.frame_ref, fun m ρ _ => Cert.In5.frame_ref m ρ trivial,
    fun m ρ _ => Cert.Kernel6.Gen.frame m ρ, fun m ρ _ => Cert.Kernel6Ideal.Gen.frame m ρ, Cert.ConvB6.frame_ref,
    fun m ρ _ => Cert.Kernel7.Gen.frame m ρ, fun m ρ _ => Cert.Kernel7Ideal.Gen.frame m ρ, Cert.InF7.frame_ref,
    fun m ρ _ => Cert.Kernel8.Gen.frame m ρ, fun m ρ _ => Cert.Kernel8Ideal.Gen.frame m ρ, Cert.InF8.frame_ref,
    fun m ρ _ => Cert.Kernel9.Gen.frame m ρ, fun m ρ _ => Cert.Kernel9Ideal.Gen.frame m ρ, Cert.OutF9.frame_ref,
    fun m ρ _ => Cert.Kernel10.Gen.frame m ρ, fun m ρ _ => Cert.Kernel10Ideal.Gen.frame m ρ, Cert.OutF10.frame_ref,
    fun m ρ _ => Cert.Kernel11.Gen.frame m ρ, fun m ρ _ => Cert.Kernel11Ideal.Gen.frame m ρ, Cert.ConvF11.frame_ref,
    fun m ρ _ => Cert.Kernel12.Gen.frame m ρ, fun m ρ _ => Cert.Kernel12Ideal.Gen.frame m ρ, Cert.WGrad12.frame_ref,
    fun m ρ _ => Cert.Kernel13.Gen.frame m ρ, fun m ρ _ => Cert.Kernel13Ideal.Gen.frame m ρ, Cert.Adam13.frame_ref,
    trivial, Cert.Loss.algebraic, trivial, Cert.Sout.algebraic, trivial, Cert.Cout.algebraic, trivial, Cert.In4.algebraic, trivial, Cert.In5.algebraic, trivial, Cert.ConvB6.algebraic, trivial, Cert.InF7.algebraic, trivial, Cert.InF8.algebraic, trivial, Cert.OutF9.algebraic, trivial, Cert.OutF10.algebraic, trivial, Cert.ConvF11.algebraic, trivial, Cert.WGrad12.algebraic, Cert.Adam13.preserves, Cert.Adam13.algebraic⟩⟩

end Cert.Proof

end
